-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_Experts (m : (ℓ : Loc Cert.Experts.nD Cert.Experts.τ Cert.Experts.sig) → Buf (Elt Bits) ℓ) : Prop :=
  True

def Pre_ExpertsIdeal (m : (ℓ : Loc Cert.ExpertsIdeal.nD Cert.ExpertsIdeal.τ Cert.ExpertsIdeal.sig) → Buf (Elt Ideal) ℓ) : Prop :=
  True

def Pre_ExpertsRefIdeal (m : (ℓ : Loc Cert.ExpertsRefIdeal.nD Cert.ExpertsRefIdeal.τ Cert.ExpertsRefIdeal.sig) → Buf (Elt Ideal) ℓ) : Prop :=
  True

def Pre_Route (m : (ℓ : Loc Cert.Route.nD Cert.Route.τ Cert.Route.sig) → Buf (Elt Bits) ℓ) : Prop :=
  True

def Pre_RouteIdeal (m : (ℓ : Loc Cert.RouteIdeal.nD Cert.RouteIdeal.τ Cert.RouteIdeal.sig) → Buf (Elt Ideal) ℓ) : Prop :=
  True

def Pre_RouteRefIdeal (m : (ℓ : Loc Cert.RouteRefIdeal.nD Cert.RouteRefIdeal.τ Cert.RouteRefIdeal.sig) → Buf (Elt Ideal) ℓ) : Prop :=
  True

def Pre_Router (m : (ℓ : Loc Cert.Router.nD Cert.Router.τ Cert.Router.sig) → Buf (Elt Bits) ℓ) : Prop :=
  True

def Pre_RouterIdeal (m : (ℓ : Loc Cert.RouterIdeal.nD Cert.RouterIdeal.τ Cert.RouterIdeal.sig) → Buf (Elt Ideal) ℓ) : Prop :=
  True

def Pre_RouterRefIdeal (m : (ℓ : Loc Cert.RouterRefIdeal.nD Cert.RouterRefIdeal.τ Cert.RouterRefIdeal.sig) → Buf (Elt Ideal) ℓ) : Prop :=
  True

def Pre_Slots (m : (ℓ : Loc Cert.Slots.nD Cert.Slots.τ Cert.Slots.sig) → Buf (Elt Bits) ℓ) : Prop :=
  True

def Pre_SlotsIdeal (m : (ℓ : Loc Cert.SlotsIdeal.nD Cert.SlotsIdeal.τ Cert.SlotsIdeal.sig) → Buf (Elt Ideal) ℓ) : Prop :=
  True

def Pre_SlotsRefIdeal (m : (ℓ : Loc Cert.SlotsRefIdeal.nD Cert.SlotsRefIdeal.τ Cert.SlotsRefIdeal.sig) → Buf (Elt Ideal) ℓ) : Prop :=
  True

def Pre_DeltaNet (m : (ℓ : Loc Cert.DeltaNet.nD Cert.DeltaNet.τ Cert.DeltaNet.sig) → Buf (Elt Bits) ℓ) : Prop :=
  True

def Pre_DeltaNetIdeal (m : (ℓ : Loc Cert.DeltaNetIdeal.nD Cert.DeltaNetIdeal.τ Cert.DeltaNetIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3)
      ∧ r.2.mem ((c.tc : Thread Cert.OutProj.nD Cert.OutProj.τ).loc Cert.OutProj.main_arg4) = m ((c.tc : Thread Cert.OutProj.nD Cert.OutProj.τ).loc Cert.OutProj.main_arg4))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
      ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2)
      ∧ r.2.mem ((c.tc : Thread Cert.OutProjRefIdeal.nD Cert.OutProjRefIdeal.τ).loc Cert.OutProjRefIdeal.main_arg3) = m ((c.tc : Thread Cert.OutProjRefIdeal.nD Cert.OutProjRefIdeal.τ).loc Cert.OutProjRefIdeal.main_arg3)
      ∧ r.2.mem ((c.tc : Thread Cert.OutProjRefIdeal.nD Cert.OutProjRefIdeal.τ).loc Cert.OutProjRefIdeal.main_arg4) = m ((c.tc : Thread Cert.OutProjRefIdeal.nD Cert.OutProjRefIdeal.τ).loc Cert.OutProjRefIdeal.main_arg4))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2)
      ∧ r.2.mem ((c.tc : Thread Cert.InProj.nD Cert.InProj.τ).loc Cert.InProj.main_arg3) = m ((c.tc : Thread Cert.InProj.nD Cert.InProj.τ).loc Cert.InProj.main_arg3)
      ∧ r.2.mem ((c.tc : Thread Cert.InProj.nD Cert.InProj.τ).loc Cert.InProj.main_arg4) = m ((c.tc : Thread Cert.InProj.nD Cert.InProj.τ).loc Cert.InProj.main_arg4)
      ∧ r.2.mem ((c.tc : Thread Cert.InProj.nD Cert.InProj.τ).loc Cert.InProj.main_arg5) = m ((c.tc : Thread Cert.InProj.nD Cert.InProj.τ).loc Cert.InProj.main_arg5))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
      ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4)
      ∧ r.2.mem ((c.tc : Thread Cert.InProjIdeal.nD Cert.InProjIdeal.τ).loc Cert.InProjIdeal.main_arg5) = m ((c.tc : Thread Cert.InProjIdeal.nD Cert.InProjIdeal.τ).loc Cert.InProjIdeal.main_arg5))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2)
      ∧ r.2.mem ((c.tc : Thread Cert.InProjRefIdeal.nD Cert.InProjRefIdeal.τ).loc Cert.InProjRefIdeal.main_arg3) = m ((c.tc : Thread Cert.InProjRefIdeal.nD Cert.InProjRefIdeal.τ).loc Cert.InProjRefIdeal.main_arg3)
      ∧ r.2.mem ((c.tc : Thread Cert.InProjRefIdeal.nD Cert.InProjRefIdeal.τ).loc Cert.InProjRefIdeal.main_arg4) = m ((c.tc : Thread Cert.InProjRefIdeal.nD Cert.InProjRefIdeal.τ).loc Cert.InProjRefIdeal.main_arg4)
      ∧ r.2.mem ((c.tc : Thread Cert.InProjRefIdeal.nD Cert.InProjRefIdeal.τ).loc Cert.InProjRefIdeal.main_arg5) = m ((c.tc : Thread Cert.InProjRefIdeal.nD Cert.InProjRefIdeal.τ).loc Cert.InProjRefIdeal.main_arg5))
      ∧ r.2.sem = fun _ => 0)

def quiescent_Experts [hExperts : Cert.Experts.Facts] : Prop :=
  ∀ (m : (ℓ : Loc Cert.Experts.nD Cert.Experts.τ Cert.Experts.sig) → Buf (Elt Bits) ℓ) (g : Dev Cert.Experts.nD → PrngReg), Pre_Experts m →
    θ_run (Cert.Experts.defs (F := Bits)) (onTc (τ := Cert.Experts.τ) (Cert.Experts.main (F := Bits))) ⟨m, fun _ => 0, g⟩ (fun r => (∀ c : Dev Cert.Experts.nD,
      r.2.mem ((c.tc : Thread Cert.Experts.nD Cert.Experts.τ).loc Cert.Experts.main_arg0) = m ((c.tc : Thread Cert.Experts.nD Cert.Experts.τ).loc Cert.Experts.main_arg0)
      ∧ r.2.mem ((c.tc : Thread Cert.Experts.nD Cert.Experts.τ).loc Cert.Experts.main_arg1) = m ((c.tc : Thread Cert.Experts.nD Cert.Experts.τ).loc Cert.Experts.main_arg1)
      ∧ r.2.mem ((c.tc : Thread Cert.Experts.nD Cert.Experts.τ).loc Cert.Experts.main_arg2) = m ((c.tc : Thread Cert.Experts.nD Cert.Experts.τ).loc Cert.Experts.main_arg2)
      ∧ r.2.mem ((c.tc : Thread Cert.Experts.nD Cert.Experts.τ).loc Cert.Experts.main_arg3) = m ((c.tc : Thread Cert.Experts.nD Cert.Experts.τ).loc Cert.Experts.main_arg3)
      ∧ r.2.mem ((c.tc : Thread Cert.Experts.nD Cert.Experts.τ).loc Cert.Experts.main_arg4) = m ((c.tc : Thread Cert.Experts.nD Cert.Experts.τ).loc Cert.Experts.main_arg4)
      ∧ r.2.mem ((c.tc : Thread Cert.Experts.nD Cert.Experts.τ).loc Cert.Experts.main_arg5) = m ((c.tc : Thread Cert.Experts.nD Cert.Experts.τ).loc Cert.Experts.main_arg5))
      ∧ r.2.sem = fun _ => 0)

def quiescent_ExpertsIdeal [hExpertsIdeal : Cert.ExpertsIdeal.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
      ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
      ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5))
      ∧ r.2.sem = fun _ => 0)

def quiescent_ExpertsRefIdeal [hExpertsRefIdeal : Cert.ExpertsRefIdeal.Facts] : Prop :=
  ∀ (m : (ℓ : Loc Cert.ExpertsRefIdeal.nD Cert.ExpertsRefIdeal.τ Cert.ExpertsRefIdeal.sig) → Buf (Elt Ideal) ℓ) (g : Dev Cert.ExpertsRefIdeal.nD → PrngReg), Pre_ExpertsRefIdeal m →
    θ_run (Cert.ExpertsRefIdeal.defs (F := Ideal)) (onTc (τ := Cert.ExpertsRefIdeal.τ) (Cert.ExpertsRefIdeal.main (F := Ideal))) ⟨m, fun _ => 0, g⟩ (fun r => (∀ c : Dev Cert.ExpertsRefIdeal.nD,
      r.2.mem ((c.tc : Thread Cert.ExpertsRefIdeal.nD Cert.ExpertsRefIdeal.τ).loc Cert.ExpertsRefIdeal.main_arg0) = m ((c.tc : Thread Cert.ExpertsRefIdeal.nD Cert.ExpertsRefIdeal.τ).loc Cert.ExpertsRefIdeal.main_arg0)
      ∧ r.2.mem ((c.tc : Thread Cert.ExpertsRefIdeal.nD Cert.ExpertsRefIdeal.τ).loc Cert.ExpertsRefIdeal.main_arg1) = m ((c.tc : Thread Cert.ExpertsRefIdeal.nD Cert.ExpertsRefIdeal.τ).loc Cert.ExpertsRefIdeal.main_arg1)
      ∧ r.2.mem ((c.tc : Thread Cert.ExpertsRefIdeal.nD Cert.ExpertsRefIdeal.τ).loc Cert.ExpertsRefIdeal.main_arg2) = m ((c.tc : Thread Cert.ExpertsRefIdeal.nD Cert.ExpertsRefIdeal.τ).loc Cert.ExpertsRefIdeal.main_arg2)
      ∧ r.2.mem ((c.tc : Thread Cert.ExpertsRefIdeal.nD Cert.ExpertsRefIdeal.τ).loc Cert.ExpertsRefIdeal.main_arg3) = m ((c.tc : Thread Cert.ExpertsRefIdeal.nD Cert.ExpertsRefIdeal.τ).loc Cert.ExpertsRefIdeal.main_arg3)
      ∧ r.2.mem ((c.tc : Thread Cert.ExpertsRefIdeal.nD Cert.ExpertsRefIdeal.τ).loc Cert.ExpertsRefIdeal.main_arg4) = m ((c.tc : Thread Cert.ExpertsRefIdeal.nD Cert.ExpertsRefIdeal.τ).loc Cert.ExpertsRefIdeal.main_arg4)
      ∧ r.2.mem ((c.tc : Thread Cert.ExpertsRefIdeal.nD Cert.ExpertsRefIdeal.τ).loc Cert.ExpertsRefIdeal.main_arg5) = m ((c.tc : Thread Cert.ExpertsRefIdeal.nD Cert.ExpertsRefIdeal.τ).loc Cert.ExpertsRefIdeal.main_arg5))
      ∧ r.2.sem = fun _ => 0)

def quiescent_Route [hRoute : Cert.Route.Facts] : Prop :=
  ∀ (m : (ℓ : Loc Cert.Route.nD Cert.Route.τ Cert.Route.sig) → Buf (Elt Bits) ℓ) (g : Dev Cert.Route.nD → PrngReg), Pre_Route m →
    θ_run (Cert.Route.defs (F := Bits)) (onTc (τ := Cert.Route.τ) (Cert.Route.main (F := Bits))) ⟨m, fun _ => 0, g⟩ (fun r => (∀ c : Dev Cert.Route.nD,
      r.2.mem ((c.tc : Thread Cert.Route.nD Cert.Route.τ).loc Cert.Route.main_arg0) = m ((c.tc : Thread Cert.Route.nD Cert.Route.τ).loc Cert.Route.main_arg0))
      ∧ r.2.sem = fun _ => 0)

def quiescent_RouteIdeal [hRouteIdeal : Cert.RouteIdeal.Facts] : Prop :=
  ∀ (m : (ℓ : Loc Cert.RouteIdeal.nD Cert.RouteIdeal.τ Cert.RouteIdeal.sig) → Buf (Elt Ideal) ℓ) (g : Dev Cert.RouteIdeal.nD → PrngReg), Pre_RouteIdeal m →
    θ_run (Cert.RouteIdeal.defs (F := Ideal)) (onTc (τ := Cert.RouteIdeal.τ) (Cert.RouteIdeal.main (F := Ideal))) ⟨m, fun _ => 0, g⟩ (fun r => (∀ c : Dev Cert.RouteIdeal.nD,
      r.2.mem ((c.tc : Thread Cert.RouteIdeal.nD Cert.RouteIdeal.τ).loc Cert.RouteIdeal.main_arg0) = m ((c.tc : Thread Cert.RouteIdeal.nD Cert.RouteIdeal.τ).loc Cert.RouteIdeal.main_arg0))
      ∧ r.2.sem = fun _ => 0)

def quiescent_RouteRefIdeal [hRouteRefIdeal : Cert.RouteRefIdeal.Facts] : Prop :=
  ∀ (m : (ℓ : Loc Cert.RouteRefIdeal.nD Cert.RouteRefIdeal.τ Cert.RouteRefIdeal.sig) → Buf (Elt Ideal) ℓ) (g : Dev Cert.RouteRefIdeal.nD → PrngReg), Pre_RouteRefIdeal m →
    θ_run (Cert.RouteRefIdeal.defs (F := Ideal)) (onTc (τ := Cert.RouteRefIdeal.τ) (Cert.RouteRefIdeal.main (F := Ideal))) ⟨m, fun _ => 0, g⟩ (fun r => (∀ c : Dev Cert.RouteRefIdeal.nD,
      r.2.mem ((c.tc : Thread Cert.RouteRefIdeal.nD Cert.RouteRefIdeal.τ).loc Cert.RouteRefIdeal.main_arg0) = m ((c.tc : Thread Cert.RouteRefIdeal.nD Cert.RouteRefIdeal.τ).loc Cert.RouteRefIdeal.main_arg0))
      ∧ r.2.sem = fun _ => 0)

def quiescent_Router [hRouter : Cert.Router.Facts] : Prop :=
  ∀ (m : (ℓ : Loc Cert.Router.nD Cert.Router.τ Cert.Router.sig) → Buf (Elt Bits) ℓ) (g : Dev Cert.Router.nD → PrngReg), Pre_Router m →
    θ_run (Cert.Router.defs (F := Bits)) (onTc (τ := Cert.Router.τ) (Cert.Router.main (F := Bits))) ⟨m, fun _ => 0, g⟩ (fun r => (∀ c : Dev Cert.Router.nD,
      r.2.mem ((c.tc : Thread Cert.Router.nD Cert.Router.τ).loc Cert.Router.main_arg0) = m ((c.tc : Thread Cert.Router.nD Cert.Router.τ).loc Cert.Router.main_arg0)
      ∧ r.2.mem ((c.tc : Thread Cert.Router.nD Cert.Router.τ).loc Cert.Router.main_arg1) = m ((c.tc : Thread Cert.Router.nD Cert.Router.τ).loc Cert.Router.main_arg1)
      ∧ r.2.mem ((c.tc : Thread Cert.Router.nD Cert.Router.τ).loc Cert.Router.main_arg2) = m ((c.tc : Thread Cert.Router.nD Cert.Router.τ).loc Cert.Router.main_arg2)
      ∧ r.2.mem ((c.tc : Thread Cert.Router.nD Cert.Router.τ).loc Cert.Router.main_arg3) = m ((c.tc : Thread Cert.Router.nD Cert.Router.τ).loc Cert.Router.main_arg3)
      ∧ r.2.mem ((c.tc : Thread Cert.Router.nD Cert.Router.τ).loc Cert.Router.main_arg4) = m ((c.tc : Thread Cert.Router.nD Cert.Router.τ).loc Cert.Router.main_arg4)
      ∧ r.2.mem ((c.tc : Thread Cert.Router.nD Cert.Router.τ).loc Cert.Router.main_arg5) = m ((c.tc : Thread Cert.Router.nD Cert.Router.τ).loc Cert.Router.main_arg5))
      ∧ r.2.sem = fun _ => 0)

def quiescent_RouterIdeal [hRouterIdeal : Cert.RouterIdeal.Facts] : Prop :=
  ∀ (m : (ℓ : Loc Cert.RouterIdeal.nD Cert.RouterIdeal.τ Cert.RouterIdeal.sig) → Buf (Elt Ideal) ℓ) (g : Dev Cert.RouterIdeal.nD → PrngReg), Pre_RouterIdeal m →
    θ_run (Cert.RouterIdeal.defs (F := Ideal)) (onTc (τ := Cert.RouterIdeal.τ) (Cert.RouterIdeal.main (F := Ideal))) ⟨m, fun _ => 0, g⟩ (fun r => (∀ c : Dev Cert.RouterIdeal.nD,
      r.2.mem ((c.tc : Thread Cert.RouterIdeal.nD Cert.RouterIdeal.τ).loc Cert.RouterIdeal.main_arg0) = m ((c.tc : Thread Cert.RouterIdeal.nD Cert.RouterIdeal.τ).loc Cert.RouterIdeal.main_arg0)
      ∧ r.2.mem ((c.tc : Thread Cert.RouterIdeal.nD Cert.RouterIdeal.τ).loc Cert.RouterIdeal.main_arg1) = m ((c.tc : Thread Cert.RouterIdeal.nD Cert.RouterIdeal.τ).loc Cert.RouterIdeal.main_arg1)
      ∧ r.2.mem ((c.tc : Thread Cert.RouterIdeal.nD Cert.RouterIdeal.τ).loc Cert.RouterIdeal.main_arg2) = m ((c.tc : Thread Cert.RouterIdeal.nD Cert.RouterIdeal.τ).loc Cert.RouterIdeal.main_arg2)
      ∧ r.2.mem ((c.tc : Thread Cert.RouterIdeal.nD Cert.RouterIdeal.τ).loc Cert.RouterIdeal.main_arg3) = m ((c.tc : Thread Cert.RouterIdeal.nD Cert.RouterIdeal.τ).loc Cert.RouterIdeal.main_arg3)
      ∧ r.2.mem ((c.tc : Thread Cert.RouterIdeal.nD Cert.RouterIdeal.τ).loc Cert.RouterIdeal.main_arg4) = m ((c.tc : Thread Cert.RouterIdeal.nD Cert.RouterIdeal.τ).loc Cert.RouterIdeal.main_arg4)
      ∧ r.2.mem ((c.tc : Thread Cert.RouterIdeal.nD Cert.RouterIdeal.τ).loc Cert.RouterIdeal.main_arg5) = m ((c.tc : Thread Cert.RouterIdeal.nD Cert.RouterIdeal.τ).loc Cert.RouterIdeal.main_arg5))
      ∧ r.2.sem = fun _ => 0)

def quiescent_RouterRefIdeal [hRouterRefIdeal : Cert.RouterRefIdeal.Facts] : Prop :=
  ∀ (m : (ℓ : Loc Cert.RouterRefIdeal.nD Cert.RouterRefIdeal.τ Cert.RouterRefIdeal.sig) → Buf (Elt Ideal) ℓ) (g : Dev Cert.RouterRefIdeal.nD → PrngReg), Pre_RouterRefIdeal m →
    θ_run (Cert.RouterRefIdeal.defs (F := Ideal)) (onTc (τ := Cert.RouterRefIdeal.τ) (Cert.RouterRefIdeal.main (F := Ideal))) ⟨m, fun _ => 0, g⟩ (fun r => (∀ c : Dev Cert.RouterRefIdeal.nD,
      r.2.mem ((c.tc : Thread Cert.RouterRefIdeal.nD Cert.RouterRefIdeal.τ).loc Cert.RouterRefIdeal.main_arg0) = m ((c.tc : Thread Cert.RouterRefIdeal.nD Cert.RouterRefIdeal.τ).loc Cert.RouterRefIdeal.main_arg0)
      ∧ r.2.mem ((c.tc : Thread Cert.RouterRefIdeal.nD Cert.RouterRefIdeal.τ).loc Cert.RouterRefIdeal.main_arg1) = m ((c.tc : Thread Cert.RouterRefIdeal.nD Cert.RouterRefIdeal.τ).loc Cert.RouterRefIdeal.main_arg1)
      ∧ r.2.mem ((c.tc : Thread Cert.RouterRefIdeal.nD Cert.RouterRefIdeal.τ).loc Cert.RouterRefIdeal.main_arg2) = m ((c.tc : Thread Cert.RouterRefIdeal.nD Cert.RouterRefIdeal.τ).loc Cert.RouterRefIdeal.main_arg2)
      ∧ r.2.mem ((c.tc : Thread Cert.RouterRefIdeal.nD Cert.RouterRefIdeal.τ).loc Cert.RouterRefIdeal.main_arg3) = m ((c.tc : Thread Cert.RouterRefIdeal.nD Cert.RouterRefIdeal.τ).loc Cert.RouterRefIdeal.main_arg3)
      ∧ r.2.mem ((c.tc : Thread Cert.RouterRefIdeal.nD Cert.RouterRefIdeal.τ).loc Cert.RouterRefIdeal.main_arg4) = m ((c.tc : Thread Cert.RouterRefIdeal.nD Cert.RouterRefIdeal.τ).loc Cert.RouterRefIdeal.main_arg4)
      ∧ r.2.mem ((c.tc : Thread Cert.RouterRefIdeal.nD Cert.RouterRefIdeal.τ).loc Cert.RouterRefIdeal.main_arg5) = m ((c.tc : Thread Cert.RouterRefIdeal.nD Cert.RouterRefIdeal.τ).loc Cert.RouterRefIdeal.main_arg5))
      ∧ r.2.sem = fun _ => 0)

def quiescent_Slots [hSlots : Cert.Slots.Facts] : Prop :=
  ∀ (m : (ℓ : Loc Cert.Slots.nD Cert.Slots.τ Cert.Slots.sig) → Buf (Elt Bits) ℓ) (g : Dev Cert.Slots.nD → PrngReg), Pre_Slots m →
    θ_run (Cert.Slots.defs (F := Bits)) (onTc (τ := Cert.Slots.τ) (Cert.Slots.main (F := Bits))) ⟨m, fun _ => 0, g⟩ (fun r => (∀ c : Dev Cert.Slots.nD,
      r.2.mem ((c.tc : Thread Cert.Slots.nD Cert.Slots.τ).loc Cert.Slots.main_arg0) = m ((c.tc : Thread Cert.Slots.nD Cert.Slots.τ).loc Cert.Slots.main_arg0)
      ∧ r.2.mem ((c.tc : Thread Cert.Slots.nD Cert.Slots.τ).loc Cert.Slots.main_arg1) = m ((c.tc : Thread Cert.Slots.nD Cert.Slots.τ).loc Cert.Slots.main_arg1))
      ∧ r.2.sem = fun _ => 0)

def quiescent_SlotsIdeal [hSlotsIdeal : Cert.SlotsIdeal.Facts] : Prop :=
  ∀ (m : (ℓ : Loc Cert.SlotsIdeal.nD Cert.SlotsIdeal.τ Cert.SlotsIdeal.sig) → Buf (Elt Ideal) ℓ) (g : Dev Cert.SlotsIdeal.nD → PrngReg), Pre_SlotsIdeal m →
    θ_run (Cert.SlotsIdeal.defs (F := Ideal)) (onTc (τ := Cert.SlotsIdeal.τ) (Cert.SlotsIdeal.main (F := Ideal))) ⟨m, fun _ => 0, g⟩ (fun r => (∀ c : Dev Cert.SlotsIdeal.nD,
      r.2.mem ((c.tc : Thread Cert.SlotsIdeal.nD Cert.SlotsIdeal.τ).loc Cert.SlotsIdeal.main_arg0) = m ((c.tc : Thread Cert.SlotsIdeal.nD Cert.SlotsIdeal.τ).loc Cert.SlotsIdeal.main_arg0)
      ∧ r.2.mem ((c.tc : Thread Cert.SlotsIdeal.nD Cert.SlotsIdeal.τ).loc Cert.SlotsIdeal.main_arg1) = m ((c.tc : Thread Cert.SlotsIdeal.nD Cert.SlotsIdeal.τ).loc Cert.SlotsIdeal.main_arg1))
      ∧ r.2.sem = fun _ => 0)

def quiescent_SlotsRefIdeal [hSlotsRefIdeal : Cert.SlotsRefIdeal.Facts] : Prop :=
  ∀ (m : (ℓ : Loc Cert.SlotsRefIdeal.nD Cert.SlotsRefIdeal.τ Cert.SlotsRefIdeal.sig) → Buf (Elt Ideal) ℓ) (g : Dev Cert.SlotsRefIdeal.nD → PrngReg), Pre_SlotsRefIdeal m →
    θ_run (Cert.SlotsRefIdeal.defs (F := Ideal)) (onTc (τ := Cert.SlotsRefIdeal.τ) (Cert.SlotsRefIdeal.main (F := Ideal))) ⟨m, fun _ => 0, g⟩ (fun r => (∀ c : Dev Cert.SlotsRefIdeal.nD,
      r.2.mem ((c.tc : Thread Cert.SlotsRefIdeal.nD Cert.SlotsRefIdeal.τ).loc Cert.SlotsRefIdeal.main_arg0) = m ((c.tc : Thread Cert.SlotsRefIdeal.nD Cert.SlotsRefIdeal.τ).loc Cert.SlotsRefIdeal.main_arg0)
      ∧ r.2.mem ((c.tc : Thread Cert.SlotsRefIdeal.nD Cert.SlotsRefIdeal.τ).loc Cert.SlotsRefIdeal.main_arg1) = m ((c.tc : Thread Cert.SlotsRefIdeal.nD Cert.SlotsRefIdeal.τ).loc Cert.SlotsRefIdeal.main_arg1))
      ∧ r.2.sem = fun _ => 0)

def quiescent_DeltaNet [hDeltaNet : Cert.DeltaNet.Facts] : Prop :=
  ∀ (m : (ℓ : Loc Cert.DeltaNet.nD Cert.DeltaNet.τ Cert.DeltaNet.sig) → Buf (Elt Bits) ℓ) (g : Dev Cert.DeltaNet.nD → PrngReg), Pre_DeltaNet m →
    θ_run (Cert.DeltaNet.defs (F := Bits)) (onTc (τ := Cert.DeltaNet.τ) (Cert.DeltaNet.main (F := Bits))) ⟨m, fun _ => 0, g⟩ (fun r => (∀ c : Dev Cert.DeltaNet.nD,
      r.2.mem ((c.tc : Thread Cert.DeltaNet.nD Cert.DeltaNet.τ).loc Cert.DeltaNet.main_arg0) = m ((c.tc : Thread Cert.DeltaNet.nD Cert.DeltaNet.τ).loc Cert.DeltaNet.main_arg0)
      ∧ r.2.mem ((c.tc : Thread Cert.DeltaNet.nD Cert.DeltaNet.τ).loc Cert.DeltaNet.main_arg1) = m ((c.tc : Thread Cert.DeltaNet.nD Cert.DeltaNet.τ).loc Cert.DeltaNet.main_arg1)
      ∧ r.2.mem ((c.tc : Thread Cert.DeltaNet.nD Cert.DeltaNet.τ).loc Cert.DeltaNet.main_arg2) = m ((c.tc : Thread Cert.DeltaNet.nD Cert.DeltaNet.τ).loc Cert.DeltaNet.main_arg2)
      ∧ r.2.mem ((c.tc : Thread Cert.DeltaNet.nD Cert.DeltaNet.τ).loc Cert.DeltaNet.main_arg3) = m ((c.tc : Thread Cert.DeltaNet.nD Cert.DeltaNet.τ).loc Cert.DeltaNet.main_arg3)
      ∧ r.2.mem ((c.tc : Thread Cert.DeltaNet.nD Cert.DeltaNet.τ).loc Cert.DeltaNet.main_arg4) = m ((c.tc : Thread Cert.DeltaNet.nD Cert.DeltaNet.τ).loc Cert.DeltaNet.main_arg4))
      ∧ r.2.sem = fun _ => 0)

def quiescent_DeltaNetIdeal [hDeltaNetIdeal : Cert.DeltaNetIdeal.Facts] : Prop :=
  ∀ (m : (ℓ : Loc Cert.DeltaNetIdeal.nD Cert.DeltaNetIdeal.τ Cert.DeltaNetIdeal.sig) → Buf (Elt Ideal) ℓ) (g : Dev Cert.DeltaNetIdeal.nD → PrngReg), Pre_DeltaNetIdeal m →
    θ_run (Cert.DeltaNetIdeal.defs (F := Ideal)) (onTc (τ := Cert.DeltaNetIdeal.τ) (Cert.DeltaNetIdeal.main (F := Ideal))) ⟨m, fun _ => 0, g⟩ (fun r => (∀ c : Dev Cert.DeltaNetIdeal.nD,
      r.2.mem ((c.tc : Thread Cert.DeltaNetIdeal.nD Cert.DeltaNetIdeal.τ).loc Cert.DeltaNetIdeal.main_arg0) = m ((c.tc : Thread Cert.DeltaNetIdeal.nD Cert.DeltaNetIdeal.τ).loc Cert.DeltaNetIdeal.main_arg0)
      ∧ r.2.mem ((c.tc : Thread Cert.DeltaNetIdeal.nD Cert.DeltaNetIdeal.τ).loc Cert.DeltaNetIdeal.main_arg1) = m ((c.tc : Thread Cert.DeltaNetIdeal.nD Cert.DeltaNetIdeal.τ).loc Cert.DeltaNetIdeal.main_arg1)
      ∧ r.2.mem ((c.tc : Thread Cert.DeltaNetIdeal.nD Cert.DeltaNetIdeal.τ).loc Cert.DeltaNetIdeal.main_arg2) = m ((c.tc : Thread Cert.DeltaNetIdeal.nD Cert.DeltaNetIdeal.τ).loc Cert.DeltaNetIdeal.main_arg2)
      ∧ r.2.mem ((c.tc : Thread Cert.DeltaNetIdeal.nD Cert.DeltaNetIdeal.τ).loc Cert.DeltaNetIdeal.main_arg3) = m ((c.tc : Thread Cert.DeltaNetIdeal.nD Cert.DeltaNetIdeal.τ).loc Cert.DeltaNetIdeal.main_arg3)
      ∧ r.2.mem ((c.tc : Thread Cert.DeltaNetIdeal.nD Cert.DeltaNetIdeal.τ).loc Cert.DeltaNetIdeal.main_arg4) = m ((c.tc : Thread Cert.DeltaNetIdeal.nD Cert.DeltaNetIdeal.τ).loc Cert.DeltaNetIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v78) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)) →
    ∃ (v0 : (c : Dev Cert.FfnIdeal.nD) → Buf (Elt Ideal) ((c.tc : Thread Cert.FfnIdeal.nD Cert.FfnIdeal.τ).loc Cert.FfnIdeal.main_v3)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v3) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v6) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)
      ∧ m' ((c.tc : Thread Cert.OutProjRefIdeal.nD Cert.OutProjRefIdeal.τ).loc Cert.OutProjRefIdeal.main_arg3) = m ((c.tc : Thread Cert.OutProjIdeal.nD Cert.OutProjIdeal.τ).loc Cert.OutProjIdeal.main_arg3)
      ∧ m' ((c.tc : Thread Cert.OutProjRefIdeal.nD Cert.OutProjRefIdeal.τ).loc Cert.OutProjRefIdeal.main_arg4) = m ((c.tc : Thread Cert.OutProjIdeal.nD Cert.OutProjIdeal.τ).loc Cert.OutProjIdeal.main_arg4)) →
    ∃ (v0 : (c : Dev Cert.OutProjIdeal.nD) → Buf (Elt Ideal) ((c.tc : Thread Cert.OutProjIdeal.nD Cert.OutProjIdeal.τ).loc Cert.OutProjIdeal.main_v2_0)) (v1 : (c : Dev Cert.OutProjIdeal.nD) → Buf (Elt Ideal) ((c.tc : Thread Cert.OutProjIdeal.nD Cert.OutProjIdeal.τ).loc Cert.OutProjIdeal.main_v2_1)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v2_0) = v0 c
          ∧ r.2.mem ((c.tc : Thread Cert.OutProjIdeal.nD Cert.OutProjIdeal.τ).loc Cert.OutProjIdeal.main_v2_1) = v1 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
          ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v6) = v0 c
          ∧ r.2.mem ((c.tc : Thread Cert.OutProjRefIdeal.nD Cert.OutProjRefIdeal.τ).loc Cert.OutProjRefIdeal.main_v20) = v1 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2)
          ∧ r.2.mem ((c.tc : Thread Cert.OutProjRefIdeal.nD Cert.OutProjRefIdeal.τ).loc Cert.OutProjRefIdeal.main_arg3) = m' ((c.tc : Thread Cert.OutProjRefIdeal.nD Cert.OutProjRefIdeal.τ).loc Cert.OutProjRefIdeal.main_arg3)
          ∧ r.2.mem ((c.tc : Thread Cert.OutProjRefIdeal.nD Cert.OutProjRefIdeal.τ).loc Cert.OutProjRefIdeal.main_arg4) = m' ((c.tc : Thread Cert.OutProjRefIdeal.nD Cert.OutProjRefIdeal.τ).loc Cert.OutProjRefIdeal.main_arg4))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)
      ∧ m' ((c.tc : Thread Cert.InProjRefIdeal.nD Cert.InProjRefIdeal.τ).loc Cert.InProjRefIdeal.main_arg3) = m ((c.tc : Thread Cert.InProjIdeal.nD Cert.InProjIdeal.τ).loc Cert.InProjIdeal.main_arg3)
      ∧ m' ((c.tc : Thread Cert.InProjRefIdeal.nD Cert.InProjRefIdeal.τ).loc Cert.InProjRefIdeal.main_arg4) = m ((c.tc : Thread Cert.InProjIdeal.nD Cert.InProjIdeal.τ).loc Cert.InProjIdeal.main_arg4)
      ∧ m' ((c.tc : Thread Cert.InProjRefIdeal.nD Cert.InProjRefIdeal.τ).loc Cert.InProjRefIdeal.main_arg5) = m ((c.tc : Thread Cert.InProjIdeal.nD Cert.InProjIdeal.τ).loc Cert.InProjIdeal.main_arg5)) →
    ∃ (v0 : (c : Dev Cert.InProjIdeal.nD) → Buf (Elt Ideal) ((c.tc : Thread Cert.InProjIdeal.nD Cert.InProjIdeal.τ).loc Cert.InProjIdeal.main_v7_0)) (v1 : (c : Dev Cert.InProjIdeal.nD) → Buf (Elt Ideal) ((c.tc : Thread Cert.InProjIdeal.nD Cert.InProjIdeal.τ).loc Cert.InProjIdeal.main_v7_1)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v7_0) = v0 c
          ∧ r.2.mem ((c.tc : Thread Cert.InProjIdeal.nD Cert.InProjIdeal.τ).loc Cert.InProjIdeal.main_v7_1) = v1 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
          ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
          ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4)
          ∧ r.2.mem ((c.tc : Thread Cert.InProjIdeal.nD Cert.InProjIdeal.τ).loc Cert.InProjIdeal.main_arg5) = m ((c.tc : Thread Cert.InProjIdeal.nD Cert.InProjIdeal.τ).loc Cert.InProjIdeal.main_arg5))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v84) = v0 c
          ∧ r.2.mem ((c.tc : Thread Cert.InProjRefIdeal.nD Cert.InProjRefIdeal.τ).loc Cert.InProjRefIdeal.main_v85) = v1 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2)
          ∧ r.2.mem ((c.tc : Thread Cert.InProjRefIdeal.nD Cert.InProjRefIdeal.τ).loc Cert.InProjRefIdeal.main_arg3) = m' ((c.tc : Thread Cert.InProjRefIdeal.nD Cert.InProjRefIdeal.τ).loc Cert.InProjRefIdeal.main_arg3)
          ∧ r.2.mem ((c.tc : Thread Cert.InProjRefIdeal.nD Cert.InProjRefIdeal.τ).loc Cert.InProjRefIdeal.main_arg4) = m' ((c.tc : Thread Cert.InProjRefIdeal.nD Cert.InProjRefIdeal.τ).loc Cert.InProjRefIdeal.main_arg4)
          ∧ r.2.mem ((c.tc : Thread Cert.InProjRefIdeal.nD Cert.InProjRefIdeal.τ).loc Cert.InProjRefIdeal.main_arg5) = m' ((c.tc : Thread Cert.InProjRefIdeal.nD Cert.InProjRefIdeal.τ).loc Cert.InProjRefIdeal.main_arg5))

def preserves_Experts_ExpertsIdeal : Prop :=
  True

def algebraic_ExpertsIdeal_ExpertsRefIdeal [hExpertsIdeal : Cert.ExpertsIdeal.Facts] [hExpertsRefIdeal : Cert.ExpertsRefIdeal.Facts] : Prop :=
  ∀ (m : (ℓ : Loc Cert.ExpertsIdeal.nD Cert.ExpertsIdeal.τ Cert.ExpertsIdeal.sig) → Buf (Elt Ideal) ℓ) (g : Dev Cert.ExpertsIdeal.nD → PrngReg)
    (m' : (ℓ : Loc Cert.ExpertsRefIdeal.nD Cert.ExpertsRefIdeal.τ Cert.ExpertsRefIdeal.sig) → Buf (Elt Ideal) ℓ) (g' : Dev Cert.ExpertsRefIdeal.nD → PrngReg), Pre_ExpertsIdeal m →
    (∀ c : Dev Cert.ExpertsIdeal.nD,
      m' ((c.tc : Thread Cert.ExpertsRefIdeal.nD Cert.ExpertsRefIdeal.τ).loc Cert.ExpertsRefIdeal.main_arg0) = m ((c.tc : Thread Cert.ExpertsIdeal.nD Cert.ExpertsIdeal.τ).loc Cert.ExpertsIdeal.main_arg0)
      ∧ m' ((c.tc : Thread Cert.ExpertsRefIdeal.nD Cert.ExpertsRefIdeal.τ).loc Cert.ExpertsRefIdeal.main_arg1) = m ((c.tc : Thread Cert.ExpertsIdeal.nD Cert.ExpertsIdeal.τ).loc Cert.ExpertsIdeal.main_arg1)
      ∧ m' ((c.tc : Thread Cert.ExpertsRefIdeal.nD Cert.ExpertsRefIdeal.τ).loc Cert.ExpertsRefIdeal.main_arg2) = m ((c.tc : Thread Cert.ExpertsIdeal.nD Cert.ExpertsIdeal.τ).loc Cert.ExpertsIdeal.main_arg2)
      ∧ m' ((c.tc : Thread Cert.ExpertsRefIdeal.nD Cert.ExpertsRefIdeal.τ).loc Cert.ExpertsRefIdeal.main_arg3) = m ((c.tc : Thread Cert.ExpertsIdeal.nD Cert.ExpertsIdeal.τ).loc Cert.ExpertsIdeal.main_arg3)
      ∧ m' ((c.tc : Thread Cert.ExpertsRefIdeal.nD Cert.ExpertsRefIdeal.τ).loc Cert.ExpertsRefIdeal.main_arg4) = m ((c.tc : Thread Cert.ExpertsIdeal.nD Cert.ExpertsIdeal.τ).loc Cert.ExpertsIdeal.main_arg4)
      ∧ m' ((c.tc : Thread Cert.ExpertsRefIdeal.nD Cert.ExpertsRefIdeal.τ).loc Cert.ExpertsRefIdeal.main_arg5) = m ((c.tc : Thread Cert.ExpertsIdeal.nD Cert.ExpertsIdeal.τ).loc Cert.ExpertsIdeal.main_arg5)) →
    ∃ (v0 : (c : Dev Cert.ExpertsIdeal.nD) → Buf (Elt Ideal) ((c.tc : Thread Cert.ExpertsIdeal.nD Cert.ExpertsIdeal.τ).loc Cert.ExpertsIdeal.main_v21)),
      θ_run (Cert.ExpertsIdeal.defs (F := Ideal)) (onTc (τ := Cert.ExpertsIdeal.τ) (Cert.ExpertsIdeal.main (F := Ideal))) ⟨m, fun _ => 0, g⟩ (fun r => ∀ c : Dev Cert.ExpertsIdeal.nD,
          r.2.mem ((c.tc : Thread Cert.ExpertsIdeal.nD Cert.ExpertsIdeal.τ).loc Cert.ExpertsIdeal.main_v21) = v0 c
          ∧ r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
          ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
          ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
          ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
          ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
          ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5))
      ∧ θ_run (Cert.ExpertsRefIdeal.defs (F := Ideal)) (onTc (τ := Cert.ExpertsRefIdeal.τ) (Cert.ExpertsRefIdeal.main (F := Ideal))) ⟨m', fun _ => 0, g'⟩ (fun r => ∀ c : Dev Cert.ExpertsRefIdeal.nD,
          r.2.mem ((c.tc : Thread Cert.ExpertsRefIdeal.nD Cert.ExpertsRefIdeal.τ).loc Cert.ExpertsRefIdeal.main_v36) = v0 c
          ∧ r.2.mem ((c.tc : Thread Cert.ExpertsRefIdeal.nD Cert.ExpertsRefIdeal.τ).loc Cert.ExpertsRefIdeal.main_arg0) = m' ((c.tc : Thread Cert.ExpertsRefIdeal.nD Cert.ExpertsRefIdeal.τ).loc Cert.ExpertsRefIdeal.main_arg0)
          ∧ r.2.mem ((c.tc : Thread Cert.ExpertsRefIdeal.nD Cert.ExpertsRefIdeal.τ).loc Cert.ExpertsRefIdeal.main_arg1) = m' ((c.tc : Thread Cert.ExpertsRefIdeal.nD Cert.ExpertsRefIdeal.τ).loc Cert.ExpertsRefIdeal.main_arg1)
          ∧ r.2.mem ((c.tc : Thread Cert.ExpertsRefIdeal.nD Cert.ExpertsRefIdeal.τ).loc Cert.ExpertsRefIdeal.main_arg2) = m' ((c.tc : Thread Cert.ExpertsRefIdeal.nD Cert.ExpertsRefIdeal.τ).loc Cert.ExpertsRefIdeal.main_arg2)
          ∧ r.2.mem ((c.tc : Thread Cert.ExpertsRefIdeal.nD Cert.ExpertsRefIdeal.τ).loc Cert.ExpertsRefIdeal.main_arg3) = m' ((c.tc : Thread Cert.ExpertsRefIdeal.nD Cert.ExpertsRefIdeal.τ).loc Cert.ExpertsRefIdeal.main_arg3)
          ∧ r.2.mem ((c.tc : Thread Cert.ExpertsRefIdeal.nD Cert.ExpertsRefIdeal.τ).loc Cert.ExpertsRefIdeal.main_arg4) = m' ((c.tc : Thread Cert.ExpertsRefIdeal.nD Cert.ExpertsRefIdeal.τ).loc Cert.ExpertsRefIdeal.main_arg4)
          ∧ r.2.mem ((c.tc : Thread Cert.ExpertsRefIdeal.nD Cert.ExpertsRefIdeal.τ).loc Cert.ExpertsRefIdeal.main_arg5) = m' ((c.tc : Thread Cert.ExpertsRefIdeal.nD Cert.ExpertsRefIdeal.τ).loc Cert.ExpertsRefIdeal.main_arg5))

def preserves_Route_RouteIdeal : Prop :=
  True

def algebraic_RouteIdeal_RouteRefIdeal_on_chosen [hRouteIdeal : Cert.RouteIdeal.Facts] [hRouteRefIdeal : Cert.RouteRefIdeal.Facts] [hOn_chosen : Cert.On_chosen.Facts] : Prop :=
  ∀ (m : (ℓ : Loc Cert.RouteIdeal.nD Cert.RouteIdeal.τ Cert.RouteIdeal.sig) → Buf (Elt Ideal) ℓ) (g : Dev Cert.RouteIdeal.nD → PrngReg)
    (m' : (ℓ : Loc Cert.RouteRefIdeal.nD Cert.RouteRefIdeal.τ Cert.RouteRefIdeal.sig) → Buf (Elt Ideal) ℓ) (g' : Dev Cert.RouteRefIdeal.nD → PrngReg), Pre_RouteIdeal m →
    (∀ c : Dev Cert.RouteIdeal.nD,
      m' ((c.tc : Thread Cert.RouteRefIdeal.nD Cert.RouteRefIdeal.τ).loc Cert.RouteRefIdeal.main_arg0) = m ((c.tc : Thread Cert.RouteIdeal.nD Cert.RouteIdeal.τ).loc Cert.RouteIdeal.main_arg0)) →
    ∃ (v0 : (c : Dev Cert.RouteIdeal.nD) → Buf (Elt Ideal) ((c.tc : Thread Cert.RouteIdeal.nD Cert.RouteIdeal.τ).loc Cert.RouteIdeal.main_v0_0)) (v1 : (c : Dev Cert.RouteIdeal.nD) → Buf (Elt Ideal) ((c.tc : Thread Cert.RouteIdeal.nD Cert.RouteIdeal.τ).loc Cert.RouteIdeal.main_v0_1)),
      θ_run (Cert.RouteIdeal.defs (F := Ideal)) (onTc (τ := Cert.RouteIdeal.τ) (Cert.RouteIdeal.main (F := Ideal))) ⟨m, fun _ => 0, g⟩ (fun r => ∀ c : Dev Cert.RouteIdeal.nD,
          (∀ i : (⟨2, ![8, 16384]⟩ : Shape).Idx, (Cert.On_chosen.fn (F := Ideal) (m ((c.tc : Thread Cert.RouteIdeal.nD Cert.RouteIdeal.τ).loc Cert.RouteIdeal.main_arg0))).1 i = 1#1 → r.2.mem ((c.tc : Thread Cert.RouteIdeal.nD Cert.RouteIdeal.τ).loc Cert.RouteIdeal.main_v0_0) i = v0 c i)
          ∧ (∀ i : (⟨2, ![16384, 128]⟩ : Shape).Idx, (Cert.On_chosen.fn (F := Ideal) (m ((c.tc : Thread Cert.RouteIdeal.nD Cert.RouteIdeal.τ).loc Cert.RouteIdeal.main_arg0))).2 i = 1#1 → r.2.mem ((c.tc : Thread Cert.RouteIdeal.nD Cert.RouteIdeal.τ).loc Cert.RouteIdeal.main_v0_1) i = v1 c i)
          ∧ r.2.mem ((c.tc : Thread Cert.RouteIdeal.nD Cert.RouteIdeal.τ).loc Cert.RouteIdeal.main_arg0) = m ((c.tc : Thread Cert.RouteIdeal.nD Cert.RouteIdeal.τ).loc Cert.RouteIdeal.main_arg0))
      ∧ θ_run (Cert.RouteRefIdeal.defs (F := Ideal)) (onTc (τ := Cert.RouteRefIdeal.τ) (Cert.RouteRefIdeal.main (F := Ideal))) ⟨m', fun _ => 0, g'⟩ (fun r => ∀ c : Dev Cert.RouteRefIdeal.nD,
          (∀ i : (⟨2, ![8, 16384]⟩ : Shape).Idx, (Cert.On_chosen.fn (F := Ideal) (m ((c.tc : Thread Cert.RouteIdeal.nD Cert.RouteIdeal.τ).loc Cert.RouteIdeal.main_arg0))).1 i = 1#1 → r.2.mem ((c.tc : Thread Cert.RouteRefIdeal.nD Cert.RouteRefIdeal.τ).loc Cert.RouteRefIdeal.main_v14) i = v0 c i)
          ∧ (∀ i : (⟨2, ![16384, 128]⟩ : Shape).Idx, (Cert.On_chosen.fn (F := Ideal) (m ((c.tc : Thread Cert.RouteIdeal.nD Cert.RouteIdeal.τ).loc Cert.RouteIdeal.main_arg0))).2 i = 1#1 → r.2.mem ((c.tc : Thread Cert.RouteRefIdeal.nD Cert.RouteRefIdeal.τ).loc Cert.RouteRefIdeal.main_v16) i = v1 c i)
          ∧ r.2.mem ((c.tc : Thread Cert.RouteRefIdeal.nD Cert.RouteRefIdeal.τ).loc Cert.RouteRefIdeal.main_arg0) = m' ((c.tc : Thread Cert.RouteRefIdeal.nD Cert.RouteRefIdeal.τ).loc Cert.RouteRefIdeal.main_arg0))

def preserves_Router_RouterIdeal : Prop :=
  True

def algebraic_RouterIdeal_RouterRefIdeal_on_finite_logits [hRouterIdeal : Cert.RouterIdeal.Facts] [hRouterRefIdeal : Cert.RouterRefIdeal.Facts] [hOn_finite_logits : Cert.On_finite_logits.Facts] : Prop :=
  ∀ (m : (ℓ : Loc Cert.RouterIdeal.nD Cert.RouterIdeal.τ Cert.RouterIdeal.sig) → Buf (Elt Ideal) ℓ) (g : Dev Cert.RouterIdeal.nD → PrngReg)
    (m' : (ℓ : Loc Cert.RouterRefIdeal.nD Cert.RouterRefIdeal.τ Cert.RouterRefIdeal.sig) → Buf (Elt Ideal) ℓ) (g' : Dev Cert.RouterRefIdeal.nD → PrngReg), Pre_RouterIdeal m →
    (∀ c : Dev Cert.RouterIdeal.nD,
      m' ((c.tc : Thread Cert.RouterRefIdeal.nD Cert.RouterRefIdeal.τ).loc Cert.RouterRefIdeal.main_arg0) = m ((c.tc : Thread Cert.RouterIdeal.nD Cert.RouterIdeal.τ).loc Cert.RouterIdeal.main_arg0)
      ∧ m' ((c.tc : Thread Cert.RouterRefIdeal.nD Cert.RouterRefIdeal.τ).loc Cert.RouterRefIdeal.main_arg1) = m ((c.tc : Thread Cert.RouterIdeal.nD Cert.RouterIdeal.τ).loc Cert.RouterIdeal.main_arg1)
      ∧ m' ((c.tc : Thread Cert.RouterRefIdeal.nD Cert.RouterRefIdeal.τ).loc Cert.RouterRefIdeal.main_arg2) = m ((c.tc : Thread Cert.RouterIdeal.nD Cert.RouterIdeal.τ).loc Cert.RouterIdeal.main_arg2)
      ∧ m' ((c.tc : Thread Cert.RouterRefIdeal.nD Cert.RouterRefIdeal.τ).loc Cert.RouterRefIdeal.main_arg3) = m ((c.tc : Thread Cert.RouterIdeal.nD Cert.RouterIdeal.τ).loc Cert.RouterIdeal.main_arg3)
      ∧ m' ((c.tc : Thread Cert.RouterRefIdeal.nD Cert.RouterRefIdeal.τ).loc Cert.RouterRefIdeal.main_arg4) = m ((c.tc : Thread Cert.RouterIdeal.nD Cert.RouterIdeal.τ).loc Cert.RouterIdeal.main_arg4)
      ∧ m' ((c.tc : Thread Cert.RouterRefIdeal.nD Cert.RouterRefIdeal.τ).loc Cert.RouterRefIdeal.main_arg5) = m ((c.tc : Thread Cert.RouterIdeal.nD Cert.RouterIdeal.τ).loc Cert.RouterIdeal.main_arg5)) →
    ∃ (v0 : (c : Dev Cert.RouterIdeal.nD) → Buf (Elt Ideal) ((c.tc : Thread Cert.RouterIdeal.nD Cert.RouterIdeal.τ).loc Cert.RouterIdeal.main_v8_0)) (v1 : (c : Dev Cert.RouterIdeal.nD) → Buf (Elt Ideal) ((c.tc : Thread Cert.RouterIdeal.nD Cert.RouterIdeal.τ).loc Cert.RouterIdeal.main_v8_1)) (v2 : (c : Dev Cert.RouterIdeal.nD) → Buf (Elt Ideal) ((c.tc : Thread Cert.RouterIdeal.nD Cert.RouterIdeal.τ).loc Cert.RouterIdeal.main_v8_2)),
      θ_run (Cert.RouterIdeal.defs (F := Ideal)) (onTc (τ := Cert.RouterIdeal.τ) (Cert.RouterIdeal.main (F := Ideal))) ⟨m, fun _ => 0, g⟩ (fun r => ∀ c : Dev Cert.RouterIdeal.nD,
          (∀ i : (⟨2, ![16384, 2048]⟩ : Shape).Idx, (Cert.On_finite_logits.fn (F := Ideal) (m ((c.tc : Thread Cert.RouterIdeal.nD Cert.RouterIdeal.τ).loc Cert.RouterIdeal.main_arg0)) (m ((c.tc : Thread Cert.RouterIdeal.nD Cert.RouterIdeal.τ).loc Cert.RouterIdeal.main_arg1)) (m ((c.tc : Thread Cert.RouterIdeal.nD Cert.RouterIdeal.τ).loc Cert.RouterIdeal.main_arg2)) (m ((c.tc : Thread Cert.RouterIdeal.nD Cert.RouterIdeal.τ).loc Cert.RouterIdeal.main_arg3)) (m ((c.tc : Thread Cert.RouterIdeal.nD Cert.RouterIdeal.τ).loc Cert.RouterIdeal.main_arg4)) (m ((c.tc : Thread Cert.RouterIdeal.nD Cert.RouterIdeal.τ).loc Cert.RouterIdeal.main_arg5))).1 i = 1#1 → r.2.mem ((c.tc : Thread Cert.RouterIdeal.nD Cert.RouterIdeal.τ).loc Cert.RouterIdeal.main_v8_0) i = v0 c i)
          ∧ (∀ i : (⟨2, ![16384, 2048]⟩ : Shape).Idx, (Cert.On_finite_logits.fn (F := Ideal) (m ((c.tc : Thread Cert.RouterIdeal.nD Cert.RouterIdeal.τ).loc Cert.RouterIdeal.main_arg0)) (m ((c.tc : Thread Cert.RouterIdeal.nD Cert.RouterIdeal.τ).loc Cert.RouterIdeal.main_arg1)) (m ((c.tc : Thread Cert.RouterIdeal.nD Cert.RouterIdeal.τ).loc Cert.RouterIdeal.main_arg2)) (m ((c.tc : Thread Cert.RouterIdeal.nD Cert.RouterIdeal.τ).loc Cert.RouterIdeal.main_arg3)) (m ((c.tc : Thread Cert.RouterIdeal.nD Cert.RouterIdeal.τ).loc Cert.RouterIdeal.main_arg4)) (m ((c.tc : Thread Cert.RouterIdeal.nD Cert.RouterIdeal.τ).loc Cert.RouterIdeal.main_arg5))).2.1 i = 1#1 → r.2.mem ((c.tc : Thread Cert.RouterIdeal.nD Cert.RouterIdeal.τ).loc Cert.RouterIdeal.main_v8_1) i = v1 c i)
          ∧ (∀ i : (⟨2, ![8, 16384]⟩ : Shape).Idx, (Cert.On_finite_logits.fn (F := Ideal) (m ((c.tc : Thread Cert.RouterIdeal.nD Cert.RouterIdeal.τ).loc Cert.RouterIdeal.main_arg0)) (m ((c.tc : Thread Cert.RouterIdeal.nD Cert.RouterIdeal.τ).loc Cert.RouterIdeal.main_arg1)) (m ((c.tc : Thread Cert.RouterIdeal.nD Cert.RouterIdeal.τ).loc Cert.RouterIdeal.main_arg2)) (m ((c.tc : Thread Cert.RouterIdeal.nD Cert.RouterIdeal.τ).loc Cert.RouterIdeal.main_arg3)) (m ((c.tc : Thread Cert.RouterIdeal.nD Cert.RouterIdeal.τ).loc Cert.RouterIdeal.main_arg4)) (m ((c.tc : Thread Cert.RouterIdeal.nD Cert.RouterIdeal.τ).loc Cert.RouterIdeal.main_arg5))).2.2 i = 1#1 → r.2.mem ((c.tc : Thread Cert.RouterIdeal.nD Cert.RouterIdeal.τ).loc Cert.RouterIdeal.main_v8_2) i = v2 c i)
          ∧ r.2.mem ((c.tc : Thread Cert.RouterIdeal.nD Cert.RouterIdeal.τ).loc Cert.RouterIdeal.main_arg0) = m ((c.tc : Thread Cert.RouterIdeal.nD Cert.RouterIdeal.τ).loc Cert.RouterIdeal.main_arg0)
          ∧ r.2.mem ((c.tc : Thread Cert.RouterIdeal.nD Cert.RouterIdeal.τ).loc Cert.RouterIdeal.main_arg1) = m ((c.tc : Thread Cert.RouterIdeal.nD Cert.RouterIdeal.τ).loc Cert.RouterIdeal.main_arg1)
          ∧ r.2.mem ((c.tc : Thread Cert.RouterIdeal.nD Cert.RouterIdeal.τ).loc Cert.RouterIdeal.main_arg2) = m ((c.tc : Thread Cert.RouterIdeal.nD Cert.RouterIdeal.τ).loc Cert.RouterIdeal.main_arg2)
          ∧ r.2.mem ((c.tc : Thread Cert.RouterIdeal.nD Cert.RouterIdeal.τ).loc Cert.RouterIdeal.main_arg3) = m ((c.tc : Thread Cert.RouterIdeal.nD Cert.RouterIdeal.τ).loc Cert.RouterIdeal.main_arg3)
          ∧ r.2.mem ((c.tc : Thread Cert.RouterIdeal.nD Cert.RouterIdeal.τ).loc Cert.RouterIdeal.main_arg4) = m ((c.tc : Thread Cert.RouterIdeal.nD Cert.RouterIdeal.τ).loc Cert.RouterIdeal.main_arg4)
          ∧ r.2.mem ((c.tc : Thread Cert.RouterIdeal.nD Cert.RouterIdeal.τ).loc Cert.RouterIdeal.main_arg5) = m ((c.tc : Thread Cert.RouterIdeal.nD Cert.RouterIdeal.τ).loc Cert.RouterIdeal.main_arg5))
      ∧ θ_run (Cert.RouterRefIdeal.defs (F := Ideal)) (onTc (τ := Cert.RouterRefIdeal.τ) (Cert.RouterRefIdeal.main (F := Ideal))) ⟨m', fun _ => 0, g'⟩ (fun r => ∀ c : Dev Cert.RouterRefIdeal.nD,
          (∀ i : (⟨2, ![16384, 2048]⟩ : Shape).Idx, (Cert.On_finite_logits.fn (F := Ideal) (m ((c.tc : Thread Cert.RouterIdeal.nD Cert.RouterIdeal.τ).loc Cert.RouterIdeal.main_arg0)) (m ((c.tc : Thread Cert.RouterIdeal.nD Cert.RouterIdeal.τ).loc Cert.RouterIdeal.main_arg1)) (m ((c.tc : Thread Cert.RouterIdeal.nD Cert.RouterIdeal.τ).loc Cert.RouterIdeal.main_arg2)) (m ((c.tc : Thread Cert.RouterIdeal.nD Cert.RouterIdeal.τ).loc Cert.RouterIdeal.main_arg3)) (m ((c.tc : Thread Cert.RouterIdeal.nD Cert.RouterIdeal.τ).loc Cert.RouterIdeal.main_arg4)) (m ((c.tc : Thread Cert.RouterIdeal.nD Cert.RouterIdeal.τ).loc Cert.RouterIdeal.main_arg5))).1 i = 1#1 → r.2.mem ((c.tc : Thread Cert.RouterRefIdeal.nD Cert.RouterRefIdeal.τ).loc Cert.RouterRefIdeal.main_v6) i = v0 c i)
          ∧ (∀ i : (⟨2, ![16384, 2048]⟩ : Shape).Idx, (Cert.On_finite_logits.fn (F := Ideal) (m ((c.tc : Thread Cert.RouterIdeal.nD Cert.RouterIdeal.τ).loc Cert.RouterIdeal.main_arg0)) (m ((c.tc : Thread Cert.RouterIdeal.nD Cert.RouterIdeal.τ).loc Cert.RouterIdeal.main_arg1)) (m ((c.tc : Thread Cert.RouterIdeal.nD Cert.RouterIdeal.τ).loc Cert.RouterIdeal.main_arg2)) (m ((c.tc : Thread Cert.RouterIdeal.nD Cert.RouterIdeal.τ).loc Cert.RouterIdeal.main_arg3)) (m ((c.tc : Thread Cert.RouterIdeal.nD Cert.RouterIdeal.τ).loc Cert.RouterIdeal.main_arg4)) (m ((c.tc : Thread Cert.RouterIdeal.nD Cert.RouterIdeal.τ).loc Cert.RouterIdeal.main_arg5))).2.1 i = 1#1 → r.2.mem ((c.tc : Thread Cert.RouterRefIdeal.nD Cert.RouterRefIdeal.τ).loc Cert.RouterRefIdeal.main_v19) i = v1 c i)
          ∧ (∀ i : (⟨2, ![8, 16384]⟩ : Shape).Idx, (Cert.On_finite_logits.fn (F := Ideal) (m ((c.tc : Thread Cert.RouterIdeal.nD Cert.RouterIdeal.τ).loc Cert.RouterIdeal.main_arg0)) (m ((c.tc : Thread Cert.RouterIdeal.nD Cert.RouterIdeal.τ).loc Cert.RouterIdeal.main_arg1)) (m ((c.tc : Thread Cert.RouterIdeal.nD Cert.RouterIdeal.τ).loc Cert.RouterIdeal.main_arg2)) (m ((c.tc : Thread Cert.RouterIdeal.nD Cert.RouterIdeal.τ).loc Cert.RouterIdeal.main_arg3)) (m ((c.tc : Thread Cert.RouterIdeal.nD Cert.RouterIdeal.τ).loc Cert.RouterIdeal.main_arg4)) (m ((c.tc : Thread Cert.RouterIdeal.nD Cert.RouterIdeal.τ).loc Cert.RouterIdeal.main_arg5))).2.2 i = 1#1 → r.2.mem ((c.tc : Thread Cert.RouterRefIdeal.nD Cert.RouterRefIdeal.τ).loc Cert.RouterRefIdeal.main_v21) i = v2 c i)
          ∧ r.2.mem ((c.tc : Thread Cert.RouterRefIdeal.nD Cert.RouterRefIdeal.τ).loc Cert.RouterRefIdeal.main_arg0) = m' ((c.tc : Thread Cert.RouterRefIdeal.nD Cert.RouterRefIdeal.τ).loc Cert.RouterRefIdeal.main_arg0)
          ∧ r.2.mem ((c.tc : Thread Cert.RouterRefIdeal.nD Cert.RouterRefIdeal.τ).loc Cert.RouterRefIdeal.main_arg1) = m' ((c.tc : Thread Cert.RouterRefIdeal.nD Cert.RouterRefIdeal.τ).loc Cert.RouterRefIdeal.main_arg1)
          ∧ r.2.mem ((c.tc : Thread Cert.RouterRefIdeal.nD Cert.RouterRefIdeal.τ).loc Cert.RouterRefIdeal.main_arg2) = m' ((c.tc : Thread Cert.RouterRefIdeal.nD Cert.RouterRefIdeal.τ).loc Cert.RouterRefIdeal.main_arg2)
          ∧ r.2.mem ((c.tc : Thread Cert.RouterRefIdeal.nD Cert.RouterRefIdeal.τ).loc Cert.RouterRefIdeal.main_arg3) = m' ((c.tc : Thread Cert.RouterRefIdeal.nD Cert.RouterRefIdeal.τ).loc Cert.RouterRefIdeal.main_arg3)
          ∧ r.2.mem ((c.tc : Thread Cert.RouterRefIdeal.nD Cert.RouterRefIdeal.τ).loc Cert.RouterRefIdeal.main_arg4) = m' ((c.tc : Thread Cert.RouterRefIdeal.nD Cert.RouterRefIdeal.τ).loc Cert.RouterRefIdeal.main_arg4)
          ∧ r.2.mem ((c.tc : Thread Cert.RouterRefIdeal.nD Cert.RouterRefIdeal.τ).loc Cert.RouterRefIdeal.main_arg5) = m' ((c.tc : Thread Cert.RouterRefIdeal.nD Cert.RouterRefIdeal.τ).loc Cert.RouterRefIdeal.main_arg5))

def preserves_Slots_SlotsIdeal : Prop :=
  True

def algebraic_SlotsIdeal_SlotsRefIdeal [hSlotsIdeal : Cert.SlotsIdeal.Facts] [hSlotsRefIdeal : Cert.SlotsRefIdeal.Facts] : Prop :=
  ∀ (m : (ℓ : Loc Cert.SlotsIdeal.nD Cert.SlotsIdeal.τ Cert.SlotsIdeal.sig) → Buf (Elt Ideal) ℓ) (g : Dev Cert.SlotsIdeal.nD → PrngReg)
    (m' : (ℓ : Loc Cert.SlotsRefIdeal.nD Cert.SlotsRefIdeal.τ Cert.SlotsRefIdeal.sig) → Buf (Elt Ideal) ℓ) (g' : Dev Cert.SlotsRefIdeal.nD → PrngReg), Pre_SlotsIdeal m →
    (∀ c : Dev Cert.SlotsIdeal.nD,
      m' ((c.tc : Thread Cert.SlotsRefIdeal.nD Cert.SlotsRefIdeal.τ).loc Cert.SlotsRefIdeal.main_arg0) = m ((c.tc : Thread Cert.SlotsIdeal.nD Cert.SlotsIdeal.τ).loc Cert.SlotsIdeal.main_arg0)
      ∧ m' ((c.tc : Thread Cert.SlotsRefIdeal.nD Cert.SlotsRefIdeal.τ).loc Cert.SlotsRefIdeal.main_arg1) = m ((c.tc : Thread Cert.SlotsIdeal.nD Cert.SlotsIdeal.τ).loc Cert.SlotsIdeal.main_arg1)) →
    ∃ (v0 : (c : Dev Cert.SlotsIdeal.nD) → Buf (Elt Ideal) ((c.tc : Thread Cert.SlotsIdeal.nD Cert.SlotsIdeal.τ).loc Cert.SlotsIdeal.main_v0)),
      θ_run (Cert.SlotsIdeal.defs (F := Ideal)) (onTc (τ := Cert.SlotsIdeal.τ) (Cert.SlotsIdeal.main (F := Ideal))) ⟨m, fun _ => 0, g⟩ (fun r => ∀ c : Dev Cert.SlotsIdeal.nD,
          r.2.mem ((c.tc : Thread Cert.SlotsIdeal.nD Cert.SlotsIdeal.τ).loc Cert.SlotsIdeal.main_v0) = v0 c
          ∧ r.2.mem ((c.tc : Thread Cert.SlotsIdeal.nD Cert.SlotsIdeal.τ).loc Cert.SlotsIdeal.main_arg0) = m ((c.tc : Thread Cert.SlotsIdeal.nD Cert.SlotsIdeal.τ).loc Cert.SlotsIdeal.main_arg0)
          ∧ r.2.mem ((c.tc : Thread Cert.SlotsIdeal.nD Cert.SlotsIdeal.τ).loc Cert.SlotsIdeal.main_arg1) = m ((c.tc : Thread Cert.SlotsIdeal.nD Cert.SlotsIdeal.τ).loc Cert.SlotsIdeal.main_arg1))
      ∧ θ_run (Cert.SlotsRefIdeal.defs (F := Ideal)) (onTc (τ := Cert.SlotsRefIdeal.τ) (Cert.SlotsRefIdeal.main (F := Ideal))) ⟨m', fun _ => 0, g'⟩ (fun r => ∀ c : Dev Cert.SlotsRefIdeal.nD,
          r.2.mem ((c.tc : Thread Cert.SlotsRefIdeal.nD Cert.SlotsRefIdeal.τ).loc Cert.SlotsRefIdeal.main_v34) = v0 c
          ∧ r.2.mem ((c.tc : Thread Cert.SlotsRefIdeal.nD Cert.SlotsRefIdeal.τ).loc Cert.SlotsRefIdeal.main_arg0) = m' ((c.tc : Thread Cert.SlotsRefIdeal.nD Cert.SlotsRefIdeal.τ).loc Cert.SlotsRefIdeal.main_arg0)
          ∧ r.2.mem ((c.tc : Thread Cert.SlotsRefIdeal.nD Cert.SlotsRefIdeal.τ).loc Cert.SlotsRefIdeal.main_arg1) = m' ((c.tc : Thread Cert.SlotsRefIdeal.nD Cert.SlotsRefIdeal.τ).loc Cert.SlotsRefIdeal.main_arg1))

def preserves_DeltaNet_DeltaNetIdeal : Prop :=
  True

def Claim : Prop :=
  ∃ (hKernel : Cert.Kernel.Facts) (hKernelIdeal : Cert.KernelIdeal.Facts) (hReferenceIdeal : Cert.ReferenceIdeal.Facts) (hFfn : Cert.Ffn.Facts) (hFfnIdeal : Cert.FfnIdeal.Facts) (hFfnRefIdeal : Cert.FfnRefIdeal.Facts) (hOutProj : Cert.OutProj.Facts) (hOutProjIdeal : Cert.OutProjIdeal.Facts) (hOutProjRefIdeal : Cert.OutProjRefIdeal.Facts) (hInProj : Cert.InProj.Facts) (hInProjIdeal : Cert.InProjIdeal.Facts) (hInProjRefIdeal : Cert.InProjRefIdeal.Facts) (hExperts : Cert.Experts.Facts) (hExpertsIdeal : Cert.ExpertsIdeal.Facts) (hExpertsRefIdeal : Cert.ExpertsRefIdeal.Facts) (hRoute : Cert.Route.Facts) (hRouteIdeal : Cert.RouteIdeal.Facts) (hRouteRefIdeal : Cert.RouteRefIdeal.Facts) (hRouter : Cert.Router.Facts) (hRouterIdeal : Cert.RouterIdeal.Facts) (hRouterRefIdeal : Cert.RouterRefIdeal.Facts) (hSlots : Cert.Slots.Facts) (hSlotsIdeal : Cert.SlotsIdeal.Facts) (hSlotsRefIdeal : Cert.SlotsRefIdeal.Facts) (hDeltaNet : Cert.DeltaNet.Facts) (hDeltaNetIdeal : Cert.DeltaNetIdeal.Facts) (hOn_chosen : Cert.On_chosen.Facts) (hOn_finite_logits : Cert.On_finite_logits.Facts),
    quiescent_Kernel (hKernel := hKernel)
    ∧ quiescent_KernelIdeal (hKernelIdeal := hKernelIdeal)
    ∧ quiescent_ReferenceIdeal (hReferenceIdeal := hReferenceIdeal)
    ∧ quiescent_Ffn (hFfn := hFfn)
    ∧ quiescent_FfnIdeal (hFfnIdeal := hFfnIdeal)
    ∧ quiescent_FfnRefIdeal (hFfnRefIdeal := hFfnRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_InProj (hInProj := hInProj)
    ∧ quiescent_InProjIdeal (hInProjIdeal := hInProjIdeal)
    ∧ quiescent_InProjRefIdeal (hInProjRefIdeal := hInProjRefIdeal)
    ∧ quiescent_Experts (hExperts := hExperts)
    ∧ quiescent_ExpertsIdeal (hExpertsIdeal := hExpertsIdeal)
    ∧ quiescent_ExpertsRefIdeal (hExpertsRefIdeal := hExpertsRefIdeal)
    ∧ quiescent_Route (hRoute := hRoute)
    ∧ quiescent_RouteIdeal (hRouteIdeal := hRouteIdeal)
    ∧ quiescent_RouteRefIdeal (hRouteRefIdeal := hRouteRefIdeal)
    ∧ quiescent_Router (hRouter := hRouter)
    ∧ quiescent_RouterIdeal (hRouterIdeal := hRouterIdeal)
    ∧ quiescent_RouterRefIdeal (hRouterRefIdeal := hRouterRefIdeal)
    ∧ quiescent_Slots (hSlots := hSlots)
    ∧ quiescent_SlotsIdeal (hSlotsIdeal := hSlotsIdeal)
    ∧ quiescent_SlotsRefIdeal (hSlotsRefIdeal := hSlotsRefIdeal)
    ∧ quiescent_DeltaNet (hDeltaNet := hDeltaNet)
    ∧ quiescent_DeltaNetIdeal (hDeltaNetIdeal := hDeltaNetIdeal)
    ∧ preserves_Kernel_KernelIdeal
    ∧ algebraic_KernelIdeal_ReferenceIdeal (hKernelIdeal := hKernelIdeal) (hReferenceIdeal := hReferenceIdeal)
    ∧ preserves_Ffn_FfnIdeal
    ∧ algebraic_FfnIdeal_FfnRefIdeal (hFfnIdeal := hFfnIdeal) (hFfnRefIdeal := hFfnRefIdeal)
    ∧ preserves_OutProj_OutProjIdeal
    ∧ algebraic_OutProjIdeal_OutProjRefIdeal (hOutProjIdeal := hOutProjIdeal) (hOutProjRefIdeal := hOutProjRefIdeal)
    ∧ preserves_InProj_InProjIdeal
    ∧ algebraic_InProjIdeal_InProjRefIdeal (hInProjIdeal := hInProjIdeal) (hInProjRefIdeal := hInProjRefIdeal)
    ∧ preserves_Experts_ExpertsIdeal
    ∧ algebraic_ExpertsIdeal_ExpertsRefIdeal (hExpertsIdeal := hExpertsIdeal) (hExpertsRefIdeal := hExpertsRefIdeal)
    ∧ preserves_Route_RouteIdeal
    ∧ algebraic_RouteIdeal_RouteRefIdeal_on_chosen (hRouteIdeal := hRouteIdeal) (hRouteRefIdeal := hRouteRefIdeal) (hOn_chosen := hOn_chosen)
    ∧ preserves_Router_RouterIdeal
    ∧ algebraic_RouterIdeal_RouterRefIdeal_on_finite_logits (hRouterIdeal := hRouterIdeal) (hRouterRefIdeal := hRouterRefIdeal) (hOn_finite_logits := hOn_finite_logits)
    ∧ preserves_Slots_SlotsIdeal
    ∧ algebraic_SlotsIdeal_SlotsRefIdeal (hSlotsIdeal := hSlotsIdeal) (hSlotsRefIdeal := hSlotsRefIdeal)
    ∧ preserves_DeltaNet_DeltaNetIdeal
-- ==== On_chosen.lean ====
abbrev S8x16384 : Shape := ⟨2, ![8, 16384]⟩
abbrev S_ : Shape := ⟨0, ![]⟩
abbrev S16384 : Shape := ⟨1, ![16384]⟩
abbrev S8 : Shape := ⟨1, ![8]⟩
abbrev S8x1 : Shape := ⟨2, ![8, 1]⟩
abbrev S1x16384 : Shape := ⟨2, ![1, 16384]⟩
abbrev S16384x1 : Shape := ⟨2, ![16384, 1]⟩
abbrev S16384x128 : Shape := ⟨2, ![16384, 128]⟩

class Facts : Prop where
  bcast_S_S8x16384 : S_.BroadcastsInDim S8x16384 (![] : Fin 0 → Fin S8x16384.rank)
  reducesTo_S8x16384_S16384_d0 : S8x16384.ReducesTo [0] S16384
  h_S_ : 0 < S_.numel
  bcast_S_S8 : S_.BroadcastsInDim S8 (![] : Fin 0 → Fin S8.rank)
  bcast_S8_S8x1_0 : S8.BroadcastsInDim S8x1 (![0] : Fin 1 → Fin S8x1.rank)
  bcast_S16384_S1x16384_1 : S16384.BroadcastsInDim S1x16384 (![1] : Fin 1 → Fin S1x16384.rank)
  bcast_S8x1_S8x16384_0_1 : S8x1.BroadcastsInDim S8x16384 (![0, 1] : Fin 2 → Fin S8x16384.rank)
  bcast_S1x16384_S8x16384_0_1 : S1x16384.BroadcastsInDim S8x16384 (![0, 1] : Fin 2 → Fin S8x16384.rank)
  bcast_S16384_S16384x1_0 : S16384.BroadcastsInDim S16384x1 (![0] : Fin 1 → Fin S16384x1.rank)
  bcast_S16384x1_S16384x128_0_1 : S16384x1.BroadcastsInDim S16384x128 (![0, 1] : Fin 2 → Fin S16384x128.rank)

variable [Facts]

def fn {F : FTy → Type} [FloatOps F] (main_arg0 : FVec F S8x16384 .f32) : IVec S8x16384 1 × IVec S16384x128 1 :=
  let main_v0 : FVec F S8x16384 .f32 := Host.absf main_arg0
  let main_cst : FVec F S_ .f32 := constant S_ .f32 0x7F800000#32
  let main_v1 : FVec F S8x16384 .f32 := broadcastInDim S8x16384 ![] bcast_S_S8x16384 main_cst
  let main_v2 : IVec S8x16384 1 := cmpf .olt main_v0 main_v1
  let main_c : IVec S_ 1 := constantI S_ 1 1#1
  let main_v3 : IVec S16384 1 := (fun x v => Host.reduce IntOp.andi x v reducesTo_S8x16384_S16384_d0 h_S_) main_v2 main_c
  let main_v4 : IVec S8 32 := iotaInDim S8 32 0
  let main_c_0 : IVec S_ 32 := constantI S_ 32 2#32
  let main_v5 : IVec S8 32 := broadcastInDim S8 ![] bcast_S_S8 main_c_0
  let main_v6 : IVec S8 1 := cmpi .slt main_v4 main_v5
  let main_c_1 : IVec S_ 32 := constantI S_ 32 3#32
  let main_v7 : IVec S8 32 := broadcastInDim S8 ![] bcast_S_S8 main_c_1
  let main_v8 : IVec S8 1 := cmpi .sgt main_v4 main_v7
  let main_v9 : IVec S8 1 := ori main_v6 main_v8
  let main_v10 : IVec S8x1 1 := broadcastInDim S8x1 ![0] bcast_S8_S8x1_0 main_v9
  let main_v11 : IVec S1x16384 1 := broadcastInDim S1x16384 ![1] bcast_S16384_S1x16384_1 main_v3
  let main_v12 : IVec S8x16384 1 := broadcastInDim S8x16384 ![0, 1] bcast_S8x1_S8x16384_0_1 main_v10
  let main_v13 : IVec S8x16384 1 := broadcastInDim S8x16384 ![0, 1] bcast_S1x16384_S8x16384_0_1 main_v11
  let main_v14 : IVec S8x16384 1 := andi main_v12 main_v13
  let main_v15 : IVec S16384x1 1 := broadcastInDim S16384x1 ![0] bcast_S16384_S16384x1_0 main_v3
  let main_v16 : IVec S16384x128 1 := broadcastInDim S16384x128 ![0, 1] bcast_S16384x1_S16384x128_0_1 main_v15
  (main_v14, main_v16)
-- ==== On_finite_logits.lean ====
abbrev S16384x1024 : Shape := ⟨2, ![16384, 1024]⟩
abbrev S2x2048x2048 : Shape := ⟨3, ![2, 2048, 2048]⟩
abbrev S16384x2048 : Shape := ⟨2, ![16384, 2048]⟩
abbrev S2048 : Shape := ⟨1, ![2048]⟩
abbrev S2048x8 : Shape := ⟨2, ![2048, 8]⟩
abbrev S1x2048x2048 : Shape := ⟨3, ![1, 2048, 2048]⟩
abbrev S2048x2048 : Shape := ⟨2, ![2048, 2048]⟩
abbrev S_ : Shape := ⟨0, ![]⟩
abbrev S16384 : Shape := ⟨1, ![16384]⟩
abbrev S16384x1 : Shape := ⟨2, ![16384, 1]⟩
abbrev S1x2048 : Shape := ⟨2, ![1, 2048]⟩
abbrev S16384x8 : Shape := ⟨2, ![16384, 8]⟩
abbrev S8x16384 : Shape := ⟨2, ![8, 16384]⟩
abbrev S8 : Shape := ⟨1, ![8]⟩
abbrev S8x1 : Shape := ⟨2, ![8, 1]⟩
abbrev S1x16384 : Shape := ⟨2, ![1, 16384]⟩

class Facts : Prop where
  bitsLt_bf16_f32 : FTy.bits .bf16 < FTy.bits .f32
  concatenates_S16384x1024_S16384x1024_S16384x2048_d1 : Shape.Concatenates [S16384x1024, S16384x1024] S16384x2048 1
  slices_S2x2048x2048_S1x2048x2048_1_0_0 : S2x2048x2048.Slices ![1, 0, 0] S1x2048x2048
  shapeCasts_S1x2048x2048_S2048x2048 : S1x2048x2048.ShapeCasts S2048x2048
  reducesTo_S16384x2048_S16384_d1 : S16384x2048.ReducesTo [1] S16384
  h_S_ : 0 < S_.numel
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S16384x1_S16384x2048_0_1 : S16384x1.BroadcastsInDim S16384x2048 (![0, 1] : Fin 2 → Fin S16384x2048.rank)
  bcast_S2048_S1x2048_1 : S2048.BroadcastsInDim S1x2048 (![1] : Fin 1 → Fin S1x2048.rank)
  bcast_S1x2048_S16384x2048_0_1 : S1x2048.BroadcastsInDim S16384x2048 (![0, 1] : Fin 2 → Fin S16384x2048.rank)
  transposes_S16384x8_S8x16384_1_0 : S16384x8.Transposes [1, 0] S8x16384
  bcast_S_S16384x2048 : S_.BroadcastsInDim S16384x2048 (![] : Fin 0 → Fin S16384x2048.rank)
  bcast_S_S2048x8 : S_.BroadcastsInDim S2048x8 (![] : Fin 0 → Fin S2048x8.rank)
  reducesTo_S2048x8_S8_d0 : S2048x8.ReducesTo [0] S8
  bcast_S8_S8x1_0 : S8.BroadcastsInDim S8x1 (![0] : Fin 1 → Fin S8x1.rank)
  bcast_S16384_S1x16384_1 : S16384.BroadcastsInDim S1x16384 (![1] : Fin 1 → Fin S1x16384.rank)
  bcast_S8x1_S8x16384_0_1 : S8x1.BroadcastsInDim S8x16384 (![0, 1] : Fin 2 → Fin S8x16384.rank)
  bcast_S1x16384_S8x16384_0_1 : S1x16384.BroadcastsInDim S8x16384 (![0, 1] : Fin 2 → Fin S8x16384.rank)
  dot_S16384x2048_S2048x2048_S16384x2048_1_0_0_1_n_n_wf : DotDims.WF S16384x2048 S2048x2048 S16384x2048 [1] [0] [0] [1] [] []
  dot_S16384x2048_S2048x8_S16384x8_1_0_0_1_n_n_wf : DotDims.WF S16384x2048 S2048x8 S16384x8 [1] [0] [0] [1] [] []

variable [Facts]

def dot_S16384x2048_S2048x2048_S16384x2048_1_0_0_1_n_n : DotDims S16384x2048 S2048x2048 S16384x2048 where
  lhsContracting := [1]
  rhsContracting := [0]
  lhsNonContracting := [0]
  rhsNonContracting := [1]
  lhsBatch := []
  rhsBatch := []
  wf := dot_S16384x2048_S2048x2048_S16384x2048_1_0_0_1_n_n_wf
def dot_S16384x2048_S2048x8_S16384x8_1_0_0_1_n_n : DotDims S16384x2048 S2048x8 S16384x8 where
  lhsContracting := [1]
  rhsContracting := [0]
  lhsNonContracting := [0]
  rhsNonContracting := [1]
  lhsBatch := []
  rhsBatch := []
  wf := dot_S16384x2048_S2048x8_S16384x8_1_0_0_1_n_n_wf
def fn_part1 {F : FTy → Type} [FloatOps F] (main_arg5 : FVec F S2048x8 .f32) (main_v19 : FVec F S16384x2048 .f32) (main_v20 : FVec F S16384x8 .f32) : IVec S16384x2048 1 × IVec S16384x2048 1 × IVec S8x16384 1 :=
  let main_v21 : FVec F S8x16384 .f32 := (transpose S8x16384 [1, 0] · transposes_S16384x8_S8x16384_1_0) main_v20
  let main_c : IVec S_ 1 := constantI S_ 1 1#1
  let main_v22 : IVec S16384x2048 1 := broadcastInDim S16384x2048 ![] bcast_S_S16384x2048 main_c
  let main_v23 : FVec F S16384x2048 .f32 := Host.absf main_v19
  let main_cst_2 : FVec F S_ .f32 := constant S_ .f32 0x7F800000#32
  let main_v24 : FVec F S16384x2048 .f32 := broadcastInDim S16384x2048 ![] bcast_S_S16384x2048 main_cst_2
  let main_v25 : IVec S16384x2048 1 := cmpf .olt main_v23 main_v24
  let main_c_3 : IVec S_ 1 := constantI S_ 1 1#1
  let main_v26 : IVec S16384 1 := (fun x v => Host.reduce IntOp.andi x v reducesTo_S16384x2048_S16384_d1 h_S_) main_v25 main_c_3
  let main_v27 : FVec F S2048x8 .f32 := Host.absf main_arg5
  let main_cst_4 : FVec F S_ .f32 := constant S_ .f32 0x7F800000#32
  let main_v28 : FVec F S2048x8 .f32 := broadcastInDim S2048x8 ![] bcast_S_S2048x8 main_cst_4
  let main_v29 : IVec S2048x8 1 := cmpf .olt main_v27 main_v28
  let main_c_5 : IVec S_ 1 := constantI S_ 1 1#1
  let main_v30 : IVec S8 1 := (fun x v => Host.reduce IntOp.andi x v reducesTo_S2048x8_S8_d0 h_S_) main_v29 main_c_5
  let main_v31 : IVec S8x1 1 := broadcastInDim S8x1 ![0] bcast_S8_S8x1_0 main_v30
  let main_v32 : IVec S1x16384 1 := broadcastInDim S1x16384 ![1] bcast_S16384_S1x16384_1 main_v26
  let main_v33 : IVec S8x16384 1 := broadcastInDim S8x16384 ![0, 1] bcast_S8x1_S8x16384_0_1 main_v31
  let main_v34 : IVec S8x16384 1 := broadcastInDim S8x16384 ![0, 1] bcast_S1x16384_S8x16384_0_1 main_v32
  let main_v35 : IVec S8x16384 1 := andi main_v33 main_v34
  (main_v22, main_v22, main_v35)

def fn {F : FTy → Type} [FloatOps F] (main_arg0 : FVec F S16384x1024 .bf16) (main_arg1 : FVec F S16384x1024 .bf16) (main_arg2 : FVec F S2x2048x2048 .f32) (main_arg3 : FVec F S16384x2048 .f32) (main_arg4 : FVec F S2048 .f32) (main_arg5 : FVec F S2048x8 .f32) : IVec S16384x2048 1 × IVec S16384x2048 1 × IVec S8x16384 1 :=
  let main_v0 : FVec F S16384x1024 .f32 := (extf .f32 · bitsLt_bf16_f32) main_arg0
  let main_v1 : FVec F S16384x1024 .f32 := (extf .f32 · bitsLt_bf16_f32) main_arg1
  let main_v2 : FVec F S16384x2048 .f32 := (fun a b => concatenate S16384x2048 1 [⟨S16384x1024, a⟩, ⟨S16384x1024, b⟩] concatenates_S16384x1024_S16384x1024_S16384x2048_d1) main_v0 main_v1
  let main_v3 : FVec F S1x2048x2048 .f32 := (extractStridedSlice S1x2048x2048 ![1, 0, 0] · slices_S2x2048x2048_S1x2048x2048_1_0_0) main_arg2
  let main_v4 : FVec F S2048x2048 .f32 := shapeCast S2048x2048 main_v3 shapeCasts_S1x2048x2048_S2048x2048
  let main_v5 : FVec F S16384x2048 .f32 := (fun l r => Host.dotGeneral dot_S16384x2048_S2048x2048_S16384x2048_1_0_0_1_n_n none l r) main_v2 main_v4
  let main_v6 : FVec F S16384x2048 .f32 := addf main_arg3 main_v5
  let main_v7 : FVec F S16384x2048 .f32 := mulf main_v6 main_v6
  let main_cst : FVec F S_ .f32 := constant S_ .f32 0x00000000#32
  let main_v8 : FVec F S16384 .f32 := (fun x v => Host.reduceAdd x v reducesTo_S16384x2048_S16384_d1 h_S_) main_v7 main_cst
  let main_v9 : FVec F S16384x1 .f32 := broadcastInDim S16384x1 ![0] bcast_S16384_S16384x1_0 main_v8
  let main_cst_0 : FVec F S_ .f32 := constant S_ .f32 0x45000000#32
  let main_v10 : FVec F S16384x1 .f32 := broadcastInDim S16384x1 ![] bcast_S_S16384x1 main_cst_0
  let main_v11 : FVec F S16384x1 .f32 := Host.divf main_v9 main_v10
  let main_cst_1 : FVec F S_ .f32 := constant S_ .f32 0x358637BD#32
  let main_v12 : FVec F S16384x1 .f32 := broadcastInDim S16384x1 ![] bcast_S_S16384x1 main_cst_1
  let main_v13 : FVec F S16384x1 .f32 := addf main_v11 main_v12
  let main_v14 : FVec F S16384x1 .f32 := Host.rsqrt main_v13
  let main_v15 : FVec F S16384x2048 .f32 := broadcastInDim S16384x2048 ![0, 1] bcast_S16384x1_S16384x2048_0_1 main_v14
  let main_v16 : FVec F S16384x2048 .f32 := mulf main_v6 main_v15
  let main_v17 : FVec F S1x2048 .f32 := broadcastInDim S1x2048 ![1] bcast_S2048_S1x2048_1 main_arg4
  let main_v18 : FVec F S16384x2048 .f32 := broadcastInDim S16384x2048 ![0, 1] bcast_S1x2048_S16384x2048_0_1 main_v17
  let main_v19 : FVec F S16384x2048 .f32 := mulf main_v16 main_v18
  let main_v20 : FVec F S16384x8 .f32 := (fun l r => Host.dotGeneral dot_S16384x2048_S2048x8_S16384x8_1_0_0_1_n_n none l r) main_v19 main_arg5
  fn_part1 (F := F) main_arg5 main_v19 main_v20
-- ==== Kernel.lean ====
abbrev S16384x6144 : Shape := ⟨2, ![16384, 6144]⟩
abbrev S8x128x128 : Shape := ⟨3, ![8, 128, 128]⟩
abbrev S8x128 : Shape := ⟨2, ![8, 128]⟩
abbrev S1024 : Shape := ⟨1, ![1024]⟩
abbrev S1x1024 : Shape := ⟨2, ![1, 1024]⟩
abbrev S16384x1024 : Shape := ⟨2, ![16384, 1024]⟩
abbrev S256x1024 : Shape := ⟨2, ![256, 1024]⟩
abbrev S8x1024 : Shape := ⟨2, ![8, 1024]⟩
abbrev S256x128 : Shape := ⟨2, ![256, 128]⟩
abbrev S1x128x128 : Shape := ⟨3, ![1, 128, 128]⟩
abbrev S128x128 : Shape := ⟨2, ![128, 128]⟩
abbrev S32x8x1024 : Shape := ⟨3, ![32, 8, 1024]⟩
abbrev S256 : Shape := ⟨1, ![256]⟩
abbrev S256x1 : Shape := ⟨2, ![256, 1]⟩

abbrev nBuf : Space → Nat
  | .hbm => 14
  | .vmem => 13
  | .smem => 0
  | _ => 0

abbrev bufTy : (tb : Table) → Fin (tcTables nBuf tb) → BufTy
  | .hbm, ⟨0, _⟩ => ⟨S16384x6144, .f32⟩
  | .hbm, ⟨1, _⟩ => ⟨S8x128x128, .f32⟩
  | .hbm, ⟨2, _⟩ => ⟨S8x128, .f32⟩
  | .hbm, ⟨3, _⟩ => ⟨S8x128x128, .f32⟩
  | .hbm, ⟨4, _⟩ => ⟨S8x128, .f32⟩
  | .hbm, ⟨5, _⟩ => ⟨S1024, .f32⟩
  | .hbm, ⟨6, _⟩ => ⟨S1024, .f32⟩
  | .hbm, ⟨7, _⟩ => ⟨S8x128x128, .bf16⟩
  | .hbm, ⟨8, _⟩ => ⟨S1x1024, .f32⟩
  | .hbm, ⟨9, _⟩ => ⟨S8x128x128, .bf16⟩
  | .hbm, ⟨10, _⟩ => ⟨S1x1024, .f32⟩
  | .hbm, ⟨11, _⟩ => ⟨S1x1024, .f32⟩
  | .hbm, ⟨12, _⟩ => ⟨S1x1024, .f32⟩
  | .hbm, ⟨13, _⟩ => ⟨S16384x1024, .bf16⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S8x128x128, .bf16⟩
  | .local _ .vmem, ⟨5, _⟩ => ⟨S1x1024, .f32⟩
  | .local _ .vmem, ⟨6, _⟩ => ⟨S8x128x128, .bf16⟩
  | .local _ .vmem, ⟨7, _⟩ => ⟨S1x1024, .f32⟩
  | .local _ .vmem, ⟨8, _⟩ => ⟨S1x1024, .f32⟩
  | .local _ .vmem, ⟨9, _⟩ => ⟨S1x1024, .f32⟩
  | .local _ .vmem, ⟨10, _⟩ => ⟨S256x1024, .bf16⟩
  | .local _ .vmem, ⟨11, _⟩ => ⟨S256x1024, .bf16⟩
  | .local _ .vmem, ⟨12, _⟩ => ⟨S8x1024, .f32⟩
  | _, _ => ⟨S16384x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨2, ![2, 32], ![false, false]⟩

def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c1_i32 : BitVec 32 := 1#32
  let c0_i32 : BitVec 32 := 0#32
  ![v1.toNat, c1_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S8x128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S8x128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== ReferenceIdeal.lean ====
abbrev S16384x6144 : Shape := ⟨2, ![16384, 6144]⟩
abbrev S8x128x128 : Shape := ⟨3, ![8, 128, 128]⟩
abbrev S8x128 : Shape := ⟨2, ![8, 128]⟩
abbrev S1024 : Shape := ⟨1, ![1024]⟩
abbrev S16384x1024 : Shape := ⟨2, ![16384, 1024]⟩
abbrev S2x8192x1024 : Shape := ⟨3, ![2, 8192, 1024]⟩
abbrev S2x8192x8x128 : Shape := ⟨4, ![2, 8192, 8, 128]⟩
abbrev S8x128x2x8192 : Shape := ⟨4, ![8, 128, 2, 8192]⟩
abbrev S1x1x8x128 : Shape := ⟨4, ![1, 1, 8, 128]⟩
abbrev S_ : Shape := ⟨0, ![]⟩
abbrev S1x1x1024 : Shape := ⟨3, ![1, 1, 1024]⟩
abbrev S2x1024 : Shape := ⟨2, ![2, 1024]⟩
abbrev S8192x2x1024 : Shape := ⟨3, ![8192, 2, 1024]⟩
abbrev S1x2x1024 : Shape := ⟨3, ![1, 2, 1024]⟩
abbrev S2x8192 : Shape := ⟨2, ![2, 8192]⟩
abbrev S2x8192x1 : Shape := ⟨3, ![2, 8192, 1]⟩

abbrev nBuf : Space → Nat
  | .hbm => 137
  | .vmem => 0
  | .smem => 0
  | _ => 0

abbrev hbmTy0_0 (i : Nat) : BufTy := match i % 128 with
  | 0 => ⟨S16384x6144, .f32⟩
  | 1 => ⟨S8x128x128, .f32⟩
  | 2 => ⟨S8x128, .f32⟩
  | 3 => ⟨S8x128x128, .f32⟩
  | 4 => ⟨S8x128, .f32⟩
  | 5 => ⟨S1024, .f32⟩
  | 6 => ⟨S1024, .f32⟩
  | 7 => ⟨S16384x1024, .f32⟩
  | 8 => ⟨S2x8192x1024, .f32⟩
  | 9 => ⟨S2x8192x8x128, .f32⟩
  | 10 => ⟨S8x128x2x8192, .f32⟩
  | 11 => ⟨S2x8192x8x128, .f32⟩
  | 12 => ⟨S1x1x8x128, .f32⟩
  | 13 => ⟨S2x8192x8x128, .f32⟩
  | 14 => ⟨S2x8192x8x128, .f32⟩
  | 15 => ⟨S2x8192x8x128, .f32⟩
  | 16 => ⟨S2x8192x8x128, .f32⟩
  | 17 => ⟨S_, .f32⟩
  | 18 => ⟨S2x8192x8x128, .f32⟩
  | 19 => ⟨S2x8192x8x128, .f32⟩
  | 20 => ⟨S_, .f32⟩
  | 21 => ⟨S2x8192x8x128, .f32⟩
  | 22 => ⟨S2x8192x8x128, .f32⟩
  | 23 => ⟨S8x128x2x8192, .f32⟩
  | 24 => ⟨S2x8192x8x128, .f32⟩
  | 25 => ⟨S1x1x8x128, .f32⟩
  | 26 => ⟨S2x8192x8x128, .f32⟩
  | 27 => ⟨S2x8192x8x128, .f32⟩
  | 28 => ⟨S2x8192x8x128, .f32⟩
  | 29 => ⟨S2x8192x8x128, .f32⟩
  | 30 => ⟨S_, .f32⟩
  | 31 => ⟨S2x8192x8x128, .f32⟩
  | 32 => ⟨S2x8192x8x128, .f32⟩
  | 33 => ⟨S_, .f32⟩
  | 34 => ⟨S2x8192x8x128, .f32⟩
  | 35 => ⟨S2x8192x8x128, .f32⟩
  | 36 => ⟨S2x8192x1024, .f32⟩
  | 37 => ⟨S2x8192x1024, .f32⟩
  | 38 => ⟨S_, .f32⟩
  | 39 => ⟨S2x8192x1024, .f32⟩
  | 40 => ⟨S2x8192x1024, .f32⟩
  | 41 => ⟨S1024, .f32⟩
  | 42 => ⟨S_, .f32⟩
  | 43 => ⟨S1024, .f32⟩
  | 44 => ⟨S1024, .f32⟩
  | 45 => ⟨S1024, .f32⟩
  | 46 => ⟨S1024, .f32⟩
  | 47 => ⟨S1024, .i1⟩
  | 48 => ⟨S1024, .f32⟩
  | 49 => ⟨S1024, .f32⟩
  | 50 => ⟨S1024, .f32⟩
  | 51 => ⟨S1024, .f32⟩
  | 52 => ⟨S1024, .f32⟩
  | 53 => ⟨S1024, .f32⟩
  | 54 => ⟨S1024, .f32⟩
  | 55 => ⟨S1024, .f32⟩
  | 56 => ⟨S1x1x1024, .f32⟩
  | 57 => ⟨S2x8192x1024, .f32⟩
  | 58 => ⟨S2x8192x1024, .f32⟩
  | 59 => ⟨S2x8192x1024, .f32⟩
  | 60 => ⟨S_, .f32⟩
  | 61 => ⟨S2x8192x1024, .f32⟩
  | 62 => ⟨S2x8192x1024, .f32⟩
  | 63 => ⟨S2x8192x1024, .f32⟩
  | 64 => ⟨S2x8192x1024, .f32⟩
  | 65 => ⟨S2x8192x1024, .f32⟩
  | 66 => ⟨S2x8192x1024, .f32⟩
  | 67 => ⟨S2x8192x1024, .f32⟩
  | 68 => ⟨S_, .f32⟩
  | 69 => ⟨S2x1024, .f32⟩
  | 70 => ⟨S8192x2x1024, .f32⟩
  | 71 => ⟨S8192x2x1024, .f32⟩
  | 72 => ⟨S_, .f32⟩
  | 73 => ⟨S8192x2x1024, .f32⟩
  | 74 => ⟨S_, .i32⟩
  | 75 => ⟨S8192x2x1024, .f32⟩
  | 76 => ⟨S8192x2x1024, .f32⟩
  | 77 => ⟨S_, .i32⟩
  | 78 => ⟨S2x1024, .f32⟩
  | 79 => ⟨S8192x2x1024, .f32⟩
  | 80 => ⟨S_, .i32⟩
  | 81 => ⟨S_, .i1⟩
  | 82 => ⟨S_, .i32⟩
  | 83 => ⟨S_, .i32⟩
  | 84 => ⟨S1x2x1024, .f32⟩
  | 85 => ⟨S2x1024, .f32⟩
  | 86 => ⟨S_, .i32⟩
  | 87 => ⟨S_, .i32⟩
  | 88 => ⟨S1x2x1024, .f32⟩
  | 89 => ⟨S2x1024, .f32⟩
  | 90 => ⟨S2x1024, .f32⟩
  | 91 => ⟨S2x1024, .f32⟩
  | 92 => ⟨S1x2x1024, .f32⟩
  | 93 => ⟨S_, .i32⟩
  | 94 => ⟨S_, .i32⟩
  | 95 => ⟨S8192x2x1024, .f32⟩
  | 96 => ⟨S_, .i32⟩
  | 97 => ⟨S_, .i32⟩
  | 98 => ⟨S2x8192x1024, .f32⟩
  | 99 => ⟨S16384x1024, .f32⟩
  | 100 => ⟨S2x8192x1024, .f32⟩
  | 101 => ⟨S2x8192x1024, .f32⟩
  | 102 => ⟨S2x8192x1024, .f32⟩
  | 103 => ⟨S_, .f32⟩
  | 104 => ⟨S2x8192x1024, .f32⟩
  | 105 => ⟨S2x8192x1024, .f32⟩
  | 106 => ⟨S2x8192x1024, .f32⟩
  | 107 => ⟨S_, .f32⟩
  | 108 => ⟨S2x8192x1024, .f32⟩
  | 109 => ⟨S2x8192x1024, .f32⟩
  | 110 => ⟨S2x8192x1024, .f32⟩
  | 111 => ⟨S_, .f32⟩
  | 112 => ⟨S2x8192x1024, .f32⟩
  | 113 => ⟨S2x8192x1024, .f32⟩
  | 114 => ⟨S_, .f32⟩
  | 115 => ⟨S2x8192x1024, .f32⟩
  | 116 => ⟨S2x8192x1024, .f32⟩
  | 117 => ⟨S2x8192x1024, .f32⟩
  | 118 => ⟨S2x8192x1024, .f32⟩
  | 119 => ⟨S2x8192x1024, .f32⟩
  | 120 => ⟨S_, .f32⟩
  | 121 => ⟨S2x8192, .f32⟩
  | 122 => ⟨S2x8192x1, .f32⟩
  | 123 => ⟨S_, .f32⟩
  | 124 => ⟨S2x8192x1, .f32⟩
  | 125 => ⟨S2x8192x1, .f32⟩
  | 126 => ⟨S_, .f32⟩
  | 127 => ⟨S2x8192x1, .f32⟩
  | _ => ⟨S16384x6144, .f32⟩

abbrev hbmTy0_1 (i : Nat) : BufTy := match i % 128 with
  | 0 => ⟨S2x8192x1, .f32⟩
  | 1 => ⟨S2x8192x1, .f32⟩
  | 2 => ⟨S2x8192x1024, .f32⟩
  | 3 => ⟨S2x8192x1024, .f32⟩
  | 4 => ⟨S1x1x1024, .f32⟩
  | 5 => ⟨S2x8192x1024, .f32⟩
  | 6 => ⟨S2x8192x1024, .f32⟩
  | 7 => ⟨S16384x1024, .f32⟩
  | 8 => ⟨S16384x1024, .bf16⟩
  | _ => ⟨S16384x6144, .f32⟩

abbrev hbmTy (i : Nat) : BufTy := match i / 128 with
  | 0 => hbmTy0_0 i
  | 1 => hbmTy0_1 i
  | _ => ⟨S16384x6144, .f32⟩

abbrev bufTy : (tb : Table) → Fin (tcTables nBuf tb) → BufTy
  | .hbm, ⟨i, _⟩ => hbmTy i
  | _, _ => ⟨S16384x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst : Ref sig .tc := ⟨.hbm, 17, rfl⟩
abbrev main_v10 : Ref sig .tc := ⟨.hbm, 18, rfl⟩
abbrev main_v11 : Ref sig .tc := ⟨.hbm, 19, rfl⟩
abbrev main_cst_0 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_1 : Ref sig .tc := ⟨.hbm, 30, rfl⟩
abbrev main_v21 : Ref sig .tc := ⟨.hbm, 31, rfl⟩
abbrev main_v22 : Ref sig .tc := ⟨.hbm, 32, rfl⟩
abbrev main_cst_2 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_3 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_call0_cst : Ref sig .tc := ⟨.hbm, 42, rfl⟩
abbrev main_call0_v0 : Ref sig .tc := ⟨.hbm, 43, rfl⟩
abbrev main_call0_v1 : Ref sig .tc := ⟨.hbm, 44, rfl⟩
abbrev main_call0_v2 : Ref sig .tc := ⟨.hbm, 45, rfl⟩
abbrev main_call0_v3 : Ref sig .tc := ⟨.hbm, 46, rfl⟩
abbrev main_call0_v4 : Ref sig .tc := ⟨.hbm, 47, rfl⟩
abbrev main_call0_v5 : Ref sig .tc := ⟨.hbm, 48, rfl⟩
abbrev main_call0_v6 : Ref sig .tc := ⟨.hbm, 49, rfl⟩
abbrev main_call0_v7 : Ref sig .tc := ⟨.hbm, 50, rfl⟩
abbrev main_call0_v8 : Ref sig .tc := ⟨.hbm, 51, rfl⟩
abbrev main_call0_v9 : Ref sig .tc := ⟨.hbm, 52, rfl⟩
abbrev main_call0_v10 : Ref sig .tc := ⟨.hbm, 53, rfl⟩
abbrev main_call0_v11 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_cst_4 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_cst_5 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_cst_6 : Ref sig .tc := ⟨.hbm, 72, rfl⟩
abbrev main_v45 : Ref sig .tc := ⟨.hbm, 73, rfl⟩
abbrev main_c : Ref sig .tc := ⟨.hbm, 74, rfl⟩
abbrev main_v46_0 : Ref sig .tc := ⟨.hbm, 75, rfl⟩
abbrev main_v46_1 : Ref sig .tc := ⟨.hbm, 76, rfl⟩
abbrev main_v46_2 : Ref sig .tc := ⟨.hbm, 77, rfl⟩
abbrev main_v46_3 : Ref sig .tc := ⟨.hbm, 78, rfl⟩
abbrev main_v46_4 : Ref sig .tc := ⟨.hbm, 79, rfl⟩
abbrev main_while0c_c_18 : Ref sig .tc := ⟨.hbm, 80, rfl⟩
abbrev main_while0c_v79 : Ref sig .tc := ⟨.hbm, 81, rfl⟩
abbrev main_while0b_call1_c : Ref sig .tc := ⟨.hbm, 82, rfl⟩
abbrev main_while0b_call1_c_0 : Ref sig .tc := ⟨.hbm, 83, rfl⟩
abbrev main_while0b_call1_v0 : Ref sig .tc := ⟨.hbm, 84, rfl⟩
abbrev main_while0b_v79 : Ref sig .tc := ⟨.hbm, 85, rfl⟩
abbrev main_while0b_call2_c : Ref sig .tc := ⟨.hbm, 86, rfl⟩
abbrev main_while0b_call2_c_0 : Ref sig .tc := ⟨.hbm, 87, rfl⟩
abbrev main_while0b_call2_v0 : Ref sig .tc := ⟨.hbm, 88, rfl⟩
abbrev main_while0b_v80 : Ref sig .tc := ⟨.hbm, 89, rfl⟩
abbrev main_while0b_v81 : Ref sig .tc := ⟨.hbm, 90, rfl⟩
abbrev main_while0b_v82 : Ref sig .tc := ⟨.hbm, 91, rfl⟩
abbrev main_while0b_call3_v0 : Ref sig .tc := ⟨.hbm, 92, rfl⟩
abbrev main_while0b_call3_c : Ref sig .tc := ⟨.hbm, 93, rfl⟩
abbrev main_while0b_call3_c_0 : Ref sig .tc := ⟨.hbm, 94, rfl⟩
abbrev main_while0b_v83 : Ref sig .tc := ⟨.hbm, 95, rfl⟩
abbrev main_while0b_c_18 : Ref sig .tc := ⟨.hbm, 96, rfl⟩
abbrev main_while0b_v84 : Ref sig .tc := ⟨.hbm, 97, rfl⟩
abbrev main_v47 : Ref sig .tc := ⟨.hbm, 98, rfl⟩
abbrev main_v48 : Ref sig .tc := ⟨.hbm, 99, rfl⟩
abbrev main_v49 : Ref sig .tc := ⟨.hbm, 100, rfl⟩
abbrev main_v50 : Ref sig .tc := ⟨.hbm, 101, rfl⟩
abbrev main_v51 : Ref sig .tc := ⟨.hbm, 102, rfl⟩
abbrev main_cst_7 : Ref sig .tc := ⟨.hbm, 103, rfl⟩
abbrev main_v52 : Ref sig .tc := ⟨.hbm, 104, rfl⟩
abbrev main_v53 : Ref sig .tc := ⟨.hbm, 105, rfl⟩
abbrev main_v54 : Ref sig .tc := ⟨.hbm, 106, rfl⟩
abbrev main_cst_8 : Ref sig .tc := ⟨.hbm, 107, rfl⟩
abbrev main_v55 : Ref sig .tc := ⟨.hbm, 108, rfl⟩
abbrev main_v56 : Ref sig .tc := ⟨.hbm, 109, rfl⟩
abbrev main_v57 : Ref sig .tc := ⟨.hbm, 110, rfl⟩
abbrev main_cst_9 : Ref sig .tc := ⟨.hbm, 111, rfl⟩
abbrev main_v58 : Ref sig .tc := ⟨.hbm, 112, rfl⟩
abbrev main_v59 : Ref sig .tc := ⟨.hbm, 113, rfl⟩
abbrev main_cst_10 : Ref sig .tc := ⟨.hbm, 114, rfl⟩
abbrev main_v60 : Ref sig .tc := ⟨.hbm, 115, rfl⟩
abbrev main_v61 : Ref sig .tc := ⟨.hbm, 116, rfl⟩
abbrev main_v62 : Ref sig .tc := ⟨.hbm, 117, rfl⟩
abbrev main_v63 : Ref sig .tc := ⟨.hbm, 118, rfl⟩
abbrev main_v64 : Ref sig .tc := ⟨.hbm, 119, rfl⟩
abbrev main_cst_11 : Ref sig .tc := ⟨.hbm, 120, rfl⟩
abbrev main_v65 : Ref sig .tc := ⟨.hbm, 121, rfl⟩
abbrev main_v66 : Ref sig .tc := ⟨.hbm, 122, rfl⟩
abbrev main_cst_12 : Ref sig .tc := ⟨.hbm, 123, rfl⟩
abbrev main_v67 : Ref sig .tc := ⟨.hbm, 124, rfl⟩
abbrev main_v68 : Ref sig .tc := ⟨.hbm, 125, rfl⟩
abbrev main_cst_13 : Ref sig .tc := ⟨.hbm, 126, rfl⟩
abbrev main_v69 : Ref sig .tc := ⟨.hbm, 127, rfl⟩
abbrev main_v70 : Ref sig .tc := ⟨.hbm, 128, rfl⟩
abbrev main_v71 : Ref sig .tc := ⟨.hbm, 129, rfl⟩
abbrev main_v72 : Ref sig .tc := ⟨.hbm, 130, rfl⟩
abbrev main_v73 : Ref sig .tc := ⟨.hbm, 131, rfl⟩
abbrev main_v74 : Ref sig .tc := ⟨.hbm, 132, rfl⟩
abbrev main_v75 : Ref sig .tc := ⟨.hbm, 133, rfl⟩
abbrev main_v76 : Ref sig .tc := ⟨.hbm, 134, rfl⟩
abbrev main_v77 : Ref sig .tc := ⟨.hbm, 135, rfl⟩
abbrev main_v78 : Ref sig .tc := ⟨.hbm, 136, rfl⟩

abbrev nD : Nat := 1
abbrev τ : Topo := Topo.v7x

variable {F : FTy → Type} [FloatOps F]

abbrev main_while0_count : Scf.Loop 32 := ⟨0#32, 8192#32, 1#32⟩
-- ==== Ffn.lean ====
abbrev S16384x2048 : Shape := ⟨2, ![16384, 2048]⟩
abbrev S2048x6144 : Shape := ⟨2, ![2048, 6144]⟩
abbrev S6144x2048 : Shape := ⟨2, ![6144, 2048]⟩
abbrev S512x2048 : Shape := ⟨2, ![512, 2048]⟩
abbrev S2048x1024 : Shape := ⟨2, ![2048, 1024]⟩
abbrev S1024x2048 : Shape := ⟨2, ![1024, 2048]⟩
abbrev S512x1024 : Shape := ⟨2, ![512, 1024]⟩

abbrev nBuf : Space → Nat
  | .hbm => 9
  | .vmem => 12
  | .smem => 0
  | _ => 0

abbrev bufTy : (tb : Table) → Fin (tcTables nBuf tb) → BufTy
  | .hbm, ⟨0, _⟩ => ⟨S16384x2048, .bf16⟩
  | .hbm, ⟨1, _⟩ => ⟨S16384x2048, .f32⟩
  | .hbm, ⟨2, _⟩ => ⟨S2048x6144, .f32⟩
  | .hbm, ⟨3, _⟩ => ⟨S2048x6144, .f32⟩
  | .hbm, ⟨4, _⟩ => ⟨S6144x2048, .f32⟩
  | .hbm, ⟨5, _⟩ => ⟨S2048x6144, .bf16⟩
  | .hbm, ⟨6, _⟩ => ⟨S2048x6144, .bf16⟩
  | .hbm, ⟨7, _⟩ => ⟨S6144x2048, .bf16⟩
  | .hbm, ⟨8, _⟩ => ⟨S16384x2048, .f32⟩
  | .local _ .vmem, ⟨0, _⟩ => ⟨S512x2048, .bf16⟩
  | .local _ .vmem, ⟨1, _⟩ => ⟨S512x2048, .bf16⟩
  | .local _ .vmem, ⟨2, _⟩ => ⟨S512x2048, .f32⟩
  | .local _ .vmem, ⟨3, _⟩ => ⟨S512x2048, .f32⟩
  | .local _ .vmem, ⟨4, _⟩ => ⟨S2048x1024, .bf16⟩
  | .local _ .vmem, ⟨5, _⟩ => ⟨S2048x1024, .bf16⟩
  | .local _ .vmem, ⟨6, _⟩ => ⟨S2048x1024, .bf16⟩
  | .local _ .vmem, ⟨7, _⟩ => ⟨S2048x1024, .bf16⟩
  | .local _ .vmem, ⟨8, _⟩ => ⟨S1024x2048, .bf16⟩
  | .local _ .vmem, ⟨9, _⟩ => ⟨S1024x2048, .bf16⟩
  | .local _ .vmem, ⟨10, _⟩ => ⟨S512x2048, .f32⟩
  | .local _ .vmem, ⟨11, _⟩ => ⟨S512x2048, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![32, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== FfnRefIdeal.lean ====
abbrev S16384x2048 : Shape := ⟨2, ![16384, 2048]⟩
abbrev S2048x6144 : Shape := ⟨2, ![2048, 6144]⟩
abbrev S6144x2048 : Shape := ⟨2, ![6144, 2048]⟩
abbrev S16384x6144 : Shape := ⟨2, ![16384, 6144]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S16384x2048, .f32⟩
  | .hbm, ⟨2, _⟩ => ⟨S2048x6144, .f32⟩
  | .hbm, ⟨3, _⟩ => ⟨S2048x6144, .f32⟩
  | .hbm, ⟨4, _⟩ => ⟨S6144x2048, .f32⟩
  | .hbm, ⟨5, _⟩ => ⟨S16384x2048, .f32⟩
  | .hbm, ⟨6, _⟩ => ⟨S16384x6144, .f32⟩
  | .hbm, ⟨7, _⟩ => ⟨S16384x6144, .f32⟩
  | .hbm, ⟨8, _⟩ => ⟨S16384x6144, .f32⟩
  | .hbm, ⟨9, _⟩ => ⟨S_, .f32⟩
  | .hbm, ⟨10, _⟩ => ⟨S16384x6144, .f32⟩
  | .hbm, ⟨11, _⟩ => ⟨S16384x6144, .f32⟩
  | .hbm, ⟨12, _⟩ => ⟨S_, .f32⟩
  | .hbm, ⟨13, _⟩ => ⟨S16384x6144, .f32⟩
  | .hbm, ⟨14, _⟩ => ⟨S16384x6144, .f32⟩
  | .hbm, ⟨15, _⟩ => ⟨S16384x6144, .f32⟩
  | .hbm, ⟨16, _⟩ => ⟨S16384x6144, .f32⟩
  | .hbm, ⟨17, _⟩ => ⟨S16384x6144, .f32⟩
  | .hbm, ⟨18, _⟩ => ⟨S16384x2048, .f32⟩
  | .hbm, ⟨19, _⟩ => ⟨S16384x2048, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩

abbrev nD : Nat := 1
abbrev τ : Topo := Topo.v7x

variable {F : FTy → Type} [FloatOps F]
-- ==== OutProj.lean ====
abbrev S16384x1024 : Shape := ⟨2, ![16384, 1024]⟩
abbrev S2x2048x2048 : Shape := ⟨3, ![2, 2048, 2048]⟩
abbrev S16384x2048 : Shape := ⟨2, ![16384, 2048]⟩
abbrev S2048 : Shape := ⟨1, ![2048]⟩
abbrev S1x2048 : Shape := ⟨2, ![1, 2048]⟩
abbrev S512x1024 : Shape := ⟨2, ![512, 1024]⟩
abbrev S1x2048x2048 : Shape := ⟨3, ![1, 2048, 2048]⟩
abbrev S512x2048 : Shape := ⟨2, ![512, 2048]⟩
abbrev S1x1024x2048 : Shape := ⟨3, ![1, 1024, 2048]⟩
abbrev S1024x2048 : Shape := ⟨2, ![1024, 2048]⟩
abbrev S512 : Shape := ⟨1, ![512]⟩
abbrev S512x1 : Shape := ⟨2, ![512, 1]⟩

abbrev nBuf : Space → Nat
  | .hbm => 9
  | .vmem => 12
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S2x2048x2048, .f32⟩
  | .hbm, ⟨3, _⟩ => ⟨S16384x2048, .f32⟩
  | .hbm, ⟨4, _⟩ => ⟨S2048, .f32⟩
  | .hbm, ⟨5, _⟩ => ⟨S2x2048x2048, .bf16⟩
  | .hbm, ⟨6, _⟩ => ⟨S1x2048, .f32⟩
  | .hbm, ⟨7, _⟩ => ⟨S16384x2048, .f32⟩
  | .hbm, ⟨8, _⟩ => ⟨S16384x2048, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S1x2048x2048, .bf16⟩
  | .local _ .vmem, ⟨5, _⟩ => ⟨S512x2048, .f32⟩
  | .local _ .vmem, ⟨6, _⟩ => ⟨S512x2048, .f32⟩
  | .local _ .vmem, ⟨7, _⟩ => ⟨S1x2048, .f32⟩
  | .local _ .vmem, ⟨8, _⟩ => ⟨S512x2048, .f32⟩
  | .local _ .vmem, ⟨9, _⟩ => ⟨S512x2048, .f32⟩
  | .local _ .vmem, ⟨10, _⟩ => ⟨S512x2048, .bf16⟩
  | .local _ .vmem, ⟨11, _⟩ => ⟨S512x2048, .bf16⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== OutProjRefIdeal.lean ====
abbrev S16384x1024 : Shape := ⟨2, ![16384, 1024]⟩
abbrev S2x2048x2048 : Shape := ⟨3, ![2, 2048, 2048]⟩
abbrev S16384x2048 : Shape := ⟨2, ![16384, 2048]⟩
abbrev S2048 : Shape := ⟨1, ![2048]⟩
abbrev S1x2048x2048 : Shape := ⟨3, ![1, 2048, 2048]⟩
abbrev S2048x2048 : Shape := ⟨2, ![2048, 2048]⟩
abbrev S_ : Shape := ⟨0, ![]⟩
abbrev S16384 : Shape := ⟨1, ![16384]⟩
abbrev S16384x1 : Shape := ⟨2, ![16384, 1]⟩
abbrev S1x2048 : Shape := ⟨2, ![1, 2048]⟩

abbrev nBuf : Space → Nat
  | .hbm => 29
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S2x2048x2048, .f32⟩
  | .hbm, ⟨3, _⟩ => ⟨S16384x2048, .f32⟩
  | .hbm, ⟨4, _⟩ => ⟨S2048, .f32⟩
  | .hbm, ⟨5, _⟩ => ⟨S16384x1024, .f32⟩
  | .hbm, ⟨6, _⟩ => ⟨S16384x1024, .f32⟩
  | .hbm, ⟨7, _⟩ => ⟨S16384x2048, .f32⟩
  | .hbm, ⟨8, _⟩ => ⟨S1x2048x2048, .f32⟩
  | .hbm, ⟨9, _⟩ => ⟨S2048x2048, .f32⟩
  | .hbm, ⟨10, _⟩ => ⟨S16384x2048, .f32⟩
  | .hbm, ⟨11, _⟩ => ⟨S16384x2048, .f32⟩
  | .hbm, ⟨12, _⟩ => ⟨S16384x2048, .f32⟩
  | .hbm, ⟨13, _⟩ => ⟨S_, .f32⟩
  | .hbm, ⟨14, _⟩ => ⟨S16384, .f32⟩
  | .hbm, ⟨15, _⟩ => ⟨S16384x1, .f32⟩
  | .hbm, ⟨16, _⟩ => ⟨S_, .f32⟩
  | .hbm, ⟨17, _⟩ => ⟨S16384x1, .f32⟩
  | .hbm, ⟨18, _⟩ => ⟨S16384x1, .f32⟩
  | .hbm, ⟨19, _⟩ => ⟨S_, .f32⟩
  | .hbm, ⟨20, _⟩ => ⟨S16384x1, .f32⟩
  | .hbm, ⟨21, _⟩ => ⟨S16384x1, .f32⟩
  | .hbm, ⟨22, _⟩ => ⟨S16384x1, .f32⟩
  | .hbm, ⟨23, _⟩ => ⟨S16384x2048, .f32⟩
  | .hbm, ⟨24, _⟩ => ⟨S16384x2048, .f32⟩
  | .hbm, ⟨25, _⟩ => ⟨S1x2048, .f32⟩
  | .hbm, ⟨26, _⟩ => ⟨S16384x2048, .f32⟩
  | .hbm, ⟨27, _⟩ => ⟨S16384x2048, .f32⟩
  | .hbm, ⟨28, _⟩ => ⟨S16384x2048, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩

abbrev nD : Nat := 1
abbrev τ : Topo := Topo.v7x

variable {F : FTy → Type} [FloatOps F]
-- ==== InProj.lean ====
abbrev S16384x2048 : Shape := ⟨2, ![16384, 2048]⟩
abbrev S2048 : Shape := ⟨1, ![2048]⟩
abbrev S2x2048x6160 : Shape := ⟨3, ![2, 2048, 6160]⟩
abbrev S4x1024 : Shape := ⟨2, ![4, 1024]⟩
abbrev S1024 : Shape := ⟨1, ![1024]⟩
abbrev S4x3072 : Shape := ⟨2, ![4, 3072]⟩
abbrev S_ : Shape := ⟨0, ![]⟩
abbrev S4x6144 : Shape := ⟨2, ![4, 6144]⟩
abbrev S5120 : Shape := ⟨1, ![5120]⟩
abbrev S6144 : Shape := ⟨1, ![6144]⟩
abbrev S1x6144 : Shape := ⟨2, ![1, 6144]⟩
abbrev S1x2048 : Shape := ⟨2, ![1, 2048]⟩
abbrev S16384x6144 : Shape := ⟨2, ![16384, 6144]⟩
abbrev S16384x128 : Shape := ⟨2, ![16384, 128]⟩
abbrev S256x2048 : Shape := ⟨2, ![256, 2048]⟩
abbrev S1x2048x6160 : Shape := ⟨3, ![1, 2048, 6160]⟩
abbrev S256x6144 : Shape := ⟨2, ![256, 6144]⟩
abbrev S256x128 : Shape := ⟨2, ![256, 128]⟩
abbrev S8x512 : Shape := ⟨2, ![8, 512]⟩
abbrev S256 : Shape := ⟨1, ![256]⟩
abbrev S256x1 : Shape := ⟨2, ![256, 1]⟩
abbrev S1x2048x16 : Shape := ⟨3, ![1, 2048, 16]⟩
abbrev S2048x16 : Shape := ⟨2, ![2048, 16]⟩
abbrev S256x16 : Shape := ⟨2, ![256, 16]⟩
abbrev S32x8x512 : Shape := ⟨3, ![32, 8, 512]⟩
abbrev S1x2048x512 : Shape := ⟨3, ![1, 2048, 512]⟩
abbrev S2048x512 : Shape := ⟨2, ![2048, 512]⟩
abbrev S256x512 : Shape := ⟨2, ![256, 512]⟩
abbrev S264x512 : Shape := ⟨2, ![264, 512]⟩
abbrev S33x8x512 : Shape := ⟨3, ![33, 8, 512]⟩
abbrev S1x512 : Shape := ⟨2, ![1, 512]⟩

abbrev nBuf : Space → Nat
  | .hbm => 17
  | .vmem => 18
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2x2048x6160, .f32⟩
  | .hbm, ⟨3, _⟩ => ⟨S4x1024, .f32⟩
  | .hbm, ⟨4, _⟩ => ⟨S1024, .f32⟩
  | .hbm, ⟨5, _⟩ => ⟨S4x3072, .f32⟩
  | .hbm, ⟨6, _⟩ => ⟨S_, .f32⟩
  | .hbm, ⟨7, _⟩ => ⟨S4x1024, .f32⟩
  | .hbm, ⟨8, _⟩ => ⟨S4x6144, .f32⟩
  | .hbm, ⟨9, _⟩ => ⟨S_, .f32⟩
  | .hbm, ⟨10, _⟩ => ⟨S5120, .f32⟩
  | .hbm, ⟨11, _⟩ => ⟨S6144, .f32⟩
  | .hbm, ⟨12, _⟩ => ⟨S1x6144, .f32⟩
  | .hbm, ⟨13, _⟩ => ⟨S1x2048, .f32⟩
  | .hbm, ⟨14, _⟩ => ⟨S2x2048x6160, .bf16⟩
  | .hbm, ⟨15, _⟩ => ⟨S16384x6144, .f32⟩
  | .hbm, ⟨16, _⟩ => ⟨S16384x128, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S1x2048x6160, .bf16⟩
  | .local _ .vmem, ⟨4, _⟩ => ⟨S4x6144, .f32⟩
  | .local _ .vmem, ⟨5, _⟩ => ⟨S1x6144, .f32⟩
  | .local _ .vmem, ⟨6, _⟩ => ⟨S256x6144, .f32⟩
  | .local _ .vmem, ⟨7, _⟩ => ⟨S256x6144, .f32⟩
  | .local _ .vmem, ⟨8, _⟩ => ⟨S256x128, .f32⟩
  | .local _ .vmem, ⟨9, _⟩ => ⟨S256x128, .f32⟩
  | .local _ .vmem, ⟨10, _⟩ => ⟨S8x512, .f32⟩
  | .local _ .vmem, ⟨11, _⟩ => ⟨S8x512, .f32⟩
  | .local _ .vmem, ⟨12, _⟩ => ⟨S8x512, .f32⟩
  | .local _ .vmem, ⟨13, _⟩ => ⟨S8x512, .f32⟩
  | .local _ .vmem, ⟨14, _⟩ => ⟨S8x512, .f32⟩
  | .local _ .vmem, ⟨15, _⟩ => ⟨S8x512, .f32⟩
  | .local _ .vmem, ⟨16, _⟩ => ⟨S8x512, .f32⟩
  | .local _ .vmem, ⟨17, _⟩ => ⟨S8x512, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7_0 : Ref sig .tc := ⟨.hbm, 15, rfl⟩
abbrev main_v7_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_scratch4 : Ref sig .tc := ⟨.vmem, 14, rfl⟩
abbrev cc0_scratch5 : Ref sig .tc := ⟨.vmem, 15, rfl⟩
abbrev cc0_scratch6 : Ref sig .tc := ⟨.vmem, 16, rfl⟩
abbrev cc0_scratch7 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048x6160 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x6144 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x6144 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x6144 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== InProjRefIdeal.lean ====
abbrev S16384x2048 : Shape := ⟨2, ![16384, 2048]⟩
abbrev S2048 : Shape := ⟨1, ![2048]⟩
abbrev S2x2048x6160 : Shape := ⟨3, ![2, 2048, 6160]⟩
abbrev S4x1024 : Shape := ⟨2, ![4, 1024]⟩
abbrev S1024 : Shape := ⟨1, ![1024]⟩
abbrev S4x3072 : Shape := ⟨2, ![4, 3072]⟩
abbrev S_ : Shape := ⟨0, ![]⟩
abbrev S16384 : Shape := ⟨1, ![16384]⟩
abbrev S16384x1 : Shape := ⟨2, ![16384, 1]⟩
abbrev S1x2048 : Shape := ⟨2, ![1, 2048]⟩
abbrev S1x2048x6160 : Shape := ⟨3, ![1, 2048, 6160]⟩
abbrev S2048x6160 : Shape := ⟨2, ![2048, 6160]⟩
abbrev S16384x6160 : Shape := ⟨2, ![16384, 6160]⟩
abbrev S2x8192x6160 : Shape := ⟨3, ![2, 8192, 6160]⟩
abbrev S2x8192x1024 : Shape := ⟨3, ![2, 8192, 1024]⟩
abbrev S2x8195x1024 : Shape := ⟨3, ![2, 8195, 1024]⟩
abbrev S1x1024 : Shape := ⟨2, ![1, 1024]⟩
abbrev S1x1x1024 : Shape := ⟨3, ![1, 1, 1024]⟩
abbrev S2x8192x3072 : Shape := ⟨3, ![2, 8192, 3072]⟩
abbrev S2x8195x3072 : Shape := ⟨3, ![2, 8195, 3072]⟩
abbrev S1x3072 : Shape := ⟨2, ![1, 3072]⟩
abbrev S3072 : Shape := ⟨1, ![3072]⟩
abbrev S1x1x3072 : Shape := ⟨3, ![1, 1, 3072]⟩
abbrev S2x8192x6144 : Shape := ⟨3, ![2, 8192, 6144]⟩
abbrev S2x8192x16 : Shape := ⟨3, ![2, 8192, 16]⟩
abbrev S2x8192x128 : Shape := ⟨3, ![2, 8192, 128]⟩
abbrev S16384x6144 : Shape := ⟨2, ![16384, 6144]⟩
abbrev S16384x128 : Shape := ⟨2, ![16384, 128]⟩

abbrev nBuf : Space → Nat
  | .hbm => 109
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2x2048x6160, .f32⟩
  | .hbm, ⟨3, _⟩ => ⟨S4x1024, .f32⟩
  | .hbm, ⟨4, _⟩ => ⟨S1024, .f32⟩
  | .hbm, ⟨5, _⟩ => ⟨S4x3072, .f32⟩
  | .hbm, ⟨6, _⟩ => ⟨S16384x2048, .f32⟩
  | .hbm, ⟨7, _⟩ => ⟨S_, .f32⟩
  | .hbm, ⟨8, _⟩ => ⟨S16384, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S16384x2048, .f32⟩
  | .hbm, ⟨18, _⟩ => ⟨S16384x2048, .f32⟩
  | .hbm, ⟨19, _⟩ => ⟨S1x2048, .f32⟩
  | .hbm, ⟨20, _⟩ => ⟨S16384x2048, .f32⟩
  | .hbm, ⟨21, _⟩ => ⟨S16384x2048, .f32⟩
  | .hbm, ⟨22, _⟩ => ⟨S1x2048x6160, .f32⟩
  | .hbm, ⟨23, _⟩ => ⟨S2048x6160, .f32⟩
  | .hbm, ⟨24, _⟩ => ⟨S16384x6160, .f32⟩
  | .hbm, ⟨25, _⟩ => ⟨S2x8192x6160, .f32⟩
  | .hbm, ⟨26, _⟩ => ⟨S2x8192x1024, .f32⟩
  | .hbm, ⟨27, _⟩ => ⟨S_, .i32⟩
  | .hbm, ⟨28, _⟩ => ⟨S_, .f32⟩
  | .hbm, ⟨29, _⟩ => ⟨S2x8195x1024, .f32⟩
  | .hbm, ⟨30, _⟩ => ⟨S2x8192x1024, .f32⟩
  | .hbm, ⟨31, _⟩ => ⟨S1x1024, .f32⟩
  | .hbm, ⟨32, _⟩ => ⟨S1024, .f32⟩
  | .hbm, ⟨33, _⟩ => ⟨S1x1x1024, .f32⟩
  | .hbm, ⟨34, _⟩ => ⟨S2x8192x1024, .f32⟩
  | .hbm, ⟨35, _⟩ => ⟨S2x8192x1024, .f32⟩
  | .hbm, ⟨36, _⟩ => ⟨S2x8192x1024, .f32⟩
  | .hbm, ⟨37, _⟩ => ⟨S1x1024, .f32⟩
  | .hbm, ⟨38, _⟩ => ⟨S1024, .f32⟩
  | .hbm, ⟨39, _⟩ => ⟨S1x1x1024, .f32⟩
  | .hbm, ⟨40, _⟩ => ⟨S2x8192x1024, .f32⟩
  | .hbm, ⟨41, _⟩ => ⟨S2x8192x1024, .f32⟩
  | .hbm, ⟨42, _⟩ => ⟨S2x8192x1024, .f32⟩
  | .hbm, ⟨43, _⟩ => ⟨S2x8192x1024, .f32⟩
  | .hbm, ⟨44, _⟩ => ⟨S1x1024, .f32⟩
  | .hbm, ⟨45, _⟩ => ⟨S1024, .f32⟩
  | .hbm, ⟨46, _⟩ => ⟨S1x1x1024, .f32⟩
  | .hbm, ⟨47, _⟩ => ⟨S2x8192x1024, .f32⟩
  | .hbm, ⟨48, _⟩ => ⟨S2x8192x1024, .f32⟩
  | .hbm, ⟨49, _⟩ => ⟨S2x8192x1024, .f32⟩
  | .hbm, ⟨50, _⟩ => ⟨S2x8192x1024, .f32⟩
  | .hbm, ⟨51, _⟩ => ⟨S1x1024, .f32⟩
  | .hbm, ⟨52, _⟩ => ⟨S1024, .f32⟩
  | .hbm, ⟨53, _⟩ => ⟨S1x1x1024, .f32⟩
  | .hbm, ⟨54, _⟩ => ⟨S2x8192x1024, .f32⟩
  | .hbm, ⟨55, _⟩ => ⟨S2x8192x1024, .f32⟩
  | .hbm, ⟨56, _⟩ => ⟨S2x8192x1024, .f32⟩
  | .hbm, ⟨57, _⟩ => ⟨S1x1x1024, .f32⟩
  | .hbm, ⟨58, _⟩ => ⟨S2x8192x1024, .f32⟩
  | .hbm, ⟨59, _⟩ => ⟨S2x8192x1024, .f32⟩
  | .hbm, ⟨60, _⟩ => ⟨S2x8192x3072, .f32⟩
  | .hbm, ⟨61, _⟩ => ⟨S_, .i32⟩
  | .hbm, ⟨62, _⟩ => ⟨S_, .f32⟩
  | .hbm, ⟨63, _⟩ => ⟨S2x8195x3072, .f32⟩
  | .hbm, ⟨64, _⟩ => ⟨S2x8192x3072, .f32⟩
  | .hbm, ⟨65, _⟩ => ⟨S1x3072, .f32⟩
  | .hbm, ⟨66, _⟩ => ⟨S3072, .f32⟩
  | .hbm, ⟨67, _⟩ => ⟨S1x1x3072, .f32⟩
  | .hbm, ⟨68, _⟩ => ⟨S2x8192x3072, .f32⟩
  | .hbm, ⟨69, _⟩ => ⟨S2x8192x3072, .f32⟩
  | .hbm, ⟨70, _⟩ => ⟨S2x8192x3072, .f32⟩
  | .hbm, ⟨71, _⟩ => ⟨S1x3072, .f32⟩
  | .hbm, ⟨72, _⟩ => ⟨S3072, .f32⟩
  | .hbm, ⟨73, _⟩ => ⟨S1x1x3072, .f32⟩
  | .hbm, ⟨74, _⟩ => ⟨S2x8192x3072, .f32⟩
  | .hbm, ⟨75, _⟩ => ⟨S2x8192x3072, .f32⟩
  | .hbm, ⟨76, _⟩ => ⟨S2x8192x3072, .f32⟩
  | .hbm, ⟨77, _⟩ => ⟨S2x8192x3072, .f32⟩
  | .hbm, ⟨78, _⟩ => ⟨S1x3072, .f32⟩
  | .hbm, ⟨79, _⟩ => ⟨S3072, .f32⟩
  | .hbm, ⟨80, _⟩ => ⟨S1x1x3072, .f32⟩
  | .hbm, ⟨81, _⟩ => ⟨S2x8192x3072, .f32⟩
  | .hbm, ⟨82, _⟩ => ⟨S2x8192x3072, .f32⟩
  | .hbm, ⟨83, _⟩ => ⟨S2x8192x3072, .f32⟩
  | .hbm, ⟨84, _⟩ => ⟨S2x8192x3072, .f32⟩
  | .hbm, ⟨85, _⟩ => ⟨S1x3072, .f32⟩
  | .hbm, ⟨86, _⟩ => ⟨S3072, .f32⟩
  | .hbm, ⟨87, _⟩ => ⟨S1x1x3072, .f32⟩
  | .hbm, ⟨88, _⟩ => ⟨S2x8192x3072, .f32⟩
  | .hbm, ⟨89, _⟩ => ⟨S2x8192x3072, .f32⟩
  | .hbm, ⟨90, _⟩ => ⟨S2x8192x3072, .f32⟩
  | .hbm, ⟨91, _⟩ => ⟨S2x8192x3072, .f32⟩
  | .hbm, ⟨92, _⟩ => ⟨S2x8192x3072, .f32⟩
  | .hbm, ⟨93, _⟩ => ⟨S_, .f32⟩
  | .hbm, ⟨94, _⟩ => ⟨S2x8192x3072, .f32⟩
  | .hbm, ⟨95, _⟩ => ⟨S2x8192x3072, .f32⟩
  | .hbm, ⟨96, _⟩ => ⟨S_, .f32⟩
  | .hbm, ⟨97, _⟩ => ⟨S2x8192x3072, .f32⟩
  | .hbm, ⟨98, _⟩ => ⟨S2x8192x3072, .f32⟩
  | .hbm, ⟨99, _⟩ => ⟨S2x8192x3072, .f32⟩
  | .hbm, ⟨100, _⟩ => ⟨S2x8192x1024, .f32⟩
  | .hbm, ⟨101, _⟩ => ⟨S2x8192x1024, .f32⟩
  | .hbm, ⟨102, _⟩ => ⟨S2x8192x6144, .f32⟩
  | .hbm, ⟨103, _⟩ => ⟨S2x8192x16, .f32⟩
  | .hbm, ⟨104, _⟩ => ⟨S_, .i32⟩
  | .hbm, ⟨105, _⟩ => ⟨S_, .f32⟩
  | .hbm, ⟨106, _⟩ => ⟨S2x8192x128, .f32⟩
  | .hbm, ⟨107, _⟩ => ⟨S16384x6144, .f32⟩
  | .hbm, ⟨108, _⟩ => ⟨S16384x128, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_c : Ref sig .tc := ⟨.hbm, 27, rfl⟩
abbrev main_call0_v0 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_c_2 : Ref sig .tc := ⟨.hbm, 61, rfl⟩
abbrev main_call1_v0 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_call2_v0 : Ref sig .tc := ⟨.hbm, 91, rfl⟩
abbrev main_call2_v1 : Ref sig .tc := ⟨.hbm, 92, rfl⟩
abbrev main_call2_cst : Ref sig .tc := ⟨.hbm, 93, rfl⟩
abbrev main_call2_v2 : Ref sig .tc := ⟨.hbm, 94, rfl⟩
abbrev main_call2_v3 : Ref sig .tc := ⟨.hbm, 95, rfl⟩
abbrev main_call2_cst_0 : Ref sig .tc := ⟨.hbm, 96, rfl⟩
abbrev main_call2_v4 : Ref sig .tc := ⟨.hbm, 97, rfl⟩
abbrev main_call2_v5 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_c_3 : Ref sig .tc := ⟨.hbm, 104, rfl⟩
abbrev main_call3_v0 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩

abbrev nD : Nat := 1
abbrev τ : Topo := Topo.v7x

variable {F : FTy → Type} [FloatOps F]
-- ==== Experts.lean ====
abbrev S72 : Shape := ⟨1, ![72]⟩
abbrev S1 : Shape := ⟨1, ![1]⟩
abbrev S36864x2048 : Shape := ⟨2, ![36864, 2048]⟩
abbrev S8x2048x3072 : Shape := ⟨3, ![8, 2048, 3072]⟩
abbrev S8x3072x2048 : Shape := ⟨3, ![8, 3072, 2048]⟩
abbrev S_ : Shape := ⟨0, ![]⟩
abbrev S72x1 : Shape := ⟨2, ![72, 1]⟩
abbrev S512x2048 : Shape := ⟨2, ![512, 2048]⟩
abbrev S1x2048x1024 : Shape := ⟨3, ![1, 2048, 1024]⟩
abbrev S1x1024x2048 : Shape := ⟨3, ![1, 1024, 2048]⟩
abbrev S2048x1024 : Shape := ⟨2, ![2048, 1024]⟩
abbrev S512x1024 : Shape := ⟨2, ![512, 1024]⟩
abbrev S1024x2048 : Shape := ⟨2, ![1024, 2048]⟩

abbrev nBuf : Space → Nat
  | .hbm => 32
  | .vmem => 11
  | .smem => 2
  | _ => 0

abbrev bufTy : (tb : Table) → Fin (tcTables nBuf tb) → BufTy
  | .hbm, ⟨0, _⟩ => ⟨S72, .i32⟩
  | .hbm, ⟨1, _⟩ => ⟨S36864x2048, .f32⟩
  | .hbm, ⟨2, _⟩ => ⟨S8x2048x3072, .f32⟩
  | .hbm, ⟨3, _⟩ => ⟨S8x2048x3072, .f32⟩
  | .hbm, ⟨4, _⟩ => ⟨S8x3072x2048, .f32⟩
  | .hbm, ⟨5, _⟩ => ⟨S_, .i32⟩
  | .hbm, ⟨6, _⟩ => ⟨S72, .i32⟩
  | .hbm, ⟨7, _⟩ => ⟨S72, .i32⟩
  | .hbm, ⟨8, _⟩ => ⟨S_, .i32⟩
  | .hbm, ⟨9, _⟩ => ⟨S72, .i32⟩
  | .hbm, ⟨10, _⟩ => ⟨S72, .i32⟩
  | .hbm, ⟨11, _⟩ => ⟨S8x2048x3072, .bf16⟩
  | .hbm, ⟨12, _⟩ => ⟨S8x2048x3072, .bf16⟩
  | .hbm, ⟨13, _⟩ => ⟨S8x3072x2048, .bf16⟩
  | .hbm, ⟨14, _⟩ => ⟨S72, .i32⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S72, .i32⟩
  | .hbm, ⟨19, _⟩ => ⟨S72, .i32⟩
  | .hbm, ⟨20, _⟩ => ⟨S_, .i32⟩
  | .hbm, ⟨21, _⟩ => ⟨S72, .i32⟩
  | .hbm, ⟨22, _⟩ => ⟨S72, .i32⟩
  | .hbm, ⟨23, _⟩ => ⟨S_, .i32⟩
  | .hbm, ⟨24, _⟩ => ⟨S72, .i32⟩
  | .hbm, ⟨25, _⟩ => ⟨S72, .i1⟩
  | .hbm, ⟨26, _⟩ => ⟨S_, .i32⟩
  | .hbm, ⟨27, _⟩ => ⟨S72, .i32⟩
  | .hbm, ⟨28, _⟩ => ⟨S72, .i32⟩
  | .hbm, ⟨29, _⟩ => ⟨S72, .i32⟩
  | .hbm, ⟨30, _⟩ => ⟨S72x1, .i32⟩
  | .hbm, ⟨31, _⟩ => ⟨S36864x2048, .f32⟩
  | .local _ .vmem, ⟨0, _⟩ => ⟨S512x2048, .f32⟩
  | .local _ .vmem, ⟨1, _⟩ => ⟨S512x2048, .f32⟩
  | .local _ .vmem, ⟨2, _⟩ => ⟨S1x2048x1024, .bf16⟩
  | .local _ .vmem, ⟨3, _⟩ => ⟨S1x2048x1024, .bf16⟩
  | .local _ .vmem, ⟨4, _⟩ => ⟨S1x2048x1024, .bf16⟩
  | .local _ .vmem, ⟨5, _⟩ => ⟨S1x2048x1024, .bf16⟩
  | .local _ .vmem, ⟨6, _⟩ => ⟨S1x1024x2048, .bf16⟩
  | .local _ .vmem, ⟨7, _⟩ => ⟨S1x1024x2048, .bf16⟩
  | .local _ .vmem, ⟨8, _⟩ => ⟨S512x2048, .f32⟩
  | .local _ .vmem, ⟨9, _⟩ => ⟨S512x2048, .f32⟩
  | .local _ .vmem, ⟨10, _⟩ => ⟨S512x2048, .bf16⟩
  | .local _ .smem, ⟨0, _⟩ => ⟨S72, .i32⟩
  | .local _ .smem, ⟨1, _⟩ => ⟨S1, .i32⟩
  | _, _ => ⟨S72, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_c_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c_2 : Ref sig .tc := ⟨.hbm, 20, rfl⟩
abbrev main_v12 : Ref sig .tc := ⟨.hbm, 21, rfl⟩
abbrev main_v13 : Ref sig .tc := ⟨.hbm, 22, rfl⟩
abbrev main_c_3 : Ref sig .tc := ⟨.hbm, 23, rfl⟩
abbrev main_v14 : Ref sig .tc := ⟨.hbm, 24, rfl⟩
abbrev main_v15 : Ref sig .tc := ⟨.hbm, 25, rfl⟩
abbrev main_c_4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v21 : Ref sig .tc := ⟨.hbm, 31, rfl⟩
abbrev main_v20 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![72, 3], ![false, false]⟩

abbrev pre0 : Pipeline.Prefetch sig := ⟨2, ![main_v20.idx, main_arg1.idx], fun | 0 => main_v20.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) (v3 : BitVec 32) : BitVec 1 :=
  let arg0 : BitVec 32 := BitVec.ofNat 32 (i 0).val
  let v4 : BitVec 1 := Scalar.cmpi .slt arg0 v3
  let v5 : BitVec 32 := Scalar.extui v4
  let c0_i32_1 : BitVec 32 := 0#32
  let v6 : BitVec 1 := Scalar.cmpi .ne v5 c0_i32_1
  v6

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let v3 : BitVec 32 := Scalar.maxsi v2 c0_i32
  let c0_i32_0 : BitVec 32 := 0#32
  let c0_i32_1 : BitVec 32 := 0#32
  ![v3.toNat, c0_i32_0.toNat]

def cc0_transform_1 (k0_off1_inb : ∀ i : grid0.Coords, ∀ a, (k0_off1 i) a + S1.size a ≤ S72.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S72) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c2_i32 : BitVec 32 := 2#32
  let v4 : BitVec 32 := Scalar.select v3 arg1 c2_i32
  let c0_i32 : BitVec 32 := 0#32
  let c0_i32_0 : BitVec 32 := 0#32
  ![v1.toNat, c0_i32.toNat, v4.toNat]

def cc0_transform_2 (k0_off1_inb : ∀ i : grid0.Coords, ∀ a, (k0_off1 i) a + S1.size a ≤ S72.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S72) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c2_i32 : BitVec 32 := 2#32
  let v4 : BitVec 32 := Scalar.select v3 arg1 c2_i32
  let c0_i32 : BitVec 32 := 0#32
  let c0_i32_0 : BitVec 32 := 0#32
  ![v1.toNat, c0_i32.toNat, v4.toNat]

def cc0_transform_3 (k0_off1_inb : ∀ i : grid0.Coords, ∀ a, (k0_off1 i) a + S1.size a ≤ S72.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S72) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c2_i32 : BitVec 32 := 2#32
  let v4 : BitVec 32 := Scalar.select v3 arg1 c2_i32
  let c0_i32 : BitVec 32 := 0#32
  let c0_i32_0 : BitVec 32 := 0#32
  ![v1.toNat, v4.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== ExpertsRefIdeal.lean ====
abbrev S72 : Shape := ⟨1, ![72]⟩
abbrev S1 : Shape := ⟨1, ![1]⟩
abbrev S36864x2048 : Shape := ⟨2, ![36864, 2048]⟩
abbrev S8x2048x3072 : Shape := ⟨3, ![8, 2048, 3072]⟩
abbrev S8x3072x2048 : Shape := ⟨3, ![8, 3072, 2048]⟩
abbrev S_ : Shape := ⟨0, ![]⟩
abbrev S72x512x2048 : Shape := ⟨3, ![72, 512, 2048]⟩
abbrev S72x1 : Shape := ⟨2, ![72, 1]⟩
abbrev S72x2048x3072 : Shape := ⟨3, ![72, 2048, 3072]⟩
abbrev S72x3072x2048 : Shape := ⟨3, ![72, 3072, 2048]⟩
abbrev S72x512x3072 : Shape := ⟨3, ![72, 512, 3072]⟩
abbrev S72x1x1 : Shape := ⟨3, ![72, 1, 1]⟩

abbrev nBuf : Space → Nat
  | .hbm => 63
  | .vmem => 0
  | .smem => 0
  | _ => 0

abbrev bufTy : (tb : Table) → Fin (tcTables nBuf tb) → BufTy
  | .hbm, ⟨0, _⟩ => ⟨S72, .i32⟩
  | .hbm, ⟨1, _⟩ => ⟨S1, .i32⟩
  | .hbm, ⟨2, _⟩ => ⟨S36864x2048, .f32⟩
  | .hbm, ⟨3, _⟩ => ⟨S8x2048x3072, .f32⟩
  | .hbm, ⟨4, _⟩ => ⟨S8x2048x3072, .f32⟩
  | .hbm, ⟨5, _⟩ => ⟨S8x3072x2048, .f32⟩
  | .hbm, ⟨6, _⟩ => ⟨S_, .i32⟩
  | .hbm, ⟨7, _⟩ => ⟨S72, .i32⟩
  | .hbm, ⟨8, _⟩ => ⟨S72, .i32⟩
  | .hbm, ⟨9, _⟩ => ⟨S_, .i32⟩
  | .hbm, ⟨10, _⟩ => ⟨S72, .i32⟩
  | .hbm, ⟨11, _⟩ => ⟨S72, .i32⟩
  | .hbm, ⟨12, _⟩ => ⟨S72x512x2048, .f32⟩
  | .hbm, ⟨13, _⟩ => ⟨S_, .i32⟩
  | .hbm, ⟨14, _⟩ => ⟨S72, .i32⟩
  | .hbm, ⟨15, _⟩ => ⟨S72, .i1⟩
  | .hbm, ⟨16, _⟩ => ⟨S_, .i32⟩
  | .hbm, ⟨17, _⟩ => ⟨S72, .i32⟩
  | .hbm, ⟨18, _⟩ => ⟨S72, .i32⟩
  | .hbm, ⟨19, _⟩ => ⟨S72, .i32⟩
  | .hbm, ⟨20, _⟩ => ⟨S72x1, .i32⟩
  | .hbm, ⟨21, _⟩ => ⟨S72x2048x3072, .f32⟩
  | .hbm, ⟨22, _⟩ => ⟨S_, .i32⟩
  | .hbm, ⟨23, _⟩ => ⟨S72, .i32⟩
  | .hbm, ⟨24, _⟩ => ⟨S72, .i1⟩
  | .hbm, ⟨25, _⟩ => ⟨S_, .i32⟩
  | .hbm, ⟨26, _⟩ => ⟨S72, .i32⟩
  | .hbm, ⟨27, _⟩ => ⟨S72, .i32⟩
  | .hbm, ⟨28, _⟩ => ⟨S72, .i32⟩
  | .hbm, ⟨29, _⟩ => ⟨S72x1, .i32⟩
  | .hbm, ⟨30, _⟩ => ⟨S72x2048x3072, .f32⟩
  | .hbm, ⟨31, _⟩ => ⟨S_, .i32⟩
  | .hbm, ⟨32, _⟩ => ⟨S72, .i32⟩
  | .hbm, ⟨33, _⟩ => ⟨S72, .i1⟩
  | .hbm, ⟨34, _⟩ => ⟨S_, .i32⟩
  | .hbm, ⟨35, _⟩ => ⟨S72, .i32⟩
  | .hbm, ⟨36, _⟩ => ⟨S72, .i32⟩
  | .hbm, ⟨37, _⟩ => ⟨S72, .i32⟩
  | .hbm, ⟨38, _⟩ => ⟨S72x1, .i32⟩
  | .hbm, ⟨39, _⟩ => ⟨S72x3072x2048, .f32⟩
  | .hbm, ⟨40, _⟩ => ⟨S72x512x3072, .f32⟩
  | .hbm, ⟨41, _⟩ => ⟨S72x512x3072, .f32⟩
  | .hbm, ⟨42, _⟩ => ⟨S72x512x3072, .f32⟩
  | .hbm, ⟨43, _⟩ => ⟨S_, .f32⟩
  | .hbm, ⟨44, _⟩ => ⟨S72x512x3072, .f32⟩
  | .hbm, ⟨45, _⟩ => ⟨S72x512x3072, .f32⟩
  | .hbm, ⟨46, _⟩ => ⟨S_, .f32⟩
  | .hbm, ⟨47, _⟩ => ⟨S72x512x3072, .f32⟩
  | .hbm, ⟨48, _⟩ => ⟨S72x512x3072, .f32⟩
  | .hbm, ⟨49, _⟩ => ⟨S72x512x3072, .f32⟩
  | .hbm, ⟨50, _⟩ => ⟨S72x512x3072, .f32⟩
  | .hbm, ⟨51, _⟩ => ⟨S72x512x3072, .f32⟩
  | .hbm, ⟨52, _⟩ => ⟨S72x512x2048, .f32⟩
  | .hbm, ⟨53, _⟩ => ⟨S72, .i32⟩
  | .hbm, ⟨54, _⟩ => ⟨S72, .i32⟩
  | .hbm, ⟨55, _⟩ => ⟨S72, .i1⟩
  | .hbm, ⟨56, _⟩ => ⟨S72x1x1, .i1⟩
  | .hbm, ⟨57, _⟩ => ⟨S_, .f32⟩
  | .hbm, ⟨58, _⟩ => ⟨S_, .f32⟩
  | .hbm, ⟨59, _⟩ => ⟨S72x512x2048, .i1⟩
  | .hbm, ⟨60, _⟩ => ⟨S72x512x2048, .f32⟩
  | .hbm, ⟨61, _⟩ => ⟨S72x512x2048, .f32⟩
  | .hbm, ⟨62, _⟩ => ⟨S36864x2048, .f32⟩
  | _, _ => ⟨S72, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_c_1 : Ref sig .tc := ⟨.hbm, 13, rfl⟩
abbrev main_v5 : Ref sig .tc := ⟨.hbm, 14, rfl⟩
abbrev main_v6 : Ref sig .tc := ⟨.hbm, 15, rfl⟩
abbrev main_c_2 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_c_3 : Ref sig .tc := ⟨.hbm, 22, rfl⟩
abbrev main_v12 : Ref sig .tc := ⟨.hbm, 23, rfl⟩
abbrev main_v13 : Ref sig .tc := ⟨.hbm, 24, rfl⟩
abbrev main_c_4 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_c_5 : Ref sig .tc := ⟨.hbm, 31, rfl⟩
abbrev main_v19 : Ref sig .tc := ⟨.hbm, 32, rfl⟩
abbrev main_v20 : Ref sig .tc := ⟨.hbm, 33, rfl⟩
abbrev main_c_6 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_call0_v0 : Ref sig .tc := ⟨.hbm, 41, rfl⟩
abbrev main_call0_v1 : Ref sig .tc := ⟨.hbm, 42, rfl⟩
abbrev main_call0_cst : Ref sig .tc := ⟨.hbm, 43, rfl⟩
abbrev main_call0_v2 : Ref sig .tc := ⟨.hbm, 44, rfl⟩
abbrev main_call0_v3 : Ref sig .tc := ⟨.hbm, 45, rfl⟩
abbrev main_call0_cst_0 : Ref sig .tc := ⟨.hbm, 46, rfl⟩
abbrev main_call0_v4 : Ref sig .tc := ⟨.hbm, 47, rfl⟩
abbrev main_call0_v5 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_cst : Ref sig .tc := ⟨.hbm, 57, rfl⟩
abbrev main_call1_v0 : Ref sig .tc := ⟨.hbm, 58, rfl⟩
abbrev main_call1_v1 : Ref sig .tc := ⟨.hbm, 59, rfl⟩
abbrev main_call1_v2 : Ref sig .tc := ⟨.hbm, 60, rfl⟩
abbrev main_v35 : Ref sig .tc := ⟨.hbm, 61, rfl⟩
abbrev main_v36 : Ref sig .tc := ⟨.hbm, 62, rfl⟩

abbrev nD : Nat := 1
abbrev τ : Topo := Topo.v7x

variable {F : FTy → Type} [FloatOps F]
-- ==== Route.lean ====
abbrev S8x16384 : Shape := ⟨2, ![8, 16384]⟩
abbrev S16384x128 : Shape := ⟨2, ![16384, 128]⟩
abbrev S8x128 : Shape := ⟨2, ![8, 128]⟩
abbrev S8x512 : Shape := ⟨2, ![8, 512]⟩
abbrev S512x128 : Shape := ⟨2, ![512, 128]⟩
abbrev S512 : Shape := ⟨1, ![512]⟩
abbrev S1x512 : Shape := ⟨2, ![1, 512]⟩
abbrev S512x512 : Shape := ⟨2, ![512, 512]⟩
abbrev S8x1 : Shape := ⟨2, ![8, 1]⟩
abbrev S8 : Shape := ⟨1, ![8]⟩
abbrev S6x512 : Shape := ⟨2, ![6, 512]⟩

abbrev nBuf : Space → Nat
  | .hbm => 4
  | .vmem => 8
  | .smem => 0
  | _ => 0

abbrev bufTy : (tb : Table) → Fin (tcTables nBuf tb) → BufTy
  | .hbm, ⟨0, _⟩ => ⟨S8x16384, .f32⟩
  | .hbm, ⟨1, _⟩ => ⟨S8x16384, .i32⟩
  | .hbm, ⟨2, _⟩ => ⟨S16384x128, .f32⟩
  | .hbm, ⟨3, _⟩ => ⟨S8x128, .f32⟩
  | .local _ .vmem, ⟨0, _⟩ => ⟨S8x512, .f32⟩
  | .local _ .vmem, ⟨1, _⟩ => ⟨S8x512, .f32⟩
  | .local _ .vmem, ⟨2, _⟩ => ⟨S8x512, .i32⟩
  | .local _ .vmem, ⟨3, _⟩ => ⟨S8x512, .i32⟩
  | .local _ .vmem, ⟨4, _⟩ => ⟨S512x128, .f32⟩
  | .local _ .vmem, ⟨5, _⟩ => ⟨S512x128, .f32⟩
  | .local _ .vmem, ⟨6, _⟩ => ⟨S8x128, .f32⟩
  | .local _ .vmem, ⟨7, _⟩ => ⟨S8x128, .f32⟩
  | _, _ => ⟨S8x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev main_v0_2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== RouteRefIdeal.lean ====
abbrev S8x16384 : Shape := ⟨2, ![8, 16384]⟩
abbrev S16384x8 : Shape := ⟨2, ![16384, 8]⟩
abbrev S16384x2 : Shape := ⟨2, ![16384, 2]⟩
abbrev S_ : Shape := ⟨0, ![]⟩
abbrev S16384 : Shape := ⟨1, ![16384]⟩
abbrev S16384x1 : Shape := ⟨2, ![16384, 1]⟩
abbrev S2x16384 : Shape := ⟨2, ![2, 16384]⟩
abbrev S6x16384 : Shape := ⟨2, ![6, 16384]⟩
abbrev S16384x126 : Shape := ⟨2, ![16384, 126]⟩
abbrev S16384x128 : Shape := ⟨2, ![16384, 128]⟩

abbrev nBuf : Space → Nat
  | .hbm => 25
  | .vmem => 0
  | .smem => 0
  | _ => 0

abbrev bufTy : (tb : Table) → Fin (tcTables nBuf tb) → BufTy
  | .hbm, ⟨0, _⟩ => ⟨S8x16384, .f32⟩
  | .hbm, ⟨1, _⟩ => ⟨S16384x8, .f32⟩
  | .hbm, ⟨2, _⟩ => ⟨S16384x2, .f32⟩
  | .hbm, ⟨3, _⟩ => ⟨S16384x2, .i32⟩
  | .hbm, ⟨4, _⟩ => ⟨S_, .f32⟩
  | .hbm, ⟨5, _⟩ => ⟨S16384, .f32⟩
  | .hbm, ⟨6, _⟩ => ⟨S_, .f32⟩
  | .hbm, ⟨7, _⟩ => ⟨S16384, .f32⟩
  | .hbm, ⟨8, _⟩ => ⟨S16384, .f32⟩
  | .hbm, ⟨9, _⟩ => ⟨S16384x1, .f32⟩
  | .hbm, ⟨10, _⟩ => ⟨S16384x2, .f32⟩
  | .hbm, ⟨11, _⟩ => ⟨S16384x2, .f32⟩
  | .hbm, ⟨12, _⟩ => ⟨S16384x2, .f32⟩
  | .hbm, ⟨13, _⟩ => ⟨S_, .f32⟩
  | .hbm, ⟨14, _⟩ => ⟨S16384, .f32⟩
  | .hbm, ⟨15, _⟩ => ⟨S16384x1, .f32⟩
  | .hbm, ⟨16, _⟩ => ⟨S16384x2, .f32⟩
  | .hbm, ⟨17, _⟩ => ⟨S16384x2, .f32⟩
  | .hbm, ⟨18, _⟩ => ⟨S2x16384, .i32⟩
  | .hbm, ⟨19, _⟩ => ⟨S_, .i32⟩
  | .hbm, ⟨20, _⟩ => ⟨S6x16384, .i32⟩
  | .hbm, ⟨21, _⟩ => ⟨S8x16384, .i32⟩
  | .hbm, ⟨22, _⟩ => ⟨S_, .f32⟩
  | .hbm, ⟨23, _⟩ => ⟨S16384x126, .f32⟩
  | .hbm, ⟨24, _⟩ => ⟨S16384x128, .f32⟩
  | _, _ => ⟨S8x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_values : Ref sig .tc := ⟨.hbm, 2, rfl⟩
abbrev main_indices : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_c : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩

abbrev nD : Nat := 1
abbrev τ : Topo := Topo.v7x

variable {F : FTy → Type} [FloatOps F]
-- ==== Router.lean ====
abbrev S16384x1024 : Shape := ⟨2, ![16384, 1024]⟩
abbrev S2x2048x2048 : Shape := ⟨3, ![2, 2048, 2048]⟩
abbrev S16384x2048 : Shape := ⟨2, ![16384, 2048]⟩
abbrev S2048 : Shape := ⟨1, ![2048]⟩
abbrev S2048x8 : Shape := ⟨2, ![2048, 8]⟩
abbrev S1x2048 : Shape := ⟨2, ![1, 2048]⟩
abbrev S_ : Shape := ⟨0, ![]⟩
abbrev S2048x128 : Shape := ⟨2, ![2048, 128]⟩
abbrev S2048x256 : Shape := ⟨2, ![2048, 256]⟩
abbrev S8x16384 : Shape := ⟨2, ![8, 16384]⟩
abbrev S512x1024 : Shape := ⟨2, ![512, 1024]⟩
abbrev S1x2048x2048 : Shape := ⟨3, ![1, 2048, 2048]⟩
abbrev S512x2048 : Shape := ⟨2, ![512, 2048]⟩
abbrev S8x512 : Shape := ⟨2, ![8, 512]⟩
abbrev S1x1024x2048 : Shape := ⟨3, ![1, 1024, 2048]⟩
abbrev S1024x2048 : Shape := ⟨2, ![1024, 2048]⟩
abbrev S512 : Shape := ⟨1, ![512]⟩
abbrev S512x1 : Shape := ⟨2, ![512, 1]⟩
abbrev S512x256 : Shape := ⟨2, ![512, 256]⟩
abbrev S512x128 : Shape := ⟨2, ![512, 128]⟩
abbrev S128x512 : Shape := ⟨2, ![128, 512]⟩

abbrev nBuf : Space → Nat
  | .hbm => 19
  | .vmem => 15
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S2x2048x2048, .f32⟩
  | .hbm, ⟨3, _⟩ => ⟨S16384x2048, .f32⟩
  | .hbm, ⟨4, _⟩ => ⟨S2048, .f32⟩
  | .hbm, ⟨5, _⟩ => ⟨S2048x8, .f32⟩
  | .hbm, ⟨6, _⟩ => ⟨S2x2048x2048, .bf16⟩
  | .hbm, ⟨7, _⟩ => ⟨S1x2048, .f32⟩
  | .hbm, ⟨8, _⟩ => ⟨S_, .i32⟩
  | .hbm, ⟨9, _⟩ => ⟨S_, .f32⟩
  | .hbm, ⟨10, _⟩ => ⟨S2048x128, .f32⟩
  | .hbm, ⟨11, _⟩ => ⟨S2048x128, .bf16⟩
  | .hbm, ⟨12, _⟩ => ⟨S2048x128, .f32⟩
  | .hbm, ⟨13, _⟩ => ⟨S2048x128, .f32⟩
  | .hbm, ⟨14, _⟩ => ⟨S2048x128, .bf16⟩
  | .hbm, ⟨15, _⟩ => ⟨S2048x256, .bf16⟩
  | .hbm, ⟨16, _⟩ => ⟨S16384x2048, .f32⟩
  | .hbm, ⟨17, _⟩ => ⟨S16384x2048, .f32⟩
  | .hbm, ⟨18, _⟩ => ⟨S8x16384, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S1x2048x2048, .bf16⟩
  | .local _ .vmem, ⟨5, _⟩ => ⟨S512x2048, .f32⟩
  | .local _ .vmem, ⟨6, _⟩ => ⟨S512x2048, .f32⟩
  | .local _ .vmem, ⟨7, _⟩ => ⟨S1x2048, .f32⟩
  | .local _ .vmem, ⟨8, _⟩ => ⟨S2048x256, .bf16⟩
  | .local _ .vmem, ⟨9, _⟩ => ⟨S512x2048, .f32⟩
  | .local _ .vmem, ⟨10, _⟩ => ⟨S512x2048, .f32⟩
  | .local _ .vmem, ⟨11, _⟩ => ⟨S512x2048, .f32⟩
  | .local _ .vmem, ⟨12, _⟩ => ⟨S512x2048, .f32⟩
  | .local _ .vmem, ⟨13, _⟩ => ⟨S8x512, .f32⟩
  | .local _ .vmem, ⟨14, _⟩ => ⟨S8x512, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_call0_v0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8_0 : Ref sig .tc := ⟨.hbm, 16, rfl⟩
abbrev main_v8_1 : Ref sig .tc := ⟨.hbm, 17, rfl⟩
abbrev main_v8_2 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S8x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== RouterRefIdeal.lean ====
abbrev S16384x1024 : Shape := ⟨2, ![16384, 1024]⟩
abbrev S2x2048x2048 : Shape := ⟨3, ![2, 2048, 2048]⟩
abbrev S16384x2048 : Shape := ⟨2, ![16384, 2048]⟩
abbrev S2048 : Shape := ⟨1, ![2048]⟩
abbrev S2048x8 : Shape := ⟨2, ![2048, 8]⟩
abbrev S1x2048x2048 : Shape := ⟨3, ![1, 2048, 2048]⟩
abbrev S2048x2048 : Shape := ⟨2, ![2048, 2048]⟩
abbrev S_ : Shape := ⟨0, ![]⟩
abbrev S16384 : Shape := ⟨1, ![16384]⟩
abbrev S16384x1 : Shape := ⟨2, ![16384, 1]⟩
abbrev S1x2048 : Shape := ⟨2, ![1, 2048]⟩
abbrev S16384x8 : Shape := ⟨2, ![16384, 8]⟩
abbrev S8x16384 : Shape := ⟨2, ![8, 16384]⟩

abbrev nBuf : Space → Nat
  | .hbm => 31
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S2x2048x2048, .f32⟩
  | .hbm, ⟨3, _⟩ => ⟨S16384x2048, .f32⟩
  | .hbm, ⟨4, _⟩ => ⟨S2048, .f32⟩
  | .hbm, ⟨5, _⟩ => ⟨S2048x8, .f32⟩
  | .hbm, ⟨6, _⟩ => ⟨S16384x1024, .f32⟩
  | .hbm, ⟨7, _⟩ => ⟨S16384x1024, .f32⟩
  | .hbm, ⟨8, _⟩ => ⟨S16384x2048, .f32⟩
  | .hbm, ⟨9, _⟩ => ⟨S1x2048x2048, .f32⟩
  | .hbm, ⟨10, _⟩ => ⟨S2048x2048, .f32⟩
  | .hbm, ⟨11, _⟩ => ⟨S16384x2048, .f32⟩
  | .hbm, ⟨12, _⟩ => ⟨S16384x2048, .f32⟩
  | .hbm, ⟨13, _⟩ => ⟨S16384x2048, .f32⟩
  | .hbm, ⟨14, _⟩ => ⟨S_, .f32⟩
  | .hbm, ⟨15, _⟩ => ⟨S16384, .f32⟩
  | .hbm, ⟨16, _⟩ => ⟨S16384x1, .f32⟩
  | .hbm, ⟨17, _⟩ => ⟨S_, .f32⟩
  | .hbm, ⟨18, _⟩ => ⟨S16384x1, .f32⟩
  | .hbm, ⟨19, _⟩ => ⟨S16384x1, .f32⟩
  | .hbm, ⟨20, _⟩ => ⟨S_, .f32⟩
  | .hbm, ⟨21, _⟩ => ⟨S16384x1, .f32⟩
  | .hbm, ⟨22, _⟩ => ⟨S16384x1, .f32⟩
  | .hbm, ⟨23, _⟩ => ⟨S16384x1, .f32⟩
  | .hbm, ⟨24, _⟩ => ⟨S16384x2048, .f32⟩
  | .hbm, ⟨25, _⟩ => ⟨S16384x2048, .f32⟩
  | .hbm, ⟨26, _⟩ => ⟨S1x2048, .f32⟩
  | .hbm, ⟨27, _⟩ => ⟨S16384x2048, .f32⟩
  | .hbm, ⟨28, _⟩ => ⟨S16384x2048, .f32⟩
  | .hbm, ⟨29, _⟩ => ⟨S16384x8, .f32⟩
  | .hbm, ⟨30, _⟩ => ⟨S8x16384, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩

abbrev nD : Nat := 1
abbrev τ : Topo := Topo.v7x

variable {F : FTy → Type} [FloatOps F]
-- ==== Slots.lean ====
abbrev S24 : Shape := ⟨1, ![24]⟩
abbrev S8x16384 : Shape := ⟨2, ![8, 16384]⟩
abbrev S8x2048 : Shape := ⟨2, ![8, 2048]⟩
abbrev S1x2048 : Shape := ⟨2, ![1, 2048]⟩
abbrev S1 : Shape := ⟨1, ![1]⟩

abbrev nBuf : Space → Nat
  | .hbm => 2
  | .vmem => 4
  | .smem => 1
  | _ => 0

abbrev bufTy : (tb : Table) → Fin (tcTables nBuf tb) → BufTy
  | .hbm, ⟨0, _⟩ => ⟨S8x16384, .i32⟩
  | .hbm, ⟨1, _⟩ => ⟨S8x16384, .i32⟩
  | .local _ .vmem, ⟨0, _⟩ => ⟨S8x2048, .i32⟩
  | .local _ .vmem, ⟨1, _⟩ => ⟨S8x2048, .i32⟩
  | .local _ .vmem, ⟨2, _⟩ => ⟨S8x2048, .i32⟩
  | .local _ .vmem, ⟨3, _⟩ => ⟨S8x2048, .i32⟩
  | .local _ .smem, ⟨0, _⟩ => ⟨S24, .i32⟩
  | _, _ => ⟨S8x16384, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg1 : Ref sig .tc := ⟨.hbm, 0, rfl⟩
abbrev main_v0 : Ref sig .tc := ⟨.hbm, 1, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![8], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S8x2048 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x2048 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== SlotsRefIdeal.lean ====
abbrev S24 : Shape := ⟨1, ![24]⟩
abbrev S8x16384 : Shape := ⟨2, ![8, 16384]⟩
abbrev S4x16384 : Shape := ⟨2, ![4, 16384]⟩
abbrev S1x16384 : Shape := ⟨2, ![1, 16384]⟩
abbrev S16384 : Shape := ⟨1, ![16384]⟩
abbrev S8 : Shape := ⟨1, ![8]⟩
abbrev S8x1 : Shape := ⟨2, ![8, 1]⟩
abbrev S_ : Shape := ⟨0, ![]⟩
abbrev S2x16384 : Shape := ⟨2, ![2, 16384]⟩

abbrev nBuf : Space → Nat
  | .hbm => 47
  | .vmem => 0
  | .smem => 0
  | _ => 0

abbrev bufTy : (tb : Table) → Fin (tcTables nBuf tb) → BufTy
  | .hbm, ⟨0, _⟩ => ⟨S24, .i32⟩
  | .hbm, ⟨1, _⟩ => ⟨S8x16384, .i32⟩
  | .hbm, ⟨2, _⟩ => ⟨S4x16384, .i32⟩
  | .hbm, ⟨3, _⟩ => ⟨S1x16384, .i32⟩
  | .hbm, ⟨4, _⟩ => ⟨S16384, .i32⟩
  | .hbm, ⟨5, _⟩ => ⟨S1x16384, .i32⟩
  | .hbm, ⟨6, _⟩ => ⟨S16384, .i32⟩
  | .hbm, ⟨7, _⟩ => ⟨S1x16384, .i32⟩
  | .hbm, ⟨8, _⟩ => ⟨S8, .i32⟩
  | .hbm, ⟨9, _⟩ => ⟨S8x1, .i32⟩
  | .hbm, ⟨10, _⟩ => ⟨S8x16384, .i32⟩
  | .hbm, ⟨11, _⟩ => ⟨S8x16384, .i32⟩
  | .hbm, ⟨12, _⟩ => ⟨S8x16384, .i1⟩
  | .hbm, ⟨13, _⟩ => ⟨S8, .i32⟩
  | .hbm, ⟨14, _⟩ => ⟨S8x1, .i32⟩
  | .hbm, ⟨15, _⟩ => ⟨S_, .i32⟩
  | .hbm, ⟨16, _⟩ => ⟨S_, .i32⟩
  | .hbm, ⟨17, _⟩ => ⟨S8x16384, .i32⟩
  | .hbm, ⟨18, _⟩ => ⟨S8x16384, .i32⟩
  | .hbm, ⟨19, _⟩ => ⟨S8x16384, .i32⟩
  | .hbm, ⟨20, _⟩ => ⟨S_, .i32⟩
  | .hbm, ⟨21, _⟩ => ⟨S16384, .i32⟩
  | .hbm, ⟨22, _⟩ => ⟨S16384, .i32⟩
  | .hbm, ⟨23, _⟩ => ⟨S1x16384, .i32⟩
  | .hbm, ⟨24, _⟩ => ⟨S1x16384, .i32⟩
  | .hbm, ⟨25, _⟩ => ⟨S16384, .i32⟩
  | .hbm, ⟨26, _⟩ => ⟨S1x16384, .i32⟩
  | .hbm, ⟨27, _⟩ => ⟨S16384, .i32⟩
  | .hbm, ⟨28, _⟩ => ⟨S1x16384, .i32⟩
  | .hbm, ⟨29, _⟩ => ⟨S8, .i32⟩
  | .hbm, ⟨30, _⟩ => ⟨S8x1, .i32⟩
  | .hbm, ⟨31, _⟩ => ⟨S8x16384, .i32⟩
  | .hbm, ⟨32, _⟩ => ⟨S8x16384, .i32⟩
  | .hbm, ⟨33, _⟩ => ⟨S8x16384, .i1⟩
  | .hbm, ⟨34, _⟩ => ⟨S8, .i32⟩
  | .hbm, ⟨35, _⟩ => ⟨S8x1, .i32⟩
  | .hbm, ⟨36, _⟩ => ⟨S_, .i32⟩
  | .hbm, ⟨37, _⟩ => ⟨S_, .i32⟩
  | .hbm, ⟨38, _⟩ => ⟨S8x16384, .i32⟩
  | .hbm, ⟨39, _⟩ => ⟨S8x16384, .i32⟩
  | .hbm, ⟨40, _⟩ => ⟨S8x16384, .i32⟩
  | .hbm, ⟨41, _⟩ => ⟨S_, .i32⟩
  | .hbm, ⟨42, _⟩ => ⟨S16384, .i32⟩
  | .hbm, ⟨43, _⟩ => ⟨S16384, .i32⟩
  | .hbm, ⟨44, _⟩ => ⟨S1x16384, .i32⟩
  | .hbm, ⟨45, _⟩ => ⟨S2x16384, .i32⟩
  | .hbm, ⟨46, _⟩ => ⟨S8x16384, .i32⟩
  | _, _ => ⟨S24, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_c : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_v13 : Ref sig .tc := ⟨.hbm, 19, rfl⟩
abbrev main_c_0 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_c_1 : Ref sig .tc := ⟨.hbm, 36, rfl⟩
abbrev main_call1_v0 : Ref sig .tc := ⟨.hbm, 37, rfl⟩
abbrev main_call1_v1 : Ref sig .tc := ⟨.hbm, 38, rfl⟩
abbrev main_call1_v2 : Ref sig .tc := ⟨.hbm, 39, rfl⟩
abbrev main_v29 : Ref sig .tc := ⟨.hbm, 40, rfl⟩
abbrev main_c_2 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩

abbrev nD : Nat := 1
abbrev τ : Topo := Topo.v7x

variable {F : FTy → Type} [FloatOps F]
-- ==== DeltaNet.lean ====
abbrev S16384x6144 : Shape := ⟨2, ![16384, 6144]⟩
abbrev S16384x128 : Shape := ⟨2, ![16384, 128]⟩
abbrev S8 : Shape := ⟨1, ![8]⟩
abbrev S128 : Shape := ⟨1, ![128]⟩
abbrev S_ : Shape := ⟨0, ![]⟩
abbrev S1x128 : Shape := ⟨2, ![1, 128]⟩
abbrev S16384x1024 : Shape := ⟨2, ![16384, 1024]⟩
abbrev S256x1024 : Shape := ⟨2, ![256, 1024]⟩
abbrev S256x128 : Shape := ⟨2, ![256, 128]⟩
abbrev S128x128 : Shape := ⟨2, ![128, 128]⟩
abbrev S8x128x128 : Shape := ⟨3, ![8, 128, 128]⟩
abbrev S256 : Shape := ⟨1, ![256]⟩
abbrev S256x1 : Shape := ⟨2, ![256, 1]⟩
abbrev S8x128 : Shape := ⟨2, ![8, 128]⟩
abbrev S64x64 : Shape := ⟨2, ![64, 64]⟩
abbrev S64x128 : Shape := ⟨2, ![64, 128]⟩
abbrev S1x64 : Shape := ⟨2, ![1, 64]⟩
abbrev S64x256 : Shape := ⟨2, ![64, 256]⟩
abbrev S1x128x128 : Shape := ⟨3, ![1, 128, 128]⟩
abbrev S64 : Shape := ⟨1, ![64]⟩
abbrev S64x1 : Shape := ⟨2, ![64, 1]⟩

abbrev nBuf : Space → Nat
  | .hbm => 15
  | .vmem => 21
  | .smem => 0
  | _ => 0

abbrev bufTy : (tb : Table) → Fin (tcTables nBuf tb) → BufTy
  | .hbm, ⟨0, _⟩ => ⟨S16384x6144, .f32⟩
  | .hbm, ⟨1, _⟩ => ⟨S16384x128, .f32⟩
  | .hbm, ⟨2, _⟩ => ⟨S8, .f32⟩
  | .hbm, ⟨3, _⟩ => ⟨S8, .f32⟩
  | .hbm, ⟨4, _⟩ => ⟨S128, .f32⟩
  | .hbm, ⟨5, _⟩ => ⟨S_, .i32⟩
  | .hbm, ⟨6, _⟩ => ⟨S_, .f32⟩
  | .hbm, ⟨7, _⟩ => ⟨S128, .f32⟩
  | .hbm, ⟨8, _⟩ => ⟨S1x128, .f32⟩
  | .hbm, ⟨9, _⟩ => ⟨S_, .i32⟩
  | .hbm, ⟨10, _⟩ => ⟨S_, .f32⟩
  | .hbm, ⟨11, _⟩ => ⟨S128, .f32⟩
  | .hbm, ⟨12, _⟩ => ⟨S1x128, .f32⟩
  | .hbm, ⟨13, _⟩ => ⟨S1x128, .f32⟩
  | .hbm, ⟨14, _⟩ => ⟨S16384x1024, .bf16⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x128, .f32⟩
  | .local _ .vmem, ⟨9, _⟩ => ⟨S256x128, .f32⟩
  | .local _ .vmem, ⟨10, _⟩ => ⟨S1x128, .f32⟩
  | .local _ .vmem, ⟨11, _⟩ => ⟨S1x128, .f32⟩
  | .local _ .vmem, ⟨12, _⟩ => ⟨S1x128, .f32⟩
  | .local _ .vmem, ⟨13, _⟩ => ⟨S256x1024, .bf16⟩
  | .local _ .vmem, ⟨14, _⟩ => ⟨S256x1024, .bf16⟩
  | .local _ .vmem, ⟨15, _⟩ => ⟨S256x1024, .f32⟩
  | .local _ .vmem, ⟨16, _⟩ => ⟨S256x1024, .f32⟩
  | .local _ .vmem, ⟨17, _⟩ => ⟨S256x1024, .f32⟩
  | .local _ .vmem, ⟨18, _⟩ => ⟨S256x1024, .f32⟩
  | .local _ .vmem, ⟨19, _⟩ => ⟨S128x128, .f32⟩
  | .local _ .vmem, ⟨20, _⟩ => ⟨S8x128x128, .f32⟩
  | _, _ => ⟨S16384x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_call1_v0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_scratch3 : Ref sig .tc := ⟨.vmem, 18, rfl⟩
abbrev cc0_scratch4 : Ref sig .tc := ⟨.vmem, 19, rfl⟩
abbrev cc0_scratch5 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨2, ![2, 32], ![false, false]⟩

def k0_mult1 : BitVec 32 :=
  let c0_i32_166 : BitVec 32 := 0#32
  let c256_i32 : BitVec 32 := 256#32
  let v467 : BitVec 32 := Scalar.muli c0_i32_166 c256_i32
  v467
def k0_off1 (c0_i32_167 : BitVec 32) : Fin 2 → Nat :=
  let c0_i32_166 : BitVec 32 := 0#32
  let c256_i32 : BitVec 32 := 256#32
  let v467 : BitVec 32 := Scalar.muli c0_i32_166 c256_i32
  let v468 : BitVec 32 := v467
  let v469 : BitVec 32 := Scalar.addi v468 c0_i32_167
  let v473 : Index := Scalar.indexCast v469
  let c0_168 : Index := 0#32
  ![v473.toNat, 0]
def k0_mult2 : BitVec 32 :=
  let c0_i32_166 : BitVec 32 := 0#32
  let c2_i32_169 : BitVec 32 := 2#32
  let v475 : BitVec 32 := Scalar.muli c0_i32_166 c2_i32_169
  let c0_i32_170 : BitVec 32 := 0#32
  let v476 : BitVec 32 := Scalar.addi v475 c0_i32_170
  let c8_i32_171 : BitVec 32 := 8#32
  let v477 : BitVec 32 := Scalar.muli v476 c8_i32_171
  let c0_i32_172 : BitVec 32 := 0#32
  let v478 : BitVec 32 := Scalar.addi v477 c0_i32_172
  let c8_i32_173 : BitVec 32 := 8#32
  let v479 : BitVec 32 := Scalar.muli v478 c8_i32_173
  v479
def k0_off2 (c0_i32_170 : BitVec 32) (c0_i32_172 : BitVec 32) : Fin 2 → Nat :=
  let c0_i32_166 : BitVec 32 := 0#32
  let c2_i32_169 : BitVec 32 := 2#32
  let v475 : BitVec 32 := Scalar.muli c0_i32_166 c2_i32_169
  let v476 : BitVec 32 := Scalar.addi v475 c0_i32_170
  let c8_i32_171 : BitVec 32 := 8#32
  let v477 : BitVec 32 := Scalar.muli v476 c8_i32_171
  let v478 : BitVec 32 := Scalar.addi v477 c0_i32_172
  let c8_i32_173 : BitVec 32 := 8#32
  let v479 : BitVec 32 := Scalar.muli v478 c8_i32_173
  let v480 : BitVec 32 := v479
  let v481 : Index := Scalar.indexCast v480
  let c0_174 : Index := 0#32
  ![v481.toNat, 0]
def k0_off3 (c0_i32_167 : BitVec 32) : Fin 2 → Nat :=
  let c0_i32_166 : BitVec 32 := 0#32
  let c256_i32 : BitVec 32 := 256#32
  let v467 : BitVec 32 := Scalar.muli c0_i32_166 c256_i32
  let v468 : BitVec 32 := v467
  let v469 : BitVec 32 := Scalar.addi v468 c0_i32_167
  let v500 : Index := Scalar.indexCast v469
  let c128_180 : Index := 128#32
  ![v500.toNat, 128]
def k0_mult3 : BitVec 32 :=
  let c0_i32_166 : BitVec 32 := 0#32
  let c2_i32_181 : BitVec 32 := 2#32
  let v502 : BitVec 32 := Scalar.muli c0_i32_166 c2_i32_181
  let c0_i32_182 : BitVec 32 := 0#32
  let v503 : BitVec 32 := Scalar.addi v502 c0_i32_182
  let c8_i32_183 : BitVec 32 := 8#32
  let v504 : BitVec 32 := Scalar.muli v503 c8_i32_183
  let c1_i32_184 : BitVec 32 := 1#32
  let v505 : BitVec 32 := Scalar.addi v504 c1_i32_184
  let c8_i32_185 : BitVec 32 := 8#32
  let v506 : BitVec 32 := Scalar.muli v505 c8_i32_185
  v506
def k0_off4 (c0_i32_167 : BitVec 32) : Fin 2 → Nat :=
  let c0_i32_166 : BitVec 32 := 0#32
  let c256_i32 : BitVec 32 := 256#32
  let v467 : BitVec 32 := Scalar.muli c0_i32_166 c256_i32
  let v468 : BitVec 32 := v467
  let v469 : BitVec 32 := Scalar.addi v468 c0_i32_167
  let v527 : Index := Scalar.indexCast v469
  let c256_192 : Index := 256#32
  ![v527.toNat, 256]
def k0_mult4 : BitVec 32 :=
  let c0_i32_166 : BitVec 32 := 0#32
  let c2_i32_193 : BitVec 32 := 2#32
  let v529 : BitVec 32 := Scalar.muli c0_i32_166 c2_i32_193
  let c0_i32_194 : BitVec 32 := 0#32
  let v530 : BitVec 32 := Scalar.addi v529 c0_i32_194
  let c8_i32_195 : BitVec 32 := 8#32
  let v531 : BitVec 32 := Scalar.muli v530 c8_i32_195
  let c2_i32_196 : BitVec 32 := 2#32
  let v532 : BitVec 32 := Scalar.addi v531 c2_i32_196
  let c8_i32_197 : BitVec 32 := 8#32
  let v533 : BitVec 32 := Scalar.muli v532 c8_i32_197
  v533
def k0_off5 (c0_i32_167 : BitVec 32) : Fin 2 → Nat :=
  let c0_i32_166 : BitVec 32 := 0#32
  let c256_i32 : BitVec 32 := 256#32
  let v467 : BitVec 32 := Scalar.muli c0_i32_166 c256_i32
  let v468 : BitVec 32 := v467
  let v469 : BitVec 32 := Scalar.addi v468 c0_i32_167
  let v554 : Index := Scalar.indexCast v469
  let c384_204 : Index := 384#32
  ![v554.toNat, 384]
def k0_mult5 : BitVec 32 :=
  let c0_i32_166 : BitVec 32 := 0#32
  let c2_i32_205 : BitVec 32 := 2#32
  let v556 : BitVec 32 := Scalar.muli c0_i32_166 c2_i32_205
  let c0_i32_206 : BitVec 32 := 0#32
  let v557 : BitVec 32 := Scalar.addi v556 c0_i32_206
  let c8_i32_207 : BitVec 32 := 8#32
  let v558 : BitVec 32 := Scalar.muli v557 c8_i32_207
  let c3_i32 : BitVec 32 := 3#32
  let v559 : BitVec 32 := Scalar.addi v558 c3_i32
  let c8_i32_208 : BitVec 32 := 8#32
  let v560 : BitVec 32 := Scalar.muli v559 c8_i32_208
  v560
def k0_off6 (c0_i32_167 : BitVec 32) : Fin 2 → Nat :=
  let c0_i32_166 : BitVec 32 := 0#32
  let c256_i32 : BitVec 32 := 256#32
  let v467 : BitVec 32 := Scalar.muli c0_i32_166 c256_i32
  let v468 : BitVec 32 := v467
  let v469 : BitVec 32 := Scalar.addi v468 c0_i32_167
  let v581 : Index := Scalar.indexCast v469
  let c512_215 : Index := 512#32
  ![v581.toNat, 512]
def k0_mult6 : BitVec 32 :=
  let c0_i32_166 : BitVec 32 := 0#32
  let c2_i32_216 : BitVec 32 := 2#32
  let v583 : BitVec 32 := Scalar.muli c0_i32_166 c2_i32_216
  let c0_i32_217 : BitVec 32 := 0#32
  let v584 : BitVec 32 := Scalar.addi v583 c0_i32_217
  let c8_i32_218 : BitVec 32 := 8#32
  let v585 : BitVec 32 := Scalar.muli v584 c8_i32_218
  let c4_i32_219 : BitVec 32 := 4#32
  let v586 : BitVec 32 := Scalar.addi v585 c4_i32_219
  let c8_i32_220 : BitVec 32 := 8#32
  let v587 : BitVec 32 := Scalar.muli v586 c8_i32_220
  v587
def k0_off7 (c0_i32_167 : BitVec 32) : Fin 2 → Nat :=
  let c0_i32_166 : BitVec 32 := 0#32
  let c256_i32 : BitVec 32 := 256#32
  let v467 : BitVec 32 := Scalar.muli c0_i32_166 c256_i32
  let v468 : BitVec 32 := v467
  let v469 : BitVec 32 := Scalar.addi v468 c0_i32_167
  let v608 : Index := Scalar.indexCast v469
  let c640_227 : Index := 640#32
  ![v608.toNat, 640]
def k0_mult7 : BitVec 32 :=
  let c0_i32_166 : BitVec 32 := 0#32
  let c2_i32_228 : BitVec 32 := 2#32
  let v610 : BitVec 32 := Scalar.muli c0_i32_166 c2_i32_228
  let c0_i32_229 : BitVec 32 := 0#32
  let v611 : BitVec 32 := Scalar.addi v610 c0_i32_229
  let c8_i32_230 : BitVec 32 := 8#32
  let v612 : BitVec 32 := Scalar.muli v611 c8_i32_230
  let c5_i32 : BitVec 32 := 5#32
  let v613 : BitVec 32 := Scalar.addi v612 c5_i32
  let c8_i32_231 : BitVec 32 := 8#32
  let v614 : BitVec 32 := Scalar.muli v613 c8_i32_231
  v614
def k0_off8 (c0_i32_167 : BitVec 32) : Fin 2 → Nat :=
  let c0_i32_166 : BitVec 32 := 0#32
  let c256_i32 : BitVec 32 := 256#32
  let v467 : BitVec 32 := Scalar.muli c0_i32_166 c256_i32
  let v468 : BitVec 32 := v467
  let v469 : BitVec 32 := Scalar.addi v468 c0_i32_167
  let v635 : Index := Scalar.indexCast v469
  let c768_238 : Index := 768#32
  ![v635.toNat, 768]
def k0_mult8 : BitVec 32 :=
  let c0_i32_166 : BitVec 32 := 0#32
  let c2_i32_239 : BitVec 32 := 2#32
  let v637 : BitVec 32 := Scalar.muli c0_i32_166 c2_i32_239
  let c0_i32_240 : BitVec 32 := 0#32
  let v638 : BitVec 32 := Scalar.addi v637 c0_i32_240
  let c8_i32_241 : BitVec 32 := 8#32
  let v639 : BitVec 32 := Scalar.muli v638 c8_i32_241
  let c6_i32 : BitVec 32 := 6#32
  let v640 : BitVec 32 := Scalar.addi v639 c6_i32
  let c8_i32_242 : BitVec 32 := 8#32
  let v641 : BitVec 32 := Scalar.muli v640 c8_i32_242
  v641
def k0_off9 (c0_i32_167 : BitVec 32) : Fin 2 → Nat :=
  let c0_i32_166 : BitVec 32 := 0#32
  let c256_i32 : BitVec 32 := 256#32
  let v467 : BitVec 32 := Scalar.muli c0_i32_166 c256_i32
  let v468 : BitVec 32 := v467
  let v469 : BitVec 32 := Scalar.addi v468 c0_i32_167
  let v662 : Index := Scalar.indexCast v469
  let c896_249 : Index := 896#32
  ![v662.toNat, 896]
def k0_mult9 : BitVec 32 :=
  let c0_i32_166 : BitVec 32 := 0#32
  let c2_i32_250 : BitVec 32 := 2#32
  let v664 : BitVec 32 := Scalar.muli c0_i32_166 c2_i32_250
  let c0_i32_251 : BitVec 32 := 0#32
  let v665 : BitVec 32 := Scalar.addi v664 c0_i32_251
  let c8_i32_252 : BitVec 32 := 8#32
  let v666 : BitVec 32 := Scalar.muli v665 c8_i32_252
  let c7_i32 : BitVec 32 := 7#32
  let v667 : BitVec 32 := Scalar.addi v666 c7_i32
  let c8_i32_253 : BitVec 32 := 8#32
  let v668 : BitVec 32 := Scalar.muli v667 c8_i32_253
  v668
def k0_mult10 : BitVec 32 :=
  let c0_i32_166 : BitVec 32 := 0#32
  let c2_i32_261 : BitVec 32 := 2#32
  let v691 : BitVec 32 := Scalar.muli c0_i32_166 c2_i32_261
  let c0_i32_262 : BitVec 32 := 0#32
  let v692 : BitVec 32 := Scalar.addi v691 c0_i32_262
  let c8_i32_263 : BitVec 32 := 8#32
  let v693 : BitVec 32 := Scalar.muli v692 c8_i32_263
  let c0_i32_264 : BitVec 32 := 0#32
  let v694 : BitVec 32 := Scalar.addi v693 c0_i32_264
  let c8_i32_265 : BitVec 32 := 8#32
  let v695 : BitVec 32 := Scalar.muli v694 c8_i32_265
  v695
def k0_off10 (c0_i32_262 : BitVec 32) (c0_i32_264 : BitVec 32) : Fin 2 → Nat :=
  let c0_i32_166 : BitVec 32 := 0#32
  let c2_i32_261 : BitVec 32 := 2#32
  let v691 : BitVec 32 := Scalar.muli c0_i32_166 c2_i32_261
  let v692 : BitVec 32 := Scalar.addi v691 c0_i32_262
  let c8_i32_263 : BitVec 32 := 8#32
  let v693 : BitVec 32 := Scalar.muli v692 c8_i32_263
  let v694 : BitVec 32 := Scalar.addi v693 c0_i32_264
  let c8_i32_265 : BitVec 32 := 8#32
  let v695 : BitVec 32 := Scalar.muli v694 c8_i32_265
  let v696 : BitVec 32 := v695
  let v697 : Index := Scalar.indexCast v696
  let c64_266 : Index := 64#32
  ![v697.toNat, 64]
def k0_mult11 : BitVec 32 :=
  let c0_i32_166 : BitVec 32 := 0#32
  let c2_i32_273 : BitVec 32 := 2#32
  let v718 : BitVec 32 := Scalar.muli c0_i32_166 c2_i32_273
  let c0_i32_274 : BitVec 32 := 0#32
  let v719 : BitVec 32 := Scalar.addi v718 c0_i32_274
  let c8_i32_275 : BitVec 32 := 8#32
  let v720 : BitVec 32 := Scalar.muli v719 c8_i32_275
  let c1_i32_276 : BitVec 32 := 1#32
  let v721 : BitVec 32 := Scalar.addi v720 c1_i32_276
  let c8_i32_277 : BitVec 32 := 8#32
  let v722 : BitVec 32 := Scalar.muli v721 c8_i32_277
  v722
def k0_mult12 : BitVec 32 :=
  let c0_i32_166 : BitVec 32 := 0#32
  let c2_i32_285 : BitVec 32 := 2#32
  let v745 : BitVec 32 := Scalar.muli c0_i32_166 c2_i32_285
  let c0_i32_286 : BitVec 32 := 0#32
  let v746 : BitVec 32 := Scalar.addi v745 c0_i32_286
  let c8_i32_287 : BitVec 32 := 8#32
  let v747 : BitVec 32 := Scalar.muli v746 c8_i32_287
  let c2_i32_288 : BitVec 32 := 2#32
  let v748 : BitVec 32 := Scalar.addi v747 c2_i32_288
  let c8_i32_289 : BitVec 32 := 8#32
  let v749 : BitVec 32 := Scalar.muli v748 c8_i32_289
  v749
def k0_mult13 : BitVec 32 :=
  let c0_i32_166 : BitVec 32 := 0#32
  let c2_i32_297 : BitVec 32 := 2#32
  let v772 : BitVec 32 := Scalar.muli c0_i32_166 c2_i32_297
  let c0_i32_298 : BitVec 32 := 0#32
  let v773 : BitVec 32 := Scalar.addi v772 c0_i32_298
  let c8_i32_299 : BitVec 32 := 8#32
  let v774 : BitVec 32 := Scalar.muli v773 c8_i32_299
  let c3_i32_300 : BitVec 32 := 3#32
  let v775 : BitVec 32 := Scalar.addi v774 c3_i32_300
  let c8_i32_301 : BitVec 32 := 8#32
  let v776 : BitVec 32 := Scalar.muli v775 c8_i32_301
  v776
def k0_mult14 : BitVec 32 :=
  let c0_i32_166 : BitVec 32 := 0#32
  let c2_i32_309 : BitVec 32 := 2#32
  let v799 : BitVec 32 := Scalar.muli c0_i32_166 c2_i32_309
  let c0_i32_310 : BitVec 32 := 0#32
  let v800 : BitVec 32 := Scalar.addi v799 c0_i32_310
  let c8_i32_311 : BitVec 32 := 8#32
  let v801 : BitVec 32 := Scalar.muli v800 c8_i32_311
  let c4_i32_312 : BitVec 32 := 4#32
  let v802 : BitVec 32 := Scalar.addi v801 c4_i32_312
  let c8_i32_313 : BitVec 32 := 8#32
  let v803 : BitVec 32 := Scalar.muli v802 c8_i32_313
  v803
def k0_mult15 : BitVec 32 :=
  let c0_i32_166 : BitVec 32 := 0#32
  let c2_i32_321 : BitVec 32 := 2#32
  let v826 : BitVec 32 := Scalar.muli c0_i32_166 c2_i32_321
  let c0_i32_322 : BitVec 32 := 0#32
  let v827 : BitVec 32 := Scalar.addi v826 c0_i32_322
  let c8_i32_323 : BitVec 32 := 8#32
  let v828 : BitVec 32 := Scalar.muli v827 c8_i32_323
  let c5_i32_324 : BitVec 32 := 5#32
  let v829 : BitVec 32 := Scalar.addi v828 c5_i32_324
  let c8_i32_325 : BitVec 32 := 8#32
  let v830 : BitVec 32 := Scalar.muli v829 c8_i32_325
  v830
def k0_mult16 : BitVec 32 :=
  let c0_i32_166 : BitVec 32 := 0#32
  let c2_i32_333 : BitVec 32 := 2#32
  let v853 : BitVec 32 := Scalar.muli c0_i32_166 c2_i32_333
  let c0_i32_334 : BitVec 32 := 0#32
  let v854 : BitVec 32 := Scalar.addi v853 c0_i32_334
  let c8_i32_335 : BitVec 32 := 8#32
  let v855 : BitVec 32 := Scalar.muli v854 c8_i32_335
  let c6_i32_336 : BitVec 32 := 6#32
  let v856 : BitVec 32 := Scalar.addi v855 c6_i32_336
  let c8_i32_337 : BitVec 32 := 8#32
  let v857 : BitVec 32 := Scalar.muli v856 c8_i32_337
  v857
def k0_mult17 : BitVec 32 :=
  let c0_i32_166 : BitVec 32 := 0#32
  let c2_i32_345 : BitVec 32 := 2#32
  let v880 : BitVec 32 := Scalar.muli c0_i32_166 c2_i32_345
  let c0_i32_346 : BitVec 32 := 0#32
  let v881 : BitVec 32 := Scalar.addi v880 c0_i32_346
  let c8_i32_347 : BitVec 32 := 8#32
  let v882 : BitVec 32 := Scalar.muli v881 c8_i32_347
  let c7_i32_348 : BitVec 32 := 7#32
  let v883 : BitVec 32 := Scalar.addi v882 c7_i32_348
  let c8_i32_349 : BitVec 32 := 8#32
  let v884 : BitVec 32 := Scalar.muli v883 c8_i32_349
  v884
def k0_mult18 : BitVec 32 :=
  let c0_i32_166 : BitVec 32 := 0#32
  let c2_i32_357 : BitVec 32 := 2#32
  let v907 : BitVec 32 := Scalar.muli c0_i32_166 c2_i32_357
  let c1_i32_358 : BitVec 32 := 1#32
  let v908 : BitVec 32 := Scalar.addi v907 c1_i32_358
  let c8_i32_359 : BitVec 32 := 8#32
  let v909 : BitVec 32 := Scalar.muli v908 c8_i32_359
  let c0_i32_360 : BitVec 32 := 0#32
  let v910 : BitVec 32 := Scalar.addi v909 c0_i32_360
  let c8_i32_361 : BitVec 32 := 8#32
  let v911 : BitVec 32 := Scalar.muli v910 c8_i32_361
  v911
def k0_mult19 : BitVec 32 :=
  let c0_i32_166 : BitVec 32 := 0#32
  let c2_i32_369 : BitVec 32 := 2#32
  let v934 : BitVec 32 := Scalar.muli c0_i32_166 c2_i32_369
  let c1_i32_370 : BitVec 32 := 1#32
  let v935 : BitVec 32 := Scalar.addi v934 c1_i32_370
  let c8_i32_371 : BitVec 32 := 8#32
  let v936 : BitVec 32 := Scalar.muli v935 c8_i32_371
  let c1_i32_372 : BitVec 32 := 1#32
  let v937 : BitVec 32 := Scalar.addi v936 c1_i32_372
  let c8_i32_373 : BitVec 32 := 8#32
  let v938 : BitVec 32 := Scalar.muli v937 c8_i32_373
  v938
def k0_mult20 : BitVec 32 :=
  let c0_i32_166 : BitVec 32 := 0#32
  let c2_i32_381 : BitVec 32 := 2#32
  let v961 : BitVec 32 := Scalar.muli c0_i32_166 c2_i32_381
  let c1_i32_382 : BitVec 32 := 1#32
  let v962 : BitVec 32 := Scalar.addi v961 c1_i32_382
  let c8_i32_383 : BitVec 32 := 8#32
  let v963 : BitVec 32 := Scalar.muli v962 c8_i32_383
  let c2_i32_384 : BitVec 32 := 2#32
  let v964 : BitVec 32 := Scalar.addi v963 c2_i32_384
  let c8_i32_385 : BitVec 32 := 8#32
  let v965 : BitVec 32 := Scalar.muli v964 c8_i32_385
  v965
def k0_mult21 : BitVec 32 :=
  let c0_i32_166 : BitVec 32 := 0#32
  let c2_i32_393 : BitVec 32 := 2#32
  let v988 : BitVec 32 := Scalar.muli c0_i32_166 c2_i32_393
  let c1_i32_394 : BitVec 32 := 1#32
  let v989 : BitVec 32 := Scalar.addi v988 c1_i32_394
  let c8_i32_395 : BitVec 32 := 8#32
  let v990 : BitVec 32 := Scalar.muli v989 c8_i32_395
  let c3_i32_396 : BitVec 32 := 3#32
  let v991 : BitVec 32 := Scalar.addi v990 c3_i32_396
  let c8_i32_397 : BitVec 32 := 8#32
  let v992 : BitVec 32 := Scalar.muli v991 c8_i32_397
  v992
def k0_mult22 : BitVec 32 :=
  let c0_i32_166 : BitVec 32 := 0#32
  let c2_i32_405 : BitVec 32 := 2#32
  let v1015 : BitVec 32 := Scalar.muli c0_i32_166 c2_i32_405
  let c1_i32_406 : BitVec 32 := 1#32
  let v1016 : BitVec 32 := Scalar.addi v1015 c1_i32_406
  let c8_i32_407 : BitVec 32 := 8#32
  let v1017 : BitVec 32 := Scalar.muli v1016 c8_i32_407
  let c4_i32_408 : BitVec 32 := 4#32
  let v1018 : BitVec 32 := Scalar.addi v1017 c4_i32_408
  let c8_i32_409 : BitVec 32 := 8#32
  let v1019 : BitVec 32 := Scalar.muli v1018 c8_i32_409
  v1019
def k0_mult23 : BitVec 32 :=
  let c0_i32_166 : BitVec 32 := 0#32
  let c2_i32_417 : BitVec 32 := 2#32
  let v1042 : BitVec 32 := Scalar.muli c0_i32_166 c2_i32_417
  let c1_i32_418 : BitVec 32 := 1#32
  let v1043 : BitVec 32 := Scalar.addi v1042 c1_i32_418
  let c8_i32_419 : BitVec 32 := 8#32
  let v1044 : BitVec 32 := Scalar.muli v1043 c8_i32_419
  let c5_i32_420 : BitVec 32 := 5#32
  let v1045 : BitVec 32 := Scalar.addi v1044 c5_i32_420
  let c8_i32_421 : BitVec 32 := 8#32
  let v1046 : BitVec 32 := Scalar.muli v1045 c8_i32_421
  v1046
def k0_mult24 : BitVec 32 :=
  let c0_i32_166 : BitVec 32 := 0#32
  let c2_i32_429 : BitVec 32 := 2#32
  let v1069 : BitVec 32 := Scalar.muli c0_i32_166 c2_i32_429
  let c1_i32_430 : BitVec 32 := 1#32
  let v1070 : BitVec 32 := Scalar.addi v1069 c1_i32_430
  let c8_i32_431 : BitVec 32 := 8#32
  let v1071 : BitVec 32 := Scalar.muli v1070 c8_i32_431
  let c6_i32_432 : BitVec 32 := 6#32
  let v1072 : BitVec 32 := Scalar.addi v1071 c6_i32_432
  let c8_i32_433 : BitVec 32 := 8#32
  let v1073 : BitVec 32 := Scalar.muli v1072 c8_i32_433
  v1073
def k0_mult25 : BitVec 32 :=
  let c0_i32_166 : BitVec 32 := 0#32
  let c2_i32_441 : BitVec 32 := 2#32
  let v1096 : BitVec 32 := Scalar.muli c0_i32_166 c2_i32_441
  let c1_i32_442 : BitVec 32 := 1#32
  let v1097 : BitVec 32 := Scalar.addi v1096 c1_i32_442
  let c8_i32_443 : BitVec 32 := 8#32
  let v1098 : BitVec 32 := Scalar.muli v1097 c8_i32_443
  let c7_i32_444 : BitVec 32 := 7#32
  let v1099 : BitVec 32 := Scalar.addi v1098 c7_i32_444
  let c8_i32_445 : BitVec 32 := 8#32
  let v1100 : BitVec 32 := Scalar.muli v1099 c8_i32_445
  v1100
def k0_mult26 : BitVec 32 :=
  let c0_i32_166 : BitVec 32 := 0#32
  let c2_i32_453 : BitVec 32 := 2#32
  let v1123 : BitVec 32 := Scalar.muli c0_i32_166 c2_i32_453
  let c1_i32_454 : BitVec 32 := 1#32
  let v1124 : BitVec 32 := Scalar.addi v1123 c1_i32_454
  let c8_i32_455 : BitVec 32 := 8#32
  let v1125 : BitVec 32 := Scalar.muli v1124 c8_i32_455
  let c0_i32_456 : BitVec 32 := 0#32
  let v1126 : BitVec 32 := Scalar.addi v1125 c0_i32_456
  let c8_i32_457 : BitVec 32 := 8#32
  let v1127 : BitVec 32 := Scalar.muli v1126 c8_i32_457
  v1127
def k0_mult27 : BitVec 32 :=
  let c0_i32_166 : BitVec 32 := 0#32
  let c2_i32_465 : BitVec 32 := 2#32
  let v1150 : BitVec 32 := Scalar.muli c0_i32_166 c2_i32_465
  let c1_i32_466 : BitVec 32 := 1#32
  let v1151 : BitVec 32 := Scalar.addi v1150 c1_i32_466
  let c8_i32_467 : BitVec 32 := 8#32
  let v1152 : BitVec 32 := Scalar.muli v1151 c8_i32_467
  let c1_i32_468 : BitVec 32 := 1#32
  let v1153 : BitVec 32 := Scalar.addi v1152 c1_i32_468
  let c8_i32_469 : BitVec 32 := 8#32
  let v1154 : BitVec 32 := Scalar.muli v1153 c8_i32_469
  v1154
def k0_mult28 : BitVec 32 :=
  let c0_i32_166 : BitVec 32 := 0#32
  let c2_i32_477 : BitVec 32 := 2#32
  let v1177 : BitVec 32 := Scalar.muli c0_i32_166 c2_i32_477
  let c1_i32_478 : BitVec 32 := 1#32
  let v1178 : BitVec 32 := Scalar.addi v1177 c1_i32_478
  let c8_i32_479 : BitVec 32 := 8#32
  let v1179 : BitVec 32 := Scalar.muli v1178 c8_i32_479
  let c2_i32_480 : BitVec 32 := 2#32
  let v1180 : BitVec 32 := Scalar.addi v1179 c2_i32_480
  let c8_i32_481 : BitVec 32 := 8#32
  let v1181 : BitVec 32 := Scalar.muli v1180 c8_i32_481
  v1181
def k0_mult29 : BitVec 32 :=
  let c0_i32_166 : BitVec 32 := 0#32
  let c2_i32_489 : BitVec 32 := 2#32
  let v1204 : BitVec 32 := Scalar.muli c0_i32_166 c2_i32_489
  let c1_i32_490 : BitVec 32 := 1#32
  let v1205 : BitVec 32 := Scalar.addi v1204 c1_i32_490
  let c8_i32_491 : BitVec 32 := 8#32
  let v1206 : BitVec 32 := Scalar.muli v1205 c8_i32_491
  let c3_i32_492 : BitVec 32 := 3#32
  let v1207 : BitVec 32 := Scalar.addi v1206 c3_i32_492
  let c8_i32_493 : BitVec 32 := 8#32
  let v1208 : BitVec 32 := Scalar.muli v1207 c8_i32_493
  v1208
def k0_mult30 : BitVec 32 :=
  let c0_i32_166 : BitVec 32 := 0#32
  let c2_i32_501 : BitVec 32 := 2#32
  let v1231 : BitVec 32 := Scalar.muli c0_i32_166 c2_i32_501
  let c1_i32_502 : BitVec 32 := 1#32
  let v1232 : BitVec 32 := Scalar.addi v1231 c1_i32_502
  let c8_i32_503 : BitVec 32 := 8#32
  let v1233 : BitVec 32 := Scalar.muli v1232 c8_i32_503
  let c4_i32_504 : BitVec 32 := 4#32
  let v1234 : BitVec 32 := Scalar.addi v1233 c4_i32_504
  let c8_i32_505 : BitVec 32 := 8#32
  let v1235 : BitVec 32 := Scalar.muli v1234 c8_i32_505
  v1235
def k0_mult31 : BitVec 32 :=
  let c0_i32_166 : BitVec 32 := 0#32
  let c2_i32_513 : BitVec 32 := 2#32
  let v1258 : BitVec 32 := Scalar.muli c0_i32_166 c2_i32_513
  let c1_i32_514 : BitVec 32 := 1#32
  let v1259 : BitVec 32 := Scalar.addi v1258 c1_i32_514
  let c8_i32_515 : BitVec 32 := 8#32
  let v1260 : BitVec 32 := Scalar.muli v1259 c8_i32_515
  let c5_i32_516 : BitVec 32 := 5#32
  let v1261 : BitVec 32 := Scalar.addi v1260 c5_i32_516
  let c8_i32_517 : BitVec 32 := 8#32
  let v1262 : BitVec 32 := Scalar.muli v1261 c8_i32_517
  v1262
def k0_mult32 : BitVec 32 :=
  let c0_i32_166 : BitVec 32 := 0#32
  let c2_i32_525 : BitVec 32 := 2#32
  let v1285 : BitVec 32 := Scalar.muli c0_i32_166 c2_i32_525
  let c1_i32_526 : BitVec 32 := 1#32
  let v1286 : BitVec 32 := Scalar.addi v1285 c1_i32_526
  let c8_i32_527 : BitVec 32 := 8#32
  let v1287 : BitVec 32 := Scalar.muli v1286 c8_i32_527
  let c6_i32_528 : BitVec 32 := 6#32
  let v1288 : BitVec 32 := Scalar.addi v1287 c6_i32_528
  let c8_i32_529 : BitVec 32 := 8#32
  let v1289 : BitVec 32 := Scalar.muli v1288 c8_i32_529
  v1289
def k0_mult33 : BitVec 32 :=
  let c0_i32_166 : BitVec 32 := 0#32
  let c2_i32_537 : BitVec 32 := 2#32
  let v1312 : BitVec 32 := Scalar.muli c0_i32_166 c2_i32_537
  let c1_i32_538 : BitVec 32 := 1#32
  let v1313 : BitVec 32 := Scalar.addi v1312 c1_i32_538
  let c8_i32_539 : BitVec 32 := 8#32
  let v1314 : BitVec 32 := Scalar.muli v1313 c8_i32_539
  let c7_i32_540 : BitVec 32 := 7#32
  let v1315 : BitVec 32 := Scalar.addi v1314 c7_i32_540
  let c8_i32_541 : BitVec 32 := 8#32
  let v1316 : BitVec 32 := Scalar.muli v1315 c8_i32_541
  v1316
def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c2_i32 : BitVec 32 := 2#32
  let c0_i32 : BitVec 32 := 0#32
  ![v1.toNat, c2_i32.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c3_i32 : BitVec 32 := 3#32
  let c0_i32 : BitVec 32 := 0#32
  ![v1.toNat, c3_i32.toNat]

def cc0_transform_2 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c4_i32 : BitVec 32 := 4#32
  let c0_i32 : BitVec 32 := 0#32
  ![v1.toNat, c4_i32.toNat]

def cc0_transform_3 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c5_i32 : BitVec 32 := 5#32
  let c0_i32 : BitVec 32 := 0#32
  ![v1.toNat, c5_i32.toNat]

def cc0_transform_4 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Proof.LruMath.lean ====
/- The arithmetic of the RG-LRU over the extended reals: the gates, the decay, the two spellings of the input multiplier,
   and the logarithmic-step scan of eight rows. Nothing here mentions a program. -/
module
public import Idealize.ShloMosaic.Lib.Pointwise
public import Idealize.ShloMosaic.Lib.Pipeline.ValueKit
@[expose] public section
noncomputable section
open Idealize.ShloMosaic
namespace Cert.LruMath

/-- The logistic gate as both programs compute it. -/
def sg (z : EReal) : EReal := Ideal.div 1 (1 + Ideal.exp (-z))

/-- The stable softplus of `x`. -/
def sp (x : EReal) : EReal := max x 0 + Ideal.log1p (Ideal.exp (-max x (-x)))

/-- The logarithm of the decay: `-8 * r * softplus(-lam)`. -/
def la (r lam : EReal) : EReal := Ideal.ofBits FTy.f32 0xC1000000#32 * r * sp (-lam)

/-- The input multiplier, the reference's spelling. -/
def mulRef (l : EReal) : EReal := Ideal.sqrt (-(Ideal.exp (Ideal.ofBits FTy.f32 0x40000000#32 * l) - 1))

/-- The input multiplier, the kernel's spelling. -/
def mulKer (l : EReal) : EReal :=
  Ideal.sqrt (Ideal.div (Ideal.ofBits FTy.f32 0xC0000000#32 * Ideal.tanh l) (1 - Ideal.tanh l))

theorem word_neg8 : Ideal.ofBits FTy.f32 0xC1000000#32 = ((-8 : ℝ) : EReal) := by
  simp [Ideal.ofBits, Ideal.ieee, -EReal.coe_mul, -EReal.coe_neg]; norm_num
theorem word_two : Ideal.ofBits FTy.f32 0x40000000#32 = ((2 : ℝ) : EReal) := by
  simp [Ideal.ofBits, Ideal.ieee, -EReal.coe_mul, -EReal.coe_neg]; norm_num
theorem word_neg2 : Ideal.ofBits FTy.f32 0xC0000000#32 = ((-2 : ℝ) : EReal) := by
  simp [Ideal.ofBits, Ideal.ieee, -EReal.coe_mul, -EReal.coe_neg]; norm_num

theorem exp_nonneg (x : EReal) : 0 ≤ Ideal.exp x := by
  induction x using EReal.rec with
  | bot => simp
  | top => simp
  | coe r => rw [Ideal.exp_coe]; exact_mod_cast (Real.exp_pos r).le

theorem exp_ne_top {x : EReal} (h : x ≤ 0) : Ideal.exp x ≠ ⊤ := by
  induction x using EReal.rec with
  | bot => simp
  | top => simp at h
  | coe r => simp

theorem sg_mem (z : EReal) : ∃ r : ℝ, 0 ≤ r ∧ sg z = (r : EReal) := by
  induction z using EReal.rec with
  | bot =>
    refine ⟨0, le_refl _, ?_⟩
    have h : (1 : EReal) + ⊤ = ⊤ := EReal.coe_add_top 1
    unfold sg
    rw [EReal.neg_bot, Ideal.exp_top, h]
    simp [Ideal.div]
  | top => exact ⟨1, by norm_num, by simp [sg, Ideal.div]⟩
  | coe r =>
    have hp : (0 : ℝ) < 1 + Real.exp (-r) := by positivity
    refine ⟨(1 + Real.exp (-r))⁻¹, by positivity, ?_⟩
    have h1 : (1 : EReal) + Ideal.exp (-(r : EReal)) = ((1 + Real.exp (-r) : ℝ) : EReal) := by
      rw [← EReal.coe_neg, Ideal.exp_coe]; push_cast; rfl
    unfold sg
    rw [h1]
    unfold Ideal.div
    rw [if_neg (by exact_mod_cast hp.ne'), one_mul, ← EReal.coe_inv]

theorem log1p_exp_nonneg (x : EReal) : 0 ≤ Ideal.log1p (Ideal.exp x) := by
  induction x using EReal.rec with
  | bot =>
    rw [Ideal.exp_bot, Ideal.log1p, add_zero, show (1 : EReal) = ((1 : ℝ) : EReal) by rfl, Ideal.log_coe]
    norm_num
  | top =>
    rw [Ideal.exp_top, Ideal.log1p, show (1 : EReal) + ⊤ = ⊤ from EReal.coe_add_top 1, Ideal.log_top]
    exact le_top
  | coe r =>
    have h1 : (1 : EReal) + Ideal.exp (r : EReal) = ((1 + Real.exp r : ℝ) : EReal) := by simp
    have hp := Real.exp_pos r
    have hn : ¬ (1 + Real.exp r ≤ 0) := by linarith
    have hl : 0 ≤ Real.log (1 + Real.exp r) := Real.log_nonneg (by linarith)
    unfold Ideal.log1p
    rw [h1]
    rw [Ideal.log_coe, if_neg hn]; exact_mod_cast hl

theorem sp_nonneg (x : EReal) : 0 ≤ sp x :=
  add_nonneg (le_max_right _ _) (log1p_exp_nonneg _)

theorem la_nonpos (z lam : EReal) : la (sg z) lam ≤ 0 := by
  obtain ⟨r, hr, e⟩ := sg_mem z
  unfold la
  rw [e, word_neg8, ← EReal.coe_mul, show (-8 * r : ℝ) = -(8 * r) by ring, EReal.coe_neg, EReal.neg_mul]
  have h : (0 : EReal) ≤ ((8 * r : ℝ) : EReal) * sp (-lam) :=
    mul_nonneg (by exact_mod_cast (by linarith : (0 : ℝ) ≤ 8 * r)) (sp_nonneg _)
  simpa using EReal.neg_le_neg_iff.mpr h

theorem mulKer_eq {l : EReal} (h : l ≤ 0) : mulKer l = mulRef l := by
  unfold mulKer mulRef
  rw [word_two, word_neg2]
  congr 1
  induction l using EReal.rec with
  | top => simp at h
  | bot =>
    have e1 : (1 : EReal) - Ideal.tanh ⊥ = ((2 : ℝ) : EReal) := by
      rw [Ideal.tanh_bot]
      rw [show (1 : EReal) - -1 = ((1 - (-1) : ℝ) : EReal) by push_cast; rfl]; norm_num
    rw [e1, EReal.coe_mul_bot_of_pos (by norm_num)]
    rw [Ideal.tanh_bot, Ideal.exp_bot]; unfold Ideal.div
    rw [if_neg (by norm_num), show ((-2 : ℝ) : EReal) * -1 = ((2 : ℝ) : EReal) by
      rw [show (-1 : EReal) = ((-1 : ℝ) : EReal) by rfl, ← EReal.coe_mul]; norm_num, ← EReal.coe_inv, ← EReal.coe_mul]
    simp
  | coe x =>
    have ht : Real.tanh x < 1 := Real.tanh_lt_one x
    have e1 : (1 : EReal) - Ideal.tanh (x : EReal) = ((1 - Real.tanh x : ℝ) : EReal) := by simp
    have e2 : Ideal.tanh (x : EReal) = ((Real.tanh x : ℝ) : EReal) := rfl
    rw [e1, e2, ← EReal.coe_mul, ← EReal.coe_mul]
    unfold Ideal.div
    rw [if_neg (by exact_mod_cast (by linarith : (1 - Real.tanh x : ℝ) ≠ 0)), ← EReal.coe_inv, ← EReal.coe_mul]
    have e3 : Ideal.exp ((2 * x : ℝ) : EReal) = ((Real.exp (2 * x) : ℝ) : EReal) := rfl
    rw [e3, show (1 : EReal) = ((1 : ℝ) : EReal) by rfl, ← EReal.coe_sub, ← EReal.coe_neg]
    congr 1
    have hc : 0 < Real.cosh x := Real.cosh_pos x
    have hd : Real.cosh x - Real.sinh x = Real.exp (-x) := Real.cosh_sub_sinh x
    have hex : Real.exp (-x) * Real.exp x = 1 := by rw [← Real.exp_add]; simp
    have h2 : Real.exp (2 * x) = Real.exp x * Real.exp x := by rw [← Real.exp_add]; ring_nf
    have hne : Real.exp (-x) ≠ 0 := (Real.exp_pos _).ne'
    have hone : 1 - Real.tanh x = Real.exp (-x) / Real.cosh x := by
      rw [Real.tanh_eq_sinh_div_cosh, ← hd]; field_simp
    rw [hone, Real.tanh_eq_sinh_div_cosh, Real.sinh_eq, h2]
    field_simp
    linear_combination (Real.exp x - Real.exp (-x) * (Real.exp x * Real.exp x) * 0) * (hex)

/-- The distributive law for a multiplier that is a nonnegative real. -/
theorem mul_add' {a : EReal} (h0 : 0 ≤ a) (ht : a ≠ ⊤) (x y : EReal) : a * (x + y) = a * x + a * y := by
  lift a to ℝ using ⟨ht, fun e => by rw [e] at h0; simp at h0⟩
  exact EReal.left_distrib_of_nonneg_of_ne_top h0 ht x y

/-- Row `q` of a scan's partial result: `h (q + 1)` from `h (q + 1 - d)`. -/
def Aff (h A B : ℕ → EReal) (d : ℕ) : Prop := ∀ q < 8, h (q + 1) = A q * h (q + 1 - d) + B q

/-- One doubling step of the scan's products. -/
def stA (A : ℕ → EReal) (d q : ℕ) : EReal := if d ≤ q then A q * A (q - d) else A q
/-- One doubling step of the scan's sums. -/
def stB (A B : ℕ → EReal) (d q : ℕ) : EReal := if d ≤ q then A q * B (q - d) + B q else B q

theorem stA_ok {A : ℕ → EReal} (hA : ∀ q, 0 ≤ A q ∧ A q ≠ ⊤) (d : ℕ) : ∀ q, 0 ≤ stA A d q ∧ stA A d q ≠ ⊤ := by
  intro q
  unfold stA
  split
  · obtain ⟨h1, h2⟩ := hA q
    obtain ⟨h3, h4⟩ := hA (q - d)
    refine ⟨mul_nonneg h1 h3, ?_⟩
    lift A q to ℝ using ⟨h2, fun e => by rw [e] at h1; simp at h1⟩ with x
    lift A (q - d) to ℝ using ⟨h4, fun e => by rw [e] at h3; simp at h3⟩ with y
    rw [← EReal.coe_mul]; exact EReal.coe_ne_top _
  · exact hA q

theorem Aff.double {h A B : ℕ → EReal} {d : ℕ} (hd : 0 < d) (hA : ∀ q, 0 ≤ A q ∧ A q ≠ ⊤) (H : Aff h A B d) :
    Aff h (stA A d) (stB A B d) (2 * d) := by
  intro q hq
  unfold stA stB
  split
  · rename_i hle
    rw [H q hq, show q + 1 - d = (q - d) + 1 by omega, H (q - d) (by omega),
      mul_add' (hA q).1 (hA q).2, show q - d + 1 - d = q + 1 - 2 * d by omega, mul_assoc, add_assoc]
  · rename_i hle
    rw [H q hq, show q + 1 - d = q + 1 - 2 * d by omega]

/-- THE SCAN of eight rows: three doubling steps give every row from the carried value. -/
theorem scan8 {h a b : ℕ → EReal} (ha : ∀ q, 0 ≤ a q ∧ a q ≠ ⊤) (H : ∀ q < 8, h (q + 1) = a q * h q + b q) :
    ∀ q < 8, h (q + 1) = stA (stA (stA a 1) 2) 4 q * h 0 + stB (stA (stA a 1) 2) (stB (stA a 1) (stB a b 1) 2) 4 q := by
  have h1 : Aff h a b 1 := fun q hq => by simpa using H q hq
  have h2 := h1.double one_pos ha
  have h3 : Aff h _ _ 4 := h2.double two_pos (stA_ok ha 1)
  have h4 := h3.double (by norm_num) (stA_ok (stA_ok ha 1) 2)
  intro q hq
  have := h4 q hq
  rwa [show q + 1 - 2 * 4 = 0 by omega] at this

/-- The recurrence. -/
def Hrec (a b : ℕ → EReal) : ℕ → EReal
  | 0 => 0
  | n + 1 => a n * Hrec a b n + b n

/-! ## The layer's value, entry by entry

`P` is the projected activation: columns `0 … 1023` the convolved input, columns `1024 … 2047` the output gate's input. -/

abbrev SP : Shape := ⟨2, ![16384, 6144]⟩
abbrev SW : Shape := ⟨3, ![8, 128, 128]⟩
abbrev SB : Shape := ⟨2, ![8, 128]⟩
abbrev SC : Shape := ⟨1, ![1024]⟩

/-- A gate's logit at row `n`, channel `c`. -/
def zg (P : SP.Idx → EReal) (W : SW.Idx → EReal) (b : SB.Idx → EReal) (n : Fin 16384) (c : Fin 1024) : EReal :=
  (∑ k : Fin 128, P (ix2 n ⟨c.val / 128 * 128 + k.val, by omega⟩) * W (ix3 ⟨c.val / 128, by omega⟩ k ⟨c.val % 128, by omega⟩))
    + b (ix2 ⟨c.val / 128, by omega⟩ ⟨c.val % 128, by omega⟩)

/-- The decay's logarithm at row `n`, channel `c`. -/
def laAt (P : SP.Idx → EReal) (Wr : SW.Idx → EReal) (br : SB.Idx → EReal) (lam : SC.Idx → EReal) (n : Fin 16384) (c : Fin 1024) : EReal :=
  la (sg (zg P Wr br n c)) (lam (ix1 c))

/-- The recurrence's input at row `n`, channel `c`. -/
def bAt (P : SP.Idx → EReal) (Wr : SW.Idx → EReal) (br : SB.Idx → EReal) (Wi : SW.Idx → EReal) (bi : SB.Idx → EReal) (lam : SC.Idx → EReal)
    (n : Fin 16384) (c : Fin 1024) : EReal :=
  mulRef (laAt P Wr br lam n c) * (sg (zg P Wi bi n c) * P (ix2 n ⟨c.val, by omega⟩))

/-- The hidden state of sequence `s` after `n` steps, channel `c`. -/
def hAt (P : SP.Idx → EReal) (Wr : SW.Idx → EReal) (br : SB.Idx → EReal) (Wi : SW.Idx → EReal) (bi : SB.Idx → EReal) (lam : SC.Idx → EReal)
    (s : Fin 2) (c : Fin 1024) : ℕ → EReal :=
  Hrec (fun t => if h : t < 8192 then Ideal.exp (laAt P Wr br lam ⟨s.val * 8192 + t, by omega⟩ c) else 0)
    (fun t => if h : t < 8192 then bAt P Wr br Wi bi lam ⟨s.val * 8192 + t, by omega⟩ c else 0)

theorem hAt_succ (P : SP.Idx → EReal) (Wr : SW.Idx → EReal) (br : SB.Idx → EReal) (Wi : SW.Idx → EReal) (bi : SB.Idx → EReal) (lam : SC.Idx → EReal)
    (s : Fin 2) (c : Fin 1024) (n : ℕ) (hn : n < 8192) :
    hAt P Wr br Wi bi lam s c (n + 1)
      = Ideal.exp (laAt P Wr br lam ⟨s.val * 8192 + n, by omega⟩ c) * hAt P Wr br Wi bi lam s c n
        + bAt P Wr br Wi bi lam ⟨s.val * 8192 + n, by omega⟩ c := by
  show (if h : n < 8192 then _ else _) * _ + (if h : n < 8192 then _ else _) = _
  rw [dif_pos hn, dif_pos hn]; rfl

/-- The hidden state times the gate's GELU. -/
def yv (h g : EReal) : EReal :=
  h * (g * (Ideal.ofBits .f32 0x3F000000#32
    * (1 + Ideal.tanh (Ideal.ofBits .f32 0x3F4C422A#32 * (g + Ideal.ofBits .f32 0x3D372713#32 * (g * g * g))))))

/-- One row's normalised output at channel `c`: `y` the row, `on` the norm's weight. -/
def norm1 (y : Fin 1024 → EReal) (on : EReal) (c : Fin 1024) : EReal :=
  y c * Ideal.rsqrt (Ideal.div (∑ k : Fin 1024, y k * y k) (Ideal.ofBits .f32 0x44800000#32) + Ideal.ofBits .f32 0x358637BD#32) * on

/-- THE RESULT at row `n`, channel `c`. -/
def outAt (P : SP.Idx → EReal) (Wr : SW.Idx → EReal) (br : SB.Idx → EReal) (Wi : SW.Idx → EReal) (bi : SB.Idx → EReal) (lam on : SC.Idx → EReal)
    (n : Fin 16384) (c : Fin 1024) : EReal :=
  norm1 (fun k => yv (hAt P Wr br Wi bi lam ⟨n.val / 8192, by omega⟩ k (n.val % 8192 + 1)) (P (ix2 n ⟨1024 + k.val, by omega⟩))) (on (ix1 c)) c

end Cert.LruMath
end
-- ==== Proof.RouteMath.lean ====
/- The two greatest of eight numbers, the earlier first among equals. -/
module
public import proofs.«01_k».proof.Proof.LruMath
public import Idealize.ShloMosaic.Lib.PlanTiles.StableSort
@[expose] public section
set_option maxRecDepth 16384
noncomputable section
open Idealize.ShloMosaic Idealize.ShloMosaic.TcCoe Idealize.SL.Sem

namespace Cert.Pick

/-- `a` is the first of the greatest entries. -/
def IsTop (f : Fin 8 → EReal) (a : Fin 8) : Prop := ∀ x, f x ≤ f a ∧ (f x = f a → a ≤ x)

/-- `b` is the first of the greatest entries other than `a`. -/
def IsNext (f : Fin 8 → EReal) (a b : Fin 8) : Prop := b ≠ a ∧ ∀ x, x ≠ a → f x ≤ f b ∧ (f x = f b → b ≤ x)

/-- The positions in descending order, equal entries in the order they stand. -/
def place (f : Fin 8 → EReal) (k : Fin 8) : Fin 8 := sortedFrom (fun x y => decide (f y < f x)) k

/-- The number of entries below one. -/
def below (f : Fin 8 → EReal) (k : Fin 8) : ℕ := (Finset.univ.filter fun x => f x < f k).card

theorem below_lt (f : Fin 8 → EReal) (x y : Fin 8) : below f x < below f y ↔ f x < f y := by
  have le : ∀ u v, f u ≤ f v → below f u ≤ below f v := fun u v h => Finset.card_le_card (by
    intro z; simp only [Finset.mem_filter, Finset.mem_univ, true_and]; exact fun hz => lt_of_lt_of_le hz h)
  constructor
  · intro h; by_contra hn; exact absurd h (not_lt.mpr (le _ _ (not_lt.mp hn)))
  · intro h
    refine Finset.card_lt_card (Finset.ssubset_iff_of_subset ?_ |>.mpr ⟨x, ?_, ?_⟩)
    · intro z; simp only [Finset.mem_filter, Finset.mem_univ, true_and]; exact fun hz => lt_trans hz h
    · simpa only [Finset.mem_filter, Finset.mem_univ, true_and] using h
    · simp only [Finset.mem_filter, Finset.mem_univ, true_and, lt_irrefl, not_false_eq_true]

theorem place_lt (f : Fin 8 → EReal) (i j : Fin 8) (h : i < j) :
    f (place f j) < f (place f i) ∨ (f (place f i) = f (place f j) ∧ place f i < place f j) := by
  have e : (fun x y : Fin 8 => decide (f y < f x)) = fun x y => decide (below f y < below f x) := by
    funext x y; exact decide_eq_decide.mpr (below_lt f y x).symm
  have hp := PlanTiles.pairwise_stableSort_lex (below f) (· < ·) (List.finRange 8) (List.pairwise_lt_finRange 8)
  rw [← e] at hp
  have hl := length_sortPositions 8 (fun x y : Fin 8 => decide (f y < f x))
  have := List.pairwise_iff_get.mp hp (i.cast hl.symm) (j.cast hl.symm) h
  rcases this with h1 | ⟨h1, h2⟩
  · exact Or.inl ((below_lt f _ _).mp h1)
  · refine Or.inr ⟨le_antisymm ?_ ?_, h2⟩
    · exact not_lt.mp fun hn => absurd h1 (ne_of_gt ((below_lt f _ _).mpr hn))
    · exact not_lt.mp fun hn => absurd h1 (ne_of_lt ((below_lt f _ _).mpr hn))

theorem place_top (f : Fin 8 → EReal) : IsTop f (place f 0) := fun x => by
  obtain ⟨k, rfl⟩ := sortedFrom_surjective (fun x y : Fin 8 => decide (f y < f x)) x
  change f (place f k) ≤ f (place f 0) ∧ (f (place f k) = f (place f 0) → place f 0 ≤ place f k)
  rcases eq_or_lt_of_le (Fin.zero_le k) with h | h
  · subst h; exact ⟨le_rfl, fun _ => le_rfl⟩
  · rcases place_lt f 0 k h with h1 | ⟨h1, h2⟩
    · exact ⟨h1.le, fun e => absurd e (ne_of_lt h1)⟩
    · exact ⟨h1.ge, fun _ => h2.le⟩

theorem place_next (f : Fin 8 → EReal) : IsNext f (place f 0) (place f 1) := by
  refine ⟨fun e => absurd (sortedFrom_injective _ e) (by decide), fun x => ?_⟩
  obtain ⟨k, rfl⟩ := sortedFrom_surjective (fun x y : Fin 8 => decide (f y < f x)) x
  change place f k ≠ place f 0 → f (place f k) ≤ f (place f 1) ∧ (f (place f k) = f (place f 1) → place f 1 ≤ place f k)
  intro hk
  have hk0 : k ≠ 0 := fun e => hk (by rw [e])
  rcases lt_trichotomy k 1 with h | h | h
  · exact absurd (by omega : k = 0) hk0
  · subst h; exact ⟨le_rfl, fun _ => le_rfl⟩
  · rcases place_lt f 1 k h with h1 | ⟨h1, h2⟩
    · exact ⟨h1.le, fun e => absurd e (ne_of_lt h1)⟩
    · exact ⟨h1.ge, fun _ => h2.le⟩

/-- Folding the maximum from the least number gives the greatest entry. -/
theorem fold_max (f : Fin 8 → EReal) (a : Fin 8) (h : IsTop f a) : Finset.fold max (⊥ : EReal) f Finset.univ = f a := by
  refine le_antisymm ?_ ?_
  · exact (Finset.fold_max_le _).mpr ⟨bot_le, fun x _ => (h x).1⟩
  · exact (Finset.le_fold_max _).mpr (Or.inr ⟨a, Finset.mem_univ _, le_rfl⟩)

theorem fold_min_bool : ∀ (b : Fin 8 → Bool) (a : Fin 8), b a = true → (∀ x, b x = true → a ≤ x) →
    Finset.fold IntOp.minsi (2147483647#32) (fun x : Fin 8 => if b x = true then BitVec.ofNat 32 x.val else 8#32) Finset.univ
      = BitVec.ofNat 32 a.val := by
  decide +kernel

/-- Folding the minimum over the positions that hold the greatest entry gives the first of them. -/
theorem fold_min (f : Fin 8 → EReal) (a : Fin 8) (h : IsTop f a) :
    Finset.fold IntOp.minsi (2147483647#32) (fun x : Fin 8 => if f x = f a then BitVec.ofNat 32 x.val else 8#32) Finset.univ
      = BitVec.ofNat 32 a.val := by
  have := fold_min_bool (fun x => decide (f x = f a)) a (decide_eq_true rfl) (fun x hx => (h x).2 (of_decide_eq_true hx))
  simpa only [decide_eq_true_eq] using this

theorem word_inj : ∀ a b : Fin 8, BitVec.ofNat 32 a.val = BitVec.ofNat 32 b.val ↔ a = b := by decide +kernel

/-- The entries with `a`'s put at the bottom. -/
def drop (f : Fin 8 → EReal) (a x : Fin 8) : EReal := if x = a then ⊥ else f x

theorem drop_top (f : Fin 8 → EReal) (a b : Fin 8) (hb : IsNext f a b) (hf : ∀ x, f x ≠ ⊥) : IsTop (drop f a) b := fun x => by
  unfold drop
  rw [if_neg hb.1]
  by_cases hx : x = a
  · rw [if_pos hx]; exact ⟨bot_le, fun e => absurd e.symm (hf b)⟩
  · rw [if_neg hx]; exact hb.2 x hx

/-- The second entry's share against the first's. -/
def ratio (f : Fin 8 → EReal) : EReal := Ideal.exp (f (place f 1) - f (place f 0))

/-- A row of the choices: the first place, the second place, and zeros. -/
def pickRow (f : Fin 8 → EReal) (r : Fin 8) : BitVec 32 :=
  if r.val = 0 then BitVec.ofNat 32 (place f 0).val else if r.val = 1 then BitVec.ofNat 32 (place f 1).val else 0#32

/-- A column of the weights: the first entry's, the second entry's, and zeros. -/
def pickWeight (f : Fin 8 → EReal) (j : Fin 128) : EReal :=
  if j.val = 0 then Ideal.div 1 (1 + ratio f) else if j.val = 1 then Ideal.div (ratio f) (1 + ratio f) else 0

end Cert.Pick
end
-- ==== Proof.RouteKer.lean ====
/- The routing kernel's block, read at an index: the two greatest logits of a token and their weights. -/
module
public import proofs.«01_k».proof.Proof.Gen.RouteIdeal.Value
public import proofs.«01_k».proof.Proof.RouteMath
public import Idealize.ShloMosaic.Lib.WritesUnit
public import Idealize.ShloMosaic.Lib.VecWindow
@[expose] public section
set_option maxRecDepth 16384
noncomputable section
open Idealize.ShloMosaic Idealize.ShloMosaic.TcCoe Idealize.SL.Sem

namespace Cert.RouteIdeal.Pick
open Cert.RouteIdeal Cert.RouteIdeal.Gen Cert.LruMath Cert.Pick

section
variable (x : Vec Ideal S8x512 .f32) (n : Fin 512)

/-- The token's eight logits. -/
def lg (k : Fin 8) : EReal := x (ix2 k n)

theorem bits_bot : Ideal.ofBits .f32 4286578688#32 = ⊥ := by
  simp [Ideal.ofBits, Ideal.ieee]

theorem pay5_at : k0_pay5 x (ix2 (0 : Fin 1) n) = lg x n (place (lg x n) 0) := by
  refine Eq.trans ?_ (fold_max (lg x n) _ (place_top _))
  pointwise [k0_pay5]
  rw [bits_bot]; rfl

theorem pay6_at : k0_pay6 x (ix2 (0 : Fin 1) n) = BitVec.ofNat 32 (place (lg x n) 0).val := by
  refine Eq.trans ?_ (fold_min (lg x n) _ (place_top _))
  pointwise [k0_pay6, pay5_at]
  rfl

theorem word_same : ∀ a b : Fin 8, IntOp.cmpi .eq (BitVec.ofNat 32 a.val) (BitVec.ofNat 32 b.val) = 1#1 ↔ a = b := by decide +kernel
theorem word_other : ∀ a b : Fin 8, a ≠ b → IntOp.cmpi .eq (BitVec.ofNat 32 a.val) (BitVec.ofNat 32 b.val) = 0#1 := by decide +kernel

theorem pay8_at (k : Fin 8) : k0_pay8 x (ix2 k n) = Pick.drop (lg x n) (place (lg x n) 0) k := by
  pointwise [k0_pay8, k0_pay7, pay6_at]
  rw [bits_bot]
  unfold Pick.drop
  by_cases h : k = place (lg x n) 0
  · rw [if_pos h, h, (word_same _ _).mpr rfl]; rfl
  · rw [if_neg h, word_other _ _ h]; rfl

theorem drop_place (hf : ∀ k, lg x n k ≠ ⊥) : IsTop (Pick.drop (lg x n) (place (lg x n) 0)) (place (lg x n) 1) :=
  drop_top _ _ _ (place_next _) hf

theorem pay9_at (hf : ∀ k, lg x n k ≠ ⊥) : k0_pay9 x (ix2 (0 : Fin 1) n) = lg x n (place (lg x n) 1) := by
  refine Eq.trans ?_ ((fold_max _ _ (drop_place x n hf)).trans (if_neg (place_next (lg x n)).1))
  pointwise [k0_pay9, pay8_at]
  rw [bits_bot]

theorem pay10_at (hf : ∀ k, lg x n k ≠ ⊥) : k0_pay10 x (ix2 (0 : Fin 1) n) = BitVec.ofNat 32 (place (lg x n) 1).val := by
  refine Eq.trans ?_ (fold_min _ _ (drop_place x n hf))
  have e : Pick.drop (lg x n) (place (lg x n) 0) (place (lg x n) 1) = lg x n (place (lg x n) 1) := if_neg (place_next (lg x n)).1
  rw [e]
  pointwise [k0_pay10, pay8_at, pay9_at x n hf]

theorem pay12_at (hf : ∀ k, lg x n k ≠ ⊥) : k0_pay12 x (ix2 (0 : Fin 1) n) = ratio (lg x n) := by
  pointwise [k0_pay12, pay5_at, pay9_at x n hf, ratio]
theorem pay13_at (hf : ∀ k, lg x n k ≠ ⊥) : k0_pay13 x (ix2 (0 : Fin 1) n) = Ideal.div 1 (1 + ratio (lg x n)) := by
  pointwise [k0_pay13, pay12_at x n hf]
theorem pay14_at (hf : ∀ k, lg x n k ≠ ⊥) : k0_pay14 x (ix2 (0 : Fin 1) n) = Ideal.div (ratio (lg x n)) (1 + ratio (lg x n)) := by
  pointwise [k0_pay14, pay12_at x n hf]

end

theorem word_eq : ∀ (k : Fin 8) (j : Fin 128), IntOp.cmpi .eq (BitVec.ofNat 32 k.val) (BitVec.ofNat 32 j.val) = if k.val = j.val then 1#1 else 0#1 := by
  decide +kernel

theorem pay3_at (x y : FVec Ideal S1x512 .f32) (n : Fin 512) (j : Fin 128) :
    k0_pay3 x y (ix2 n j) = if j.val = 0 then x (ix2 (0 : Fin 1) n) else if j.val = 1 then y (ix2 (0 : Fin 1) n) else 0 := by
  pointwise [k0_pay3, word_eq]
  rw [Fin.sum_univ_eight]
  have hj := j.isLt
  by_cases h0 : j.val = 0
  · rw [if_pos h0, h0]; simp [Scalar.select]
  · rw [if_neg h0]
    by_cases h1 : j.val = 1
    · rw [if_pos h1, h1]; simp [Scalar.select]
    · rw [if_neg h1]
      have e0 : ¬(0 = j.val) := fun h => h0 h.symm
      have e1 : ¬(1 = j.val) := fun h => h1 h.symm
      simp [Scalar.select, e0, e1]

/-! ## What a point leaves in the two blocks -/

section
variable {F : FTy → Type} [FloatOps F]

theorem load_whole (arg1 : Memref sig .tc .vmem S8x512 .f32) (harg1 : arg1.IsWhole) (x0 : Vec F S8x512 .f32) :
    arg1.view.readAt (Elt F) (Rect.unit ![0, 0] S8x512.size inb_S8x512_S8x512_0_0).toLoadRect (harg1.unread x0) = x0 := by
  rw [View.readAt_full, harg1.read_unread]

/-- Four rows stored one by one over a block. -/
theorem rows_at (p3 p2 p1 p0 : Vec F S1x512 .i32) (z : Vec F S8x512 .i32) (n : Fin 512) :
    let L : List (View.Piece (Elt F) S8x512 .i32) :=
      [⟨Rect.unit ![3, 0] ![1, 512] inb_S8x512_S1x512_3_0, p3⟩, ⟨Rect.unit ![2, 0] ![1, 512] inb_S8x512_S1x512_2_0, p2⟩,
        ⟨Rect.unit ![1, 0] ![1, 512] inb_S8x512_S1x512_1_0, p1⟩, ⟨Rect.unit ![0, 0] ![1, 512] inb_S8x512_S1x512_0_0, p0⟩,
        ⟨Rect.unit ![0, 0] ![8, 512] inb_S8x512_S8x512_0_0, z⟩]
    VO0_1.read (Elt F) (VO0_1.writes (Elt F) VO0_1.junk L) (ix2 (0 : Fin 8) n) = p0 (ix2 (0 : Fin 1) n)
    ∧ VO0_1.read (Elt F) (VO0_1.writes (Elt F) VO0_1.junk L) (ix2 (1 : Fin 8) n) = p1 (ix2 (0 : Fin 1) n)
    ∧ ∀ r : Fin 8, 4 ≤ r.val → VO0_1.read (Elt F) (VO0_1.writes (Elt F) VO0_1.junk L) (ix2 r n) = z (ix2 r n) := by
  intro L
  refine ⟨?_, ?_, fun r hr => ?_⟩
  · refine (View.read_writes_cons_rows_of_not_mem (o := 3) (W := 1) _ _ _ _ _ _ rfl rfl (.inl (by change (_ : ℕ) < _; exact Nat.lt_of_sub_eq_succ rfl))).trans ?_
    refine (View.read_writes_cons_rows_of_not_mem (o := 2) (W := 1) _ _ _ _ _ _ rfl rfl (.inl (by change (_ : ℕ) < _; exact Nat.lt_of_sub_eq_succ rfl))).trans ?_
    refine (View.read_writes_cons_rows_of_not_mem (o := 1) (W := 1) _ _ _ _ _ _ rfl rfl (.inl (by change (_ : ℕ) < _; exact Nat.lt_of_sub_eq_succ rfl))).trans ?_
    exact View.read_writes_cons_rows_of_mem (o := 0) _ _ _ _ _ _ (ix2 (0 : Fin 1) n) rfl rfl rfl
  · refine (View.read_writes_cons_rows_of_not_mem (o := 3) (W := 1) _ _ _ _ _ _ rfl rfl (.inl (by change (_ : ℕ) < _; exact Nat.lt_of_sub_eq_succ rfl))).trans ?_
    refine (View.read_writes_cons_rows_of_not_mem (o := 2) (W := 1) _ _ _ _ _ _ rfl rfl (.inl (by change (_ : ℕ) < _; exact Nat.lt_of_sub_eq_succ rfl))).trans ?_
    exact View.read_writes_cons_rows_of_mem (o := 1) _ _ _ _ _ _ (ix2 (0 : Fin 1) n) rfl rfl rfl
  · refine (View.read_writes_cons_rows_of_not_mem (o := 3) (W := 1) _ _ _ _ _ _ rfl rfl (.inr hr)).trans ?_
    refine (View.read_writes_cons_rows_of_not_mem (o := 2) (W := 1) _ _ _ _ _ _ rfl rfl (.inr (by change 3 ≤ r.val; omega))).trans ?_
    refine (View.read_writes_cons_rows_of_not_mem (o := 1) (W := 1) _ _ _ _ _ _ rfl rfl (.inr (by change 2 ≤ r.val; omega))).trans ?_
    refine (View.read_writes_cons_rows_of_not_mem (o := 0) (W := 1) _ _ _ _ _ _ rfl rfl (.inr (by change 1 ≤ r.val; omega))).trans ?_
    exact View.read_writes_cons_rows_of_mem (o := 0) _ _ _ _ _ _ (ix2 r n) rfl (Nat.zero_add _).symm rfl

/-- What a routing block holds: the two choices, and zeros below. -/
def Chosen (x0 : Vec F S8x512 .f32) (o : Vec F S8x512 .i32) : Prop :=
  ∀ n : Fin 512, o (ix2 (0 : Fin 8) n) = k0_pay6 x0 (ix2 (0 : Fin 1) n) ∧ o (ix2 (1 : Fin 8) n) = k0_pay10 x0 (ix2 (0 : Fin 1) n)
    ∧ ∀ r : Fin 8, 4 ≤ r.val → o (ix2 r n) = 0#32

section
variable (c : Dev nD) (i : grid0.Coords) (arg1 : Memref sig .tc .vmem S8x512 .f32) (harg1 : arg1.IsWhole) (arg2 : Memref sig .tc .vmem S8x512 .i32) (harg2 : arg2.IsWhole) (arg3 : Memref sig .tc .vmem S512x128 .f32) (harg3 : arg3.IsWhole) (arg4 : Memref sig .tc .vmem S8x128 .f32) (harg4 : arg4.IsWhole) (arg5 : Memref sig .tc .vmem S8x128 .f32) (harg5 : arg5.IsWhole)
  (x0 : Vec F S8x512 .f32) (xs : Vec F S8x128 .f32)

set_option maxHeartbeats 2000000 in
theorem outA_at (hc0 : cond0_0 i) : Chosen x0 (out0_A_1 c i arg1 harg1 arg2 harg2 arg3 harg3 arg4 harg4 arg5 harg5 hc0 x0)
    ∧ out0_A_2 c i arg1 harg1 arg2 harg2 arg3 harg3 arg4 harg4 arg5 harg5 hc0 x0 = k0_pay3 (k0_pay13 x0) (k0_pay14 x0) := by
  unfold out0_A_1 out0_A_2
  dsimp only [kernelRun0_A]
  have e0 : kernelRun0_A.sl.r c arg1 harg1 x0 = k0_pay6 x0 := by unfold kernelRun0_A.sl.r; rw [load_whole]
  have e1 : kernelRun0_A.sl.r_2 c arg1 harg1 x0 = k0_pay10 x0 := by unfold kernelRun0_A.sl.r_2; rw [load_whole]
  have e2 : kernelRun0_A.sl.r_4 c arg1 harg1 x0 = k0_pay13 x0 := by unfold kernelRun0_A.sl.r_4; rw [load_whole]
  have e3 : kernelRun0_A.sl.r_5 c arg1 harg1 x0 = k0_pay14 x0 := by unfold kernelRun0_A.sl.r_5; rw [load_whole]
  rw [e0, e1, e2, e3]
  refine ⟨fun n => ?_, View.read_writes_full _ _ _ _ _⟩
  obtain ⟨h0, h1, h4⟩ := rows_at (F := F) _ _ (k0_pay10 x0) (k0_pay6 x0) k0_pay20 n
  exact ⟨h0, h1, fun r hr => (h4 r hr).trans rfl⟩

set_option maxHeartbeats 2000000 in
theorem outB_at (hc0 : ¬cond0_0 i) : Chosen x0 (out0_B_1 c i arg1 harg1 arg2 harg2 arg3 harg3 arg4 harg4 arg5 harg5 hc0 x0 xs)
    ∧ out0_B_2 c i arg1 harg1 arg2 harg2 arg3 harg3 arg4 harg4 arg5 harg5 hc0 x0 xs = k0_pay3 (k0_pay13 x0) (k0_pay14 x0) := by
  unfold out0_B_1 out0_B_2
  dsimp only [kernelRun0_B]
  have e0 : kernelRun0_B.sl.r c arg1 harg1 x0 = k0_pay6 x0 := by unfold kernelRun0_B.sl.r; rw [load_whole]
  have e1 : kernelRun0_B.sl.r_2 c arg1 harg1 x0 = k0_pay10 x0 := by unfold kernelRun0_B.sl.r_2; rw [load_whole]
  have e2 : kernelRun0_B.sl.r_4 c arg1 harg1 x0 = k0_pay13 x0 := by unfold kernelRun0_B.sl.r_4; rw [load_whole]
  have e3 : kernelRun0_B.sl.r_5 c arg1 harg1 x0 = k0_pay14 x0 := by unfold kernelRun0_B.sl.r_5; rw [load_whole]
  rw [e0, e1, e2, e3]
  refine ⟨fun n => ?_, View.read_writes_full _ _ _ _ _⟩
  obtain ⟨h0, h1, h4⟩ := rows_at (F := F) _ _ (k0_pay10 x0) (k0_pay6 x0) k0_pay20 n
  exact ⟨h0, h1, fun r hr => (h4 r hr).trans rfl⟩
end

section
variable (m : (ℓ : Loc nD τ sig) → Buf (Elt F) ℓ) (c : Dev nD)
set_option maxHeartbeats 2000000 in
theorem point (t : Fin cfg0.N) : Chosen (iblk m c 0 t) (outsAt0 m c t.val t.isLt).1
    ∧ (outsAt0 m c t.val t.isLt).2.1 = k0_pay3 (k0_pay13 (iblk m c 0 t)) (k0_pay14 (iblk m c 0 t)) := by
  by_cases h0 : t.val % 32 = 0
  · have A := outA_at c (grid0.coords t) (ms0_0 t) (hs0_0 t) (ms0_1 t) (hs0_1 t) (ms0_2 t) (hs0_2 t) (ms0_3 t) (hs0_3 t) scM0_0 (Memref.isWhole_whole _) (iblk m c 0 t) ((hcond0_0 t).mpr h0)
    rw [outsAt0_A m c t h0]
    exact A
  · have B := outB_at c (grid0.coords t) (ms0_0 t) (hs0_0 t) (ms0_1 t) (hs0_1 t) (ms0_2 t) (hs0_2 t) (ms0_3 t) (hs0_3 t) scM0_0 (Memref.isWhole_whole _) (iblk m c 0 t)
      (outsAt0 m c (t.val - 1) (Nat.lt_of_le_of_lt (Nat.sub_le _ _) t.isLt)).2.2.2 (fun h => h0 ((hcond0_0 t).mp h))
    rw [outsAt0_B m c t h0]
    exact B

end
end

/-! ## The arrays after the whole grid -/

variable (m : (ℓ : Loc nD τ sig) → Buf (Elt Ideal) ℓ) (c : Dev nD)

/-- The logits, by expert and token. -/
abbrev aL : FVec Ideal S8x16384 .f32 := m ((c : Thread nD τ).loc main_arg0)

theorem idx : ∀ t : Fin cfg0.N, win0_0.index t = ![0, t.val] := by decide +kernel

theorem lt32 (t : Fin cfg0.N) : t.val < 32 := t.isLt

theorem x_at (t : Fin cfg0.N) (k : Fin 8) (n : Fin 512) :
    iblk m c 0 t (ix2 k n) = aL m c (ix2 k ⟨t.val * 512 + n.val, by have := lt32 t; omega⟩) := by
  blk_point [iblk, V, idx t]

/-- A token's eight logits. -/
def tok (n : Fin 16384) (k : Fin 8) : EReal := aL m c (ix2 k n)

theorem lg_tok (t : Fin cfg0.N) (p : Fin 512) (n : Fin 16384) (h : n.val = t.val * 512 + p.val) : lg (iblk m c 0 t) p = tok m c n := by
  funext k
  unfold lg tok
  rw [x_at]
  exact congrArg _ (congrArg _ (Fin.ext h.symm))

theorem G1_at (r : Fin 8) (n : Fin 16384) (hr : r.val < 2 ∨ 3 < r.val) (hf : ∀ k, tok m c n k ≠ ⊥) :
    Cert.RouteIdeal.Value.G1 m c (ix2 r n) = pickRow (tok m c n) r := by
  have hn := n.isLt
  have hr8 := r.isLt
  have hp : Cert.RouteIdeal.Value.pt1Of (ix2 r n) = n.val / 512 := by
    change 32 * (r.val / 8 - 0) + 1 * (n.val / 512 - 0) = n.val / 512
    omega
  have hl : Cert.RouteIdeal.Value.loc1Of (ix2 r n) = ix2 r (⟨n.val % 512, by omega⟩ : Fin 512) := by
    funext a
    match a with
    | ⟨0, _⟩ => exact Fin.ext (Nat.mod_eq_of_lt r.isLt)
    | ⟨1, _⟩ => rfl
  have hb : Cert.RouteIdeal.Value.pt1Of (ix2 r n) < cfg0.N := by rw [hp]; exact (by omega : n.val / 512 < 32)
  unfold Cert.RouteIdeal.Value.G1
  rw [dif_pos hb, ← Cert.RouteIdeal.Value.outsAt0_sweep m c _ hb, hl]
  have hlg := lg_tok m c ⟨_, hb⟩ ⟨n.val % 512, by omega⟩ n (by change n.val = Cert.RouteIdeal.Value.pt1Of (ix2 r n) * 512 + n.val % 512; rw [hp]; omega)
  obtain ⟨h0, h1, h4⟩ := (point m c ⟨_, hb⟩).1 ⟨n.val % 512, by omega⟩
  unfold pickRow
  rcases (by omega : r.val = 0 ∨ r.val = 1 ∨ 4 ≤ r.val) with h | h | h
  · obtain rfl : r = 0 := Fin.ext h
    rw [if_pos h, ← hlg]; exact h0.trans (pay6_at _ _)
  · obtain rfl : r = 1 := Fin.ext h
    rw [if_neg (by decide), if_pos h, ← hlg]; exact h1.trans (pay10_at _ _ (by rw [hlg]; exact hf))
  · rw [if_neg (by omega), if_neg (by omega)]; exact h4 r h

theorem G2_at (n : Fin 16384) (j : Fin 128) (hf : ∀ k, tok m c n k ≠ ⊥) :
    Cert.RouteIdeal.Value.G2 m c (ix2 n j) = pickWeight (tok m c n) j := by
  have hn := n.isLt
  have hj := j.isLt
  have hp : Cert.RouteIdeal.Value.pt2Of (ix2 n j) = n.val / 512 := by
    change 1 * (n.val / 512 - 0) + 1 * (j.val / 128 - 0) = n.val / 512
    omega
  have hl : Cert.RouteIdeal.Value.loc2Of (ix2 n j) = ix2 (⟨n.val % 512, by omega⟩ : Fin 512) j := by
    funext a
    match a with
    | ⟨0, _⟩ => rfl
    | ⟨1, _⟩ => exact Fin.ext (Nat.mod_eq_of_lt j.isLt)
  have hb : Cert.RouteIdeal.Value.pt2Of (ix2 n j) < cfg0.N := by rw [hp]; exact (by omega : n.val / 512 < 32)
  unfold Cert.RouteIdeal.Value.G2
  rw [dif_pos hb, ← Cert.RouteIdeal.Value.outsAt0_sweep m c _ hb, hl]
  have hlg := lg_tok m c ⟨_, hb⟩ ⟨n.val % 512, by omega⟩ n (by change n.val = Cert.RouteIdeal.Value.pt2Of (ix2 n j) * 512 + n.val % 512; rw [hp]; omega)
  have hf' : ∀ k, lg (iblk m c 0 ⟨_, hb⟩) ⟨n.val % 512, by omega⟩ k ≠ ⊥ := by rw [hlg]; exact hf
  refine (congrFun (point m c ⟨_, hb⟩).2 _).trans ?_
  rw [pay3_at, pay13_at _ _ hf', pay14_at _ _ hf', hlg]
  rfl

end Cert.RouteIdeal.Pick
end
-- ==== Proof.RouteRef.lean ====
/- The reference's routing, read at an index: the two greatest logits of a token and their softmax. -/
module
public import proofs.«01_k».proof.Proof.Gen.RouteRefIdeal.Run
public import proofs.«01_k».proof.Proof.RouteMath
@[expose] public section
set_option maxRecDepth 16384
noncomputable section
open Idealize.ShloMosaic Idealize.ShloMosaic.TcCoe Idealize.SL.Sem

namespace Cert.RouteRefIdeal.Pick
open Cert.RouteRefIdeal Cert.RouteRefIdeal.Gen Cert.LruMath Cert.Pick

/-- The logits by token, each token's two greatest, and where they stand. -/
abbrev T (L : FVec Ideal S8x16384 .f32) : FVec Ideal S16384x8 .f32 := transpose S16384x8 [1, 0] L transposes_S8x16384_S16384x8_1_0
def vals (L : FVec Ideal S8x16384 .f32) : FVec Ideal S16384x2 .f32 := (Host.topK S16384x2 1 (FloatOps.cmpfTotal .gt) (T L) sliceFits_S16384x8_S16384x2).1
def places (L : FVec Ideal S8x16384 .f32) : IVec S16384x2 32 := (Host.topK S16384x2 1 (FloatOps.cmpfTotal .gt) (T L) sliceFits_S16384x8_S16384x2).2

/-- The softmax of the two. -/
def soft (v : FVec Ideal S16384x2 .f32) : FVec Ideal S16384x2 .f32 :=
  Host.divf (Host.exp (subf v (broadcastInDim S16384x2 ![0, 1] bcast_S16384x1_S16384x2_0_1 (broadcastInDim S16384x1 ![0] bcast_S16384_S16384x1_0 (maximumf (broadcastInDim S16384 ![] bcast_S_S16384 (constant S_ .f32 0xFF800000#32)) (Host.reduce FloatOps.maximumf v (constant S_ .f32 0xFF800000#32) reducesTo_S16384x2_S16384_d1 h_S_)))))) (broadcastInDim S16384x2 ![0, 1] bcast_S16384x1_S16384x2_0_1 (broadcastInDim S16384x1 ![0] bcast_S16384_S16384x1_0 (Host.reduceAdd (Host.exp (subf v (broadcastInDim S16384x2 ![0, 1] bcast_S16384x1_S16384x2_0_1 (broadcastInDim S16384x1 ![0] bcast_S16384_S16384x1_0 (maximumf (broadcastInDim S16384 ![] bcast_S_S16384 (constant S_ .f32 0xFF800000#32)) (Host.reduce FloatOps.maximumf v (constant S_ .f32 0xFF800000#32) reducesTo_S16384x2_S16384_d1 h_S_)))))) (constant S_ .f32 0x00000000#32) reducesTo_S16384x2_S16384_d1 h_S_)))

def resI (L : FVec Ideal S8x16384 .f32) : IVec S8x16384 32 :=
  concatenate S8x16384 0 [⟨S2x16384, (transpose S2x16384 [1, 0] (places L) transposes_S16384x2_S2x16384_1_0)⟩, ⟨S6x16384, (broadcastInDim S6x16384 ![] bcast_S_S6x16384 (constantI S_ 32 0#32))⟩] concatenates_S2x16384_S6x16384_S8x16384_d0
def resW (L : FVec Ideal S8x16384 .f32) : FVec Ideal S16384x128 .f32 :=
  concatenate S16384x128 1 [⟨S16384x2, soft (vals L)⟩, ⟨S16384x126, (broadcastInDim S16384x126 ![] bcast_S_S16384x126 (constant S_ .f32 0x00000000#32))⟩] concatenates_S16384x2_S16384x126_S16384x128_d1

/-- A token's eight logits. -/
def tok (L : FVec Ideal S8x16384 .f32) (n : Fin 16384) (k : Fin 8) : EReal := L (ix2 k n)

theorem total_gt (a b : EReal) : ((FloatOps.cmpfTotal (F := Ideal) (φ := .f32) .gt a b) == 1#1) = decide (b < a) := by
  by_cases h : b < a
  · rw [decide_eq_true h]; simp [FloatOps.cmpfTotal, Ideal.cmpTotal, CmpDirection.ordered, Ideal.cmp, h]
  · rw [decide_eq_false h]; simp [FloatOps.cmpfTotal, Ideal.cmpTotal, CmpDirection.ordered, Ideal.cmp, h]

theorem t_at (L : FVec Ideal S8x16384 .f32) (n : Fin 16384) (k : Fin 8) : T L (ix2 n k) = tok L n k := by
  pointwise [tok]

theorem along_eq (n : Fin 16384) (j k : Fin 8) : (ix2 n j : S16384x8.Idx).along (1 : Fin 2) k = ix2 n k := by
  funext a
  match a with
  | ⟨0, _⟩ => rfl
  | ⟨1, _⟩ => rfl

theorem topK_at (L : FVec Ideal S8x16384 .f32) (n : Fin 16384) (j : Fin 2) :
    vals L (ix2 n j) = tok L n (place (tok L n) ⟨j.val, by omega⟩)
    ∧ places L (ix2 n j) = BitVec.ofNat 32 (place (tok L n) ⟨j.val, by omega⟩).val := by
  have hs : ∀ k k' : Fin 8, ((FloatOps.cmpfTotal (F := Ideal) (φ := .f32) .gt (T L (ix2 n k)) (T L (ix2 n k'))) == 1#1)
      = decide (tok L n k' < tok L n k) := fun k k' => by rw [total_gt, t_at, t_at]
  have hp : sortedFrom (fun k k' : Fin 8 => (FloatOps.cmpfTotal (F := Ideal) (φ := .f32) .gt
      (T L ((ix2 n (⟨j.val, by omega⟩ : Fin 8) : S16384x8.Idx).along (1 : Fin 2) k))
      (T L ((ix2 n (⟨j.val, by omega⟩ : Fin 8) : S16384x8.Idx).along (1 : Fin 2) k'))) == 1#1) ⟨j.val, by omega⟩
      = place (tok L n) ⟨j.val, by omega⟩ := by
    unfold place
    congr 1
    funext k k'
    rw [along_eq, along_eq]
    exact hs k k'
  have hi : S16384x2.Idx → S16384x8.Idx := fun i => ix2 (i 0) ⟨(i 1).val, by have : (i 1).val < 2 := (i 1).isLt; omega⟩
  have hsl : ∀ {α : Type} (z : S16384x8.Idx → α), extractStridedSlice S16384x2 (fun _ => 0) z sliceFits_S16384x8_S16384x2 (ix2 n j)
      = z (ix2 n (⟨j.val, by omega⟩ : Fin 8)) := fun z => by pointwise
  unfold vals places Host.topK Host.sort2
  dsimp only
  constructor
  · refine (hsl _).trans ?_
    rw [dif_pos (by decide)]
    refine Eq.trans (congrArg (fun q => T L ((ix2 n (⟨j.val, by omega⟩ : Fin 8) : S16384x8.Idx).along (1 : Fin 2) q)) hp) ?_
    rw [along_eq, t_at]
  · refine (hsl _).trans ?_
    rw [dif_pos (by decide)]
    refine Eq.trans (congrArg (fun q => iotaInDim S16384x8 32 (1 : Fin 2) ((ix2 n (⟨j.val, by omega⟩ : Fin 8) : S16384x8.Idx).along (1 : Fin 2) q)) hp) ?_
    rw [along_eq]
    rfl

theorem bits_bot : Ideal.ofBits .f32 4286578688#32 = ⊥ := by
  simp [Ideal.ofBits, Ideal.ieee]

theorem soft_at (v : FVec Ideal S16384x2 .f32) (n : Fin 16384) (j : Fin 2) (h : v (ix2 n (1 : Fin 2)) ≤ v (ix2 n (0 : Fin 2)))
    (hb : v (ix2 n (0 : Fin 2)) ≠ ⊥) (ht : v (ix2 n (0 : Fin 2)) ≠ ⊤) :
    soft v (ix2 n j) = Ideal.div (if j.val = 0 then 1 else Ideal.exp (v (ix2 n (1 : Fin 2)) - v (ix2 n (0 : Fin 2))))
      (1 + Ideal.exp (v (ix2 n (1 : Fin 2)) - v (ix2 n (0 : Fin 2)))) := by
  have hm : max (⊥ : EReal) (Finset.fold max ⊥ (fun x : Fin 2 => v (ix2 n x)) Finset.univ) = v (ix2 n (0 : Fin 2)) := by
    rw [max_eq_right bot_le]
    refine le_antisymm ((Finset.fold_max_le _).mpr ⟨bot_le, fun x _ => ?_⟩)
      ((Finset.le_fold_max _).mpr (Or.inr ⟨0, Finset.mem_univ _, le_rfl⟩))
    match x with
    | ⟨0, _⟩ => exact le_rfl
    | ⟨1, _⟩ => exact h
  have h0 : Ideal.exp (v (ix2 n (0 : Fin 2)) - v (ix2 n (0 : Fin 2))) = 1 := by
    rw [EReal.sub_self ht hb]; change ((Real.exp 0 : ℝ) : EReal) = 1; rw [Real.exp_zero]; rfl
  refine Eq.trans (b := Ideal.div (Ideal.exp (v (ix2 n j) - v (ix2 n (0 : Fin 2)))) (∑ x : Fin 2, Ideal.exp (v (ix2 n x) - v (ix2 n (0 : Fin 2))))) ?_ ?_
  · pointwise [soft]
    rw [bits_bot, hm]
  · rw [Fin.sum_univ_two, h0]
    match j with
    | ⟨0, _⟩ => rw [if_pos rfl]; exact congrArg (fun z => Ideal.div z _) h0
    | ⟨1, _⟩ => rw [if_neg (by decide : ¬ (1 : ℕ) = 0)]; rfl

theorem resI_at (L : FVec Ideal S8x16384 .f32) (r : Fin 8) (n : Fin 16384) :
    resI L (ix2 r n) = pickRow (tok L n) r := by
  have hr := r.isLt
  pointwise [resI]
  unfold pickRow
  by_cases h : r.val < 2
  · rw [dif_pos h, (topK_at L n ⟨r.val, h⟩).2]
    rcases (by omega : r.val = 0 ∨ r.val = 1) with h0 | h0
    · obtain rfl : r = 0 := Fin.ext h0
      rfl
    · obtain rfl : r = 1 := Fin.ext h0
      rfl
  · rw [dif_neg h, if_neg (by omega), if_neg (by omega)]

theorem resW_at (L : FVec Ideal S8x16384 .f32) (n : Fin 16384) (j : Fin 128) (hf : ∀ k, tok L n k ≠ ⊥ ∧ tok L n k ≠ ⊤) :
    resW L (ix2 n j) = pickWeight (tok L n) j := by
  have hj := j.isLt
  have e0 : vals L (ix2 n (0 : Fin 2)) = tok L n (place (tok L n) 0) := (topK_at L n 0).1
  have e1 : vals L (ix2 n (1 : Fin 2)) = tok L n (place (tok L n) 1) := (topK_at L n 1).1
  pointwise [resW]
  unfold pickWeight
  by_cases h : j.val < 2
  · rw [dif_pos h, soft_at (vals L) n ⟨j.val, h⟩ (by rw [e0, e1]; exact (place_top _ _).1) (by rw [e0]; exact (hf _).1) (by rw [e0]; exact (hf _).2), e0, e1]
    rcases (by omega : j.val = 0 ∨ j.val = 1) with h0 | h0
    · rw [if_pos h0, if_pos h0]; rfl
    · rw [if_neg (show ¬ j.val = 0 by omega), if_neg (show ¬ j.val = 0 by omega), if_pos h0]; rfl
  · rw [dif_neg h, if_neg (by omega), if_neg (by omega)]

end Cert.RouteRefIdeal.Pick
end
-- ==== Proof.RouteMask.lean ====
/- Where the mask is set: a token with finite logits, and not one of the two rows of ranks. -/
module
public import proofs.«01_k».proof.On_chosen
public import proofs.«01_k».proof.Proof.RouteMath
@[expose] public section
set_option maxRecDepth 16384
noncomputable section
open Idealize.ShloMosaic Idealize.ShloMosaic.TcCoe Idealize.SL.Sem

namespace Cert.On_chosen.Pick
open Cert.On_chosen Cert.LruMath Cert.Pick

/-- The shapes of the mask's operations fit. -/
instance facts : Cert.On_chosen.Facts where
  bcast_S_S8x16384 := by decide
  reducesTo_S8x16384_S16384_d0 := by decide
  h_S_ := by decide
  bcast_S_S8 := by decide
  bcast_S8_S8x1_0 := by decide
  bcast_S16384_S1x16384_1 := by decide
  bcast_S8x1_S8x16384_0_1 := by decide
  bcast_S1x16384_S8x16384_0_1 := by decide
  bcast_S16384_S16384x1_0 := by decide
  bcast_S16384x1_S16384x128_0_1 := by decide

theorem fold_and : ∀ p : Fin 8 → Bool, Finset.fold IntOp.andi (1#1) (fun x : Fin 8 => BitVec.ofBool (p x)) Finset.univ = 1#1 → ∀ k, p k = true := by
  decide +kernel

theorem and_one : ∀ a b : BitVec 1, IntOp.andi a b = 1#1 → a = 1#1 ∧ b = 1#1 := by decide

theorem row_of : ∀ r : Fin 8, IntOp.ori (IntOp.cmpi .slt (BitVec.ofNat 32 r.val) 2#32) (IntOp.cmpi .sgt (BitVec.ofNat 32 r.val) 3#32) = 1#1
    → r.val < 2 ∨ 3 < r.val := by decide +kernel

theorem bits_top : Ideal.ofBits .f32 2139095040#32 = ⊤ := by
  simp [Ideal.ofBits, Ideal.ieee]

theorem finite_of (x : EReal) (h : (FloatOps.absf (F := Ideal) (φ := .f32) x : EReal) < ⊤) : x ≠ ⊥ ∧ x ≠ ⊤ := by
  change max x (-x) < ⊤ at h
  constructor
  · rintro rfl
    simp at h
  · rintro rfl
    simp at h

theorem finite_all (f : Fin 8 → EReal)
    (h : Finset.fold IntOp.andi (1#1) (fun x : Fin 8 => BitVec.ofBool (decide ((FloatOps.absf (F := Ideal) (φ := .f32) (f x) : EReal) < Ideal.ofBits .f32 2139095040#32))) Finset.univ = 1#1)
    (k : Fin 8) : f k ≠ ⊥ ∧ f k ≠ ⊤ := by
  have := of_decide_eq_true (fold_and (fun x => decide ((FloatOps.absf (F := Ideal) (φ := .f32) (f x) : EReal) < Ideal.ofBits .f32 2139095040#32)) h k)
  rw [bits_top] at this
  exact finite_of _ this

theorem one_at (L : FVec Ideal S8x16384 .f32) (r : Fin 8) (n : Fin 16384) (h : (fn (F := Ideal) L).1 (ix2 r n) = 1#1) :
    (r.val < 2 ∨ 3 < r.val) ∧ ∀ k : Fin 8, L (ix2 k n) ≠ ⊥ ∧ L (ix2 k n) ≠ ⊤ := by
  revert h
  pointwise [fn]
  intro h
  obtain ⟨h1, h2⟩ := and_one _ _ h
  exact ⟨row_of r h1, finite_all (fun k => L (ix2 k n)) h2⟩

theorem two_at (L : FVec Ideal S8x16384 .f32) (n : Fin 16384) (j : Fin 128) (h : (fn (F := Ideal) L).2 (ix2 n j) = 1#1) :
    ∀ k : Fin 8, L (ix2 k n) ≠ ⊥ ∧ L (ix2 k n) ≠ ⊤ := by
  revert h
  pointwise [fn]
  intro h
  exact finite_all (fun k => L (ix2 k n)) h

end Cert.On_chosen.Pick
end
-- ==== Proof.RouterRef.lean ====
/- The output projection of the reference with the norm after it and the logits of the experts, read at an index. -/
module
public import proofs.«01_k».proof.Proof.Gen.RouterRefIdeal.Run
public import proofs.«01_k».proof.Proof.LruMath
@[expose] public section
set_option maxRecDepth 16384
noncomputable section
open Idealize.ShloMosaic Idealize.ShloMosaic.TcCoe Idealize.SL.Sem

namespace Cert.RouterRefIdeal.Mix
open Cert.RouterRefIdeal Cert.RouterRefIdeal.Gen Cert.LruMath

/-- Entry `q` of a row `f` of 2048 entries after the root-mean-square norm with gain `g`. -/
def normAt (f : Fin 2048 → EReal) (g : EReal) (q : Fin 2048) : EReal :=
  f q * Ideal.rsqrt (Ideal.div (∑ k : Fin 2048, f k * f k) (Ideal.ofBits .f32 0x45000000#32) + Ideal.ofBits .f32 0x358637BD#32) * g

/-- The residual row after the projection: both head groups' rows against their halves of the weight. -/
def mixAt (A B : S16384x1024.Idx → EReal) (W : S2x2048x2048.Idx → EReal) (X : S16384x2048.Idx → EReal) (n : Fin 16384) (q : Fin 2048) : EReal :=
  X (ix2 n q) + ∑ k : Fin 1024, A (ix2 n k) * W (ix3 1 ⟨k.val, by omega⟩ q) + ∑ k : Fin 1024, B (ix2 n k) * W (ix3 1 ⟨1024 + k.val, by omega⟩ q)

/-- The reference's first result, as its run states it. -/
def resX (A B : FVec Ideal S16384x1024 .bf16) (W : FVec Ideal S2x2048x2048 .f32) (X : FVec Ideal S16384x2048 .f32) : FVec Ideal S16384x2048 .f32 :=
  addf X (Host.dotGeneral (φ₁ := .f32) (φ₂ := .f32) dot_S16384x2048_S2048x2048_S16384x2048_1_0_0_1_n_n none (concatenate S16384x2048 1 [⟨S16384x1024, (extf .f32 A bitsLt_bf16_f32)⟩, ⟨S16384x1024, (extf .f32 B bitsLt_bf16_f32)⟩] concatenates_S16384x1024_S16384x1024_S16384x2048_d1) (shapeCast (α := EReal) S2048x2048 (extractStridedSlice S1x2048x2048 ![1, 0, 0] W slices_S2x2048x2048_S1x2048x2048_1_0_0) shapeCasts_S1x2048x2048_S2048x2048 : FVec Ideal S2048x2048 .f32))

/-- The reference's second result over its first. -/
def resH (x : FVec Ideal S16384x2048 .f32) (g : FVec Ideal S2048 .f32) : FVec Ideal S16384x2048 .f32 :=
  mulf (mulf x (broadcastInDim S16384x2048 ![0, 1] bcast_S16384x1_S16384x2048_0_1 (Host.rsqrt (addf (Host.divf (broadcastInDim S16384x1 ![0] bcast_S16384_S16384x1_0 (Host.reduceAdd (mulf x x) (constant S_ .f32 0x00000000#32) reducesTo_S16384x2048_S16384_d1 h_S_)) (broadcastInDim S16384x1 ![] bcast_S_S16384x1 (constant S_ .f32 0x45000000#32))) (broadcastInDim S16384x1 ![] bcast_S_S16384x1 (constant S_ .f32 0x358637BD#32)))))) (broadcastInDim S16384x2048 ![0, 1] bcast_S1x2048_S16384x2048_0_1 (broadcastInDim S1x2048 ![1] bcast_S2048_S1x2048_1 g))

theorem resX_at (A B : FVec Ideal S16384x1024 .bf16) (W : FVec Ideal S2x2048x2048 .f32) (X : FVec Ideal S16384x2048 .f32) (n : Fin 16384) (q : Fin 2048) :
    resX A B W X (ix2 n q) = mixAt A B W X n q := by
  pointwise [resX, mixAt]
  exact (add_assoc (_ : EReal) _ _).symm

theorem resH_at (x : FVec Ideal S16384x2048 .f32) (g : FVec Ideal S2048 .f32) (n : Fin 16384) (q : Fin 2048) :
    resH x g (ix2 n q) = normAt (fun k => x (ix2 n k)) (g (ix1 q)) q := by
  pointwise [resH, normAt]

/-- The reference's third result over its second. -/
def resL (h : FVec Ideal S16384x2048 .f32) (r : FVec Ideal S2048x8 .f32) : FVec Ideal S8x16384 .f32 :=
  transpose S8x16384 [1, 0] (Host.dotGeneral dot_S16384x2048_S2048x8_S16384x8_1_0_0_1_n_n none h r) transposes_S16384x8_S8x16384_1_0

theorem resL_at (h : FVec Ideal S16384x2048 .f32) (r : FVec Ideal S2048x8 .f32) (e : Fin 8) (n : Fin 16384) :
    resL h r (ix2 e n) = ∑ k : Fin 2048, h (ix2 n k) * r (ix2 k e) := by
  pointwise [resL]

end Cert.RouterRefIdeal.Mix
end
-- ==== Proof.RouterKer.lean ====
/- The output projection of the kernel with the logits: what a grid point stores, and the three arrays after the whole grid. -/
module
public import proofs.«01_k».proof.Proof.Gen.RouterIdeal.Value
public import proofs.«01_k».proof.Proof.RouterRef
@[expose] public section
set_option maxRecDepth 16384
noncomputable section
open Idealize.ShloMosaic Idealize.ShloMosaic.TcCoe Idealize.SL.Sem

namespace Cert.RouterIdeal.Mix
open Cert.RouterIdeal Cert.RouterIdeal.Gen Cert.LruMath Cert.RouterRefIdeal.Mix

/-- Every window's block index at every grid point. -/
theorem idx : ∀ t : Fin cfg0.N, win0_0.index t = ![t.val, 0] ∧ win0_1.index t = ![t.val, 0] ∧ win0_2.index t = ![1, 0, 0]
    ∧ win0_3.index t = ![t.val, 0] ∧ win0_4.index t = ![0, 0] ∧ win0_5.index t = ![0, 0] ∧ win0_6.index t = ![t.val, 0] ∧ win0_7.index t = ![t.val, 0] ∧ win0_8.index t = ![0, t.val] := by
  decide +kernel

theorem lt32 (t : Fin cfg0.N) : t.val < 32 := t.isLt

variable (m : (ℓ : Loc nD τ sig) → Buf (Elt Ideal) ℓ) (c : Dev nD)

/-- The arguments. -/
abbrev aA : S16384x1024.Idx → EReal := m ((c : Thread nD τ).loc main_arg0)
@[inherit_doc aA] abbrev aB : S16384x1024.Idx → EReal := m ((c : Thread nD τ).loc main_arg1)
@[inherit_doc aA] abbrev aW : S2x2048x2048.Idx → EReal := m ((c : Thread nD τ).loc main_arg2)
@[inherit_doc aA] abbrev aX : S16384x2048.Idx → EReal := m ((c : Thread nD τ).loc main_arg3)
@[inherit_doc aA] abbrev aG : S2048.Idx → EReal := m ((c : Thread nD τ).loc main_arg4)
@[inherit_doc aA] abbrev aR : S2048x8.Idx → EReal := m ((c : Thread nD τ).loc main_arg5)

/-- What a grid point stores in its rows of the first array, over its input blocks. -/
def blkX (t : Fin cfg0.N) : FVec Ideal S512x2048 .f32 :=
  k0_pay2 (F := Ideal) (iblk m c 3 t) (iblk m c 0 t) (View.ld (iblk m c 2 t) r0_2) (iblk m c 1 t) (View.ld (iblk m c 2 t) r0_3)

theorem blkX_at (t : Fin cfg0.N) (p : Fin 512) (q : Fin 2048) :
    blkX m c t (ix2 p q) = mixAt (aA m c) (aB m c) (aW m c) (aX m c) ⟨t.val * 512 + p.val, by have := lt32 t; omega⟩ q := by
  pointwise [blkX, k0_pay2, mixAt]
  blk_point [iblk, V, idx t]

theorem out6 (t : Fin cfg0.N) : out0_6 (F := Ideal) (iblk m c 0 t) (iblk m c 1 t) (iblk m c 2 t) (iblk m c 3 t) (iblk m c 4 t) (iblk m c 5 t) = blkX m c t := by
  frame_out
  rfl

/-- What a grid point stores in its rows of the second array. -/
def blkH (t : Fin cfg0.N) : FVec Ideal S512x2048 .f32 :=
  k0_pay3 (F := Ideal) (iblk m c 3 t) (iblk m c 0 t) (View.ld (iblk m c 2 t) r0_2) (iblk m c 1 t) (View.ld (iblk m c 2 t) r0_3) (iblk m c 4 t)

theorem out7 (t : Fin cfg0.N) : out0_7 (F := Ideal) (iblk m c 0 t) (iblk m c 1 t) (iblk m c 2 t) (iblk m c 3 t) (iblk m c 4 t) (iblk m c 5 t) = blkH m c t := by
  frame_out
  rfl

/-- The norm of a row block, over the block of residual rows `x`. -/
def normOf (x : FVec Ideal S512x2048 .f32) (g : Vec Ideal S1x2048 .f32) : FVec Ideal S512x2048 .f32 :=
  mulf (mulf x (broadcastTo S512x2048 (rsqrt (addf (divf (shapeCast S512x1 (multiReduction .add [1] S512 (mulf x x) 0x00000000#32 reduces_S512x2048_S512 (.inl rfl) rfl) shapeCasts_S512_S512x1) (broadcast S512x1 (Scalar.ofBits .f32 0x45000000#32))) (broadcast S512x1 (Scalar.ofBits .f32 0x358637BD#32)))) broadcasts_S512x1_S512x2048)) (broadcastTo S512x2048 (shapeCast S1x2048 g shapeCasts_S1x2048_S1x2048) broadcasts_S1x2048_S512x2048)

theorem normOf_at (x : FVec Ideal S512x2048 .f32) (g : Vec Ideal S1x2048 .f32) (p : Fin 512) (q : Fin 2048) :
    normOf x g (ix2 p q) = normAt (fun k => x (ix2 p k)) (g (ix2 0 q)) q := by
  pointwise [normOf, normAt]

theorem gain_blk (t : Fin cfg0.N) (q : Fin 2048) : iblk m c 4 t (ix2 0 q) = V m c main_v1 (ix2 0 q) := by
  blk_point [iblk, idx t]
theorem gain_arr : (V m c main_v1 : S1x2048.Idx → EReal) = shapeCast (α := EReal) S1x2048 (aG m c) shapeCasts_S2048_S1x2048 := rfl
theorem gain_at (t : Fin cfg0.N) (q : Fin 2048) : iblk m c 4 t (ix2 0 q) = aG m c (ix1 q) :=
  (gain_blk m c t q).trans ((congrFun (gain_arr m c) _).trans (by pointwise []))

/-- The normalised row, in the arguments. -/
def hAt (n : Fin 16384) (q : Fin 2048) : EReal :=
  normAt (mixAt (aA m c) (aB m c) (aW m c) (aX m c) n) (aG m c (ix1 q)) q

theorem blkH_at (t : Fin cfg0.N) (p : Fin 512) (q : Fin 2048) :
    blkH m c t (ix2 p q) = hAt m c ⟨t.val * 512 + p.val, by have := lt32 t; omega⟩ q := by
  refine (normOf_at (blkX m c t) (iblk m c 4 t) p q).trans ?_
  unfold hAt
  rw [gain_at]
  exact congrArg (fun f => normAt f _ q) (funext fun k => blkX_at m c t p k)

/-- The first array after the whole grid. -/
theorem final6 : (dats m 0 c).arrAt 6 (cfgs 0).N
    = fun i : S16384x2048.Idx => mixAt (aA m c) (aB m c) (aW m c) (aX m c) (i 0) (i 1) := by
  refine (dats m 0 c).arrAt_eq_of_covers 6 _ (by decide +kernel) fun t _ y => ?_
  blk_simp
  rw [after0_6, out6]
  obtain ⟨p, q, rfl⟩ : ∃ (p : Fin 512) (q : Fin 2048), y = ix2 p q := ⟨y 0, y 1, by idx_vars y⟩
  refine (blkX_at m c t p q).trans ?_
  refine congrArg₂ (mixAt (aA m c) (aB m c) (aW m c) (aX m c)) (Fin.ext ?_) (Fin.ext ?_)
  · blk_simp [idx t]
  · blk_simp [idx t]

/-- The second array after the whole grid. -/
theorem final7 : (dats m 0 c).arrAt 7 (cfgs 0).N = fun i : S16384x2048.Idx => hAt m c (i 0) (i 1) := by
  refine (dats m 0 c).arrAt_eq_of_covers 7 _ (by decide +kernel) fun t _ y => ?_
  blk_simp
  rw [after0_7, out7]
  obtain ⟨p, q, rfl⟩ : ∃ (p : Fin 512) (q : Fin 2048), y = ix2 p q := ⟨y 0, y 1, by idx_vars y⟩
  refine (blkH_at m c t p q).trans ?_
  refine congrArg₂ (hAt m c) (Fin.ext ?_) (Fin.ext ?_)
  · blk_simp [idx t]
  · blk_simp [idx t]

/-- What a grid point stores in its columns of the third array. -/
def blkL (t : Fin cfg0.N) : FVec Ideal S8x512 .f32 :=
  k0_pay1 (F := Ideal) (truncf .bf16 (blkH m c t) bitsLt_bf16_f32) (truncf .bf16 (subf (blkH m c t) (blkH m c t)) bitsLt_bf16_f32) (iblk m c 5 t) (View.ld (iblk m c 5 t) r0_6)

theorem out8 (t : Fin cfg0.N) : out0_8 (F := Ideal) (iblk m c 0 t) (iblk m c 1 t) (iblk m c 2 t) (iblk m c 3 t) (iblk m c 4 t) (iblk m c 5 t) = blkL m c t := by
  frame_out
  rfl

theorem pay1_at (a b : FVec Ideal S512x2048 .bf16) (r : Vec Ideal S2048x256 .bf16) (r' : Vec Ideal S2048x128 .bf16) (e : Fin 8) (p : Fin 512) :
    k0_pay1 a b r r' (ix2 e p) = ∑ k : Fin 2048, a (ix2 p k) * r (ix2 k ⟨e.val, by omega⟩)
      + ∑ k : Fin 2048, a (ix2 p k) * r (ix2 k ⟨128 + e.val, by omega⟩) + ∑ k : Fin 2048, b (ix2 p k) * r' (ix2 k ⟨e.val, by omega⟩) := by
  pointwise [k0_pay1]

/-- The router's weight as the host lays it out: padded to 128 columns, then the rest of it beside it. -/
def padded (R : FVec Ideal S2048x8 .f32) : FVec Ideal S2048x128 .f32 :=
  pad S2048x128 ![0, 0] ![0, 120] ![0, 0] R (sitofp (F := Ideal) .f32 (constantI S_ 32 0#32)) pads_S2048x8_S2048x128_000_01200 h_S_
@[inherit_doc padded] def table (R : FVec Ideal S2048x8 .f32) : FVec Ideal S2048x256 .bf16 :=
  concatenate S2048x256 1 [⟨S2048x128, (truncf .bf16 (padded R) bitsLt_bf16_f32 : FVec Ideal S2048x128 .bf16)⟩,
    ⟨S2048x128, (truncf .bf16 (subf (padded R) (padded R)) bitsLt_bf16_f32 : FVec Ideal S2048x128 .bf16)⟩] concatenates_S2048x128_S2048x128_S2048x256_d1
theorem padded_at (R : FVec Ideal S2048x8 .f32) (k : Fin 2048) (e : Fin 8) : padded R (ix2 k (⟨e.val, by omega⟩ : Fin 128)) = R (ix2 k e) := by
  pointwise [padded]
theorem table_hi (R : FVec Ideal S2048x8 .f32) (k : Fin 2048) (e : Fin 8) : table R (ix2 k (⟨e.val, by omega⟩ : Fin 256)) = R (ix2 k e) := by
  refine Eq.trans ?_ (padded_at R k e)
  pointwise [table]
  rw [dif_pos (by omega)]
theorem table_lo (R : FVec Ideal S2048x8 .f32) (k : Fin 2048) (e : Fin 8) :
    table R (ix2 k (⟨128 + e.val, by omega⟩ : Fin 256)) = R (ix2 k e) - R (ix2 k e) := by
  rw [← padded_at R k e]
  pointwise [table]
theorem table_blk (t : Fin cfg0.N) (k : Fin 2048) (j : Fin 256) : iblk m c 5 t (ix2 k j) = V m c main_v7 (ix2 k j) := by
  blk_point [iblk, idx t]
theorem table_arr : (V m c main_v7 : S2048x256.Idx → EReal) = table (aR m c) := rfl
theorem hi_at (t : Fin cfg0.N) (k : Fin 2048) (e : Fin 8) : iblk m c 5 t (ix2 k ⟨e.val, by omega⟩) = aR m c (ix2 k e) :=
  (table_blk m c t k _).trans ((congrFun (table_arr m c) _).trans (table_hi _ k e))
theorem lo_at (t : Fin cfg0.N) (k : Fin 2048) (e : Fin 8) : iblk m c 5 t (ix2 k ⟨128 + e.val, by omega⟩) = aR m c (ix2 k e) - aR m c (ix2 k e) :=
  (table_blk m c t k _).trans ((congrFun (table_arr m c) _).trans (table_lo _ k e))
theorem first_at (x : Vec Ideal S2048x256 .bf16) (k : Fin 2048) (e : Fin 8) : View.ld x r0_6 (ix2 k (⟨e.val, by omega⟩ : Fin 128)) = x (ix2 k ⟨e.val, by omega⟩) := by
  refine congrArg x (funext fun a => Fin.ext ?_)
  fin_cases a
  · exact Nat.zero_add _ |>.trans (Nat.one_mul _)
  · exact Nat.zero_add _ |>.trans (Nat.one_mul _)

/-- The logit of expert `e` at token `n`, in the arguments. -/
def lAt (e : Fin 8) (n : Fin 16384) : EReal := ∑ k : Fin 2048, hAt m c n k * aR m c (ix2 k e)
  + ∑ k : Fin 2048, hAt m c n k * (aR m c (ix2 k e) - aR m c (ix2 k e)) + ∑ k : Fin 2048, (hAt m c n k - hAt m c n k) * aR m c (ix2 k e)

theorem blkL_at (t : Fin cfg0.N) (e : Fin 8) (p : Fin 512) :
    blkL m c t (ix2 e p) = lAt m c e ⟨t.val * 512 + p.val, by have := lt32 t; omega⟩ := by
  refine (pay1_at _ _ (iblk m c 5 t) _ e p).trans ?_
  unfold lAt
  refine congrArg₂ (· + ·) (congrArg₂ (· + ·) (Finset.sum_congr rfl fun k _ => ?_) (Finset.sum_congr rfl fun k _ => ?_)) (Finset.sum_congr rfl fun k _ => ?_)
  · exact congrArg₂ (· * ·) (blkH_at m c t p k) (hi_at m c t k e)
  · exact congrArg₂ (· * ·) (blkH_at m c t p k) (lo_at m c t k e)
  · exact congrArg₂ (· * ·) (congrArg₂ (· - ·) (blkH_at m c t p k) (blkH_at m c t p k)) ((first_at (iblk m c 5 t) k e).trans (hi_at m c t k e))

theorem lAt_eq (e : Fin 8) (n : Fin 16384) (hh : ∀ k, hAt m c n k ≠ ⊥ ∧ hAt m c n k ≠ ⊤) (hr : ∀ k, aR m c (ix2 k e) ≠ ⊥ ∧ aR m c (ix2 k e) ≠ ⊤) :
    lAt m c e n = ∑ k : Fin 2048, hAt m c n k * aR m c (ix2 k e) := by
  unfold lAt
  rw [Finset.sum_eq_zero (f := fun k => hAt m c n k * (aR m c (ix2 k e) - aR m c (ix2 k e))) (fun k _ => by rw [EReal.sub_self (hr k).2 (hr k).1, mul_zero]),
    Finset.sum_eq_zero (f := fun k => (hAt m c n k - hAt m c n k) * aR m c (ix2 k e)) (fun k _ => by rw [EReal.sub_self (hh k).2 (hh k).1, zero_mul]), add_zero, add_zero]

/-- The third array after the whole grid. -/
theorem final8 : (dats m 0 c).arrAt 8 (cfgs 0).N = fun i : S8x16384.Idx => lAt m c (i 0) (i 1) := by
  refine (dats m 0 c).arrAt_eq_of_covers 8 _ (by decide +kernel) fun t _ y => ?_
  blk_simp
  rw [after0_8, out8]
  obtain ⟨e, p, rfl⟩ : ∃ (e : Fin 8) (p : Fin 512), y = ix2 e p := ⟨y 0, y 1, by idx_vars y⟩
  refine (blkL_at m c t e p).trans ?_
  refine congrArg₂ (lAt m c) (Fin.ext ?_) (Fin.ext ?_)
  · blk_simp [idx t]
  · blk_simp [idx t]

end Cert.RouterIdeal.Mix
end
-- ==== Proof.RouterMask.lean ====
/- Where the mask is set: a token with a finite normalised row, and an expert with a finite column of the router's weight. -/
module
public import proofs.«01_k».proof.On_finite_logits
public import proofs.«01_k».proof.Proof.RouterRef
public import proofs.«01_k».proof.Proof.RouteMask
@[expose] public section
set_option maxRecDepth 16384
noncomputable section
open Idealize.ShloMosaic Idealize.ShloMosaic.TcCoe Idealize.SL.Sem

namespace Cert.On_finite_logits.Mix
open Cert.On_finite_logits Cert.LruMath Cert.RouterRefIdeal.Mix
open Cert.On_chosen.Pick (and_one bits_top finite_of)

/-- The shapes of the mask's operations fit. -/
instance facts : Cert.On_finite_logits.Facts where
  bitsLt_bf16_f32 := by decide
  concatenates_S16384x1024_S16384x1024_S16384x2048_d1 := by decide
  slices_S2x2048x2048_S1x2048x2048_1_0_0 := by decide
  shapeCasts_S1x2048x2048_S2048x2048 := by decide
  reducesTo_S16384x2048_S16384_d1 := by decide
  h_S_ := by decide
  bcast_S16384_S16384x1_0 := by decide
  bcast_S_S16384x1 := by decide
  bcast_S16384x1_S16384x2048_0_1 := by decide
  bcast_S2048_S1x2048_1 := by decide
  bcast_S1x2048_S16384x2048_0_1 := by decide
  transposes_S16384x8_S8x16384_1_0 := by decide
  bcast_S_S16384x2048 := by decide
  bcast_S_S2048x8 := by decide
  reducesTo_S2048x8_S8_d0 := by decide
  bcast_S8_S8x1_0 := by decide
  bcast_S16384_S1x16384_1 := by decide
  bcast_S8x1_S8x16384_0_1 := by decide
  bcast_S1x16384_S8x16384_0_1 := by decide
  dot_S16384x2048_S2048x2048_S16384x2048_1_0_0_1_n_n_wf := by decide
  dot_S16384x2048_S2048x8_S16384x8_1_0_0_1_n_n_wf := by decide

open Facts

/-- A conjunction of bits is 1 only if each of them is. -/
theorem fold_all {ι : Type} [DecidableEq ι] (s : Finset ι) (p : ι → Bool)
    (h : Finset.fold IntOp.andi (1#1) (fun x => BitVec.ofBool (p x)) s = 1#1) : ∀ k ∈ s, p k = true := by
  induction s using Finset.induction_on with
  | empty => intro k hk; exact absurd hk (Finset.notMem_empty k)
  | insert a s ha ih =>
    rw [Finset.fold_insert ha] at h
    obtain ⟨h1, h2⟩ := and_one _ _ h
    intro k hk
    rcases Finset.mem_insert.mp hk with rfl | hk
    · revert h1; cases p k <;> decide
    · exact ih h2 k hk

theorem finite_all {n : ℕ} (f : Fin n → EReal)
    (h : Finset.fold IntOp.andi (1#1) (fun x : Fin n => BitVec.ofBool (decide ((FloatOps.absf (F := Ideal) (φ := .f32) (f x) : EReal) < Ideal.ofBits .f32 2139095040#32))) Finset.univ = 1#1)
    (k : Fin n) : f k ≠ ⊥ ∧ f k ≠ ⊤ := by
  have := of_decide_eq_true (fold_all Finset.univ (fun x => decide ((FloatOps.absf (F := Ideal) (φ := .f32) (f x) : EReal) < Ideal.ofBits .f32 2139095040#32)) h k (Finset.mem_univ k))
  rw [bits_top] at this
  exact finite_of _ this

/-- The mask of the logits, over the normalised rows. -/
def bits (h : FVec Ideal S16384x2048 .f32) (r : FVec Ideal S2048x8 .f32) : IVec S8x16384 1 :=
  andi (broadcastInDim S8x16384 ![0, 1] bcast_S8x1_S8x16384_0_1 (broadcastInDim S8x1 ![0] bcast_S8_S8x1_0
      (Host.reduce IntOp.andi (cmpf .olt (Host.absf r) (broadcastInDim S2048x8 ![] bcast_S_S2048x8 (constant (F := Ideal) S_ .f32 0x7F800000#32))) (constantI S_ 1 1#1) reducesTo_S2048x8_S8_d0 h_S_)))
    (broadcastInDim S8x16384 ![0, 1] bcast_S1x16384_S8x16384_0_1 (broadcastInDim S1x16384 ![1] bcast_S16384_S1x16384_1
      (Host.reduce IntOp.andi (cmpf .olt (Host.absf h) (broadcastInDim S16384x2048 ![] bcast_S_S16384x2048 (constant (F := Ideal) S_ .f32 0x7F800000#32))) (constantI S_ 1 1#1) reducesTo_S16384x2048_S16384_d1 h_S_)))

theorem fn_bits (A B : FVec Ideal S16384x1024 .bf16) (W : FVec Ideal S2x2048x2048 .f32) (X : FVec Ideal S16384x2048 .f32) (G : FVec Ideal S2048 .f32)
    (R : FVec Ideal S2048x8 .f32) : (fn (F := Ideal) A B W X G R).2.2 = bits (resH (resX A B W X) G) R := rfl

theorem bits_at (h : FVec Ideal S16384x2048 .f32) (r : FVec Ideal S2048x8 .f32) (e : Fin 8) (n : Fin 16384) (hb : bits h r (ix2 e n) = 1#1) :
    (∀ k : Fin 2048, r (ix2 k e) ≠ ⊥ ∧ r (ix2 k e) ≠ ⊤) ∧ ∀ k : Fin 2048, h (ix2 n k) ≠ ⊥ ∧ h (ix2 n k) ≠ ⊤ := by
  revert hb
  pointwise [bits]
  intro hb
  obtain ⟨h1, h2⟩ := and_one _ _ hb
  exact ⟨finite_all (fun k => r (ix2 k e)) h1, finite_all (fun k => h (ix2 n k)) h2⟩

end Cert.On_finite_logits.Mix
end
-- ==== Proof.SlotsKer.lean ====
/- The slots kernel's block, read at an index: each token's places, from its expert's first slot and its rank there. -/
module
public import proofs.«01_k».proof.Proof.Gen.SlotsIdeal.Frame
public import proofs.«01_k».proof.Proof.LruMath
public import Idealize.ShloMosaic.Lib.WritesUnit
public import Idealize.ShloMosaic.Lib.VecWindow
@[expose] public section
set_option maxRecDepth 16384
noncomputable section
open Idealize.ShloMosaic Idealize.ShloMosaic.TcCoe Idealize.SL.Sem

namespace Cert.SlotsIdeal.Place
open Cert.SlotsIdeal Cert.SlotsIdeal.Gen Cert.LruMath

/-- The table's word for expert `e`, or zero when `e` is not the expert `k`. -/
def term (e : BitVec 32) (k w : BitVec 32) : BitVec 32 := Scalar.select (IntOp.cmpi .eq e k) w 0#32

/-- The first slot of expert `e`, from the eight words of the table. -/
def start (T : Fin 8 → BitVec 32) (e : BitVec 32) : BitVec 32 :=
  term e 0 (T 0) + term e 1 (T 1) + term e 2 (T 2) + term e 3 (T 3) + term e 4 (T 4) + term e 5 (T 5) + term e 6 (T 6) + term e 7 (T 7)

/-- Entry `r` of a token's column: its two places in rows 4 and 5, the other rows as they were. -/
def placed (T : Fin 8 → BitVec 32) (col : Fin 8 → BitVec 32) (r : Fin 8) : BitVec 32 :=
  if r.val = 4 then col 2 + start T (col 0) else if r.val = 5 then col 3 + start T (col 1) else col r

section
variable {F : FTy → Type} [FloatOps F]

theorem load_whole (arg2 : Memref sig .tc .vmem S8x2048 .i32) (harg2 : arg2.IsWhole) (x0 : Vec F S8x2048 .i32) :
    arg2.view.readAt (Elt F) (Rect.unit ![0, 0] S8x2048.size inb_S8x2048_S8x2048_0_0).toLoadRect (harg2.unread x0) = x0 := by
  rw [View.readAt_full, harg2.read_unread]

/-- Two rows stored over a block. -/
theorem rows_at (p5 p4 : Vec F S1x2048 .i32) (z : Vec F S8x2048 .i32) (r : Fin 8) (n : Fin 2048) :
    VO0_1.read (Elt F) (VO0_1.writes (Elt F) VO0_1.junk
      ([⟨Rect.unit ![5, 0] ![1, 2048] inb_S8x2048_S1x2048_5_0, p5⟩, ⟨Rect.unit ![4, 0] ![1, 2048] inb_S8x2048_S1x2048_4_0, p4⟩,
        ⟨Rect.unit ![0, 0] ![8, 2048] inb_S8x2048_S8x2048_0_0, z⟩] : List (View.Piece (Elt F) S8x2048 .i32))) (ix2 r n)
      = if r.val = 4 then p4 (ix2 (0 : Fin 1) n) else if r.val = 5 then p5 (ix2 (0 : Fin 1) n) else z (ix2 r n) := by
  by_cases h4 : r.val = 4
  · obtain rfl : r = 4 := Fin.ext h4
    rw [if_pos h4]
    refine (View.read_writes_cons_rows_of_not_mem (o := 5) (W := 1) _ _ _ _ _ _ rfl rfl (.inl (by change 4 < 5; omega))).trans ?_
    exact View.read_writes_cons_rows_of_mem (o := 4) _ _ _ _ _ _ (ix2 (0 : Fin 1) n) rfl rfl rfl
  · rw [if_neg h4]
    by_cases h5 : r.val = 5
    · obtain rfl : r = 5 := Fin.ext h5
      rw [if_pos h5]
      exact View.read_writes_cons_rows_of_mem (o := 5) _ _ _ _ _ _ (ix2 (0 : Fin 1) n) rfl rfl rfl
    · rw [if_neg h5]
      refine (View.read_writes_cons_rows_of_not_mem (o := 5) (W := 1) _ _ _ _ _ _ rfl rfl ?_).trans ?_
      · rcases Nat.lt_or_ge r.val 5 with h | h
        · exact .inl h
        · exact .inr (by change 6 ≤ r.val; omega)
      refine (View.read_writes_cons_rows_of_not_mem (o := 4) (W := 1) _ _ _ _ _ _ rfl rfl ?_).trans ?_
      · rcases Nat.lt_or_ge r.val 4 with h | h
        · exact .inl h
        · exact .inr (by change 5 ≤ r.val; omega)
      exact View.read_writes_cons_rows_of_mem (o := 0) _ _ _ _ _ _ (ix2 r n) rfl (Nat.zero_add _).symm rfl

/-- The table's word `k`, as the kernel reads it. -/
def word (T : S24.Idx → BitVec 32) (k : Fin 8) : BitVec 32 := T (ix1 (⟨k.val, by omega⟩ : Fin 24))

section
variable (c : Dev nD) (i : grid0.Coords) (arg2 : Memref sig .tc .vmem S8x2048 .i32) (harg2 : arg2.IsWhole) (arg3 : Memref sig .tc .vmem S8x2048 .i32) (harg3 : arg3.IsWhole)
    (x0 : Vec F S8x2048 .i32) (xt0 : TbBuf0 (F := F) c tbM0_0)
theorem w0 : kernelRun0_A.sl.r c xt0 = word xt0 0 := by
  unfold kernelRun0_A.sl.r word
  exact congrArg (xt0 : S24.Idx → BitVec 32) (funext fun a => Fin.ext (by fin_cases a; rfl))
theorem w1 : kernelRun0_A.sl.r_1 c xt0 = word xt0 1 := by
  unfold kernelRun0_A.sl.r_1 word
  exact congrArg (xt0 : S24.Idx → BitVec 32) (funext fun a => Fin.ext (by fin_cases a; rfl))
theorem w2 : kernelRun0_A.sl.r_2 c xt0 = word xt0 2 := by
  unfold kernelRun0_A.sl.r_2 word
  exact congrArg (xt0 : S24.Idx → BitVec 32) (funext fun a => Fin.ext (by fin_cases a; rfl))
theorem w3 : kernelRun0_A.sl.r_4 c xt0 = word xt0 3 := by
  unfold kernelRun0_A.sl.r_4 word
  exact congrArg (xt0 : S24.Idx → BitVec 32) (funext fun a => Fin.ext (by fin_cases a; rfl))
theorem w4 : kernelRun0_A.sl.r_5 c xt0 = word xt0 4 := by
  unfold kernelRun0_A.sl.r_5 word
  exact congrArg (xt0 : S24.Idx → BitVec 32) (funext fun a => Fin.ext (by fin_cases a; rfl))
theorem w5 : kernelRun0_A.sl.r_6 c xt0 = word xt0 5 := by
  unfold kernelRun0_A.sl.r_6 word
  exact congrArg (xt0 : S24.Idx → BitVec 32) (funext fun a => Fin.ext (by fin_cases a; rfl))
theorem w6 : kernelRun0_A.sl.r_7 c xt0 = word xt0 6 := by
  unfold kernelRun0_A.sl.r_7 word
  exact congrArg (xt0 : S24.Idx → BitVec 32) (funext fun a => Fin.ext (by fin_cases a; rfl))
theorem w7 : kernelRun0_A.sl.r_8 c xt0 = word xt0 7 := by
  unfold kernelRun0_A.sl.r_8 word
  exact congrArg (xt0 : S24.Idx → BitVec 32) (funext fun a => Fin.ext (by fin_cases a; rfl))

theorem v85_eq : kernelRun0_A.sl.v85 c arg2 harg2 x0 xt0
    = k0_pay6 x0 (k0_pay2 x0 (word xt0 0) (word xt0 1) (word xt0 2)) (word xt0 3) (word xt0 4) (word xt0 5) := by
  have e3 : kernelRun0_A.sl.r_3 c arg2 harg2 x0 = x0 := by unfold kernelRun0_A.sl.r_3; rw [load_whole]
  have h : kernelRun0_A.sl.v85 c arg2 harg2 x0 xt0 = k0_pay6 (kernelRun0_A.sl.r_3 c arg2 harg2 x0)
      (k0_pay2 (kernelRun0_A.sl.r_3 c arg2 harg2 x0) (kernelRun0_A.sl.r c xt0) (kernelRun0_A.sl.r_1 c xt0) (kernelRun0_A.sl.r_2 c xt0))
      (kernelRun0_A.sl.r_4 c xt0) (kernelRun0_A.sl.r_5 c xt0) (kernelRun0_A.sl.r_6 c xt0) := rfl
  rw [h, e3, w0, w1, w2, w3, w4, w5]
theorem v77_eq : kernelRun0_A.sl.v77 c arg2 harg2 x0 xt0
    = k0_pay5 x0 (k0_pay1 x0 (word xt0 0) (word xt0 1)) (word xt0 2) (k0_pay3 x0) k0_pay4 (word xt0 3) (word xt0 4) := by
  have e3 : kernelRun0_A.sl.r_3 c arg2 harg2 x0 = x0 := by unfold kernelRun0_A.sl.r_3; rw [load_whole]
  have h : kernelRun0_A.sl.v77 c arg2 harg2 x0 xt0 = k0_pay5 (kernelRun0_A.sl.r_3 c arg2 harg2 x0)
      (k0_pay1 (kernelRun0_A.sl.r_3 c arg2 harg2 x0) (kernelRun0_A.sl.r c xt0) (kernelRun0_A.sl.r_1 c xt0)) (kernelRun0_A.sl.r_2 c xt0)
      (k0_pay3 (kernelRun0_A.sl.r_3 c arg2 harg2 x0)) k0_pay4
      (kernelRun0_A.sl.r_4 c xt0) (kernelRun0_A.sl.r_5 c xt0) := rfl
  rw [h, e3, w0, w1, w2, w3, w4]
theorem v56_eq : kernelRun0_A.sl.v56 c arg2 harg2 x0 = k0_pay7 x0 := by
  have e3 : kernelRun0_A.sl.r_3 c arg2 harg2 x0 = x0 := by unfold kernelRun0_A.sl.r_3; rw [load_whole]
  have h : kernelRun0_A.sl.v56 c arg2 harg2 x0 = k0_pay7 (kernelRun0_A.sl.r_3 c arg2 harg2 x0) := rfl
  rw [h, e3]

set_option maxHeartbeats 2000000 in
theorem out_at (r : Fin 8) (n : Fin 2048) : out0_A_1 c i arg2 harg2 arg3 harg3 x0 xt0 (ix2 r n)
    = placed (word xt0) (fun k => x0 (ix2 k n)) r := by
  unfold out0_A_1
  dsimp only [kernelRun0_A]
  refine (rows_at _ _ _ r n).trans ?_
  have e3 : kernelRun0_A.sl.r_3 c arg2 harg2 x0 = x0 := by unfold kernelRun0_A.sl.r_3; rw [load_whole]
  have e8 : (kernelRun0_A.sl.v80 : IVec S1x2048 32) = k0_pay8 := rfl
  rw [e3, v85_eq, v77_eq, v56_eq, e8, w5, w6, w7]
  unfold placed start term
  by_cases h4 : r.val = 4
  · rw [if_pos h4, if_pos h4]
    simp only [← BitVec.add_assoc]
    pointwise [k0_pay9, k0_pay6, k0_pay2]
    rfl
  · rw [if_neg h4, if_neg h4]
    by_cases h5 : r.val = 5
    · rw [if_pos h5, if_pos h5]
      simp only [← BitVec.add_assoc]
      pointwise [k0_pay10, k0_pay5, k0_pay1, k0_pay3, k0_pay4, k0_pay7, k0_pay8]
      rfl
    · rw [if_neg h5, if_neg h5]
end
end

variable (m : (ℓ : Loc nD τ sig) → Buf (Elt Ideal) ℓ) (ρ : Dev nD → PrngReg) (hO : Ok m) (c : Dev nD)

/-- The table of first slots. -/
abbrev aT : S24.Idx → BitVec 32 := m ((c : Thread nD τ).loc main_arg0)
/-- The tokens' experts and ranks. -/
abbrev aI : S8x16384.Idx → BitVec 32 := m ((c : Thread nD τ).loc main_arg1)

theorem tab : word (tbl m 0) = word (aT m c) := by
  obtain rfl : c = 0 := Subsingleton.elim _ _
  rfl

theorem where0 : ∀ t : Fin grid0.N, cc0_transform_0 (grid0.coords t) = ![0, t.val] := by decide +kernel
theorem where1 : ∀ t : Fin grid0.N, cc0_transform_1 (grid0.coords t) = ![0, t.val] := by decide +kernel
theorem lt8 (t : Fin grid0.N) : t.val < 8 := t.isLt

/-- What every entry of the result is. -/
def G : S8x16384.Idx → BitVec 32 := fun i => placed (word (aT m c)) (fun k => aI m c (ix2 k (i 1))) (i 0)

/-- Where point `t` writes back the place `y` of its block. -/
abbrev place (t : Fin (cfgM m hO).N) (y : S8x2048.Idx) : S8x16384.Idx := (((cfgM m hO).win 1).blk t).view.emb y

theorem sum_zero (b x : ℕ) : 0 * b + 1 * x = x := by omega
theorem sum_one (a b x : ℕ) : a * b + 1 * x = a * b + x := by omega

theorem place_at (t : Fin (cfgM m hO).N) (p : Fin 8) (q : Fin 2048) :
    place m hO t (ix2 p q) = ix2 p ⟨t.val * 2048 + q.val, by have := lt8 t; omega⟩ := by
  funext a
  match a with
  | ⟨0, _⟩ =>
    refine Fin.ext ?_
    show cc0_transform_1 (grid0.coords t) 0 * 8 + 1 * p.val = _
    rw [where1]
    exact sum_zero _ _
  | ⟨1, _⟩ =>
    refine Fin.ext ?_
    show cc0_transform_1 (grid0.coords t) 1 * 2048 + 1 * q.val = _
    rw [where1]
    exact sum_one _ _ _

theorem x_at (t : Fin (cfgM m hO).N) (p : Fin 8) (q : Fin 2048) :
    iblk m hO c 0 t (ix2 p q) = aI m c (ix2 p ⟨t.val * 2048 + q.val, by have := lt8 t; omega⟩) := by
  refine congrArg (aI m c) (funext fun a => ?_)
  match a with
  | ⟨0, _⟩ =>
    refine Fin.ext ?_
    show cc0_transform_0 (grid0.coords t) 0 * 8 + 1 * p.val = _
    rw [where0]
    exact sum_zero _ _
  | ⟨1, _⟩ =>
    refine Fin.ext ?_
    show cc0_transform_0 (grid0.coords t) 1 * 2048 + 1 * q.val = _
    rw [where0]
    exact sum_one _ _ _

theorem flushed_eq (t : Fin (cfgM m hO).N) : (dats m hO 0 c).flushed 1 t = (((cfgM m hO).win 1).blk t).view.read (Elt Ideal) (G m c) := by
  show ((cfgM m hO).win 1).cut (grid0.coords t) ((dats m hO 0 c).after 1 t) = _
  rw [after0_1]
  refine funext fun y : S8x2048.Idx => ?_
  obtain ⟨p, q, rfl⟩ : ∃ (p : Fin 8) (q : Fin 2048), y = ix2 p q := ⟨y 0, y 1, by idx_vars y⟩
  refine Eq.trans (b := placed (word (tbl m 0)) (fun k => iblk m hO c 0 t (ix2 k q)) p)
    (out_at c (grid0.coords t) _ _ _ _ (iblk m hO c 0 t) (tbl m 0) p q) ?_
  refine Eq.trans ?_ (congrArg (G m c) (place_at m hO t p q)).symm
  rw [tab m c]
  exact congrArg (fun f => placed (word (aT m c)) f p) (funext fun k => x_at m hO c t k q)

theorem mem_blk (t : Fin (cfgM m hO).N) (i : S8x16384.Idx) :
    i ∈ (((cfgM m hO).win 1).blk t).view.set ↔ ∀ a : Fin 2, cc0_transform_1 (grid0.coords t) a * S8x2048.size a ≤ (i a).val ∧ (i a).val < cc0_transform_1 (grid0.coords t) a * S8x2048.size a + S8x2048.size a := by
  have e : (((cfgM m hO).win 1).blk t).view.set = (((cfgM m hO).win 1).rect t : Rect S8x16384).set := View.set_slice_whole main_v0 (((cfgM m hO).win 1).rect t)
  rw [e]
  exact Rect.mem_set_unit (s := S8x16384)

theorem covered (i : S8x16384.Idx) : ∃ t : Fin (cfgM m hO).N, ((cfgM m hO).win 1).flush t = true ∧ i ∈ (((cfgM m hO).win 1).blk t).view.set := by
  have hi0 : (i 0).val < 8 := (i 0).isLt
  have hi1 : (i 1).val < 16384 := (i 1).isLt
  have hN : (cfgM m hO).N = 8 := N_0
  have hlt : (i 1).val / 2048 < (cfgM m hO).N := by omega
  refine ⟨⟨(i 1).val / 2048, hlt⟩, flush0_1 (adm m hO) _, ?_⟩
  refine (mem_blk m hO _ i).mpr ?_
  have hw := where1 ⟨(i 1).val / 2048, hlt⟩
  intro a
  rw [hw]
  match a with
  | ⟨0, _⟩ =>
    show 0 * 8 ≤ (i 0).val ∧ (i 0).val < 0 * 8 + 8
    omega
  | ⟨1, _⟩ =>
    show (i 1).val / 2048 * 2048 ≤ (i 1).val ∧ (i 1).val < (i 1).val / 2048 * 2048 + 2048
    omega

theorem final : (dats m hO 0 c).arrAt 1 (cfgM m hO).N = G m c :=
  (dats m hO 0 c).arrAt_eq_of_cover 1 _ (fun t _ => flushed_eq m hO c t) (fun i => covered m hO i)

/-- Every run ends with the result at `G` and the arguments as they were. -/
theorem run : θ_run defs (onTc (τ := τ) (main (F := Ideal))) ⟨m, fun _ => 0, ρ⟩ fun r => ∀ c : Dev nD,
      r.2.mem ((c.tc : Thread nD τ).loc main_v0) = G m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨(h.1 c).trans (final m trivial c), h.2 c⟩)
    (θ_run_and ((θ_run defs _ _).mono (fun r h c => (h c).1 1) (run_main m ρ trivial)) (unchanged m ρ trivial))

end Cert.SlotsIdeal.Place
end
-- ==== Proof.SlotsRef.lean ====
/- The slots reference, read at an index. -/
module
public import proofs.«01_k».proof.Proof.LruMath
public import proofs.«01_k».proof.Proof.Gen.SlotsRefIdeal.Run
public import proofs.«01_k».proof.Proof.SlotsKer
@[expose] public section
set_option maxRecDepth 16384
noncomputable section
open Idealize.ShloMosaic Idealize.ShloMosaic.TcCoe Idealize.SL.Sem

namespace Cert.SlotsRefIdeal.Place
open Cert.SlotsRefIdeal Cert.SlotsRefIdeal.Gen Cert.LruMath Cert.SlotsIdeal.Place
variable (T : IVec S24 32) (I : IVec S8x16384 32)

/-- The first slot of every token's expert, its expert's number being in row 0 or row 1. -/
def starts (E : IVec S1x16384 32) : IVec S16384 32 :=
  Host.reduce IntOp.addi (select (cmpi .eq (broadcastInDim S8x16384 ![0, 1] bcast_S1x16384_S8x16384_0_1 (broadcastInDim S1x16384 ![1] bcast_S16384_S1x16384_1 (shapeCast _ E shapeCasts_S1x16384_S16384))) (broadcastInDim S8x16384 ![0, 1] bcast_S8x1_S8x16384_0_1 (broadcastInDim S8x1 ![0] bcast_S8_S8x1_0 (iotaInDim S8 32 0)))) (broadcastInDim S8x16384 ![0, 1] bcast_S8x1_S8x16384_0_1 (broadcastInDim S8x1 ![0] bcast_S8_S8x1_0 (extractStridedSlice S8 ![0] T slices_S24_S8_0))) (broadcastInDim S8x16384 ![] bcast_S_S8x16384 (id (constantI S_ 32 0#32)))) (constantI S_ 32 0#32) reducesTo_S8x16384_S16384_d0 h_S_

/-- One row of places: the ranks and the first slots added. -/
def row (E R : IVec S1x16384 32) : IVec S1x16384 32 :=
  broadcastInDim S1x16384 ![1] bcast_S16384_S1x16384_1 (addi (shapeCast _ R shapeCasts_S1x16384_S16384) (starts T E))

/-- The result. -/
def res : IVec S8x16384 32 :=
  concatenate S8x16384 0 [⟨S4x16384, extractStridedSlice S4x16384 ![0, 0] I slices_S8x16384_S4x16384_0_0⟩,
    ⟨S1x16384, row T (extractStridedSlice S1x16384 ![0, 0] I slices_S8x16384_S1x16384_0_0) (extractStridedSlice S1x16384 ![2, 0] I slices_S8x16384_S1x16384_2_0)⟩,
    ⟨S1x16384, row T (extractStridedSlice S1x16384 ![1, 0] I slices_S8x16384_S1x16384_1_0) (extractStridedSlice S1x16384 ![3, 0] I slices_S8x16384_S1x16384_3_0)⟩,
    ⟨S2x16384, extractStridedSlice S2x16384 ![6, 0] I slices_S8x16384_S2x16384_6_0⟩] concatenates_S4x16384_S1x16384_S1x16384_S2x16384_S8x16384_d0

theorem fold_eight (f : Fin 8 → BitVec 32) : Finset.fold IntOp.addi (0#32) f Finset.univ
    = f 0 + f 1 + f 2 + f 3 + f 4 + f 5 + f 6 + f 7 := by
  have h : Finset.fold IntOp.addi (0#32) f Finset.univ = f 0 + (f 1 + (f 2 + (f 3 + (f 4 + (f 5 + (f 6 + (f 7 + 0#32))))))) := rfl
  rw [h, BitVec.add_zero]
  simp only [BitVec.add_assoc]

theorem starts_at (E : IVec S1x16384 32) (n : Fin 16384) : starts T E (ix1 n) = start (word T) (E (ix2 0 n)) := by
  pointwise [starts]
  rw [fold_eight]
  rfl

theorem row_at (E R : IVec S1x16384 32) (n : Fin 16384) : row T E R (ix2 (0 : Fin 1) n) = R (ix2 0 n) + start (word T) (E (ix2 0 n)) := by
  rw [← starts_at]
  pointwise [row]
  rfl

theorem res_at (r : Fin 8) (n : Fin 16384) : res T I (ix2 r n) = placed (word T) (fun k => I (ix2 k n)) r := by
  have hr := r.isLt
  pointwise [res]
  unfold placed
  by_cases h : r.val < 4
  · rw [dif_pos h, if_neg (by omega), if_neg (by omega)]
  rw [dif_neg h]
  by_cases h4 : r.val = 4
  · rw [dif_pos (by omega), if_pos h4]
    obtain rfl : r = 4 := Fin.ext h4
    refine (row_at T _ _ n).trans ?_
    pointwise []
  rw [dif_neg (by omega), if_neg h4]
  by_cases h5 : r.val = 5
  · rw [dif_pos (by omega), if_pos h5]
    obtain rfl : r = 5 := Fin.ext h5
    refine (row_at T _ _ n).trans ?_
    pointwise []
  rw [dif_neg (by omega), if_neg h5]
  exact congrArg (fun z : Fin 8 => I (ix2 z n)) (Fin.ext (by show 6 + (r.val - 4 - 1 - 1) = r.val; omega))

end Cert.SlotsRefIdeal.Place
end
-- ==== Proof.ExpertsIdealKit.lean ====
module

public import proofs.«01_k».proof.Proof.Gen.ExpertsIdeal.Launch
public import proofs.«01_k».proof.Proof.Gen.ExpertsIdeal.Skeleton
public import Idealize.ShloMosaic.Lib.Pipeline.Kit
public import Idealize.ShloMosaic.Lib.Pipeline.FrameBody
public import Idealize.ShloMosaic.Lib.Pipeline.TableIdle
public import Idealize.ShloMosaic.Lib.Pipeline.Value
public import Idealize.ShloMosaic.Lib.Ring
public import Idealize.ShloMosaic.Lib.Tactic
public import Idealize.ShloMosaic.Lib.WordCmp

/-! What the experts call's host lines leave to its region, and what one run of its body does.

The body at block `b`, part `f` of the hidden axis: at `f = 0` it rounds the block of rows into a
scratch buffer and sets the output block to zero; when `b` is below the number of blocks in use it
adds the part's contribution. So a run of the body is one of four cases. -/

@[expose] public section

set_option maxRecDepth 16384

noncomputable section

namespace Cert.ExpertsIdeal.Own

open Cert.ExpertsIdeal Cert.ExpertsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The output block is written back at the last part of each block of rows. -/
theorem flush4 (a : (pcfg0 (F := F)).Adm) : ∀ t : Fin (cfg0 a).N, ((cfg0 a).win 4).flush t = true ↔ t.val % 3 = 2 :=
  (fun t => Pipeline.Window.flushOf_reads cc0_transform_4 reads0_4 hreads0_4 0 (by decide) (by decide) (Pipeline.Window.sep_of_coord cc0_transform_4 0 0 (fun _ => rfl) (by decide)) (P := 3) (m := 2) (by decide) rfl t : ∀ t : Fin grid0.N, Pipeline.Window.flushOf grid0 true cc0_transform_4 t = true ↔ t.val % 3 = 2)

/-- The body as it is called at point `t`. -/
abbrev bodyAt (a : (pcfg0 (F := F)).Adm) (t : Fin (cfg0 a).N) : Prog (TpuEff nD τ sig (Elt F) Λ₀ .tc) PUnit :=
  cc0_experts (grid0.coords t) (Memref.whole main_v20) (Memref.isWhole_whole _) (Memref.whole main_arg1) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (Memref.whole cc0_scratch0) (Memref.isWhole_whole _)

/-- What a buffer holds after the host lines. -/
abbrev V (c : Dev nD) (b : Ref sig .tc) : Buf (Elt F) ((c : Thread nD τ).loc b) := StableHlo.after hostOps0 (fun b => m (c, b)) b

theorem host_fresh : (hostOps0 : List (HloOp τ sig (Elt F))).Forall fun op => op.fresh = ∅ := by
  simp only [List.Forall]; repeat' constructor

set_option maxHeartbeats 800000 in
/-- The program is its host lines, then the region. -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub host_fresh main_chain

/-- No host line writes argument 0. -/
theorem V_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host line writes argument 1. -/
theorem V_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host line writes argument 2. -/
theorem V_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host line writes argument 3. -/
theorem V_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host line writes argument 4. -/
theorem V_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host line writes argument 5. -/
theorem V_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- The two tables (the blocks' experts, the number of blocks in use) as the region finds them. -/
def tbl : pre0.Contents (Elt F) := fun j => V m (0 : Dev nD) (pre0.ref j)
theorem V_pre (c : Dev nD) (j : Fin 2) : V m c (pre0.ref j) = tbl m j := by
  obtain rfl : c = 0 := Subsingleton.elim _ _; rfl
/-- At these tables every block lies inside its array. -/
abbrev Ok : Prop := ok0 (F := F) (tbl m)
abbrev adm (hO : Ok m) : (pcfg0 (F := F)).Adm := ⟨tbl m, hO⟩
abbrev cfgM (hO : Ok m) : Pipeline.Cfg sig Λ₀ := cfg0 (adm m hO)

abbrev tb0 : Memref sig .tc .smem S72 .i32 := Memref.whole main_v20
abbrev htb0 : tb0.IsWhole := Memref.isWhole_whole _
abbrev tb1 : Memref sig .tc .smem S1 .i32 := Memref.whole main_arg1
abbrev htb1 : tb1.IsWhole := Memref.isWhole_whole _

/-- A table held at half the share: the body only reads it. -/
abbrev TbBuf (c : Dev nD) {S : Shape} {e : EltTy} (M : Memref sig .tc .smem S e) : Type := Buf (Elt F) (M.view.loc (c : Thread nD τ))
abbrev tbPt (c : Dev nD) {S : Shape} {e : EltTy} (M : Memref sig .tc .smem S e) (f : TbBuf (F := F) c M) : sProp 𝕄 :=
  M.view.loc (c : Thread nD τ) ↦{fullShare.right} f

theorem PhiT_eq (c : Dev nD) : (Pipeline.ΦT pre0 (tbl m) c : sProp 𝕄) = iprop(tbPt c tb0 (tbl m 0) ∗ tbPt c tb1 (tbl m 1)) := by
  unfold Pipeline.ΦT Pipeline.prefHeld
  rw [show (Finset.univ : Finset (Fin 2)) = insert (0 : Fin 2) {(1 : Fin 2)} from by decide,
    bigSep_insert (by decide), bigSep_singleton]
  rfl

/-- Window `w`'s block at point `t`, read from its array. -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

theorem before0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- A run of the region leaves the arguments as they were. -/
theorem frame_of (hO : Ok m) (dats : (p : Fin 1) → (c : Dev nD) → Dat τ (Elt F) Unit ℕ (UR sig nD τ) ℕ ((Pipeline.pin pcfgs fun _ => adm m hO) p) c)
    (hA : ∀ c w, (dats 0 c).A w = V m c (Pipeline.arrRef spec0 w))
    (h : θ_run defs (onTc (τ := τ) (main (F := F))) (s₀ m ρ) (Pipeline.FramePost (Pipeline.pin pcfgs fun _ => adm m hO) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).2 main_arg0 (by decide : main_arg0 ∈ Pipeline.restRefs sig spec0)).trans (V_arg0 m c),
      ((h c).2 main_arg1 (by decide : main_arg1 ∈ Pipeline.restRefs sig spec0)).trans (V_arg1 m c),
      ((h c).1 0).trans (((dats 0 c).arrAt_in 0 rfl _).trans ((hA c 0).trans (V_arg2 m c))),
      ((h c).2 main_arg3 (by decide : main_arg3 ∈ Pipeline.restRefs sig spec0)).trans (V_arg3 m c),
      ((h c).2 main_arg4 (by decide : main_arg4 ∈ Pipeline.restRefs sig spec0)).trans (V_arg4 m c),
      ((h c).2 main_arg5 (by decide : main_arg5 ∈ Pipeline.restRefs sig spec0)).trans (V_arg5 m c)⟩) h

/-- The first condition holds at the first part of each block. -/
theorem cond1_iff : ∀ t : Fin grid0.N, k0_cond1 (grid0.coords t) = 1#1 ↔ t.val % 3 = 0 :=
  (fun t => by
    have ht : t.val < 216 := Nat.lt_of_lt_of_eq t.isLt N_0
    have e0 : (grid0.coords t 0).val = t.val / 3 % 72 := Pipeline.Grid.coords_val t 0 (by decide) rfl
    have e1 : (grid0.coords t 1).val = t.val / 1 % 3 := Pipeline.Grid.coords_val t 1 (by decide) rfl
    simp only [k0_cond1, e0, e1]
    word_cmp
   : ∀ t : Fin grid0.N, k0_cond1 (grid0.coords t) = 1#1 ↔ t.val % 3 = 0)

abbrev ms0 (hO : Ok m) (t : Fin (cfgM m hO).N) : Memref sig .tc .vmem S512x2048 .f32 := spec0_0.stage ((cfgM m hO).slots t 0)
abbrev hs0 (hO : Ok m) (t : Fin (cfgM m hO).N) : (ms0 m hO t).IsWhole := hstage0_0 (((cfgM m hO).slots t 0).cast nbuf0_0)
abbrev ms1 (hO : Ok m) (t : Fin (cfgM m hO).N) : Memref sig .tc .vmem S1x2048x1024 .bf16 := spec0_1.stage ((cfgM m hO).slots t 1)
abbrev hs1 (hO : Ok m) (t : Fin (cfgM m hO).N) : (ms1 m hO t).IsWhole := hstage0_1 (((cfgM m hO).slots t 1).cast nbuf0_1)
abbrev ms2 (hO : Ok m) (t : Fin (cfgM m hO).N) : Memref sig .tc .vmem S1x2048x1024 .bf16 := spec0_2.stage ((cfgM m hO).slots t 2)
abbrev hs2 (hO : Ok m) (t : Fin (cfgM m hO).N) : (ms2 m hO t).IsWhole := hstage0_2 (((cfgM m hO).slots t 2).cast nbuf0_2)
abbrev ms3 (hO : Ok m) (t : Fin (cfgM m hO).N) : Memref sig .tc .vmem S1x1024x2048 .bf16 := spec0_3.stage ((cfgM m hO).slots t 3)
abbrev hs3 (hO : Ok m) (t : Fin (cfgM m hO).N) : (ms3 m hO t).IsWhole := hstage0_3 (((cfgM m hO).slots t 3).cast nbuf0_3)
abbrev ms4 (hO : Ok m) (t : Fin (cfgM m hO).N) : Memref sig .tc .vmem S512x2048 .f32 := spec0_4.stage ((cfgM m hO).slots t 4)
abbrev hs4 (hO : Ok m) (t : Fin (cfgM m hO).N) : (ms4 m hO t).IsWhole := hstage0_4 (((cfgM m hO).slots t 4).cast nbuf0_4)
abbrev scM : Memref sig .tc .vmem S512x2048 .bf16 := Memref.whole cc0_scratch0

theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

theorem hz2 : (![0, 0] : Fin 2 → Nat) = fun _ => 0 := funext fun a => by fin_cases a <;> rfl
theorem hz3 : (![0, 0, 0] : Fin 3 → Nat) = fun _ => 0 := funext fun a => by fin_cases a <;> rfl

/-- The word the body reads from the second table. -/
abbrev word {c : Dev nD} (xt1 : TbBuf (F := F) c tb1) : BitVec 32 := View.readAt (Elt F) tb1.view (Rect.unit (s := S1) ![0] S1.size inb_S1_S1_0).toLoadRect xt1 (Shape.Idx.first (numel1_S1.symm ▸ Nat.one_pos))

set_option maxHeartbeats 1000000 in
/-- First part of a block in use. -/
theorem runA (c : Dev nD) (i : grid0.Coords) (arg4 : Memref sig .tc .vmem S512x2048 .f32) (harg4 : arg4.IsWhole) (arg5 : Memref sig .tc .vmem S1x2048x1024 .bf16) (harg5 : arg5.IsWhole) (arg6 : Memref sig .tc .vmem S1x2048x1024 .bf16) (harg6 : arg6.IsWhole) (arg7 : Memref sig .tc .vmem S1x1024x2048 .bf16) (harg7 : arg7.IsWhole) (arg8 : Memref sig .tc .vmem S512x2048 .f32) (harg8 : arg8.IsWhole) (arg9 : Memref sig .tc .vmem S512x2048 .bf16) (harg9 : arg9.IsWhole) (hc0 : k0_cond1 i = 1#1)
    (x0 : Vec F S512x2048 .f32) (x1 : Vec F S1x2048x1024 .bf16) (x2 : Vec F S1x2048x1024 .bf16) (x3 : Vec F S1x1024x2048 .bf16) (xt0 : TbBuf (F := F) c tb0) (xt1 : TbBuf (F := F) c tb1)
    (hc1 : k0_cond2 i (word xt1) = 1#1) (E : Set ℕ) (K : PUnit → sProp 𝕄) :
        iprop(owns (c : Thread nD τ) arg4 fullShare x0 ∗ owns (c : Thread nD τ) arg5 fullShare x1 ∗ owns (c : Thread nD τ) arg6 fullShare x2 ∗ owns (c : Thread nD τ) arg7 fullShare x3 ∗ (∃ d, owns (c : Thread nD τ) arg8 fullShare d) ∗ (∃ d, owns (c : Thread nD τ) arg9 fullShare d) ∗ tbPt c tb0 xt0 ∗ tbPt c tb1 xt1
            ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare (k0_pay3 (k0_pay1 x0) x1 x2 (k0_pay2 (F := F)) x3) ∗ owns (c : Thread nD τ) arg9 fullShare (k0_pay1 x0) ∗ tbPt c tb0 xt0 ∗ tbPt c tb1 xt1) -∗ K ⟨⟩))
          ⊢ wp frame (wpE (defs₀ (F := F)) Variants.none c none) E (cc0_experts i tb0 htb0 tb1 htb1 arg4 harg4 arg5 harg5 arg6 harg6 arg7 harg7 arg8 harg8 arg9 harg9) K := by
  simp only [cc0_experts_eq_skeleton]; unfold cc0_experts_skel
  unfold owns
  iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, HT0, HT1, Hk⟩
  obtain rfl := harg4.eq_unread hf0; obtain rfl := harg5.eq_unread hf1; obtain rfl := harg6.eq_unread hf2; obtain rfl := harg7.eq_unread hf3
  sl_exec (disch := first | sl_exact hc0 | sl_exact hc1)
  sl_step
  iapply Hk
  isplitl [H0]
  · iexists _; isplitr; · ipureintro; exact harg4.read_unread _
    iexact H0
  isplitl [H1]
  · iexists _; isplitr; · ipureintro; exact harg5.read_unread _
    iexact H1
  isplitl [H2]
  · iexists _; isplitr; · ipureintro; exact harg6.read_unread _
    iexact H2
  isplitl [H3]
  · iexists _; isplitr; · ipureintro; exact harg7.read_unread _
    iexact H3
  isplitl [H4]
  · iexists _; isplitr; swap; · iexact H4
    ipureintro
    refine (View.read_writes_eq_canon (Val := Elt F) _ _ _ (fun y => View.cover_of_tiledL _ S512x2048.size (by sl_kernel_rfl) y)).trans ?_
    try sl_unfold_words
    rw [View.canon_cons_unit_zero (S := S512x2048) hz2]
    try simp only [View.readAt_eq_ld, harg4.read_unread, harg5.read_unread, harg6.read_unread, harg7.read_unread, harg8.read_unread, harg9.read_unread, View.readCov_unit_zero (S := S512x2048) _ hz2, View.ld_unit_zero (S := S1x1024x2048) hz3, View.ld_unit_zero (S := S1x2048x1024) hz3, View.ld_unit_zero (S := S512x2048) hz2, shapeCast_self]
  isplitl [HS0]
  · iexists _; isplitr; swap; · iexact HS0
    ipureintro
    refine (View.read_writes_eq_canon (Val := Elt F) _ _ _ (fun y => View.cover_of_tiledL _ S512x2048.size (by sl_kernel_rfl) y)).trans ?_
    try sl_unfold_words
    rw [View.canon_unit_zero hz2]
    try simp only [View.readAt_eq_ld, harg4.read_unread, harg5.read_unread, harg6.read_unread, harg7.read_unread, harg8.read_unread, harg9.read_unread, View.readCov_unit_zero (S := S512x2048) _ hz2, View.ld_unit_zero (S := S1x1024x2048) hz3, View.ld_unit_zero (S := S1x2048x1024) hz3, View.ld_unit_zero (S := S512x2048) hz2, shapeCast_self]
  isplitl [HT0]; · iexact HT0
  iexact HT1

set_option maxHeartbeats 1000000 in
/-- Later part of a block in use. -/
theorem runB (c : Dev nD) (i : grid0.Coords) (arg4 : Memref sig .tc .vmem S512x2048 .f32) (harg4 : arg4.IsWhole) (arg5 : Memref sig .tc .vmem S1x2048x1024 .bf16) (harg5 : arg5.IsWhole) (arg6 : Memref sig .tc .vmem S1x2048x1024 .bf16) (harg6 : arg6.IsWhole) (arg7 : Memref sig .tc .vmem S1x1024x2048 .bf16) (harg7 : arg7.IsWhole) (arg8 : Memref sig .tc .vmem S512x2048 .f32) (harg8 : arg8.IsWhole) (arg9 : Memref sig .tc .vmem S512x2048 .bf16) (harg9 : arg9.IsWhole) (hc0 : ¬k0_cond1 i = 1#1)
    (x0 : Vec F S512x2048 .f32) (x1 : Vec F S1x2048x1024 .bf16) (x2 : Vec F S1x2048x1024 .bf16) (x3 : Vec F S1x1024x2048 .bf16) (y : Vec F S512x2048 .f32) (xb : Vec F S512x2048 .bf16) (xt0 : TbBuf (F := F) c tb0) (xt1 : TbBuf (F := F) c tb1)
    (hc1 : k0_cond2 i (word xt1) = 1#1) (E : Set ℕ) (K : PUnit → sProp 𝕄) :
        iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare y ∗ owns (c : Thread nD τ) arg9 fullShare xb ∗ tbPt c tb0 xt0 ∗ tbPt c tb1 xt1
            ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare (k0_pay3 xb x1 x2 y x3) ∗ owns (c : Thread nD τ) arg9 fullShare xb ∗ tbPt c tb0 xt0 ∗ tbPt c tb1 xt1) -∗ K ⟨⟩))
          ⊢ wp frame (wpE (defs₀ (F := F)) Variants.none c none) E (cc0_experts i tb0 htb0 tb1 htb1 arg4 harg4 arg5 harg5 arg6 harg6 arg7 harg7 arg8 harg8 arg9 harg9) K := by
  simp only [cc0_experts_eq_skeleton]; unfold cc0_experts_skel
  unfold owns
  iintro ⟨⟨%f0, %hf0, H0⟩, ⟨%f1, %hf1, H1⟩, ⟨%f2, %hf2, H2⟩, ⟨%f3, %hf3, H3⟩, ⟨%f4, %hf4, H4⟩, ⟨%fs0, %hfs0, HS0⟩, HT0, HT1, Hk⟩
  obtain rfl := harg4.eq_unread hf0; obtain rfl := harg5.eq_unread hf1; obtain rfl := harg6.eq_unread hf2; obtain rfl := harg7.eq_unread hf3; obtain rfl := harg8.eq_unread hf4; obtain rfl := harg9.eq_unread hfs0
  sl_exec (disch := first | sl_exact hc0 | sl_exact hc1)
  sl_step
  iapply Hk
  isplitl [H0]
  · iexists _; isplitr; · ipureintro; exact harg4.read_unread _
    iexact H0
  isplitl [H1]
  · iexists _; isplitr; · ipureintro; exact harg5.read_unread _
    iexact H1
  isplitl [H2]
  · iexists _; isplitr; · ipureintro; exact harg6.read_unread _
    iexact H2
  isplitl [H3]
  · iexists _; isplitr; · ipureintro; exact harg7.read_unread _
    iexact H3
  isplitl [H4]
  · iexists _; isplitr; swap; · iexact H4
    ipureintro
    refine (View.read_writes_eq_canon (Val := Elt F) _ _ _ (fun y => View.cover_of_tiledL _ S512x2048.size (by sl_kernel_rfl) y)).trans ?_
    try sl_unfold_words
    rw [View.canon_unit_zero hz2]
    try simp only [View.readAt_eq_ld, harg4.read_unread, harg5.read_unread, harg6.read_unread, harg7.read_unread, harg8.read_unread, harg9.read_unread, View.readCov_unit_zero (S := S512x2048) _ hz2, View.ld_unit_zero (S := S1x1024x2048) hz3, View.ld_unit_zero (S := S1x2048x1024) hz3, View.ld_unit_zero (S := S512x2048) hz2, shapeCast_self]
  isplitl [HS0]
  · iexists _; isplitr; swap; · iexact HS0
    ipureintro
    exact harg9.read_unread _
  isplitl [HT0]; · iexact HT0
  iexact HT1

set_option maxHeartbeats 1000000 in
/-- First part of a block not in use: the output block is zero. -/
theorem runC (c : Dev nD) (i : grid0.Coords) (arg4 : Memref sig .tc .vmem S512x2048 .f32) (harg4 : arg4.IsWhole) (arg5 : Memref sig .tc .vmem S1x2048x1024 .bf16) (harg5 : arg5.IsWhole) (arg6 : Memref sig .tc .vmem S1x2048x1024 .bf16) (harg6 : arg6.IsWhole) (arg7 : Memref sig .tc .vmem S1x1024x2048 .bf16) (harg7 : arg7.IsWhole) (arg8 : Memref sig .tc .vmem S512x2048 .f32) (harg8 : arg8.IsWhole) (arg9 : Memref sig .tc .vmem S512x2048 .bf16) (harg9 : arg9.IsWhole) (hc0 : k0_cond1 i = 1#1)
    (x0 : Vec F S512x2048 .f32) (x1 : Vec F S1x2048x1024 .bf16) (x2 : Vec F S1x2048x1024 .bf16) (x3 : Vec F S1x1024x2048 .bf16) (xt0 : TbBuf (F := F) c tb0) (xt1 : TbBuf (F := F) c tb1)
    (hc1 : ¬k0_cond2 i (word xt1) = 1#1) (E : Set ℕ) (K : PUnit → sProp 𝕄) :
        iprop(owns (c : Thread nD τ) arg4 fullShare x0 ∗ owns (c : Thread nD τ) arg5 fullShare x1 ∗ owns (c : Thread nD τ) arg6 fullShare x2 ∗ owns (c : Thread nD τ) arg7 fullShare x3 ∗ (∃ d, owns (c : Thread nD τ) arg8 fullShare d) ∗ (∃ d, owns (c : Thread nD τ) arg9 fullShare d) ∗ tbPt c tb0 xt0 ∗ tbPt c tb1 xt1
            ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare (k0_pay2 (F := F)) ∗ owns (c : Thread nD τ) arg9 fullShare (k0_pay1 x0) ∗ tbPt c tb0 xt0 ∗ tbPt c tb1 xt1) -∗ K ⟨⟩))
          ⊢ wp frame (wpE (defs₀ (F := F)) Variants.none c none) E (cc0_experts i tb0 htb0 tb1 htb1 arg4 harg4 arg5 harg5 arg6 harg6 arg7 harg7 arg8 harg8 arg9 harg9) K := by
  simp only [cc0_experts_eq_skeleton]; unfold cc0_experts_skel
  unfold owns
  iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, HT0, HT1, Hk⟩
  obtain rfl := harg4.eq_unread hf0; obtain rfl := harg5.eq_unread hf1; obtain rfl := harg6.eq_unread hf2; obtain rfl := harg7.eq_unread hf3
  sl_exec (disch := first | sl_exact hc0 | sl_exact hc1)
  sl_step
  iapply Hk
  isplitl [H0]
  · iexists _; isplitr; · ipureintro; exact harg4.read_unread _
    iexact H0
  isplitl [H1]
  · iexists _; isplitr; · ipureintro; exact harg5.read_unread _
    iexact H1
  isplitl [H2]
  · iexists _; isplitr; · ipureintro; exact harg6.read_unread _
    iexact H2
  isplitl [H3]
  · iexists _; isplitr; · ipureintro; exact harg7.read_unread _
    iexact H3
  isplitl [H4]
  · iexists _; isplitr; swap; · iexact H4
    ipureintro
    refine (View.read_writes_eq_canon (Val := Elt F) _ _ _ (fun y => View.cover_of_tiledL _ S512x2048.size (by sl_kernel_rfl) y)).trans ?_
    try sl_unfold_words
    rw [View.canon_unit_zero hz2]
    try simp only [View.readAt_eq_ld, harg4.read_unread, harg5.read_unread, harg6.read_unread, harg7.read_unread, harg8.read_unread, harg9.read_unread, View.readCov_unit_zero (S := S512x2048) _ hz2, View.ld_unit_zero (S := S1x1024x2048) hz3, View.ld_unit_zero (S := S1x2048x1024) hz3, View.ld_unit_zero (S := S512x2048) hz2, shapeCast_self]
  isplitl [HS0]
  · iexists _; isplitr; swap; · iexact HS0
    ipureintro
    refine (View.read_writes_eq_canon (Val := Elt F) _ _ _ (fun y => View.cover_of_tiledL _ S512x2048.size (by sl_kernel_rfl) y)).trans ?_
    try sl_unfold_words
    rw [View.canon_unit_zero hz2]
    try simp only [View.readAt_eq_ld, harg4.read_unread, harg5.read_unread, harg6.read_unread, harg7.read_unread, harg8.read_unread, harg9.read_unread, View.readCov_unit_zero (S := S512x2048) _ hz2, View.ld_unit_zero (S := S1x1024x2048) hz3, View.ld_unit_zero (S := S1x2048x1024) hz3, View.ld_unit_zero (S := S512x2048) hz2, shapeCast_self]
  isplitl [HT0]; · iexact HT0
  iexact HT1

set_option maxHeartbeats 1000000 in
/-- Later part of a block not in use: nothing is stored. -/
theorem runD (c : Dev nD) (i : grid0.Coords) (arg4 : Memref sig .tc .vmem S512x2048 .f32) (harg4 : arg4.IsWhole) (arg5 : Memref sig .tc .vmem S1x2048x1024 .bf16) (harg5 : arg5.IsWhole) (arg6 : Memref sig .tc .vmem S1x2048x1024 .bf16) (harg6 : arg6.IsWhole) (arg7 : Memref sig .tc .vmem S1x1024x2048 .bf16) (harg7 : arg7.IsWhole) (arg8 : Memref sig .tc .vmem S512x2048 .f32) (harg8 : arg8.IsWhole) (arg9 : Memref sig .tc .vmem S512x2048 .bf16) (harg9 : arg9.IsWhole) (hc0 : ¬k0_cond1 i = 1#1)
    (x0 : Vec F S512x2048 .f32) (x1 : Vec F S1x2048x1024 .bf16) (x2 : Vec F S1x2048x1024 .bf16) (x3 : Vec F S1x1024x2048 .bf16) (y : Vec F S512x2048 .f32) (xb : Vec F S512x2048 .bf16) (xt0 : TbBuf (F := F) c tb0) (xt1 : TbBuf (F := F) c tb1)
    (hc1 : ¬k0_cond2 i (word xt1) = 1#1) (E : Set ℕ) (K : PUnit → sProp 𝕄) :
        iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare y ∗ owns (c : Thread nD τ) arg9 fullShare xb ∗ tbPt c tb0 xt0 ∗ tbPt c tb1 xt1
            ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare y ∗ owns (c : Thread nD τ) arg9 fullShare xb ∗ tbPt c tb0 xt0 ∗ tbPt c tb1 xt1) -∗ K ⟨⟩))
          ⊢ wp frame (wpE (defs₀ (F := F)) Variants.none c none) E (cc0_experts i tb0 htb0 tb1 htb1 arg4 harg4 arg5 harg5 arg6 harg6 arg7 harg7 arg8 harg8 arg9 harg9) K := by
  simp only [cc0_experts_eq_skeleton]; unfold cc0_experts_skel
  unfold owns
  iintro ⟨⟨%f0, %hf0, H0⟩, ⟨%f1, %hf1, H1⟩, ⟨%f2, %hf2, H2⟩, ⟨%f3, %hf3, H3⟩, ⟨%f4, %hf4, H4⟩, ⟨%fs0, %hfs0, HS0⟩, HT0, HT1, Hk⟩
  obtain rfl := harg4.eq_unread hf0; obtain rfl := harg5.eq_unread hf1; obtain rfl := harg6.eq_unread hf2; obtain rfl := harg7.eq_unread hf3; obtain rfl := harg8.eq_unread hf4; obtain rfl := harg9.eq_unread hfs0
  sl_exec (disch := first | sl_exact hc0 | sl_exact hc1)
  sl_step
  iapply Hk
  isplitl [H0]
  · iexists _; isplitr; · ipureintro; exact harg4.read_unread _
    iexact H0
  isplitl [H1]
  · iexists _; isplitr; · ipureintro; exact harg5.read_unread _
    iexact H1
  isplitl [H2]
  · iexists _; isplitr; · ipureintro; exact harg6.read_unread _
    iexact H2
  isplitl [H3]
  · iexists _; isplitr; · ipureintro; exact harg7.read_unread _
    iexact H3
  isplitl [H4]
  · iexists _; isplitr; swap; · iexact H4
    ipureintro
    exact harg8.read_unread _
  isplitl [HS0]
  · iexists _; isplitr; swap; · iexact HS0
    ipureintro
    exact harg9.read_unread _
  isplitl [HT0]; · iexact HT0
  iexact HT1

end Cert.ExpertsIdeal.Own

end
-- ==== Proof.ExpertsIdealFrame.lean ====
module

public import proofs.«01_k».proof.Proof.ExpertsIdealKit
public import Idealize.ShloMosaic.Lib.Claim

/-! The experts call point by point: what its output block and its scratch hold after each point, and
the whole run. At a point of a block not in use, past the block's first part, the body stores nothing:
there the output block stays at what the point before left. -/

@[expose] public section

set_option maxRecDepth 16384

noncomputable section

namespace Cert.ExpertsIdeal.Own

open Cert.ExpertsIdeal Cert.ExpertsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The block of point `t` is in use. -/
abbrev act (c : Dev nD) (t : Fin grid0.N) : Prop := k0_cond2 (grid0.coords t) (word (c := c) (tbl m 1)) = 1#1

/-- What the body leaves (output block, scratch) at the first part of a block. -/
def firstOut (hO : Ok m) (c : Dev nD) (t : Fin (cfgM m hO).N) : Vec F S512x2048 .f32 × Vec F S512x2048 .bf16 :=
  (if act m c t then k0_pay3 (k0_pay1 (iblk m hO c 0 t)) (iblk m hO c 1 t) (iblk m hO c 2 t) (k0_pay2 (F := F)) (iblk m hO c 3 t)
    else k0_pay2 (F := F), k0_pay1 (iblk m hO c 0 t))

/-- What it leaves at a later part, over what the point before left. -/
def nextOut (hO : Ok m) (c : Dev nD) (t : Fin (cfgM m hO).N) (p : Vec F S512x2048 .f32 × Vec F S512x2048 .bf16) :
    Vec F S512x2048 .f32 × Vec F S512x2048 .bf16 :=
  (if act m c t then k0_pay3 p.2 (iblk m hO c 1 t) (iblk m hO c 2 t) p.1 (iblk m hO c 3 t) else p.1, p.2)

theorem nextOut_off (hO : Ok m) (c : Dev nD) (t : Fin (cfgM m hO).N) (p : Vec F S512x2048 .f32 × Vec F S512x2048 .bf16)
    (h : ¬act m c t) : (nextOut m hO c t p).1 = p.1 := by
  unfold nextOut; dsimp only; rw [if_neg h]

/-- What the output block and the scratch hold after point `n`. -/
def outs (hO : Ok m) (c : Dev nD) : (n : ℕ) → n < (cfgM m hO).N → Vec F S512x2048 .f32 × Vec F S512x2048 .bf16
  | 0, hn => firstOut m hO c ⟨0, hn⟩
  | n + 1, hn => if (n + 1) % 3 = 0 then firstOut m hO c ⟨n + 1, hn⟩
      else nextOut m hO c ⟨n + 1, hn⟩ (outs hO c n (Nat.lt_of_succ_lt hn))

theorem outs_first (hO : Ok m) (c : Dev nD) (t : Fin (cfgM m hO).N) (h0 : t.val % 3 = 0) :
    outs m hO c t.val t.isLt = firstOut m hO c t := by
  obtain ⟨n, hn⟩ := t
  cases n with
  | zero => exact rfl
  | succ n => exact (if_pos h0).trans rfl

theorem outs_next (hO : Ok m) (c : Dev nD) (t : Fin (cfgM m hO).N) (h0 : ¬t.val % 3 = 0) :
    outs m hO c t.val t.isLt = nextOut m hO c t (outs m hO c (t.val - 1) (Nat.lt_of_le_of_lt (Nat.sub_le _ _) t.isLt)) := by
  obtain ⟨n, hn⟩ := t
  cases n with
  | zero => exact absurd (Nat.zero_mod _) h0
  | succ n => exact (if_neg h0).trans rfl

/-- The region's invariant: after the first point the scratch holds what `outs` says. -/
def PhiS (hO : Ok m) (c : Dev nD) : (n : ℕ) → n ≤ (cfgM m hO).N → sProp 𝕄
  | 0, _ => iprop(Pipeline.ΦA spec0 c ∗ Pipeline.ΦT pre0 (tbl m) c)
  | n + 1, hn => iprop(iprop(iprop(owns (c : Thread nD τ) scM fullShare ((outs m hO c n hn).2)) ∗ (∃ r, prngReg c r)) ∗ Pipeline.ΦT pre0 (tbl m) c)

theorem PhiS_zero (hO : Ok m) (c : Dev nD) (n : ℕ) (h : n ≤ (cfgM m hO).N) (hz : n = 0) : PhiS m hO c n h = iprop(Pipeline.ΦA spec0 c ∗ Pipeline.ΦT pre0 (tbl m) c) := by
  subst hz; rfl
theorem PhiS_succ (hO : Ok m) (c : Dev nD) (n : ℕ) (hn : n < (cfgM m hO).N) :
    PhiS m hO c (n + 1) hn = iprop(iprop(iprop(owns (c : Thread nD τ) scM fullShare ((outs m hO c n hn).2)) ∗ (∃ r, prngReg c r)) ∗ Pipeline.ΦT pre0 (tbl m) c) := rfl
theorem PhiS_pos (hO : Ok m) (c : Dev nD) (n : ℕ) (h : n ≤ (cfgM m hO).N) (hz : n ≠ 0) :
    PhiS m hO c n h = iprop(iprop(iprop(owns (c : Thread nD τ) scM fullShare ((outs m hO c (n - 1) (by omega)).2)) ∗ (∃ r, prngReg c r)) ∗ Pipeline.ΦT pre0 (tbl m) c) := by
  cases n with
  | zero => exact absurd rfl hz
  | succ n => rfl

/-- The proof data: inputs keep their blocks, the output block holds what `outs` says. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => (outs m hO c t.val t.isLt).1
  Φ t := PhiS m hO c t.val (Nat.le_of_lt_succ t.isLt)
  q _ := fullShare
  owed _ := 0

theorem A_eq (hO : Ok m) (c : Dev nD) (w : Fin (cfgM m hO).W) : (dats m hO 0 c).A w = V m c (Pipeline.arrRef spec0 w) := by
  dsimp only [dats]
theorem PhiS_castSucc (hO : Ok m) (c : Dev nD) (t : Fin (cfgM m hO).N) :
    (dats m hO 0 c).Φ t.castSucc = PhiS m hO c t.val (Nat.le_of_lt t.isLt) := by
  dsimp only [dats]; exact Pipeline.Dat.Φ_castSucc (PhiS m hO c) t

theorem after0 (hO : Ok m) (c : Dev nD) (t : Fin (cfgM m hO).N) : (dats m hO 0 c).after 0 t = iblk m hO c 0 t := by dsimp only [dats]; try rfl
theorem after1 (hO : Ok m) (c : Dev nD) (t : Fin (cfgM m hO).N) : (dats m hO 0 c).after 1 t = iblk m hO c 1 t := by dsimp only [dats]; try rfl
theorem after2 (hO : Ok m) (c : Dev nD) (t : Fin (cfgM m hO).N) : (dats m hO 0 c).after 2 t = iblk m hO c 2 t := by dsimp only [dats]; try rfl
theorem after3 (hO : Ok m) (c : Dev nD) (t : Fin (cfgM m hO).N) : (dats m hO 0 c).after 3 t = iblk m hO c 3 t := by dsimp only [dats]; try rfl
theorem after4 (hO : Ok m) (c : Dev nD) (t : Fin (cfgM m hO).N) : (dats m hO 0 c).after 4 t = (outs m hO c t.val t.isLt).1 := by dsimp only [dats]; try rfl
theorem before0 (hO : Ok m) (c : Dev nD) (t : Fin (cfgM m hO).N) (d) : (dats m hO 0 c).before 0 t d = iblk m hO c 0 t :=
  before0_of m hO (dats m hO 0 c) (A_eq m hO c 0) (after0 m hO c) t d
theorem before1 (hO : Ok m) (c : Dev nD) (t : Fin (cfgM m hO).N) (d) : (dats m hO 0 c).before 1 t d = iblk m hO c 1 t :=
  before1_of m hO (dats m hO 0 c) (A_eq m hO c 1) (after1 m hO c) t d
theorem before2 (hO : Ok m) (c : Dev nD) (t : Fin (cfgM m hO).N) (d) : (dats m hO 0 c).before 2 t d = iblk m hO c 2 t :=
  before2_of m hO (dats m hO 0 c) (A_eq m hO c 2) (after2 m hO c) t d
theorem before3 (hO : Ok m) (c : Dev nD) (t : Fin (cfgM m hO).N) (d) : (dats m hO 0 c).before 3 t d = iblk m hO c 3 t :=
  before3_of m hO (dats m hO 0 c) (A_eq m hO c 3) (after3 m hO c) t d

/-- The body stores nothing into the output block only past the first part of a block not in use. -/
theorem idle4 (hO : Ok m) (c : Dev nD) (t : Fin (cfgM m hO).N) (h : (cfgM m hO).idle 4 ((cfgM m hO).grid.coords t) = true) :
    ¬t.val % 3 = 0 ∧ ¬act m c t := by
  have h' : (!(k0_cond1 (grid0.coords t) == 1#1) && !(k0_cond2 (grid0.coords t) ((tbl m).atD 1 ![0]) == 1#1)) = true := h
  rw [Bool.and_eq_true, Bool.not_eq_true', Bool.not_eq_true', beq_eq_false_iff_ne, beq_eq_false_iff_ne] at h'
  refine ⟨fun hc => h'.1 ((cond1_iff t).mpr hc), fun hc => h'.2 ?_⟩
  refine Eq.trans ?_ hc
  refine congrArg (k0_cond2 (grid0.coords t)) ?_
  unfold Pipeline.Prefetch.Contents.atD
  rw [dif_pos (fun a => by fin_cases a; decide)]
  exact congrArg (tbl m 1) (funext fun a => by fin_cases a; rfl)

/-- The output block's buffer holds nothing of its block exactly before the first part. -/
theorem fresh4 (hO : Ok m) (n : ℕ) (hn : n ≤ (cfgM m hO).N) : (cfgM m hO).fresh 4 n = decide (n % 3 = 0) :=
  Pipeline.Cfg.fresh_tab (cfgM m hO) 4 (fun n => decide (n % 3 = 0)) rfl (fun t => by
    have hf := flush4 (adm m hO) t
    by_cases h2 : t.val % 3 = 2
    · rw [show ((cfgM m hO).win 4).flush t = true from hf.mpr h2, Bool.true_or, decide_eq_true_eq]; omega
    · rw [show ((cfgM m hO).win 4).flush t = false from Bool.eq_false_iff.mpr fun h => h2 (hf.mp h), Bool.false_or]
      rw [decide_eq_false (by omega)]
      by_cases h0 : t.val % 3 = 0
      · rw [show (cfgM m hO).idle 4 ((cfgM m hO).grid.coords t) = false from
          Bool.eq_false_iff.mpr fun h => (idle4 m hO 0 t h).1 h0, Bool.false_and]
      · rw [decide_eq_false h0, Bool.and_false]) n hn

theorem after4_carry (hO : Ok m) (c : Dev nD) (t : Fin (cfgM m hO).N) (hi : (cfgM m hO).idle 4 ((cfgM m hO).grid.coords t) = true) :
    (dats m hO 0 c).after 4 t = (dats m hO 0 c).after 4 ⟨t.val - 1, Nat.lt_of_le_of_lt (Nat.sub_le _ _) t.isLt⟩ := by
  obtain ⟨a0, a1⟩ := idle4 m hO c t hi
  exact (after4 m hO c t).trans ((congrArg Prod.fst (outs_next m hO c t a0)).trans
    ((nextOut_off m hO c t _ a1).trans (after4 m hO c ⟨t.val - 1, Nat.lt_of_le_of_lt (Nat.sub_le _ _) t.isLt⟩).symm))

/-- Past a block's first part the output block holds what the point before left. -/
theorem before4 (hO : Ok m) (c : Dev nD) (t : Fin (cfgM m hO).N) (h0 : ¬t.val % 3 = 0) (d) :
    (dats m hO 0 c).before 4 t d = (outs m hO c (t.val - 1) (Nat.lt_of_le_of_lt (Nat.sub_le _ _) t.isLt)).1 := by
  refine (Dat.before_out_traj (dats m hO 0 c) 4 rfl (fun _ _ => rfl) (fun t _ hi _ => after4_carry m hO c t hi) t.val t rfl d).trans ?_
  · refine (if_neg ?_).trans (after4 m hO c _)
    rw [fresh4 m hO t.val (Nat.le_of_lt t.isLt), decide_eq_false h0]; exact Bool.false_ne_true

/-- Where the body stores nothing the output block stays as it was. -/
theorem after4_idle (hO : Ok m) (c : Dev nD) (t : Fin (cfgM m hO).N) (h : (cfgM m hO).idle 4 ((cfgM m hO).grid.coords t) = true) (d) :
    (dats m hO 0 c).after 4 t = (dats m hO 0 c).before 4 t d := by
  obtain ⟨a0, a1⟩ := idle4 m hO c t h
  exact (after4 m hO c t).trans ((congrArg Prod.fst (outs_next m hO c t a0)).trans
    ((nextOut_off m hO c t _ a1).trans (before4 m hO c t a0 d).symm))

/-- What the body is called with at point `t`, and what it returns. -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0 m hO t) fullShare ((dats m hO 0 c).before 0 t d))
    ∗ (∃ d, owns (c : Thread nD τ) (ms1 m hO t) fullShare ((dats m hO 0 c).before 1 t d))
    ∗ (∃ d, owns (c : Thread nD τ) (ms2 m hO t) fullShare ((dats m hO 0 c).before 2 t d))
    ∗ (∃ d, owns (c : Thread nD τ) (ms3 m hO t) fullShare ((dats m hO 0 c).before 3 t d))
    ∗ (∃ d, owns (c : Thread nD τ) (ms4 m hO t) fullShare ((dats m hO 0 c).before 4 t d)))
def bodyPost (hO : Ok m) (c : Dev nD) (t : Fin (cfgM m hO).N) : sProp 𝕄 :=
  iprop((dats m hO 0 c).Φ t.succ ∗ (dats m hO 0 c).owesAt () t.succ
    ∗ owns (c : Thread nD τ) (ms0 m hO t) fullShare ((dats m hO 0 c).after 0 t)
    ∗ owns (c : Thread nD τ) (ms1 m hO t) fullShare ((dats m hO 0 c).after 1 t)
    ∗ owns (c : Thread nD τ) (ms2 m hO t) fullShare ((dats m hO 0 c).after 2 t)
    ∗ owns (c : Thread nD τ) (ms3 m hO t) fullShare ((dats m hO 0 c).after 3 t)
    ∗ owns (c : Thread nD τ) (ms4 m hO t) fullShare ((dats m hO 0 c).after 4 t))

set_option maxHeartbeats 3200000 in
/-- The body at any point. -/
theorem sound_body (hO : Ok m) (c : Dev nD) (t : Fin (cfgM m hO).N) :
    bodyPre m hO c t ⊢ wp frame (wpE (defs₀ (F := F)) Variants.none c none) Set.univ (bodyAt (adm m hO) t) (fun _ => bodyPost m hO c t) := by
  unfold bodyPre bodyPost bodyAt
  simp only [before0, before1, before2, before3]
  rw [show (dats m hO 0 c).owesAt () t.succ = (dats m hO 0 c).owesAt () t.castSucc from rfl,
    after0, after1, after2, after3, after4]
  rw [show (dats m hO 0 c).Φ t.succ = PhiS m hO c (t.val + 1) t.isLt from rfl, PhiS_succ, PhiT_eq]
  have hN : t.val < 216 := lt_of_lt_of_eq t.isLt (show (cfgM m hO).N = 216 from N_0)
  by_cases h0 : t.val % 3 = 0
  · rw [outs_first m hO c t h0]
    unfold firstOut
    by_cases h1 : act m c t
    · rw [if_pos h1]
      by_cases hz : t.val = 0
      · rw [PhiS_castSucc m hO c t, PhiS_zero m hO c _ _ hz, PhiT_eq, PhiA_eq]
        iintro ⟨⟨⟨HS0, Hg⟩, ⟨HT0, HT1⟩⟩, Ho, ⟨%d0, H0⟩, ⟨%d1, H1⟩, ⟨%d2, H2⟩, ⟨%d3, H3⟩, ⟨%d4, H4⟩⟩
        iapply (runA c (grid0.coords t) _ _ _ _ _ _ _ _ _ _ _ _ ((cond1_iff t).mpr h0) (iblk m hO c 0 t) (iblk m hO c 1 t) (iblk m hO c 2 t) (iblk m hO c 3 t) (tbl m 0) (tbl m 1) h1 Set.univ _)
        isplitl [H0]; · iexact H0
        isplitl [H1]; · iexact H1
        isplitl [H2]; · iexact H2
        isplitl [H3]; · iexact H3
        isplitl [H4]; · iexists _; iexact H4
        isplitl [HS0]; · iexact HS0
        isplitl [HT0]; · iexact HT0
        isplitl [HT1]; · iexact HT1
        iintro ⟨H0, H1, H2, H3, H4, HS0, HT0, HT1⟩
        isplitl [HS0 Hg HT0 HT1]
        · isplitl [HS0 Hg]
          · isplitl [HS0]
            · iexact HS0
            iexact Hg
          isplitl [HT0]; · iexact HT0
          iexact HT1
        isplitl [Ho]; · iexact Ho
        isplitl [H0]; · iexact H0
        isplitl [H1]; · iexact H1
        isplitl [H2]; · iexact H2
        isplitl [H3]; · iexact H3
        iexact H4
      · rw [PhiS_castSucc m hO c t, PhiS_pos m hO c _ _ hz, PhiT_eq]
        iintro ⟨⟨⟨HS0, Hg⟩, ⟨HT0, HT1⟩⟩, Ho, ⟨%d0, H0⟩, ⟨%d1, H1⟩, ⟨%d2, H2⟩, ⟨%d3, H3⟩, ⟨%d4, H4⟩⟩
        iapply (runA c (grid0.coords t) _ _ _ _ _ _ _ _ _ _ _ _ ((cond1_iff t).mpr h0) (iblk m hO c 0 t) (iblk m hO c 1 t) (iblk m hO c 2 t) (iblk m hO c 3 t) (tbl m 0) (tbl m 1) h1 Set.univ _)
        isplitl [H0]; · iexact H0
        isplitl [H1]; · iexact H1
        isplitl [H2]; · iexact H2
        isplitl [H3]; · iexact H3
        isplitl [H4]; · iexists _; iexact H4
        isplitl [HS0]; · iexists _; iexact HS0
        isplitl [HT0]; · iexact HT0
        isplitl [HT1]; · iexact HT1
        iintro ⟨H0, H1, H2, H3, H4, HS0, HT0, HT1⟩
        isplitl [HS0 Hg HT0 HT1]
        · isplitl [HS0 Hg]
          · isplitl [HS0]
            · iexact HS0
            iexact Hg
          isplitl [HT0]; · iexact HT0
          iexact HT1
        isplitl [Ho]; · iexact Ho
        isplitl [H0]; · iexact H0
        isplitl [H1]; · iexact H1
        isplitl [H2]; · iexact H2
        isplitl [H3]; · iexact H3
        iexact H4
    · rw [if_neg h1]
      by_cases hz : t.val = 0
      · rw [PhiS_castSucc m hO c t, PhiS_zero m hO c _ _ hz, PhiT_eq, PhiA_eq]
        iintro ⟨⟨⟨HS0, Hg⟩, ⟨HT0, HT1⟩⟩, Ho, ⟨%d0, H0⟩, ⟨%d1, H1⟩, ⟨%d2, H2⟩, ⟨%d3, H3⟩, ⟨%d4, H4⟩⟩
        iapply (runC c (grid0.coords t) _ _ _ _ _ _ _ _ _ _ _ _ ((cond1_iff t).mpr h0) (iblk m hO c 0 t) (iblk m hO c 1 t) (iblk m hO c 2 t) (iblk m hO c 3 t) (tbl m 0) (tbl m 1) h1 Set.univ _)
        isplitl [H0]; · iexact H0
        isplitl [H1]; · iexact H1
        isplitl [H2]; · iexact H2
        isplitl [H3]; · iexact H3
        isplitl [H4]; · iexists _; iexact H4
        isplitl [HS0]; · iexact HS0
        isplitl [HT0]; · iexact HT0
        isplitl [HT1]; · iexact HT1
        iintro ⟨H0, H1, H2, H3, H4, HS0, HT0, HT1⟩
        isplitl [HS0 Hg HT0 HT1]
        · isplitl [HS0 Hg]
          · isplitl [HS0]
            · iexact HS0
            iexact Hg
          isplitl [HT0]; · iexact HT0
          iexact HT1
        isplitl [Ho]; · iexact Ho
        isplitl [H0]; · iexact H0
        isplitl [H1]; · iexact H1
        isplitl [H2]; · iexact H2
        isplitl [H3]; · iexact H3
        iexact H4
      · rw [PhiS_castSucc m hO c t, PhiS_pos m hO c _ _ hz, PhiT_eq]
        iintro ⟨⟨⟨HS0, Hg⟩, ⟨HT0, HT1⟩⟩, Ho, ⟨%d0, H0⟩, ⟨%d1, H1⟩, ⟨%d2, H2⟩, ⟨%d3, H3⟩, ⟨%d4, H4⟩⟩
        iapply (runC c (grid0.coords t) _ _ _ _ _ _ _ _ _ _ _ _ ((cond1_iff t).mpr h0) (iblk m hO c 0 t) (iblk m hO c 1 t) (iblk m hO c 2 t) (iblk m hO c 3 t) (tbl m 0) (tbl m 1) h1 Set.univ _)
        isplitl [H0]; · iexact H0
        isplitl [H1]; · iexact H1
        isplitl [H2]; · iexact H2
        isplitl [H3]; · iexact H3
        isplitl [H4]; · iexists _; iexact H4
        isplitl [HS0]; · iexists _; iexact HS0
        isplitl [HT0]; · iexact HT0
        isplitl [HT1]; · iexact HT1
        iintro ⟨H0, H1, H2, H3, H4, HS0, HT0, HT1⟩
        isplitl [HS0 Hg HT0 HT1]
        · isplitl [HS0 Hg]
          · isplitl [HS0]
            · iexact HS0
            iexact Hg
          isplitl [HT0]; · iexact HT0
          iexact HT1
        isplitl [Ho]; · iexact Ho
        isplitl [H0]; · iexact H0
        isplitl [H1]; · iexact H1
        isplitl [H2]; · iexact H2
        isplitl [H3]; · iexact H3
        iexact H4
  · have hz : t.val ≠ 0 := by omega
    rw [PhiS_castSucc m hO c t, PhiS_pos m hO c _ _ hz, PhiT_eq]
    rw [outs_next m hO c t h0]
    simp only [before4 m hO c t h0]
    unfold nextOut
    by_cases h1 : act m c t
    · rw [if_pos h1]
      iintro ⟨⟨⟨HS0, Hg⟩, ⟨HT0, HT1⟩⟩, Ho, ⟨%d0, H0⟩, ⟨%d1, H1⟩, ⟨%d2, H2⟩, ⟨%d3, H3⟩, ⟨%d4, H4⟩⟩
      iapply (runB c (grid0.coords t) _ _ _ _ _ _ _ _ _ _ _ _ (fun h => h0 ((cond1_iff t).mp h)) (iblk m hO c 0 t) (iblk m hO c 1 t) (iblk m hO c 2 t) (iblk m hO c 3 t) _ _ (tbl m 0) (tbl m 1) h1 Set.univ _)
      isplitl [H0]; · iexact H0
      isplitl [H1]; · iexact H1
      isplitl [H2]; · iexact H2
      isplitl [H3]; · iexact H3
      isplitl [H4]; · iexact H4
      isplitl [HS0]; · iexact HS0
      isplitl [HT0]; · iexact HT0
      isplitl [HT1]; · iexact HT1
      iintro ⟨H0, H1, H2, H3, H4, HS0, HT0, HT1⟩
      isplitl [HS0 Hg HT0 HT1]
      · isplitl [HS0 Hg]
        · isplitl [HS0]
          · iexact HS0
          iexact Hg
        isplitl [HT0]; · iexact HT0
        iexact HT1
      isplitl [Ho]; · iexact Ho
      isplitl [H0]; · iexact H0
      isplitl [H1]; · iexact H1
      isplitl [H2]; · iexact H2
      isplitl [H3]; · iexact H3
      iexact H4
    · rw [if_neg h1]
      iintro ⟨⟨⟨HS0, Hg⟩, ⟨HT0, HT1⟩⟩, Ho, ⟨%d0, H0⟩, ⟨%d1, H1⟩, ⟨%d2, H2⟩, ⟨%d3, H3⟩, ⟨%d4, H4⟩⟩
      iapply (runD c (grid0.coords t) _ _ _ _ _ _ _ _ _ _ _ _ (fun h => h0 ((cond1_iff t).mp h)) (iblk m hO c 0 t) (iblk m hO c 1 t) (iblk m hO c 2 t) (iblk m hO c 3 t) _ _ (tbl m 0) (tbl m 1) h1 Set.univ _)
      isplitl [H0]; · iexact H0
      isplitl [H1]; · iexact H1
      isplitl [H2]; · iexact H2
      isplitl [H3]; · iexact H3
      isplitl [H4]; · iexact H4
      isplitl [HS0]; · iexact HS0
      isplitl [HT0]; · iexact HT0
      isplitl [HT1]; · iexact HT1
      iintro ⟨H0, H1, H2, H3, H4, HS0, HT0, HT1⟩
      isplitl [HS0 Hg HT0 HT1]
      · isplitl [HS0 Hg]
        · isplitl [HS0]
          · iexact HS0
          iexact Hg
        isplitl [HT0]; · iexact HT0
        iexact HT1
      isplitl [Ho]; · iexact Ho
      isplitl [H0]; · iexact H0
      isplitl [H1]; · iexact H1
      isplitl [H2]; · iexact H2
      isplitl [H3]; · iexact H3
      iexact H4

theorem defs_row (hO : Ok m) (t : Fin (cfgM m hO).N) :
    defs₀ (F := F) .tc (cfgM m hO).body ((cfgM m hO).bodyArgs t ((cfgM m hO).slots t)) = bodyAt (adm m hO) t := by
  unfold defs₀; rw [Defs.onTc_tc]

theorem some_contents (c : Dev nD) (M : Memref sig .tc .vmem S512x2048 .f32) (X : Vec F S512x2048 .f32)
    (B : Vec F S512x2048 .f32 → Vec F S512x2048 .f32) (d : Vec F S512x2048 .f32) (h : X = B d) :
    (owns (c : Thread nD τ) M fullShare X : sProp 𝕄) ⊢ iprop(∃ d, owns (c : Thread nD τ) M fullShare (B d)) := by
  iintro H
  iexists d
  rw [← h]
  iexact H

/-- The output block as the region takes it back at a point. -/
theorem give4 (hO : Ok m) (c : Dev nD) (t : Fin (cfgM m hO).N) :
    (owns (c : Thread nD τ) (ms4 m hO t) fullShare ((dats m hO 0 c).after 4 t) : sProp 𝕄)
      ⊢ (match (cfgM m hO).idle 4 ((cfgM m hO).grid.coords t) with
        | true =>
          match ((cfgM m hO).win 4).flush t with
          | false => iprop(∃ d, owns (c : Thread nD τ) (((cfgM m hO).win 4).stage ((cfgM m hO).slots t 4)) fullShare ((dats m hO 0 c).before 4 t d))
          | true => owns (c : Thread nD τ) (((cfgM m hO).win 4).stage ((cfgM m hO).slots t 4)) fullShare ((dats m hO 0 c).after 4 t)
        | false => owns (c : Thread nD τ) (((cfgM m hO).win 4).stage ((cfgM m hO).slots t 4)) fullShare ((dats m hO 0 c).after 4 t)) := by
  cases hi : (cfgM m hO).idle 4 ((cfgM m hO).grid.coords t) with
  | false => exact .rfl
  | true =>
    cases hf : ((cfgM m hO).win 4).flush t with
    | true => exact .rfl
    | false =>
      exact some_contents c (ms4 m hO t) _ _ (outs m hO c t.val t.isLt).1 (after4_idle m hO c t hi _)

theorem body_obligation (hO : Ok m) (c : Dev nD) : BodyObligation (dats (F := F) m hO 0 c) (defs₀ (F := F)) Variants.none () Set.univ := fun t => by
  rw [bigSep_W0, bigSep_W0, defs_row m hO]
  refine triple_restated (sound_body m hO c t) rfl .rfl fun _ => ?_
  unfold bodyPost
  exact sep_mono .rfl (sep_mono .rfl (sep_mono .rfl (sep_mono .rfl (sep_mono .rfl (sep_mono .rfl (give4 m hO c t))))))

theorem hin (hO : Ok m) (c : Dev nD) : iprop(Pipeline.ΦA spec0 c ∗ Pipeline.ΦT pre0 (tbl m) c) ⊢ (dats m hO 0 c).Φ 0 := by
  rw [show (dats m hO 0 c).Φ 0 = PhiS m hO c 0 (Nat.zero_le _) from rfl, PhiS_zero m hO c 0 _ rfl]
  try exact Idealize.SL.BI.Entails.refl _

theorem Phi_out (hO : Ok m) (c : Dev nD) (t : Fin ((cfgM m hO).N + 1)) (ht : t.val ≠ 0) : (dats m hO 0 c).Φ t ⊢ Pipeline.ΦA spec0 c := by
  rw [show (dats m hO 0 c).Φ t = PhiS m hO c t.val (Nat.le_of_lt_succ t.isLt) from rfl, PhiS_pos m hO c _ _ ht, PhiA_eq]
  iintro ⟨⟨HS0, Hg⟩, -⟩
  isplitl [HS0]
  · iexists _; iexact HS0
  iexact Hg

theorem hout (hO : Ok m) (c : Dev nD) : (dats m hO 0 c).Φ (Fin.last (cfgM m hO).N) ⊢ Pipeline.ΦA spec0 c :=
  Phi_out m hO c _ (by rw [Fin.val_last]; have : (cfgM m hO).N = 216 := N_0; omega)

set_option backward.isDefEq.respectTransparency.types false in
/-- Every run ends, with every array as the proof data says and every counter at zero. -/
theorem run_quiet (hO : Ok m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP_track (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := hmain m Variants.none) (hA := A_eq m hO) (hpf := V_pre m)
    (hin := hin m hO) (hout := hout m hO)

theorem run_main (hO : Ok m) : θ_run defs (onTc (τ := τ) (main (F := F))) (s₀ m ρ) (Pipeline.FramePost (Pipeline.pin pcfgs fun _ => adm m hO) (dats m hO) 0 (V m)) :=
  (θ_run defs _ _).mono (fun _ h => h.1) (run_quiet m ρ hO)

theorem unchanged (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ hO (dats m hO) (A_eq m hO) (run_main m ρ hO)

/-- Every run ends, leaving the arguments and every counter as they were. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ hO) ((θ_run defs _ _).mono (fun _ h => h.2) (run_quiet m ρ hO))

end Cert.ExpertsIdeal.Own

end
-- ==== Proof.ExpertsIdealTab.lean ====
module

public import proofs.«01_k».proof.Proof.ExpertsIdealFrame
public import Idealize.ShloMosaic.Lib.Routing.OpsSet
public import Idealize.ShloMosaic.Lib.StableHlo.RunRead
public import Idealize.ShloMosaic.Lib.Pipeline.ValueKit

/-! The experts call's tables: what the host lines put into them, and that with them every block of
the call lies inside its array. -/

@[expose] public section

set_option maxRecDepth 16384

noncomputable section

namespace Cert.ExpertsIdeal.Own

open Cert.ExpertsIdeal Cert.ExpertsIdeal.Gen
open Idealize.ShloMosaic Idealize.ShloMosaic.TcCoe Idealize.ShloMosaic.Tactic
open Idealize.ShloMosaic.Routing

variable {F : FTy → Type} [FloatOps F]
variable (m : (ℓ : Loc nD τ sig) → Buf (Elt F) ℓ)

/-- An expert's number kept within the eight experts. -/
def clampW (e : BitVec 32) : BitVec 32 := IntOp.minsi (IntOp.maxsi e 0#32) 7#32
/-- The block of rows that block `n` of the grid reads. -/
def blkW (na : BitVec 32) (n : ℕ) : BitVec 32 := IntOp.maxsi (IntOp.minsi (BitVec.ofNat 32 n) (IntOp.subi na 1#32)) 0#32

/-- The blocks' experts before the host reorders them, and the block each entry is read from. -/
def clampV (e : IVec S72 32) : IVec S72 32 :=
  minsi (maxsi e (broadcastInDim S72 ![] bcast_S_S72 (constantI S_ 32 0#32))) (broadcastInDim S72 ![] bcast_S_S72 (constantI S_ 32 7#32))
def blkV (na : IVec S1 32) : IVec S72 32 :=
  maxsi (minsi (iotaInDim S72 32 0) (broadcastInDim S72 ![] bcast_S_S72 (subi (shapeCast S_ na shapeCasts_S1_S_) (constantI S_ 32 1#32))))
    (broadcastInDim S72 ![] bcast_S_S72 (constantI S_ 32 0#32))
def wrapV (na : IVec S1 32) : IVec S72 32 :=
  select (cmpi .slt (blkV na) (broadcastInDim S72 ![] bcast_S_S72 (constantI S_ 32 0#32)))
    (addi (blkV na) (broadcastInDim S72 ![] bcast_S_S72 (constantI S_ 32 72#32))) (blkV na)
def beV (e : IVec S72 32) (na : IVec S1 32) : IVec S72 32 :=
  Host.gather gather_S72_S72x1_S72_n_0_n_n_0_1_1 (clampV e) (broadcastInDim S72x1 ![0] bcast_S72_S72x1_0 (wrapV na))

theorem V_be (c : Dev nD) : (V m c main_v20 : IVec S72 32) = beV (m ((c : Thread nD τ).loc main_arg0)) (m ((c : Thread nD τ).loc main_arg1)) := by
  unfold V
  after_reads_simp
  rfl

theorem clampV_at (e : IVec S72 32) (b : Fin 72) : clampV e (ix1 b) = clampW (e (ix1 b)) := by
  pointwise [clampV, clampW]
theorem blkV_at (na : IVec S1 32) (b : Fin 72) : blkV na (ix1 b) = blkW (na (ix1 0)) b.val := by
  pointwise [blkV, blkW]

theorem clampW_le (e : BitVec 32) : (clampW e).toNat ≤ 7 := by
  unfold clampW IntOp.minsi IntOp.maxsi
  simp only [BitVec.slt_eq_decide, decide_eq_true_eq]
  have h7 : (7#32).toInt = 7 := by decide
  have h0 : (0#32).toInt = 0 := by decide
  rw [h7, h0]
  have he := BitVec.toInt_eq_toNat_cond e
  have hl := e.isLt
  by_cases h : (0 : ℤ) < e.toInt
  · rw [if_pos h]
    by_cases h2 : e.toInt < 7
    · rw [if_pos h2]; split at he <;> omega
    · rw [if_neg h2]; decide
  · rw [if_neg h, h0, if_pos (by decide)]; decide

theorem blkW_toInt (na : BitVec 32) (n : ℕ) (h : n < 72) : 0 ≤ (blkW na n).toInt ∧ (blkW na n).toInt ≤ n ∧ ((n : ℤ) < na.toInt → (blkW na n).toInt = n) := by
  have hn : (BitVec.ofNat 32 n).toInt = n := by
    rw [BitVec.toInt_eq_toNat_cond, BitVec.toNat_ofNat, Nat.mod_eq_of_lt (by omega)]; split <;> omega
  have hs : (n : ℤ) < na.toInt → (na - 1#32).toInt = na.toInt - 1 := fun hp => by
    have e1 := BitVec.toInt_eq_toNat_cond na
    have e2 := BitVec.toInt_eq_toNat_cond (na - 1#32)
    have hl := na.isLt
    rw [BitVec.toNat_sub, show (1#32).toNat = 1 from rfl] at e2
    split at e1 <;> split at e2 <;> omega
  unfold blkW IntOp.minsi IntOp.maxsi IntOp.subi
  simp only [BitVec.slt_eq_decide, decide_eq_true_eq]
  have h0 : (0#32).toInt = 0 := by decide
  rw [h0, hn]
  by_cases h1 : (n : ℤ) < (na - 1#32).toInt
  · rw [if_pos h1, hn]
    by_cases h2 : (0 : ℤ) < (n : ℤ)
    · rw [if_pos h2, hn]; exact ⟨by omega, le_refl _, fun _ => rfl⟩
    · rw [if_neg h2, h0]; exact ⟨by omega, by omega, fun _ => by omega⟩
  · rw [if_neg h1]
    by_cases h2 : (0 : ℤ) < (na - 1#32).toInt
    · rw [if_pos h2]; exact ⟨by omega, by omega, fun hp => by have := hs hp; omega⟩
    · rw [if_neg h2, h0]; exact ⟨by omega, by omega, fun hp => by have := hs hp; omega⟩

theorem blkW_toNat (na : BitVec 32) (n : ℕ) (h : n < 72) : (blkW na n).toNat < 72 := by
  obtain ⟨h0, h1, _⟩ := blkW_toInt na n h
  have e := BitVec.toInt_eq_toNat_cond (blkW na n)
  split at e <;> omega
theorem blkW_used (na : BitVec 32) (n : ℕ) (h : n < 72) (hu : (n : ℤ) < na.toInt) : (blkW na n).toNat = n := by
  have h2 := (blkW_toInt na n h).2.2 hu
  have e := BitVec.toInt_eq_toNat_cond (blkW na n)
  have hl := (blkW na n).isLt
  split at e <;> omega

theorem wrapV_at (na : IVec S1 32) (b : Fin 72) : wrapV na (ix1 b) = blkW (na (ix1 0)) b.val := by
  have h0 := (blkW_toInt (na (ix1 0)) b.val b.isLt).1
  have e0 : wrapV na (ix1 b) = Scalar.select (IntOp.cmpi .slt (blkV na (ix1 b)) 0#32) (IntOp.addi (blkV na (ix1 b)) 72#32) (blkV na (ix1 b)) := by
    pointwise [wrapV]
  have hz : (0#32).toInt = 0 := by decide
  have hf : ¬(blkW (na (ix1 0)) b.val).toInt < (0#32).toInt := by omega
  rw [e0, blkV_at, WordCmp.cmpi_slt_eq, decide_eq_false hf]
  rfl

/-- Entry `b` of the table: the expert of the block that `b` reads, kept within the eight. -/
theorem beV_at (e : IVec S72 32) (na : IVec S1 32) (b : Fin 72) :
    beV e na (ix1 b) = clampW (e (ix1 ⟨(blkW (na (ix1 0)) b.val).toNat, blkW_toNat _ _ b.isLt⟩)) := by
  unfold beV
  refine (gather_take1 gather_S72_S72x1_S72_n_0_n_n_0_1_1 rfl rfl rfl rfl (clampV e) _ b ⟨(blkW (na (ix1 0)) b.val).toNat, blkW_toNat _ _ b.isLt⟩ ?_ (by decide)).trans ?_
  rotate_left
  · exact clampV_at e _
  · have e1 : broadcastInDim S72x1 ![0] bcast_S72_S72x1_0 (wrapV na) (ix2 b (0 : Fin 1)) = wrapV na (ix1 b) := by pointwise
    refine e1.trans ((wrapV_at na b).trans ?_)
    exact ((BitVec.ofNat_toNat 32 (blkW (na (ix1 0)) b.val)).trans (BitVec.setWidth_eq _)).symm

/-! ## The tables, and where the blocks lie -/

/-- The expert of block `b`, and the count of used blocks. -/
abbrev ends : IVec S72 32 := m (((0 : Dev nD) : Thread nD τ).loc main_arg0)
abbrev used : IVec S1 32 := m (((0 : Dev nD) : Thread nD τ).loc main_arg1)
abbrev usedW : BitVec 32 := used m (ix1 0)
abbrev blk (b : Fin 72) : Fin 72 := ⟨(blkW (usedW m) b.val).toNat, blkW_toNat _ _ b.isLt⟩
abbrev expW (b : Fin 72) : BitVec 32 := clampW (ends m (ix1 (blk m b)))

theorem tbl_at (b : Fin 72) : (tbl m 0 : IVec S72 32) (ix1 b) = expW m b := by
  refine Eq.trans ?_ (beV_at (ends m) (used m) b)
  exact congrFun (V_be m (0 : Dev nD)) (ix1 b)

theorem coord0 (i : grid0.Coords) : (i 0).val < 72 := (i 0).isLt
theorem coord1 (i : grid0.Coords) : (i 1).val < 3 := (i 1).isLt
abbrev row (i : grid0.Coords) : Fin 72 := ⟨(i 0).val, coord0 i⟩

theorem tbl_at0 (i : grid0.Coords) :
    (tbl m).at 0 (Rect.unit (s := S72) (k0_off1 i) S1.size (k0_off1_inb i)) numel1_S1 = expW m (row i) := by
  refine Eq.trans ?_ (tbl_at m (row i))
  show (tbl m 0 : IVec S72 32) _ = _
  refine congrArg (tbl m 0 : IVec S72 32) (funext fun a => Fin.ext ?_)
  match a with
  | ⟨0, _⟩ => show (BitVec.ofNat 32 (i 0).val).toNat + _ = (i 0).val
              have := coord0 i
              rw [BitVec.toNat_ofNat, Nat.mod_eq_of_lt (by omega)]
              exact Nat.add_zero _
theorem tbl_at1 : (tbl m).at 1 (Rect.unit (s := S1) ![0] S1.size inb_S1_S1_0) numel1_S1 = usedW m := by
  have e : (tbl m 1 : IVec S1 32) = used m := V_arg1 m (0 : Dev nD)
  show (tbl m 1 : IVec S1 32) _ = _
  rw [e]
  refine congrArg (used m) (funext fun a => Fin.ext ?_)
  match a with
  | ⟨0, _⟩ => rfl

/-- The part of the inner dimension that a point reads. -/
abbrev partW (i : grid0.Coords) : BitVec 32 := Scalar.select (Scalar.cmpi .slt (BitVec.ofNat 32 (i 0).val) (usedW m)) (BitVec.ofNat 32 (i 1).val) 2#32
theorem partW_le (i : grid0.Coords) : (partW m i).toNat < 3 := by
  have := coord1 i
  unfold partW Scalar.select
  split
  · rw [BitVec.toNat_ofNat, Nat.mod_eq_of_lt (by omega)]; exact this
  · decide

theorem where0 (i : grid0.Coords) : cc0_transform_0 inb_S1_S1_0 numel1_S1 (tbl m) i = ![(blkW (usedW m) (i 0).val).toNat, 0] := by
  unfold cc0_transform_0
  simp only [tbl_at1 m]
  rfl
theorem where1 (i : grid0.Coords) : cc0_transform_1 k0_off1_inb numel1_S1 inb_S1_S1_0 (tbl m) i = ![(expW m (row i)).toNat, 0, (partW m i).toNat] := by
  have e := tbl_at0 m i
  unfold cc0_transform_1
  simp only [tbl_at1 m]
  exact congrArg (fun z : BitVec 32 => (![z.toNat, 0, (partW m i).toNat] : Fin 3 → ℕ)) e
theorem where2 (i : grid0.Coords) : cc0_transform_2 k0_off1_inb numel1_S1 inb_S1_S1_0 (tbl m) i = ![(expW m (row i)).toNat, 0, (partW m i).toNat] := by
  have e := tbl_at0 m i
  unfold cc0_transform_2
  simp only [tbl_at1 m]
  exact congrArg (fun z : BitVec 32 => (![z.toNat, 0, (partW m i).toNat] : Fin 3 → ℕ)) e
theorem where3 (i : grid0.Coords) : cc0_transform_3 k0_off1_inb numel1_S1 inb_S1_S1_0 (tbl m) i = ![(expW m (row i)).toNat, (partW m i).toNat, 0] := by
  have e := tbl_at0 m i
  unfold cc0_transform_3
  simp only [tbl_at1 m]
  exact congrArg (fun z : BitVec 32 => (![z.toNat, (partW m i).toNat, 0] : Fin 3 → ℕ)) e

/-- Every block lies inside its array, whatever the arguments hold. -/
theorem ok : Ok m := by
  refine ⟨fun i => ⟨?_, .inl rfl⟩, fun i => ⟨?_, .inr (Affine.block_words_dvd (by decide) (by decide))⟩,
    fun i => ⟨?_, .inr (Affine.block_words_dvd (by decide) (by decide))⟩, fun i => ⟨?_, .inr (Affine.block_words_dvd (by decide) (by decide))⟩⟩
  · rw [where0]
    have h := blkW_toNat (usedW m) (i 0).val (coord0 i)
    intro a
    match a with
    | ⟨0, _⟩ => show ((blkW (usedW m) (i 0).val).toNat + 1) * 512 ≤ 36864; omega
    | ⟨1, _⟩ => show (0 + 1) * 2048 ≤ 2048; omega
  · rw [where1]
    have h := clampW_le (ends m (ix1 (blk m (row i)))); have h2 := partW_le m i
    intro a
    match a with
    | ⟨0, _⟩ => show ((expW m (row i)).toNat + 1) * 1 ≤ 8; unfold expW; omega
    | ⟨1, _⟩ => show (0 + 1) * 2048 ≤ 2048; omega
    | ⟨2, _⟩ => show ((partW m i).toNat + 1) * 1024 ≤ 3072; omega
  · rw [where2]
    have h := clampW_le (ends m (ix1 (blk m (row i)))); have h2 := partW_le m i
    intro a
    match a with
    | ⟨0, _⟩ => show ((expW m (row i)).toNat + 1) * 1 ≤ 8; unfold expW; omega
    | ⟨1, _⟩ => show (0 + 1) * 2048 ≤ 2048; omega
    | ⟨2, _⟩ => show ((partW m i).toNat + 1) * 1024 ≤ 3072; omega
  · rw [where3]
    have h := clampW_le (ends m (ix1 (blk m (row i)))); have h2 := partW_le m i
    intro a
    match a with
    | ⟨0, _⟩ => show ((expW m (row i)).toNat + 1) * 1 ≤ 8; unfold expW; omega
    | ⟨1, _⟩ => show ((partW m i).toNat + 1) * 1024 ≤ 3072; omega
    | ⟨2, _⟩ => show (0 + 1) * 2048 ≤ 2048; omega

end Cert.ExpertsIdeal.Own

end
-- ==== Proof.FfnRef.lean ====
/- The dense SwiGLU of the reference, read at an index. -/
module
public import proofs.«01_k».proof.Proof.Gen.FfnRefIdeal.Run
public import proofs.«01_k».proof.Proof.LruMath
@[expose] public section
set_option maxRecDepth 16384
noncomputable section
open Idealize.ShloMosaic Idealize.ShloMosaic.TcCoe Idealize.SL.Sem

namespace Cert.FfnRefIdeal.Swi
open Cert.FfnRefIdeal Cert.FfnRefIdeal.Gen Cert.LruMath

/-- `silu(a) * u`. -/
def glu (a u : EReal) : EReal := a * sg a * u

/-- The result of the reference's operations, as its run states it. -/
def result (H : FVec Ideal S16384x2048 .bf16) (X : FVec Ideal S16384x2048 .f32) (Wg Wu : FVec Ideal S2048x6144 .f32)
    (Wd : FVec Ideal S6144x2048 .f32) : FVec Ideal S16384x2048 .f32 :=
  addf X (Host.dotGeneral dot_S16384x6144_S6144x2048_S16384x2048_1_0_0_1_n_n none (mulf (mulf (Host.dotGeneral dot_S16384x2048_S2048x6144_S16384x6144_1_0_0_1_n_n none (extf .f32 H bitsLt_bf16_f32) Wg) (Host.divf (broadcastInDim S16384x6144 ![] bcast_S_S16384x6144 (constant S_ .f32 0x3F800000#32)) (addf (broadcastInDim S16384x6144 ![] bcast_S_S16384x6144 (constant S_ .f32 0x3F800000#32)) (Host.exp (Host.negf (Host.dotGeneral dot_S16384x2048_S2048x6144_S16384x6144_1_0_0_1_n_n none (extf .f32 H bitsLt_bf16_f32) Wg)))))) (Host.dotGeneral dot_S16384x2048_S2048x6144_S16384x6144_1_0_0_1_n_n none (extf .f32 H bitsLt_bf16_f32) Wu)) Wd)

/-- The reference's result, entry by entry: the residual plus the gated hidden row against a column of the last weight. -/
theorem result_at (H : FVec Ideal S16384x2048 .bf16) (X : FVec Ideal S16384x2048 .f32) (Wg Wu : FVec Ideal S2048x6144 .f32)
    (Wd : FVec Ideal S6144x2048 .f32) (n : Fin 16384) (q : Fin 2048) :
    result H X Wg Wu Wd (ix2 n q) = X (ix2 n q) + ∑ l : Fin 6144,
      glu (∑ k : Fin 2048, H (ix2 n k) * Wg (ix2 k l)) (∑ k : Fin 2048, H (ix2 n k) * Wu (ix2 k l)) * Wd (ix2 l q) := by
  pointwise [result, glu, sg]

end Cert.FfnRefIdeal.Swi
end
-- ==== Proof.ExpertsRef.lean ====
/- The experts of the reference, read at an index. -/
module
public import proofs.«01_k».proof.Proof.Gen.ExpertsRefIdeal.Run
public import proofs.«01_k».proof.Proof.FfnRef
public import proofs.«01_k».proof.Proof.ExpertsIdealTab
@[expose] public section
set_option maxRecDepth 16384
noncomputable section
open Idealize.ShloMosaic Idealize.ShloMosaic.TcCoe Idealize.SL.Sem

namespace Cert.ExpertsRefIdeal.Own
open Cert.ExpertsRefIdeal Cert.ExpertsRefIdeal.Gen Cert.LruMath
open Cert.ExpertsIdeal.Own (clampW clampW_le)
open Cert.FfnRefIdeal.Swi (glu)

section Slab
variable {α : Type}

/-- The dimension numbers of `table[idx]` over the matrices of a `[N, R, C]` table. -/
abbrev slabDims (N R C B : Nat)
    (wf : GatherDims.WF ⟨3, ![N, R, C]⟩ ⟨2, ![B, 1]⟩ ⟨3, ![B, R, C]⟩ [1, 2] [0] [] [0] [] 1 ![1, R, C]) :
    GatherDims ⟨3, ![N, R, C]⟩ ⟨2, ![B, 1]⟩ ⟨3, ![B, R, C]⟩ where
  offsetDims := [1, 2]
  collapsedSliceDims := [0]
  operandBatchingDims := []
  startIndicesBatchingDims := []
  startIndexMap := [0]
  indexVectorDim := 1
  sliceSizes := ![1, R, C]
  wf := wf

/-- `table[idx]` at `(b, r, s)` is the table's matrix `idx[b]` at `(r, s)`. -/
theorem gather_slab {N R C B : Nat} (hN : N < 2 ^ 31)
    (wf : GatherDims.WF ⟨3, ![N, R, C]⟩ ⟨2, ![B, 1]⟩ ⟨3, ![B, R, C]⟩ [1, 2] [0] [] [0] [] 1 ![1, R, C])
    (x : (⟨3, ![N, R, C]⟩ : Shape).Idx → α) (idx : IVec ⟨2, ![B, 1]⟩ 32) (b : Fin B) (r : Fin R) (s : Fin C) (e : Fin N)
    (he : idx (ix2 b (0 : Fin 1)) = BitVec.ofNat 32 e.val) :
    Host.gather (slabDims N R C B wf) x idx (ix3 b r s) = x (ix3 e r s) := by
  unfold Host.gather
  congr 1
  funext a
  refine Fin.ext ?_
  show (slabDims N R C B wf).start (ix3 b r s) idx a + (slabDims N R C B wf).batchCoord (ix3 b r s) a
      + (slabDims N R C B wf).offCoord (ix3 b r s) a = _
  rw [GatherDims.batchCoord_eq_zero _ _ _ (fun h => by simp at h)]
  have h012 : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases h012 with rfl | rfl | rfl
  · rw [GatherDims.offCoord_eq_zero _ _ _ (fun h => ((GatherDims.mem_sKept _ _).mp h).1 (List.mem_singleton.mpr rfl))]
    simp only [Nat.add_zero]
    unfold GatherDims.start
    rw [dif_pos (show (0 : Fin 3) ∈ (slabDims N R C B wf).startIndexMap from List.mem_singleton.mpr rfl)]
    have hsi : (slabDims N R C B wf).siIdx (ix3 b r s) ⟨List.idxOf (0 : Fin 3) (slabDims N R C B wf).startIndexMap,
        List.idxOf_lt_length_iff.2 (List.mem_singleton.mpr rfl)⟩ = ix2 b (0 : Fin 1) := by
      funext d; refine Fin.ext ?_
      match d with
      | ⟨0, _⟩ => rfl
      | ⟨1, _⟩ => rfl
    have hel := e.isLt
    rw [hsi, he, StableHlo.Predicate.toInt_ofNat_small _ (by omega)]
    show min ((e.val : Int)).toNat (N - 1) = e.val
    omega
  · have hm : (1 : Fin 3) ∉ (slabDims N R C B wf).startIndexMap := show (1 : Fin 3) ∉ ([0] : List (Fin 3)) by decide
    have h0 : (slabDims N R C B wf).start (ix3 b r s) idx 1 = 0 := by unfold GatherDims.start; rw [dif_neg hm]
    have h1 : (slabDims N R C B wf).offCoord (ix3 b r s) 1 = r.val := by
      unfold GatherDims.offCoord
      rw [dif_pos ((GatherDims.mem_sKept _ _).mpr ⟨show (1 : Fin 3) ∉ ([0] : List (Fin 3)) by decide, List.not_mem_nil⟩)]
      rfl
    exact (congrArg₂ (fun p q => p + 0 + q) h0 h1).trans (by rw [Nat.zero_add]; rfl)
  · have hm : (2 : Fin 3) ∉ (slabDims N R C B wf).startIndexMap := show (2 : Fin 3) ∉ ([0] : List (Fin 3)) by decide
    have h0 : (slabDims N R C B wf).start (ix3 b r s) idx 2 = 0 := by unfold GatherDims.start; rw [dif_neg hm]
    have h1 : (slabDims N R C B wf).offCoord (ix3 b r s) 2 = s.val := by
      unfold GatherDims.offCoord
      rw [dif_pos ((GatherDims.mem_sKept _ _).mpr ⟨show (2 : Fin 3) ∉ ([0] : List (Fin 3)) by decide, List.not_mem_nil⟩)]
      rfl
    exact (congrArg₂ (fun p q => p + 0 + q) h0 h1).trans (by rw [Nat.zero_add]; rfl)
end Slab

/-- Each block's expert, kept within the eight; and as the gathers read it. -/
def keep (e : IVec S72 32) : IVec S72 32 :=
  minsi (maxsi e (broadcastInDim S72 ![] bcast_S_S72 (constantI S_ 32 0#32))) (broadcastInDim S72 ![] bcast_S_S72 (constantI S_ 32 7#32))
@[inherit_doc keep] def read (e : IVec S72 32) : IVec S72x1 32 :=
  broadcastInDim S72x1 ![0] bcast_S72_S72x1_0 (select (cmpi .slt (keep e) (broadcastInDim S72 ![] bcast_S_S72 (constantI S_ 32 0#32)))
    (addi (keep e) (broadcastInDim S72 ![] bcast_S_S72 (constantI S_ 32 8#32))) (keep e))

/-- The number of the expert. -/
abbrev expert (w : BitVec 32) : Fin 8 := ⟨(clampW w).toNat, by have := clampW_le w; omega⟩

theorem keep_at (e : IVec S72 32) (b : Fin 72) : keep e (ix1 b) = clampW (e (ix1 b)) := by
  pointwise [keep, clampW]

theorem read_at (e : IVec S72 32) (b : Fin 72) : read e (ix2 b (0 : Fin 1)) = BitVec.ofNat 32 (expert (e (ix1 b))).val := by
  have e0 : read e (ix2 b (0 : Fin 1)) = Scalar.select (IntOp.cmpi .slt (keep e (ix1 b)) 0#32) (IntOp.addi (keep e (ix1 b)) 8#32) (keep e (ix1 b)) := by
    pointwise [read]
  have hz : (0#32).toInt = 0 := by decide
  have hl := clampW_le (e (ix1 b))
  have hi : (clampW (e (ix1 b))).toInt = (clampW (e (ix1 b))).toNat := by
    have := BitVec.toInt_eq_toNat_cond (clampW (e (ix1 b))); split at this <;> omega
  have hf : ¬(clampW (e (ix1 b))).toInt < (0#32).toInt := by omega
  rw [e0, keep_at, WordCmp.cmpi_slt_eq, decide_eq_false hf]
  exact ((BitVec.ofNat_toNat 32 (clampW (e (ix1 b)))).trans (BitVec.setWidth_eq _)).symm

/-- Each block's three weights. -/
def up (e : IVec S72 32) (W : FVec Ideal S8x2048x3072 .f32) : FVec Ideal S72x2048x3072 .f32 :=
  Host.gather gather_S8x2048x3072_S72x1_S72x2048x3072_12_0_n_n_0_1_120483072 W (read e)
@[inherit_doc up] def down (e : IVec S72 32) (W : FVec Ideal S8x3072x2048 .f32) : FVec Ideal S72x3072x2048 .f32 :=
  Host.gather gather_S8x3072x2048_S72x1_S72x3072x2048_12_0_n_n_0_1_130722048 W (read e)

theorem up_at (e : IVec S72 32) (W : FVec Ideal S8x2048x3072 .f32) (b : Fin 72) (k : Fin 2048) (l : Fin 3072) :
    up e W (ix3 b k l) = W (ix3 (expert (e (ix1 b))) k l) :=
  gather_slab (by decide) _ W (read e) b k l _ (read_at e b)
theorem down_at (e : IVec S72 32) (W : FVec Ideal S8x3072x2048 .f32) (b : Fin 72) (l : Fin 3072) (q : Fin 2048) :
    down e W (ix3 b l q) = W (ix3 (expert (e (ix1 b))) l q) :=
  gather_slab (by decide) _ W (read e) b l q _ (read_at e b)

/-- The blocks of rows, and a product of every block with its weight. -/
def blocks (X : FVec Ideal S36864x2048 .f32) : FVec Ideal S72x512x2048 .f32 := shapeCast S72x512x2048 X shapeCasts_S36864x2048_S72x512x2048
@[inherit_doc blocks] def prod (X : FVec Ideal S36864x2048 .f32) (W : FVec Ideal S72x2048x3072 .f32) : FVec Ideal S72x512x3072 .f32 :=
  Host.dotGeneral dot_S72x512x2048_S72x2048x3072_S72x512x3072_2_1_1_2_0_0 none (blocks X) W

theorem blocks_at (X : FVec Ideal S36864x2048 .f32) (b : Fin 72) (p : Fin 512) (k : Fin 2048) :
    blocks X (ix3 b p k) = X (ix2 ⟨b.val * 512 + p.val, by omega⟩ k) := by
  pointwise [blocks]
theorem prod_at (X : FVec Ideal S36864x2048 .f32) (W : FVec Ideal S72x2048x3072 .f32) (b : Fin 72) (p : Fin 512) (l : Fin 3072) :
    prod X W (ix3 b p l) = ∑ k : Fin 2048, X (ix2 ⟨b.val * 512 + p.val, by omega⟩ k) * W (ix3 b k l) := by
  have e : prod X W (ix3 b p l) = ∑ k : Fin 2048, blocks X (ix3 b p k) * W (ix3 b k l) := by pointwise [prod]
  rw [e]
  simp only [blocks_at]

/-- The blocks' outputs before the unused ones are dropped. -/
def outs (e : IVec S72 32) (X : FVec Ideal S36864x2048 .f32) (Wg Wu : FVec Ideal S8x2048x3072 .f32)
    (Wd : FVec Ideal S8x3072x2048 .f32) : FVec Ideal S72x512x2048 .f32 :=
  Host.dotGeneral dot_S72x512x3072_S72x3072x2048_S72x512x2048_2_1_1_2_0_0 none (mulf (mulf (prod X (up e Wg)) (Host.divf (broadcastInDim S72x512x3072 ![] bcast_S_S72x512x3072 (constant S_ .f32 0x3F800000#32)) (addf (broadcastInDim S72x512x3072 ![] bcast_S_S72x512x3072 (constant S_ .f32 0x3F800000#32)) (Host.exp (Host.negf (prod X (up e Wg))))))) (prod X (up e Wu))) (down e Wd)

theorem outs_at (e : IVec S72 32) (X : FVec Ideal S36864x2048 .f32) (Wg Wu : FVec Ideal S8x2048x3072 .f32)
    (Wd : FVec Ideal S8x3072x2048 .f32) (b : Fin 72) (p : Fin 512) (q : Fin 2048) :
    outs e X Wg Wu Wd (ix3 b p q) = ∑ l : Fin 3072, glu (prod X (up e Wg) (ix3 b p l)) (prod X (up e Wu) (ix3 b p l)) * down e Wd (ix3 b l q) := by
  pointwise [outs, glu, sg]

/-- The result of the reference's operations, as its run states it. -/
def result (e : IVec S72 32) (na : IVec S1 32) (X : FVec Ideal S36864x2048 .f32) (Wg Wu : FVec Ideal S8x2048x3072 .f32)
    (Wd : FVec Ideal S8x3072x2048 .f32) : FVec Ideal S36864x2048 .f32 :=
  shapeCast S36864x2048 (select (broadcastInDim S72x512x2048 ![0, 1, 2] bcast_S72x1x1_S72x512x2048_0_1_2 (broadcastInDim S72x1x1 ![0] bcast_S72_S72x1x1_0 (cmpi .slt (iotaInDim S72 32 0) (broadcastInDim S72 ![0] bcast_S1_S72_0 na)))) (outs e X Wg Wu Wd) (broadcastInDim S72x512x2048 ![] bcast_S_S72x512x2048 (id (constant S_ .f32 0x00000000#32)))) shapeCasts_S72x512x2048_S36864x2048

/-- Row `n`'s output at column `q`, from the weights of expert `x`. -/
def row (X : FVec Ideal S36864x2048 .f32) (Wg Wu : FVec Ideal S8x2048x3072 .f32) (Wd : FVec Ideal S8x3072x2048 .f32)
    (x : Fin 8) (n : Fin 36864) (q : Fin 2048) : EReal :=
  ∑ l : Fin 3072, glu (∑ k : Fin 2048, X (ix2 n k) * Wg (ix3 x k l)) (∑ k : Fin 2048, X (ix2 n k) * Wu (ix3 x k l)) * Wd (ix3 x l q)

/-- The reference's result, entry by entry: zero in a block not in use. -/
theorem result_at (e : IVec S72 32) (na : IVec S1 32) (X : FVec Ideal S36864x2048 .f32) (Wg Wu : FVec Ideal S8x2048x3072 .f32)
    (Wd : FVec Ideal S8x3072x2048 .f32) (b : Fin 72) (p : Fin 512) (q : Fin 2048) :
    result e na X Wg Wu Wd (ix2 ⟨b.val * 512 + p.val, by omega⟩ q)
      = if (b.val : ℤ) < (na (ix1 0)).toInt then row X Wg Wu Wd (expert (e (ix1 b))) ⟨b.val * 512 + p.val, by omega⟩ q else 0 := by
  have e0 : result e na X Wg Wu Wd (ix2 ⟨b.val * 512 + p.val, by omega⟩ q)
      = Scalar.select (IntOp.cmpi .slt (BitVec.ofNat 32 b.val) (na (ix1 0))) (outs e X Wg Wu Wd (ix3 b p q)) (0 : EReal) := by
    pointwise [result]
    have z : constant (F := Ideal) S_ .f32 0x00000000#32 ix0 = (0 : EReal) := by pointwise
    exact congrArg (Scalar.select _ _) z
  rw [e0, WordCmp.cmpi_slt_eq, StableHlo.Predicate.toInt_ofNat_small _ (by omega)]
  by_cases h : (b.val : ℤ) < (na (ix1 0)).toInt
  · rw [if_pos h, decide_eq_true h]
    refine (outs_at e X Wg Wu Wd b p q).trans ?_
    unfold row
    simp only [prod_at, up_at, down_at]
  · rw [if_neg h, decide_eq_false h]; rfl

theorem res_eq (m : (ℓ : Loc nD τ sig) → Buf (Elt Ideal) ℓ) (c : Dev nD) :
    Cert.ExpertsRefIdeal.Value.res_out0 m c = result (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) := rfl

end Cert.ExpertsRefIdeal.Own
end
-- ==== Proof.ExpertsIdealKer.lean ====
/- The experts of the kernel: what a block of rows ends as, and the array after the whole grid. -/
module
public import proofs.«01_k».proof.Proof.ExpertsIdealTab
public import proofs.«01_k».proof.Proof.ExpertsRef
public import Idealize.ShloMosaic.Lib.Pipeline.Value
@[expose] public section
set_option maxRecDepth 16384
noncomputable section

namespace Cert.ExpertsIdeal.Own

open Cert.ExpertsIdeal Cert.ExpertsIdeal.Gen Cert.LruMath
open Idealize.ShloMosaic Idealize.ShloMosaic.TcCoe Idealize.SL.Sem
open Idealize.ShloMosaic.Pipeline (Dat)
open Cert.FfnRefIdeal.Swi (glu)
open Cert.ExpertsRefIdeal.Own (expert)

variable (m : (ℓ : Loc nD τ sig) → Buf (Elt Ideal) ℓ) (c : Dev nD)

/-- The arguments. -/
abbrev aX : S36864x2048.Idx → EReal := m ((c : Thread nD τ).loc main_arg2)
@[inherit_doc aX] abbrev aWg : S8x2048x3072.Idx → EReal := m ((c : Thread nD τ).loc main_arg3)
@[inherit_doc aX] abbrev aWu : S8x2048x3072.Idx → EReal := m ((c : Thread nD τ).loc main_arg4)
@[inherit_doc aX] abbrev aWd : S8x3072x2048.Idx → EReal := m ((c : Thread nD τ).loc main_arg5)

theorem V_wg : (V m c main_v4 : S8x2048x3072.Idx → EReal) = aWg m c := by
  unfold V
  after_reads_simp
  rfl
theorem V_wu : (V m c main_v5 : S8x2048x3072.Idx → EReal) = aWu m c := by
  unfold V
  after_reads_simp
  rfl
theorem V_wd : (V m c main_v6 : S8x3072x2048.Idx → EReal) = aWd m c := by
  unfold V
  after_reads_simp
  rfl

/-! ## One point -/

theorem pay1_at (x : Vec Ideal S512x2048 .f32) (p : Fin 512) (k : Fin 2048) : k0_pay1 (F := Ideal) x (ix2 p k) = x (ix2 p k) := by
  pointwise [k0_pay1]
theorem pay2_at (p : Fin 512) (q : Fin 2048) : k0_pay2 (F := Ideal) (ix2 p q) = (0 : EReal) := by
  pointwise [k0_pay2]

/-- A point adds the product of its 1024 hidden columns with its rows of the last weight. -/
theorem pay3_at (h : Vec Ideal S512x2048 .bf16) (wg wu : Vec Ideal S1x2048x1024 .bf16) (acc : Vec Ideal S512x2048 .f32)
    (wd : Vec Ideal S1x1024x2048 .bf16) (p : Fin 512) (q : Fin 2048) :
    k0_pay3 (F := Ideal) h wg wu acc wd (ix2 p q) = acc (ix2 p q)
      + ∑ l : Fin 1024, glu (∑ k : Fin 2048, h (ix2 p k) * wg (ix3 (0 : Fin 1) k l)) (∑ k : Fin 2048, h (ix2 p k) * wu (ix3 (0 : Fin 1) k l)) * wd (ix3 (0 : Fin 1) l q) := by
  pointwise [k0_pay3, glu, sg]
  rfl

theorem lt216 (t : Fin grid0.N) : t.val < 216 := Nat.lt_of_lt_of_eq t.isLt N_0
theorem crd0 (t : Fin grid0.N) : (grid0.coords t 0).val = t.val / 3 := by
  have ht := lt216 t
  have e0 : (grid0.coords t 0).val = t.val / 3 % 72 := Pipeline.Grid.coords_val t 0 (by decide) rfl
  omega
theorem crd1 (t : Fin grid0.N) : (grid0.coords t 1).val = t.val % 3 := by
  have e1 : (grid0.coords t 1).val = t.val / 1 % 3 := Pipeline.Grid.coords_val t 1 (by decide) rfl
  omega

/-- A block is in use when its number is below the count. -/
abbrev InUse (b : ℕ) : Prop := (b : ℤ) < (usedW m).toInt

theorem word_eq : word (c := c) (tbl m 1) = usedW m := tbl_at1 m

theorem slt_used (b : ℕ) (hb : b < 72) : Scalar.cmpi .slt (BitVec.ofNat 32 b) (usedW m) = BitVec.ofBool (decide (InUse m b)) := by
  refine (WordCmp.cmpi_slt_eq _ _).trans ?_
  rw [StableHlo.Predicate.toInt_ofNat_small _ (by omega)]

theorem act_iff (t : Fin grid0.N) : act m c t ↔ InUse m (t.val / 3) := by
  have ht := lt216 t
  unfold act
  rw [word_eq]
  unfold k0_cond2
  dsimp only
  rw [crd0, slt_used m _ (by omega)]
  by_cases h : InUse m (t.val / 3)
  · rw [decide_eq_true h]; exact ⟨fun _ => h, fun _ => rfl⟩
  · rw [decide_eq_false h]; exact ⟨fun e => absurd e (by decide), fun e => absurd e h⟩

/-! ## The blocks of a block in use -/

theorem blk_used (b : Fin 72) (h : InUse m b.val) : blk m b = b := Fin.ext (blkW_used (usedW m) b.val b.isLt h)
theorem part_used (t : Fin grid0.N) (h : InUse m (t.val / 3)) : (partW m (grid0.coords t)).toNat = t.val % 3 := by
  have ht := lt216 t
  unfold partW
  rw [crd0, crd1, slt_used m _ (by omega), decide_eq_true h]
  show (BitVec.ofNat 32 (t.val % 3)).toNat = _
  rw [BitVec.toNat_ofNat]; omega

/-- Block `b`'s expert. -/
abbrev ex (b : Fin 72) : Fin 8 := expert (ends m (ix1 b))

theorem exp_used (t : Fin grid0.N) (b : Fin 72) (hb : t.val / 3 = b.val) (h : InUse m b.val) : (expW m (Own.row (grid0.coords t))).toNat = (ex m b).val := by
  have e : Own.row (grid0.coords t) = b := Fin.ext ((crd0 t).trans hb)
  show (clampW (ends m (ix1 (blk m (Own.row (grid0.coords t)))))).toNat = (clampW (ends m (ix1 b))).toNat
  rw [e, blk_used m b h]

variable (hO : Ok m)

theorem sum_one (a n k : ℕ) : a * n + 1 * k = a * n + k := by rw [Nat.one_mul]
theorem sum_zero (n k : ℕ) : 0 * n + 1 * k = k := by rw [Nat.zero_mul, Nat.zero_add, Nat.one_mul]
theorem sum_unit (a : ℕ) : a * 1 + 1 * 0 = a := by rw [Nat.mul_one, Nat.mul_zero, Nat.add_zero]

/-- The place in its array of the place `y` of a point's block, for any tables. -/
abbrev src0 (T : (pcfg0 (F := Ideal)).Adm) (t : Fin (cfg0 T).N) (y : S512x2048.Idx) : S36864x2048.Idx := (((cfg0 T).win 0).blk t).view.emb y
@[inherit_doc src0] abbrev src1 (T : (pcfg0 (F := Ideal)).Adm) (t : Fin (cfg0 T).N) (y : S1x2048x1024.Idx) : S8x2048x3072.Idx := (((cfg0 T).win 1).blk t).view.emb y
@[inherit_doc src0] abbrev src2 (T : (pcfg0 (F := Ideal)).Adm) (t : Fin (cfg0 T).N) (y : S1x2048x1024.Idx) : S8x2048x3072.Idx := (((cfg0 T).win 2).blk t).view.emb y
@[inherit_doc src0] abbrev src3 (T : (pcfg0 (F := Ideal)).Adm) (t : Fin (cfg0 T).N) (y : S1x1024x2048.Idx) : S8x3072x2048.Idx := (((cfg0 T).win 3).blk t).view.emb y
theorem src0_val (T : (pcfg0 (F := Ideal)).Adm) (t : Fin (cfg0 T).N) (y : S512x2048.Idx) (a : Fin 2) :
    (src0 T t y a).val = cc0_transform_0 inb_S1_S1_0 numel1_S1 T.1 (grid0.coords t) a * S512x2048.size a + 1 * (y a).val := rfl
theorem src1_val (T : (pcfg0 (F := Ideal)).Adm) (t : Fin (cfg0 T).N) (y : S1x2048x1024.Idx) (a : Fin 3) :
    (src1 T t y a).val = cc0_transform_1 k0_off1_inb numel1_S1 inb_S1_S1_0 T.1 (grid0.coords t) a * S1x2048x1024.size a + 1 * (y a).val := rfl
theorem src2_val (T : (pcfg0 (F := Ideal)).Adm) (t : Fin (cfg0 T).N) (y : S1x2048x1024.Idx) (a : Fin 3) :
    (src2 T t y a).val = cc0_transform_2 k0_off1_inb numel1_S1 inb_S1_S1_0 T.1 (grid0.coords t) a * S1x2048x1024.size a + 1 * (y a).val := rfl
theorem src3_val (T : (pcfg0 (F := Ideal)).Adm) (t : Fin (cfg0 T).N) (y : S1x1024x2048.Idx) (a : Fin 3) :
    (src3 T t y a).val = cc0_transform_3 k0_off1_inb numel1_S1 inb_S1_S1_0 T.1 (grid0.coords t) a * S1x1024x2048.size a + 1 * (y a).val := rfl

theorem x_at (t : Fin grid0.N) (b : Fin 72) (hb : t.val / 3 = b.val) (h : InUse m b.val) (p : Fin 512) (k : Fin 2048) :
    (iblk m hO c 0 t : S512x2048.Idx → EReal) (ix2 p k) = aX m c (ix2 ⟨b.val * 512 + p.val, by omega⟩ k) := by
  have hu : (blkW (usedW m) (grid0.coords t 0).val).toNat = b.val := by rw [crd0, hb]; exact blkW_used (usedW m) b.val b.isLt h
  have e : src0 (adm m hO) t (ix2 p k) = ix2 ⟨b.val * 512 + p.val, by omega⟩ k := by
    funext a
    refine Fin.ext ((src0_val (adm m hO) t (ix2 p k) a).trans ?_)
    rw [show cc0_transform_0 inb_S1_S1_0 numel1_S1 (adm m hO).1 (grid0.coords t) = _ from where0 m (grid0.coords t), hu]
    match a with
    | ⟨0, _⟩ => exact sum_one b.val 512 p.val
    | ⟨1, _⟩ => exact sum_zero 2048 k.val
  exact (congrArg (V m c main_arg2 : S36864x2048.Idx → EReal) e).trans (congrFun (V_arg2 m c) _)

theorem wg_at (t : Fin grid0.N) (b : Fin 72) (s : Fin 3) (hb : t.val / 3 = b.val) (hs : t.val % 3 = s.val) (h : InUse m b.val) (k : Fin 2048) (l : Fin 1024) :
    (iblk m hO c 1 t : S1x2048x1024.Idx → EReal) (ix3 (0 : Fin 1) k l) = aWg m c (ix3 (ex m b) k ⟨s.val * 1024 + l.val, by omega⟩) := by
  have he := exp_used m t b hb h
  have hp := (part_used m t (by rw [hb]; exact h)).trans hs
  have e : src1 (adm m hO) t (ix3 (0 : Fin 1) k l) = ix3 (ex m b) k ⟨s.val * 1024 + l.val, by omega⟩ := by
    funext a
    refine Fin.ext ((src1_val (adm m hO) t (ix3 (0 : Fin 1) k l) a).trans ?_)
    rw [show cc0_transform_1 k0_off1_inb numel1_S1 inb_S1_S1_0 (adm m hO).1 (grid0.coords t) = _ from where1 m (grid0.coords t), he, hp]
    match a with
    | ⟨0, _⟩ => exact sum_unit (ex m b).val
    | ⟨1, _⟩ => exact sum_zero 2048 k.val
    | ⟨2, _⟩ => exact sum_one s.val 1024 l.val
  exact (congrArg (V m c main_v4 : S8x2048x3072.Idx → EReal) e).trans (congrFun (V_wg m c) _)

theorem wu_at (t : Fin grid0.N) (b : Fin 72) (s : Fin 3) (hb : t.val / 3 = b.val) (hs : t.val % 3 = s.val) (h : InUse m b.val) (k : Fin 2048) (l : Fin 1024) :
    (iblk m hO c 2 t : S1x2048x1024.Idx → EReal) (ix3 (0 : Fin 1) k l) = aWu m c (ix3 (ex m b) k ⟨s.val * 1024 + l.val, by omega⟩) := by
  have he := exp_used m t b hb h
  have hp := (part_used m t (by rw [hb]; exact h)).trans hs
  have e : src2 (adm m hO) t (ix3 (0 : Fin 1) k l) = ix3 (ex m b) k ⟨s.val * 1024 + l.val, by omega⟩ := by
    funext a
    refine Fin.ext ((src2_val (adm m hO) t (ix3 (0 : Fin 1) k l) a).trans ?_)
    rw [show cc0_transform_2 k0_off1_inb numel1_S1 inb_S1_S1_0 (adm m hO).1 (grid0.coords t) = _ from where2 m (grid0.coords t), he, hp]
    match a with
    | ⟨0, _⟩ => exact sum_unit (ex m b).val
    | ⟨1, _⟩ => exact sum_zero 2048 k.val
    | ⟨2, _⟩ => exact sum_one s.val 1024 l.val
  exact (congrArg (V m c main_v5 : S8x2048x3072.Idx → EReal) e).trans (congrFun (V_wu m c) _)

theorem wd_at (t : Fin grid0.N) (b : Fin 72) (s : Fin 3) (hb : t.val / 3 = b.val) (hs : t.val % 3 = s.val) (h : InUse m b.val) (l : Fin 1024) (q : Fin 2048) :
    (iblk m hO c 3 t : S1x1024x2048.Idx → EReal) (ix3 (0 : Fin 1) l q) = aWd m c (ix3 (ex m b) ⟨s.val * 1024 + l.val, by omega⟩ q) := by
  have he := exp_used m t b hb h
  have hp := (part_used m t (by rw [hb]; exact h)).trans hs
  have e : src3 (adm m hO) t (ix3 (0 : Fin 1) l q) = ix3 (ex m b) ⟨s.val * 1024 + l.val, by omega⟩ q := by
    funext a
    refine Fin.ext ((src3_val (adm m hO) t (ix3 (0 : Fin 1) l q) a).trans ?_)
    rw [show cc0_transform_3 k0_off1_inb numel1_S1 inb_S1_S1_0 (adm m hO).1 (grid0.coords t) = _ from where3 m (grid0.coords t), he, hp]
    match a with
    | ⟨0, _⟩ => exact sum_unit (ex m b).val
    | ⟨1, _⟩ => exact sum_one s.val 1024 l.val
    | ⟨2, _⟩ => exact sum_zero 2048 q.val
  exact (congrArg (V m c main_v6 : S8x3072x2048.Idx → EReal) e).trans (congrFun (V_wd m c) _)

/-! ## A whole block -/

/-- Row `n`'s hidden unit `l` of expert `x` times its weight toward column `q`. -/
def unit (x : Fin 8) (n : Fin 36864) (q : Fin 2048) (l : Fin 3072) : EReal :=
  glu (∑ k : Fin 2048, aX m c (ix2 n k) * aWg m c (ix3 x k l)) (∑ k : Fin 2048, aX m c (ix2 n k) * aWu m c (ix3 x k l)) * aWd m c (ix3 x l q)

/-- What a point of a block in use adds, the scratch holding the block's rows. -/
theorem pay_point (t : Fin grid0.N) (b : Fin 72) (s : Fin 3) (hb : t.val / 3 = b.val) (hs : t.val % 3 = s.val) (h : InUse m b.val)
    (x : Vec Ideal S512x2048 .bf16) (hx : ∀ p k, x (ix2 p k) = aX m c (ix2 ⟨b.val * 512 + (p : Fin 512).val, by omega⟩ k))
    (acc : Vec Ideal S512x2048 .f32) (p : Fin 512) (q : Fin 2048) :
    k0_pay3 (F := Ideal) x (iblk m hO c 1 t) (iblk m hO c 2 t) acc (iblk m hO c 3 t) (ix2 p q)
      = acc (ix2 p q) + ∑ l : Fin 1024, unit m c (ex m b) ⟨b.val * 512 + p.val, by omega⟩ q ⟨s.val * 1024 + l.val, by omega⟩ := by
  refine (pay3_at x (iblk m hO c 1 t) (iblk m hO c 2 t) acc (iblk m hO c 3 t) p q).trans ?_
  refine congrArg (fun z : EReal => acc (ix2 p q) + z) (Finset.sum_congr rfl fun l _ => ?_)
  unfold unit
  refine congrArg₂ (fun u v : EReal => u * v) (congrArg₂ glu ?_ ?_) (wd_at m c hO t b s hb hs h l q)
  · refine Finset.sum_congr rfl fun k _ => ?_
    exact congrArg₂ (fun u v : EReal => u * v) (hx p k) (wg_at m c hO t b s hb hs h k l)
  · refine Finset.sum_congr rfl fun k _ => ?_
    exact congrArg₂ (fun u v : EReal => u * v) (hx p k) (wu_at m c hO t b s hb hs h k l)

/-- What the array holds at a row of block `b` in the end. -/
def cell (b : Fin 72) (p : Fin 512) (q : Fin 2048) : EReal :=
  if InUse m b.val then ∑ l : Fin 3072, unit m c (ex m b) ⟨b.val * 512 + p.val, by omega⟩ q l else 0

theorem firstOut_on (t : Fin (cfgM m hO).N) (h : act m c t) : firstOut m hO c t
    = (k0_pay3 (k0_pay1 (iblk m hO c 0 t)) (iblk m hO c 1 t) (iblk m hO c 2 t) (k0_pay2 (F := Ideal)) (iblk m hO c 3 t), k0_pay1 (iblk m hO c 0 t)) := by
  unfold firstOut; rw [if_pos h]
theorem firstOut_off (t : Fin (cfgM m hO).N) (h : ¬act m c t) : (firstOut m hO c t).1 = k0_pay2 (F := Ideal) := by
  unfold firstOut; dsimp only; rw [if_neg h]
theorem nextOut_on (t : Fin (cfgM m hO).N) (p : Vec Ideal S512x2048 .f32 × Vec Ideal S512x2048 .bf16) (h : act m c t) : nextOut m hO c t p
    = (k0_pay3 p.2 (iblk m hO c 1 t) (iblk m hO c 2 t) p.1 (iblk m hO c 3 t), p.2) := by
  unfold nextOut; rw [if_pos h]

/-- The block as its last point leaves it. -/
theorem outs_last (b : Fin 72) (hn : 3 * b.val + 2 < (cfgM m hO).N) (p : Fin 512) (q : Fin 2048) :
    (outs m hO c (3 * b.val + 2) hn).1 (ix2 p q) = cell m c b p q := by
  have h0 : 3 * b.val < (cfgM m hO).N := by omega
  have h1 : 3 * b.val + 1 < (cfgM m hO).N := by omega
  have e0 := outs_first m hO c ⟨3 * b.val, h0⟩ (by show 3 * b.val % 3 = 0; omega)
  have e1 := outs_next m hO c ⟨3 * b.val + 1, h1⟩ (by show ¬(3 * b.val + 1) % 3 = 0; omega)
  have e2 := outs_next m hO c ⟨3 * b.val + 2, hn⟩ (by show ¬(3 * b.val + 2) % 3 = 0; omega)
  have d0 : (3 * b.val) / 3 = b.val := by omega
  have d1 : (3 * b.val + 1) / 3 = b.val := by omega
  have d2 : (3 * b.val + 2) / 3 = b.val := by omega
  change outs m hO c (3 * b.val) h0 = _ at e0
  change outs m hO c (3 * b.val + 1) h1 = nextOut m hO c ⟨3 * b.val + 1, h1⟩ (outs m hO c (3 * b.val) h0) at e1
  change outs m hO c (3 * b.val + 2) hn = nextOut m hO c ⟨3 * b.val + 2, hn⟩ (outs m hO c (3 * b.val + 1) h1) at e2
  unfold cell
  by_cases h : InUse m b.val
  · rw [if_pos h]
    have a0 : act m c ⟨3 * b.val, h0⟩ := (act_iff m c ⟨3 * b.val, h0⟩).mpr (by show InUse m (3 * b.val / 3); rw [d0]; exact h)
    have a1 : act m c ⟨3 * b.val + 1, h1⟩ := (act_iff m c ⟨3 * b.val + 1, h1⟩).mpr (by show InUse m ((3 * b.val + 1) / 3); rw [d1]; exact h)
    have a2 : act m c ⟨3 * b.val + 2, hn⟩ := (act_iff m c ⟨3 * b.val + 2, hn⟩).mpr (by show InUse m ((3 * b.val + 2) / 3); rw [d2]; exact h)
    have x0 : ∀ p k, k0_pay1 (F := Ideal) (iblk m hO c 0 ⟨3 * b.val, h0⟩) (ix2 p k) = aX m c (ix2 ⟨b.val * 512 + (p : Fin 512).val, by omega⟩ k) :=
      fun p k => (pay1_at _ p k).trans (x_at m c hO ⟨3 * b.val, h0⟩ b d0 h p k)
    rw [e2, nextOut_on m c hO _ _ a2, e1, nextOut_on m c hO _ _ a1, e0, firstOut_on m c hO _ a0]
    refine (pay_point m c hO ⟨3 * b.val + 2, hn⟩ b 2 d2 (by show (3 * b.val + 2) % 3 = 2; omega) h _ x0 _ p q).trans ?_
    refine (congrArg (fun z : EReal => z + _) ((pay_point m c hO ⟨3 * b.val + 1, h1⟩ b 1 d1 (by show (3 * b.val + 1) % 3 = 1; omega) h _ x0 _ p q).trans
      (congrArg (fun z : EReal => z + _) ((pay_point m c hO ⟨3 * b.val, h0⟩ b 0 d0 (by show 3 * b.val % 3 = 0; omega) h _ x0 _ p q).trans
        (congrArg (fun z : EReal => z + _) (pay2_at p q)))))).trans ?_
    refine Eq.trans ?_ (Fin.sum_mul_add_fin 3 1024 (unit m c (ex m b) ⟨b.val * 512 + p.val, by omega⟩ q) rfl)
    rw [Fin.sum_univ_three, zero_add]
  · rw [if_neg h]
    have a0 : ¬act m c ⟨3 * b.val, h0⟩ := fun a => h (d0 ▸ (act_iff m c ⟨3 * b.val, h0⟩).mp a)
    have a1 : ¬act m c ⟨3 * b.val + 1, h1⟩ := fun a => h (d1 ▸ (act_iff m c ⟨3 * b.val + 1, h1⟩).mp a)
    have a2 : ¬act m c ⟨3 * b.val + 2, hn⟩ := fun a => h (d2 ▸ (act_iff m c ⟨3 * b.val + 2, hn⟩).mp a)
    rw [e2, nextOut_off m hO c _ _ a2, e1, nextOut_off m hO c _ _ a1, e0, firstOut_off m c hO _ a0]
    exact pay2_at p q

/-! ## The array -/

/-- The array in the end. -/
def G : S36864x2048.Idx → EReal := fun i =>
  cell m c ⟨(i 0).val / 512, by have : (i 0).val < 36864 := (i 0).isLt; omega⟩ ⟨(i 0).val % 512, by omega⟩ (i 1)

theorem where4 (t : Fin grid0.N) : cc0_transform_4 (grid0.coords t) = ![t.val / 3, 0] := by
  have ht := lt216 t
  unfold cc0_transform_4
  rw [crd0]
  dsimp only
  rw [BitVec.toNat_ofNat, Nat.mod_eq_of_lt (by omega)]
  rfl

/-- Where point `t` writes back the place `y` of its block. -/
abbrev place (t : Fin (cfgM m hO).N) (y : S512x2048.Idx) : S36864x2048.Idx := (((cfgM m hO).win 4).blk t).view.emb y

theorem place0 (t : Fin (cfgM m hO).N) (p : Fin 512) (q : Fin 2048) : (place m hO t (ix2 p q) 0).val = t.val / 3 * 512 + p.val := by
  show cc0_transform_4 (grid0.coords t) 0 * 512 + 1 * p.val = _
  rw [where4]
  exact sum_one _ _ _
theorem place1 (t : Fin (cfgM m hO).N) (p : Fin 512) (q : Fin 2048) : place m hO t (ix2 p q) 1 = q := by
  refine Fin.ext ?_
  show cc0_transform_4 (grid0.coords t) 1 * 2048 + 1 * q.val = _
  rw [where4]
  exact sum_zero _ _

theorem G_place (b : Fin 72) (hn : 3 * b.val + 2 < (cfgM m hO).N) (p : Fin 512) (q : Fin 2048) :
    G m c (place m hO ⟨3 * b.val + 2, hn⟩ (ix2 p q)) = cell m c b p q := by
  have hb0 : (place m hO ⟨3 * b.val + 2, hn⟩ (ix2 p q) 0).val = b.val * 512 + p.val :=
    (place0 m hO ⟨3 * b.val + 2, hn⟩ p q).trans (by show (3 * b.val + 2) / 3 * 512 + p.val = _; omega)
  have hb1 := place1 m hO ⟨3 * b.val + 2, hn⟩ p q
  unfold G
  generalize place m hO ⟨3 * b.val + 2, hn⟩ (ix2 p q) = i at hb0 hb1 ⊢
  refine congr (congrArg₂ (cell m c) (Fin.ext ?_) (Fin.ext ?_)) hb1
  · show (i 0).val / 512 = b.val; omega
  · show (i 0).val % 512 = p.val; omega

theorem flushed_eq (t : Fin (cfgM m hO).N) (hf : ((cfgM m hO).win 4).flush t = true) :
    (dats m hO 0 c).flushed 4 t = (((cfgM m hO).win 4).blk t).view.read (Elt Ideal) (G m c) := by
  show ((cfgM m hO).win 4).cut (grid0.coords t) ((dats m hO 0 c).after 4 t) = _
  rw [after4]
  have hm : t.val % 3 = 2 := (flush4 (adm m hO) t).mp hf
  have ht := lt216 t
  obtain ⟨b, hb⟩ : ∃ b : Fin 72, t.val = 3 * b.val + 2 := ⟨⟨t.val / 3, by omega⟩, by show t.val = 3 * (t.val / 3) + 2; omega⟩
  obtain ⟨n, hn⟩ := t
  obtain rfl : n = 3 * b.val + 2 := hb
  refine funext fun y : S512x2048.Idx => ?_
  obtain ⟨p, q, rfl⟩ : ∃ (p : Fin 512) (q : Fin 2048), y = ix2 p q := ⟨y 0, y 1, by idx_vars y⟩
  exact Eq.trans (b := cell m c b p q) (outs_last m c hO b hn p q) (G_place m c hO b hn p q).symm

theorem mem_blk (t : Fin (cfgM m hO).N) (i : S36864x2048.Idx) :
    i ∈ (((cfgM m hO).win 4).blk t).view.set ↔ ∀ a : Fin 2, cc0_transform_4 (grid0.coords t) a * S512x2048.size a ≤ (i a).val ∧ (i a).val < cc0_transform_4 (grid0.coords t) a * S512x2048.size a + S512x2048.size a := by
  have e : (((cfgM m hO).win 4).blk t).view.set = (((cfgM m hO).win 4).rect t : Rect S36864x2048).set := View.set_slice_whole main_v21 (((cfgM m hO).win 4).rect t)
  rw [e]
  exact Rect.mem_set_unit (s := S36864x2048)

theorem covered (i : S36864x2048.Idx) : ∃ t : Fin (cfgM m hO).N, ((cfgM m hO).win 4).flush t = true ∧ i ∈ (((cfgM m hO).win 4).blk t).view.set := by
  have hi0 : (i 0).val < 36864 := (i 0).isLt
  have hi1 : (i 1).val < 2048 := (i 1).isLt
  have hN : (cfgM m hO).N = 216 := N_0
  have hlt : 3 * ((i 0).val / 512) + 2 < (cfgM m hO).N := by omega
  refine ⟨⟨3 * ((i 0).val / 512) + 2, hlt⟩, (flush4 (adm m hO) _).mpr (by show (3 * ((i 0).val / 512) + 2) % 3 = 2; omega), ?_⟩
  refine (mem_blk m hO _ i).mpr ?_
  have hw := where4 ⟨3 * ((i 0).val / 512) + 2, hlt⟩
  intro a
  rw [hw]
  match a with
  | ⟨0, _⟩ =>
    show (3 * ((i 0).val / 512) + 2) / 3 * 512 ≤ (i 0).val ∧ (i 0).val < (3 * ((i 0).val / 512) + 2) / 3 * 512 + 512
    omega
  | ⟨1, _⟩ =>
    show 0 * 2048 ≤ (i 1).val ∧ (i 1).val < 0 * 2048 + 2048
    omega

theorem final : (dats m hO 0 c).arrAt 4 (cfgM m hO).N = G m c :=
  (dats m hO 0 c).arrAt_eq_of_cover 4 _ (fun t hf => flushed_eq m c hO t hf) (fun i => covered m hO i)

/-- Every run ends with the array at `G` and the arguments as they were. -/
theorem run (ρ : Dev nD → PrngReg) : θ_run defs (onTc (τ := τ) (main (F := Ideal))) ⟨m, fun _ => 0, ρ⟩ fun r => ∀ c : Dev nD,
      r.2.mem ((c.tc : Thread nD τ).loc main_v21) = G m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun r h c => ⟨(h.1 c).trans (final m c (ok m)), h.2 c⟩)
    (θ_run_and ((θ_run defs _ _).mono (fun r h c => (h c).1 4) (run_main m ρ (ok m))) (unchanged m ρ (ok m)))

/-- The kernel's array at a row of block `b`. -/
theorem G_at (b : Fin 72) (p : Fin 512) (q : Fin 2048) : G m c (ix2 ⟨b.val * 512 + p.val, by omega⟩ q)
    = if (b.val : ℤ) < (usedW m).toInt then Cert.ExpertsRefIdeal.Own.row (aX m c) (aWg m c) (aWu m c) (aWd m c) (ex m b) ⟨b.val * 512 + p.val, by omega⟩ q else 0 := by
  refine Eq.trans (b := cell m c b p q) ?_ rfl
  unfold G
  refine congrArg₂ (fun x y => cell m c x y q) (Fin.ext ?_) (Fin.ext ?_)
  · show (b.val * 512 + p.val) / 512 = b.val; omega
  · show (b.val * 512 + p.val) % 512 = p.val; omega

end Cert.ExpertsIdeal.Own
end
-- ==== Proof.LruStepRun.lean ====
/- The run of the reference, stated over the step of its loop: a valuation that holds a state keeps holding the stepped
   state after one trip, so the results are read off `step` iterated from `init`. Follows the generated module
   `Gen/ReferenceIdeal/StepRun.lean`; the rewriting in `step_4` is done by `Eq.trans` here. -/
module

public import proofs.«01_k».proof.Proof.Gen.ReferenceIdeal.Run
public import proofs.«01_k».proof.Proof.Gen.ReferenceIdeal.Step

@[expose] public section

noncomputable section

namespace Cert.ReferenceIdeal.LruStepRun

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step (State step init)

variable {F : FTy → Type} [FloatOps F]

variable (V0 : Valuation τ sig (Elt F)) (s : State F) (j : ℕ)

/-- The valuation holds the state, the set-up values and the trip's number. -/
structure Holds : Prop where
  f_3 : V0 (Proc.devRef .tc main_v46_3) = s.main_v46_3
  f_4 : V0 (Proc.devRef .tc main_v46_4) = s.main_v46_4
  f_0 : V0 (Proc.devRef .tc main_v46_0) = s.main_v46_0
  f_1 : V0 (Proc.devRef .tc main_v46_1) = s.main_v46_1
  n_2 : V0 (Proc.devRef .tc main_v46_2) = constantI S_ 32 (BitVec.ofNat 32 j)

variable {V0 s j}

set_option maxRecDepth 8192 in
theorem al_0 (h : Holds V0 s j) : (constantI S_ 32 0#32 : (Proc.devRef .tc main_while0b_call1_c : DevRef τ sig).ty.Contents (Elt F)) = Cert.ReferenceIdeal.Step.b0 j s := by
  unfold Cert.ReferenceIdeal.Step.b0
  rfl
set_option maxRecDepth 8192 in
theorem al_1 (h : Holds V0 s j) : (constantI S_ 32 0#32 : (Proc.devRef .tc main_while0b_call1_c_0 : DevRef τ sig).ty.Contents (Elt F)) = Cert.ReferenceIdeal.Step.b1 j s := by
  unfold Cert.ReferenceIdeal.Step.b1
  rfl
set_option maxRecDepth 8192 in
theorem al_2 (h : Holds V0 s j) : (Host.dynamicSlice S1x2x1024 (V0 (Proc.devRef .tc main_v46_0)) (fun k => (((![V0 (Proc.devRef .tc main_v46_2), constantI S_ 32 0#32, constantI S_ 32 0#32] : Fin 3 → (⟨S_, .i32⟩ : BufTy).Contents (Elt F))) k (Shape.Idx.first h_S_)).toInt) sliceFits_S8192x2x1024_S1x2x1024 : (Proc.devRef .tc main_while0b_call1_v0 : DevRef τ sig).ty.Contents (Elt F)) = Cert.ReferenceIdeal.Step.b2 j s := by
  unfold Cert.ReferenceIdeal.Step.b2
  rw [← al_0 h, ← al_1 h, h.f_0, h.n_2]
  try rfl
set_option maxRecDepth 8192 in
theorem al_3 (h : Holds V0 s j) : (shapeCast S2x1024 (Host.dynamicSlice S1x2x1024 (V0 (Proc.devRef .tc main_v46_0)) (fun k => (((![V0 (Proc.devRef .tc main_v46_2), constantI S_ 32 0#32, constantI S_ 32 0#32] : Fin 3 → (⟨S_, .i32⟩ : BufTy).Contents (Elt F))) k (Shape.Idx.first h_S_)).toInt) sliceFits_S8192x2x1024_S1x2x1024) shapeCasts_S1x2x1024_S2x1024 : (Proc.devRef .tc main_while0b_v79 : DevRef τ sig).ty.Contents (Elt F)) = Cert.ReferenceIdeal.Step.b3 j s := by
  unfold Cert.ReferenceIdeal.Step.b3
  rw [← al_2 h]
  try rfl
set_option maxRecDepth 8192 in
theorem al_4 (h : Holds V0 s j) : (constantI S_ 32 0#32 : (Proc.devRef .tc main_while0b_call2_c : DevRef τ sig).ty.Contents (Elt F)) = Cert.ReferenceIdeal.Step.b4 j s := by
  unfold Cert.ReferenceIdeal.Step.b4
  rfl
set_option maxRecDepth 8192 in
theorem al_5 (h : Holds V0 s j) : (constantI S_ 32 0#32 : (Proc.devRef .tc main_while0b_call2_c_0 : DevRef τ sig).ty.Contents (Elt F)) = Cert.ReferenceIdeal.Step.b5 j s := by
  unfold Cert.ReferenceIdeal.Step.b5
  rfl
set_option maxRecDepth 8192 in
theorem al_6 (h : Holds V0 s j) : (Host.dynamicSlice S1x2x1024 (V0 (Proc.devRef .tc main_v46_1)) (fun k => (((![V0 (Proc.devRef .tc main_v46_2), constantI S_ 32 0#32, constantI S_ 32 0#32] : Fin 3 → (⟨S_, .i32⟩ : BufTy).Contents (Elt F))) k (Shape.Idx.first h_S_)).toInt) sliceFits_S8192x2x1024_S1x2x1024 : (Proc.devRef .tc main_while0b_call2_v0 : DevRef τ sig).ty.Contents (Elt F)) = Cert.ReferenceIdeal.Step.b6 j s := by
  unfold Cert.ReferenceIdeal.Step.b6
  rw [← al_4 h, ← al_5 h, h.f_1, h.n_2]
  try rfl
set_option maxRecDepth 8192 in
theorem al_7 (h : Holds V0 s j) : (shapeCast S2x1024 (Host.dynamicSlice S1x2x1024 (V0 (Proc.devRef .tc main_v46_1)) (fun k => (((![V0 (Proc.devRef .tc main_v46_2), constantI S_ 32 0#32, constantI S_ 32 0#32] : Fin 3 → (⟨S_, .i32⟩ : BufTy).Contents (Elt F))) k (Shape.Idx.first h_S_)).toInt) sliceFits_S8192x2x1024_S1x2x1024) shapeCasts_S1x2x1024_S2x1024 : (Proc.devRef .tc main_while0b_v80 : DevRef τ sig).ty.Contents (Elt F)) = Cert.ReferenceIdeal.Step.b7 j s := by
  unfold Cert.ReferenceIdeal.Step.b7
  rw [← al_6 h]
  try rfl
set_option maxRecDepth 8192 in
theorem al_8 (h : Holds V0 s j) : (mulf (shapeCast S2x1024 (Host.dynamicSlice S1x2x1024 (V0 (Proc.devRef .tc main_v46_0)) (fun k => (((![V0 (Proc.devRef .tc main_v46_2), constantI S_ 32 0#32, constantI S_ 32 0#32] : Fin 3 → (⟨S_, .i32⟩ : BufTy).Contents (Elt F))) k (Shape.Idx.first h_S_)).toInt) sliceFits_S8192x2x1024_S1x2x1024) shapeCasts_S1x2x1024_S2x1024) (V0 (Proc.devRef .tc main_v46_3)) : (Proc.devRef .tc main_while0b_v81 : DevRef τ sig).ty.Contents (Elt F)) = Cert.ReferenceIdeal.Step.b8 j s := by
  unfold Cert.ReferenceIdeal.Step.b8
  rw [← al_3 h, h.f_3]
  try rfl
set_option maxRecDepth 8192 in
theorem al_9 (h : Holds V0 s j) : (res_main_while0b_v82 V0 : (Proc.devRef .tc main_while0b_v82 : DevRef τ sig).ty.Contents (Elt F)) = Cert.ReferenceIdeal.Step.b9 j s := by
  unfold res_main_while0b_v82 Cert.ReferenceIdeal.Step.b9
  rw [← al_8 h, ← al_7 h]
  try rfl
set_option maxRecDepth 8192 in
theorem al_10 (h : Holds V0 s j) : (broadcastInDim S1x2x1024 ![1, 2] bcast_S2x1024_S1x2x1024_1_2 (res_main_while0b_v82 V0) : (Proc.devRef .tc main_while0b_call3_v0 : DevRef τ sig).ty.Contents (Elt F)) = Cert.ReferenceIdeal.Step.b10 j s := by
  unfold Cert.ReferenceIdeal.Step.b10
  rw [← al_9 h]
  try rfl
set_option maxRecDepth 8192 in
theorem al_11 (h : Holds V0 s j) : (constantI S_ 32 0#32 : (Proc.devRef .tc main_while0b_call3_c : DevRef τ sig).ty.Contents (Elt F)) = Cert.ReferenceIdeal.Step.b11 j s := by
  unfold Cert.ReferenceIdeal.Step.b11
  rfl
set_option maxRecDepth 8192 in
theorem al_12 (h : Holds V0 s j) : (constantI S_ 32 0#32 : (Proc.devRef .tc main_while0b_call3_c_0 : DevRef τ sig).ty.Contents (Elt F)) = Cert.ReferenceIdeal.Step.b12 j s := by
  unfold Cert.ReferenceIdeal.Step.b12
  rfl
set_option maxRecDepth 8192 in
theorem al_13 (h : Holds V0 s j) : (Host.dynamicUpdateSlice (V0 (Proc.devRef .tc main_v46_4)) (broadcastInDim S1x2x1024 ![1, 2] bcast_S2x1024_S1x2x1024_1_2 (res_main_while0b_v82 V0)) (fun k => (((![V0 (Proc.devRef .tc main_v46_2), constantI S_ 32 0#32, constantI S_ 32 0#32] : Fin 3 → (⟨S_, .i32⟩ : BufTy).Contents (Elt F))) k (Shape.Idx.first h_S_)).toInt) updateFits_S8192x2x1024_S1x2x1024 : (Proc.devRef .tc main_while0b_v83 : DevRef τ sig).ty.Contents (Elt F)) = Cert.ReferenceIdeal.Step.b13 j s := by
  unfold Cert.ReferenceIdeal.Step.b13
  rw [← al_10 h, ← al_11 h, ← al_12 h, h.f_4, h.n_2]
  try rfl

/-! One trip's step of the carried values is `step`, field by field; a counter steps to the next number. -/

theorem step_3 (h : Holds V0 s j) : step_main_v46_3 V0 = (step j s).main_v46_3 := by
  unfold step_main_v46_3 Cert.ReferenceIdeal.Step.step
  show id (res_main_while0b_v82 V0) = _
  rw [al_9 h]
  try rfl
theorem step_4 (h : Holds V0 s j) : step_main_v46_4 V0 = (step j s).main_v46_4 := by
  unfold step_main_v46_4 Cert.ReferenceIdeal.Step.step
  show id (Host.dynamicUpdateSlice (V0 (Proc.devRef .tc main_v46_4)) (broadcastInDim S1x2x1024 ![1, 2] bcast_S2x1024_S1x2x1024_1_2 (res_main_while0b_v82 V0)) (fun k => (((![V0 (Proc.devRef .tc main_v46_2), constantI S_ 32 0#32, constantI S_ 32 0#32] : Fin 3 → (⟨S_, .i32⟩ : BufTy).Contents (Elt F))) k (Shape.Idx.first h_S_)).toInt) updateFits_S8192x2x1024_S1x2x1024) = _
  exact al_13 h
theorem step_2 (h : Holds V0 s j) : step_main_v46_2 V0 = constantI S_ 32 (BitVec.ofNat 32 (j + 1)) := by
  unfold step_main_v46_2
  rw [h.n_2]
  funext i
  show BitVec.ofNat 32 j + 1#32 = BitVec.ofNat 32 (j + 1)
  simp only [BitVec.ofNat_add]

set_option maxRecDepth 8192 in
theorem out_main_v78_holds (h : Holds V0 s j) {x_main_arg0 : (⟨S16384x6144, .f32⟩ : BufTy).Contents (Elt F)} (h_main_arg0 : V0 (Proc.devRef .tc main_arg0) = x_main_arg0) {x_main_arg6 : (⟨S1024, .f32⟩ : BufTy).Contents (Elt F)} (h_main_arg6 : V0 (Proc.devRef .tc main_arg6) = x_main_arg6) : out_main_v78 V0 = Cert.ReferenceIdeal.Step.R_main_v78 s x_main_arg0 x_main_arg6 := by
  unfold out_main_v78 Cert.ReferenceIdeal.Step.R_main_v78
  rw [h.f_4, h_main_arg0, h_main_arg6]
  try rfl

/-- One trip keeps the valuation holding: `step` of the state, the same set-up values, the next number. -/
theorem holds_step (h : Holds V0 s j) : Holds (STEP V0) (step j s) (j + 1) where
  f_3 := (STEP_main_v46_3 V0).trans (step_3 h)
  f_4 := (STEP_main_v46_4 V0).trans (step_4 h)
  n_2 := (STEP_main_v46_2 V0).trans (step_2 h)
  f_0 := (STEP_main_v46_0 V0).trans h.f_0
  f_1 := (STEP_main_v46_1 V0).trans h.f_1

/-- The state the first trip starts from, of the memory the run starts from. -/
abbrev initState (m : (ℓ : Loc nD τ sig) → Buf (Elt F) ℓ) (c : Dev nD) : State F :=
  init (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))

variable (m : (ℓ : Loc nD τ sig) → Buf (Elt F) ℓ) (c : Dev nD)

set_option maxRecDepth 65536 in
set_option maxHeartbeats 400000 in
/-- What @main's operations before the loop leave: the set-up values, number 0, the initial state. -/
theorem entry_holds : Holds (entryContents preI m c) (initState m c) 0 := by
  constructor <;> (simp only [entryContents, afterL_cons, afterL_nil]; after_reads_simp) <;> rfl

/-- Before the `k`-th condition the loop's valuation holds the `k`-th state of any sequence that starts at `initState` and goes
    on by `step`. -/
theorem holds_iter (it : ℕ → State F) (h0 : it 0 = initState m c) (hs : ∀ n, it (n + 1) = step n (it n)) :
    ∀ k, Holds (STEP^[k] (entryContents preI m c)) (it k) k
  | 0 => h0 ▸ entry_holds m c
  | k + 1 => by
    rw [Function.iterate_succ_apply', hs k]
    exact holds_step (holds_iter it h0 hs k)

/-- THE RESULTS as `step` iterated: every weakly fair execution of `ReferenceIdeal` terminates with each result at its field of state
    number 8192 of any per-core sequence of states that starts at `initState` and goes on by `step`, and every argument unchanged. -/
theorem run_iter (m : (ℓ : Loc nD τ sig) → Buf (Elt F) ℓ) (ρ : Dev nD → PrngReg) (it : Dev nD → ℕ → State F)
    (h0 : ∀ c, it c 0 = initState m c) (hs : ∀ c n, it c (n + 1) = step n (it c n)) :
    θ_run (defs (F := F)) (onTc (τ := τ) (main (F := F))) ⟨m, fun _ => 0, ρ⟩ fun r => ∀ c : Dev nD,
      r.2.mem ((c.tc : Thread nD τ).loc main_v78) = Cert.ReferenceIdeal.Step.R_main_v78 (it c 8192) (m ((c.tc : Thread nD τ).loc main_arg0)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c =>
    have hk := holds_iter m c (it c) (h0 c) (hs c) 8192
    ⟨(h c).1.trans (out_main_v78_holds hk (iter_main_arg0 m c 8192) (iter_main_arg6 m c 8192)), (h c).2.1, (h c).2.2.1, (h c).2.2.2.1, (h c).2.2.2.2.1, (h c).2.2.2.2.2.1, (h c).2.2.2.2.2.2.1, (h c).2.2.2.2.2.2.2⟩) (Value.run m ρ)

end Cert.ReferenceIdeal.LruStepRun

end
-- ==== Proof.LruRef.lean ====
/- The reference's value: the loop's states in closed form, then the result entry by entry (`LruMath.outAt`). -/
module
public import proofs.«01_k».proof.Proof.LruStepRun
public import proofs.«01_k».proof.Proof.LruMath
@[expose] public section
set_option maxRecDepth 16384
noncomputable section
open Idealize.ShloMosaic Idealize.ShloMosaic.TcCoe Idealize.SL.Sem
namespace Cert.ReferenceIdeal.Lru
open Cert.ReferenceIdeal Cert.ReferenceIdeal.Gen Cert.ReferenceIdeal.Step Cert.LruMath

variable (P : Vec Ideal S16384x6144 .f32) (Wr : Vec Ideal S8x128x128 .f32) (br : Vec Ideal S8x128 .f32)
  (Wi : Vec Ideal S8x128x128 .f32) (bi : Vec Ideal S8x128 .f32) (lam on : Vec Ideal S1024 .f32)

theorem gate_r (s : Fin 2) (t : Fin 8192) (c : Fin 1024) :
    A_main_v25 P Wr br Wi bi lam (ix3 s t c) = sg (zg P Wr br ⟨s.val * 8192 + t.val, by omega⟩ c) := by
  pointwise [A_main_v25, A_main_v13, A_main_v11, A_main_v9, A_main_v8, A_main_v7, A_main_v6, A_main_v5, A_main_v4, A_main_v3, A_main_v2, A_main_v1, A_main_v0, K_main_v10, K_main_cst, K_main_v12, K_main_cst_0]
  exact congrArg sg (congrArg₂ (· + ·) (Finset.sum_congr rfl fun k _ => mul_comm _ _) rfl)

theorem gate_i (s : Fin 2) (t : Fin 8192) (c : Fin 1024) :
    A_main_v26 P Wr br Wi bi lam (ix3 s t c) = sg (zg P Wi bi ⟨s.val * 8192 + t.val, by omega⟩ c) := by
  pointwise [A_main_v26, A_main_v24, A_main_v22, A_main_v20, A_main_v19, A_main_v18, A_main_v17, A_main_v16, A_main_v15, A_main_v14, A_main_v2, A_main_v1, A_main_v0, K_main_v21, K_main_cst_1, K_main_v23, K_main_cst_2]
  exact congrArg sg (congrArg₂ (· + ·) (Finset.sum_congr rfl fun k _ => mul_comm _ _) rfl)

theorem softplus (c : Fin 1024) : A_main_v30 P Wr br Wi bi lam (ix1 c) = sp (-lam (ix1 c)) := by
  pointwise [A_main_v30, A_main_v29, A_main_call0_v11, A_main_call0_v1, A_main_call0_v3, A_main_call0_v4, A_main_call0_v6, A_main_call0_v7, A_main_call0_v8, A_main_call0_v9, A_main_call0_v10, K_main_call0_v0, K_main_call0_cst, K_main_call0_v2, K_main_call0_v5]
  simp only [ne_eq, not_true_eq_false, if_false]
  rfl

theorem log_decay (s : Fin 2) (t : Fin 8192) (c : Fin 1024) :
    A_main_v33 P Wr br Wi bi lam (ix3 s t c) = laAt P Wr br lam ⟨s.val * 8192 + t.val, by omega⟩ c := by
  pointwise [A_main_v33, A_main_v32, A_main_v31, A_main_v28, K_main_v27, K_main_cst_3]
  rw [gate_r, softplus]
  rfl

theorem decay (s : Fin 2) (t : Fin 8192) (c : Fin 1024) :
    A_main_v43 P Wr br Wi bi lam (ix3 t s c) = Ideal.exp (laAt P Wr br lam ⟨s.val * 8192 + t.val, by omega⟩ c) := by
  pointwise [A_main_v43, A_main_v34]
  rw [log_decay]

theorem input (s : Fin 2) (t : Fin 8192) (c : Fin 1024) :
    A_main_v44 P Wr br Wi bi lam (ix3 t s c) = bAt P Wr br Wi bi lam ⟨s.val * 8192 + t.val, by omega⟩ c := by
  pointwise [A_main_v44, A_main_v41, A_main_v40, A_main_v39, A_main_v38, A_main_v37, A_main_v36, A_main_v1, A_main_v0, K_main_v35, K_main_cst_4]
  rw [log_decay, gate_i]
  rfl

/-- The loop's states. -/
def it : ℕ → State Ideal
  | 0 => init P Wr br Wi bi lam
  | n + 1 => step n (it n)

theorem it_a : ∀ n, (it P Wr br Wi bi lam n).main_v46_0 = A_main_v43 P Wr br Wi bi lam
  | 0 => rfl
  | n + 1 => it_a n
theorem it_b : ∀ n, (it P Wr br Wi bi lam n).main_v46_1 = A_main_v44 P Wr br Wi bi lam
  | 0 => rfl
  | n + 1 => it_b n

/-- A trip's number below 8192, clamped into the array's rows, is itself. -/
theorem row_clamp (j : ℕ) (hj : j < 8192) :
    (min (max (BitVec.toInt (BitVec.ofNat 32 j)) 0) ((8192 - 1 : Nat) : Int)).toNat = j := by
  have h : (BitVec.ofNat 32 j).toInt = (j : ℤ) := by
    rw [BitVec.toInt_eq_toNat_of_lt] <;> rw [BitVec.toNat_ofNat] <;> omega
  rw [h]; omega

theorem slice_a (j : ℕ) (hj : j < 8192) (s : State Ideal) (u : Fin 2) (c : Fin 1024) :
    b3 j s (ix2 u c) = s.main_v46_0 (ix3 ⟨j, hj⟩ u c) := by
  pointwise [b3]
  unfold b2 Host.dynamicSlice
  refine congrArg s.main_v46_0 (funext fun a => Fin.ext ?_)
  match a with
  | ⟨0, _⟩ => exact row_clamp j hj
  | ⟨1, _⟩ => exact Nat.zero_add _
  | ⟨2, _⟩ => exact Nat.zero_add _

theorem slice_b (j : ℕ) (hj : j < 8192) (s : State Ideal) (u : Fin 2) (c : Fin 1024) :
    b7 j s (ix2 u c) = s.main_v46_1 (ix3 ⟨j, hj⟩ u c) := by
  pointwise [b7]
  unfold b6 Host.dynamicSlice
  refine congrArg s.main_v46_1 (funext fun a => Fin.ext ?_)
  match a with
  | ⟨0, _⟩ => exact row_clamp j hj
  | ⟨1, _⟩ => exact Nat.zero_add _
  | ⟨2, _⟩ => exact Nat.zero_add _

/-- The carried hidden state before trip `n`. -/
theorem it_h (u : Fin 2) (c : Fin 1024) : ∀ n ≤ 8192, (it P Wr br Wi bi lam n).main_v46_3 (ix2 u c) = hAt P Wr br Wi bi lam u c n
  | 0, _ => by
    show K_main_v42 (F := Ideal) (ix2 u c) = 0
    pointwise [K_main_v42, K_main_cst_5]
  | n + 1, hn => by
    show b9 n (it P Wr br Wi bi lam n) (ix2 u c) = _
    rw [hAt_succ P Wr br Wi bi lam u c n (by omega), ← it_h u c n (by omega)]
    pointwise [b9, b8]
    rw [slice_a n (by omega), slice_b n (by omega), it_a, it_b, decay, input]

/-- One row put into an array of rows, read at an index. -/
theorem row_update (x : S8192x2x1024.Idx → EReal) (upd : S1x2x1024.Idx → EReal) (start : Fin 3 → ℕ) {t0 : ℕ}
    (h : S8192x2x1024.Slices start S1x2x1024) (h0 : start 0 = t0) (h1 : start 1 = 0) (h2 : start 2 = 0)
    (t : Fin 8192) (u : Fin 2) (c : Fin 1024) :
    updateSlice x upd start h (ix3 t u c) = if t.val = t0 then upd (ix3 0 u c) else x (ix3 t u c) := by
  unfold updateSlice
  by_cases e : t.val = t0
  · rw [if_pos e, dif_pos]
    · refine congrArg upd (funext fun a => Fin.ext ?_)
      match a with
      | ⟨0, _⟩ => show t.val - start 0 = 0; omega
      | ⟨1, _⟩ => show u.val - start 1 = u.val; omega
      | ⟨2, _⟩ => show c.val - start 2 = c.val; omega
    · intro a
      match a with
      | ⟨0, _⟩ => show start 0 ≤ t.val ∧ t.val < start 0 + 1; omega
      | ⟨1, _⟩ => show start 1 ≤ u.val ∧ u.val < start 1 + 2; omega
      | ⟨2, _⟩ => show start 2 ≤ c.val ∧ c.val < start 2 + 1024; omega
  · rw [if_neg e, dif_neg]
    intro hin
    have := hin 0
    have h' : start 0 ≤ t.val ∧ t.val < start 0 + 1 := this
    omega

/-- What trip `j` writes into the outputs' array. -/
theorem write_at (j : ℕ) (hj : j < 8192) (s : State Ideal) (t : Fin 8192) (u : Fin 2) (c : Fin 1024) :
    b13 j s (ix3 t u c) = if t.val = j then b9 j s (ix2 u c) else s.main_v46_4 (ix3 t u c) := by
  have e : b10 j s (ix3 0 u c) = b9 j s (ix2 u c) := by pointwise [b10]
  rw [← e]
  unfold b13 Host.dynamicUpdateSlice
  exact row_update _ _ _ _ (row_clamp j hj) rfl rfl t u c

/-- After `n` trips row `t < n` of the outputs holds the hidden state after `t + 1` steps. -/
theorem it_out (u : Fin 2) (c : Fin 1024) (t : Fin 8192) : ∀ n ≤ 8192, t.val < n →
    (it P Wr br Wi bi lam n).main_v46_4 (ix3 t u c) = hAt P Wr br Wi bi lam u c (t.val + 1)
  | 0, _, h => absurd h (Nat.not_lt_zero _)
  | n + 1, hn, h => by
    show b13 n (it P Wr br Wi bi lam n) (ix3 t u c) = _
    rw [write_at n (by omega)]
    split
    · rename_i e
      rw [e]
      exact it_h P Wr br Wi bi lam u c (n + 1) hn
    · exact it_out u c t n (by omega) (by omega)

theorem result_at (n : Fin 16384) (c : Fin 1024) :
    R_main_v78 (it P Wr br Wi bi lam 8192) P on (ix2 n c) = outAt P Wr br Wi bi lam on n c := by
  pointwise [R_main_v78]
  simp only [it_out P Wr br Wi bi lam _ _ _ 8192 (le_refl _) (Fin.isLt _)]
  rfl
end Cert.ReferenceIdeal.Lru
end
-- ==== Proof.LruScan.lean ====
/- The kernel's scan of a block: rows in groups of eight, three doubling steps inside each group, read entry by entry. -/
module
public import proofs.«01_k».proof.Proof.Gen.KernelIdeal.Value
public import proofs.«01_k».proof.Proof.LruMath
@[expose] public section
set_option maxRecDepth 16384
noncomputable section
open Idealize.ShloMosaic Idealize.ShloMosaic.TcCoe Idealize.SL.Sem
namespace Cert.KernelIdeal.Lru
open Cert.KernelIdeal Cert.KernelIdeal.Gen Cert.LruMath

/-- The recurrence's input over a block: the multiplier times the gated input. -/
def inp (X I T : FVec Ideal S256x1024 .f32) : FVec Ideal S256x1024 .f32 :=
  mulf (sqrt (divf (mulf (broadcast S256x1024 (FloatOps.ofBits (F := Ideal) .f32 3221225472#32)) T)
    (subf (broadcast S256x1024 (Scalar.ofBits (F := Ideal) .f32 0x3F800000#32)) T))) (mulf I X)
/-- The sums after one, two and three doubling steps. -/
def sum1 (A : FVec Ideal S256x1024 .f32) (B : FVec Ideal S32x8x1024 .f32) : FVec Ideal S32x8x1024 .f32 :=
  select k0_pay30 (addf (mulf (k0_pay29 A) (dynamicRotate 1 1#32 none B rotates_S32x8x1024_d1)) B) B
@[inherit_doc sum1]
def sum2 (A : FVec Ideal S256x1024 .f32) (B : FVec Ideal S32x8x1024 .f32) : FVec Ideal S32x8x1024 .f32 :=
  select k0_pay32 (addf (mulf (k0_pay31 A) (dynamicRotate 1 2#32 none B rotates_S32x8x1024_d1)) B) B
@[inherit_doc sum1]
def sum3 (A : FVec Ideal S256x1024 .f32) (B : FVec Ideal S32x8x1024 .f32) : FVec Ideal S32x8x1024 .f32 :=
  select k0_pay34 (addf (mulf (k0_pay33 A) (dynamicRotate 1 4#32 none B rotates_S32x8x1024_d1)) B) B

theorem pay36_eq (X I A T : FVec Ideal S256x1024 .f32) :
    k0_pay36 X I A T (FloatOps.ofBits (F := Ideal) .f32 3221225472#32)
      = shapeCast S256x1024 (sum3 A (sum2 A (sum1 A (shapeCast S32x8x1024 (inp X I T) shapeCasts_S256x1024_S32x8x1024))))
          shapeCasts_S32x8x1024_S256x1024 := rfl

/-- Column `c` of group `g`, row by row (zero past the group's end). -/
def rowsG (A : FVec Ideal S256x1024 .f32) (g : Fin 32) (c : Fin 1024) (q : ℕ) : EReal :=
  if h : q < 8 then A (ix2 ⟨g.val * 8 + q, by omega⟩ c) else 0

theorem rowsG_of {A : FVec Ideal S256x1024 .f32} {g : Fin 32} {c : Fin 1024} {q : ℕ} (h : q < 8) :
    rowsG A g c q = A (ix2 ⟨g.val * 8 + q, by omega⟩ c) := dif_pos h

theorem sel1 (q : Fin 8) (a b : EReal) :
    Scalar.select (IntOp.cmpi CmpIPredicate.sge (BitVec.ofNat 32 q.val) 1#32) a b = if 1 ≤ q.val then a else b := by
  fin_cases q <;> rfl
theorem sel2 (q : Fin 8) (a b : EReal) :
    Scalar.select (IntOp.cmpi CmpIPredicate.sge (BitVec.ofNat 32 q.val) 2#32) a b = if 2 ≤ q.val then a else b := by
  fin_cases q <;> rfl
theorem sel4 (q : Fin 8) (a b : EReal) :
    Scalar.select (IntOp.cmpi CmpIPredicate.sge (BitVec.ofNat 32 q.val) 4#32) a b = if 4 ≤ q.val then a else b := by
  fin_cases q <;> rfl

theorem stA_mod (A : ℕ → EReal) (d : ℕ) (q : Fin 8) :
    stA A d q.val = if d ≤ q.val then A q.val * A ((q.val + 8 - d) % 8) else A q.val := by
  unfold stA
  split
  next h => rw [show (q.val + 8 - d) % 8 = q.val - d by omega]
  next h => rfl
theorem stB_mod (A B : ℕ → EReal) (d : ℕ) (q : Fin 8) :
    stB A B d q.val = if d ≤ q.val then A q.val * B ((q.val + 8 - d) % 8) + B q.val else B q.val := by
  unfold stB
  split
  next h => rw [show (q.val + 8 - d) % 8 = q.val - d by omega]
  next h => rfl

theorem pay29_at (A : FVec Ideal S256x1024 .f32) (g : Fin 32) (q : Fin 8) (c : Fin 1024) :
    k0_pay29 A (ix3 g q c) = rowsG A g c q.val := by
  rw [rowsG_of q.isLt]
  pointwise [k0_pay29]

theorem pay31_at (A : FVec Ideal S256x1024 .f32) (g : Fin 32) (q : Fin 8) (c : Fin 1024) :
    k0_pay31 A (ix3 g q c) = stA (rowsG A g c) 1 q.val := by
  have e : k0_pay31 A (ix3 g q c) = if 1 ≤ q.val then
      k0_pay29 A (ix3 g q c) * k0_pay29 A (ix3 g ⟨(q.val + 8 - 1) % 8, by omega⟩ c) else k0_pay29 A (ix3 g q c) := by
    rw [← sel1]
    pointwise [k0_pay31, k0_pay30]
  rw [e, pay29_at, pay29_at]
  exact (stA_mod _ 1 q).symm

theorem pay33_at (A : FVec Ideal S256x1024 .f32) (g : Fin 32) (q : Fin 8) (c : Fin 1024) :
    k0_pay33 A (ix3 g q c) = stA (stA (rowsG A g c) 1) 2 q.val := by
  have e : k0_pay33 A (ix3 g q c) = if 2 ≤ q.val then
      k0_pay31 A (ix3 g q c) * k0_pay31 A (ix3 g ⟨(q.val + 8 - 2) % 8, by omega⟩ c) else k0_pay31 A (ix3 g q c) := by
    rw [← sel2]
    pointwise [k0_pay33, k0_pay32]
  rw [e, pay31_at, pay31_at]
  exact (stA_mod _ 2 q).symm

/-- The products over a block, row by row. -/
theorem pay35_at (A : FVec Ideal S256x1024 .f32) (g : Fin 32) (q : Fin 8) (c : Fin 1024) :
    k0_pay35 A (ix2 ⟨g.val * 8 + q.val, by omega⟩ c) = stA (stA (stA (rowsG A g c) 1) 2) 4 q.val := by
  have e : k0_pay35 A (ix2 ⟨g.val * 8 + q.val, by omega⟩ c) = if 4 ≤ q.val then
      k0_pay33 A (ix3 g q c) * k0_pay33 A (ix3 g ⟨(q.val + 8 - 4) % 8, by omega⟩ c) else k0_pay33 A (ix3 g q c) := by
    rw [← sel4]
    pointwise [k0_pay35, k0_pay34]
  rw [e, pay33_at, pay33_at]
  exact (stA_mod _ 4 q).symm

theorem sum1_at (A : FVec Ideal S256x1024 .f32) (B : FVec Ideal S32x8x1024 .f32) (b : ℕ → EReal) (g : Fin 32) (q : Fin 8) (c : Fin 1024)
    (hb : ∀ q : Fin 8, B (ix3 g q c) = b q.val) :
    sum1 A B (ix3 g q c) = stB (rowsG A g c) b 1 q.val := by
  have e : sum1 A B (ix3 g q c) = if 1 ≤ q.val then
      k0_pay29 A (ix3 g q c) * B (ix3 g ⟨(q.val + 8 - 1) % 8, by omega⟩ c) + B (ix3 g q c) else B (ix3 g q c) := by
    rw [← sel1]
    pointwise [sum1, k0_pay30]
  rw [e, pay29_at, hb, hb]
  exact (stB_mod _ b 1 q).symm

theorem sum2_at (A : FVec Ideal S256x1024 .f32) (B : FVec Ideal S32x8x1024 .f32) (b : ℕ → EReal) (g : Fin 32) (q : Fin 8) (c : Fin 1024)
    (hb : ∀ q : Fin 8, B (ix3 g q c) = b q.val) :
    sum2 A B (ix3 g q c) = stB (stA (rowsG A g c) 1) b 2 q.val := by
  have e : sum2 A B (ix3 g q c) = if 2 ≤ q.val then
      k0_pay31 A (ix3 g q c) * B (ix3 g ⟨(q.val + 8 - 2) % 8, by omega⟩ c) + B (ix3 g q c) else B (ix3 g q c) := by
    rw [← sel2]
    pointwise [sum2, k0_pay32]
  rw [e, pay31_at, hb, hb]
  exact (stB_mod _ b 2 q).symm

theorem sum3_at (A : FVec Ideal S256x1024 .f32) (B : FVec Ideal S32x8x1024 .f32) (b : ℕ → EReal) (g : Fin 32) (q : Fin 8) (c : Fin 1024)
    (hb : ∀ q : Fin 8, B (ix3 g q c) = b q.val) :
    sum3 A B (ix3 g q c) = stB (stA (stA (rowsG A g c) 1) 2) b 4 q.val := by
  have e : sum3 A B (ix3 g q c) = if 4 ≤ q.val then
      k0_pay33 A (ix3 g q c) * B (ix3 g ⟨(q.val + 8 - 4) % 8, by omega⟩ c) + B (ix3 g q c) else B (ix3 g q c) := by
    rw [← sel4]
    pointwise [sum3, k0_pay34]
  rw [e, pay33_at, hb, hb]
  exact (stB_mod _ b 4 q).symm

/-- The recurrence's input at row `p`. -/
theorem inp_at (X I T : FVec Ideal S256x1024 .f32) (p : Fin 256) (c : Fin 1024) :
    inp X I T (ix2 p c) = Ideal.sqrt (Ideal.div (Ideal.ofBits FTy.f32 0xC0000000#32 * T (ix2 p c)) (1 - T (ix2 p c)))
      * (I (ix2 p c) * X (ix2 p c)) := by
  pointwise [inp]

/-- The sums over a block, row by row. -/
theorem pay36_at (X I A T : FVec Ideal S256x1024 .f32) (g : Fin 32) (q : Fin 8) (c : Fin 1024) :
    k0_pay36 X I A T (FloatOps.ofBits (F := Ideal) .f32 3221225472#32) (ix2 ⟨g.val * 8 + q.val, by omega⟩ c)
      = stB (stA (stA (rowsG A g c) 1) 2) (stB (stA (rowsG A g c) 1) (stB (rowsG A g c) (rowsG (inp X I T) g c) 1) 2) 4 q.val := by
  rw [pay36_eq]
  pointwise []
  refine sum3_at A _ _ g q c fun q => sum2_at A _ _ g q c fun q => sum1_at A _ _ g q c fun q => ?_
  rw [rowsG_of q.isLt]
  pointwise []

end Cert.KernelIdeal.Lru
-- ==== Proof.LruGroups.lean ====
/- The kernel's carry over a block: thirty-two groups of eight rows, each reading the last row of the group before. -/
module
public import proofs.«01_k».proof.Proof.LruScan
@[expose] public section
set_option maxRecDepth 16384
noncomputable section
open Idealize.ShloMosaic Idealize.ShloMosaic.TcCoe Idealize.SL.Sem
namespace Cert.KernelIdeal.Lru
open Cert.KernelIdeal Cert.KernelIdeal.Gen Cert.LruMath

/-- `H` runs through a block: from the state before a group, the state after each of its rows. -/
def Chain (P Q : FVec Ideal S256x1024 .f32) (H : ℕ → Fin 1024 → EReal) : Prop :=
  ∀ (g : Fin 32) (q : Fin 8) (c : Fin 1024), H (g.val * 8 + q.val + 1) c
    = P (ix2 ⟨g.val * 8 + q.val, by omega⟩ c) * H (g.val * 8) c + Q (ix2 ⟨g.val * 8 + q.val, by omega⟩ c)

/-- A group's vector holds the states after its rows. -/
def Holds (H : ℕ → Fin 1024 → EReal) (g : ℕ) (v : FVec Ideal S8x1024 .f32) : Prop :=
  ∀ (q : Fin 8) (c : Fin 1024), v (ix2 q c) = H (g * 8 + q.val + 1) c

theorem Holds.last {H : ℕ → Fin 1024 → EReal} {g : ℕ} {v : FVec Ideal S8x1024 .f32} (h : Holds H g v) (c : Fin 1024) :
    v (ix2 7 c) = H ((g + 1) * 8) c := by
  rw [h, show g * 8 + (7 : Fin 8).val + 1 = (g + 1) * 8 from by rw [show (7 : Fin 8).val = 7 from rfl]; omega]

theorem Chain.step {P Q : FVec Ideal S256x1024 .f32} {H : ℕ → Fin 1024 → EReal} (hS : Chain P Q H) (g : Fin 32)
    {v : FVec Ideal S8x1024 .f32} {w : Fin 1024 → EReal} (hw : ∀ c, w c = H (g.val * 8) c)
    (e : ∀ (q : Fin 8) (c : Fin 1024), v (ix2 q c)
      = P (ix2 ⟨g.val * 8 + q.val, by omega⟩ c) * w c + Q (ix2 ⟨g.val * 8 + q.val, by omega⟩ c)) : Holds H g.val v := by
  intro q c
  rw [e, hw, hS g q c]

variable {P Q : FVec Ideal S256x1024 .f32} {H : ℕ → Fin 1024 → EReal}

theorem grp1 (hS : Chain P Q H) {V : FVec Ideal S8x1024 .f32} (hV : ∀ q c, V (ix2 q c) = H 8 c) : Holds H 1 (k0_pay39 P Q V) := by
  refine hS.step 1 (w := fun c => H 8 c) (fun c => rfl) fun q c => ?_
  rw [← hV q c]
  pointwise [k0_pay39]
theorem grp2 (hS : Chain P Q H) {V : FVec Ideal S8x1024 .f32} (hV : ∀ q c, V (ix2 q c) = H 8 c) : Holds H 2 (k0_pay40 P Q V) := by
  refine hS.step 2 (w := fun c => k0_pay39 P Q V (ix2 7 c)) (fun c => (grp1 hS hV).last c) fun q c => ?_
  pointwise [k0_pay40]
theorem grp3 (hS : Chain P Q H) {V : FVec Ideal S8x1024 .f32} (hV : ∀ q c, V (ix2 q c) = H 8 c) : Holds H 3 (k0_pay41 P Q V) := by
  refine hS.step 3 (w := fun c => k0_pay40 P Q V (ix2 7 c)) (fun c => (grp2 hS hV).last c) fun q c => ?_
  pointwise [k0_pay41]
theorem grp4 (hS : Chain P Q H) {V : FVec Ideal S8x1024 .f32} (hV : ∀ q c, V (ix2 q c) = H 8 c) : Holds H 4 (k0_pay42 P Q V) := by
  refine hS.step 4 (w := fun c => k0_pay41 P Q V (ix2 7 c)) (fun c => (grp3 hS hV).last c) fun q c => ?_
  pointwise [k0_pay42]
theorem grp5 (hS : Chain P Q H) {V : FVec Ideal S8x1024 .f32} (hV : ∀ q c, V (ix2 q c) = H 8 c) : Holds H 5 (k0_pay43 P Q V) := by
  refine hS.step 5 (w := fun c => k0_pay42 P Q V (ix2 7 c)) (fun c => (grp4 hS hV).last c) fun q c => ?_
  pointwise [k0_pay43]
theorem grp6 (hS : Chain P Q H) {V : FVec Ideal S8x1024 .f32} (hV : ∀ q c, V (ix2 q c) = H 8 c) : Holds H 6 (k0_pay44 P Q V) := by
  refine hS.step 6 (w := fun c => k0_pay43 P Q V (ix2 7 c)) (fun c => (grp5 hS hV).last c) fun q c => ?_
  pointwise [k0_pay44]
theorem grp7 (hS : Chain P Q H) {V : FVec Ideal S8x1024 .f32} (hV : ∀ q c, V (ix2 q c) = H 8 c) : Holds H 7 (k0_pay45 P Q V) := by
  refine hS.step 7 (w := fun c => k0_pay44 P Q V (ix2 7 c)) (fun c => (grp6 hS hV).last c) fun q c => ?_
  pointwise [k0_pay45]
theorem grp8 (hS : Chain P Q H) {V : FVec Ideal S8x1024 .f32} (hV : ∀ q c, V (ix2 q c) = H 8 c) : Holds H 8 (k0_pay46 P Q V) := by
  refine hS.step 8 (w := fun c => k0_pay45 P Q V (ix2 7 c)) (fun c => (grp7 hS hV).last c) fun q c => ?_
  pointwise [k0_pay46]
theorem grp9 (hS : Chain P Q H) {V : FVec Ideal S8x1024 .f32} (hV : ∀ q c, V (ix2 q c) = H 8 c) : Holds H 9 (k0_pay47 P Q V) := by
  refine hS.step 9 (w := fun c => k0_pay46 P Q V (ix2 7 c)) (fun c => (grp8 hS hV).last c) fun q c => ?_
  pointwise [k0_pay47]
theorem grp10 (hS : Chain P Q H) {V : FVec Ideal S8x1024 .f32} (hV : Holds H 9 V) : Holds H 10 (k0_pay48 P Q V) := by
  refine hS.step 10 (w := fun c => V (ix2 7 c)) (fun c => hV.last c) fun q c => ?_
  pointwise [k0_pay48]
theorem grp11 (hS : Chain P Q H) {V : FVec Ideal S8x1024 .f32} (hV : Holds H 9 V) : Holds H 11 (k0_pay49 P Q V) := by
  refine hS.step 11 (w := fun c => k0_pay48 P Q V (ix2 7 c)) (fun c => (grp10 hS hV).last c) fun q c => ?_
  pointwise [k0_pay49]
theorem grp12 (hS : Chain P Q H) {V : FVec Ideal S8x1024 .f32} (hV : Holds H 9 V) : Holds H 12 (k0_pay50 P Q V) := by
  refine hS.step 12 (w := fun c => k0_pay49 P Q V (ix2 7 c)) (fun c => (grp11 hS hV).last c) fun q c => ?_
  pointwise [k0_pay50]
theorem grp13 (hS : Chain P Q H) {V : FVec Ideal S8x1024 .f32} (hV : Holds H 9 V) : Holds H 13 (k0_pay51 P Q V) := by
  refine hS.step 13 (w := fun c => k0_pay50 P Q V (ix2 7 c)) (fun c => (grp12 hS hV).last c) fun q c => ?_
  pointwise [k0_pay51]
theorem grp14 (hS : Chain P Q H) {V : FVec Ideal S8x1024 .f32} (hV : Holds H 9 V) : Holds H 14 (k0_pay52 P Q V) := by
  refine hS.step 14 (w := fun c => k0_pay51 P Q V (ix2 7 c)) (fun c => (grp13 hS hV).last c) fun q c => ?_
  pointwise [k0_pay52]
theorem grp15 (hS : Chain P Q H) {V : FVec Ideal S8x1024 .f32} (hV : Holds H 9 V) : Holds H 15 (k0_pay53 P Q V) := by
  refine hS.step 15 (w := fun c => k0_pay52 P Q V (ix2 7 c)) (fun c => (grp14 hS hV).last c) fun q c => ?_
  pointwise [k0_pay53]
theorem grp16 (hS : Chain P Q H) {V : FVec Ideal S8x1024 .f32} (hV : Holds H 9 V) : Holds H 16 (k0_pay54 P Q V) := by
  refine hS.step 16 (w := fun c => k0_pay53 P Q V (ix2 7 c)) (fun c => (grp15 hS hV).last c) fun q c => ?_
  pointwise [k0_pay54]
theorem grp17 (hS : Chain P Q H) {V : FVec Ideal S8x1024 .f32} (hV : Holds H 9 V) : Holds H 17 (k0_pay55 P Q V) := by
  refine hS.step 17 (w := fun c => k0_pay54 P Q V (ix2 7 c)) (fun c => (grp16 hS hV).last c) fun q c => ?_
  pointwise [k0_pay55]
theorem row56 (hS : Chain P Q H) {V : FVec Ideal S8x1024 .f32} (hV : Holds H 9 V) (q : Fin 8) (c : Fin 1024) : k0_pay56 P Q V (ix2 q c) = H (18 * 8) c := by
  rw [← (grp17 hS hV).last c]
  pointwise [k0_pay56]
theorem grp18 (hS : Chain P Q H) {V : FVec Ideal S8x1024 .f32} (hV : ∀ q c, V (ix2 q c) = H (18 * 8) c) : Holds H 18 (k0_pay58 Q V (k0_pay57 P)) := by
  refine hS.step 18 (w := fun c => H (18 * 8) c) (fun c => rfl) fun q c => ?_
  rw [← hV q c]
  pointwise [k0_pay58, k0_pay57]
theorem grp19 (hS : Chain P Q H) {V : FVec Ideal S8x1024 .f32} (hV : ∀ q c, V (ix2 q c) = H (18 * 8) c) : Holds H 19 (k0_pay59 P Q V (k0_pay57 P)) := by
  refine hS.step 19 (w := fun c => k0_pay58 Q V (k0_pay57 P) (ix2 7 c)) (fun c => (grp18 hS hV).last c) fun q c => ?_
  pointwise [k0_pay59]
theorem grp20 (hS : Chain P Q H) {V : FVec Ideal S8x1024 .f32} (hV : ∀ q c, V (ix2 q c) = H (18 * 8) c) : Holds H 20 (k0_pay60 P Q V (k0_pay57 P)) := by
  refine hS.step 20 (w := fun c => k0_pay59 P Q V (k0_pay57 P) (ix2 7 c)) (fun c => (grp19 hS hV).last c) fun q c => ?_
  pointwise [k0_pay60]
theorem grp21 (hS : Chain P Q H) {V : FVec Ideal S8x1024 .f32} (hV : ∀ q c, V (ix2 q c) = H (18 * 8) c) : Holds H 21 (k0_pay61 P Q V (k0_pay57 P)) := by
  refine hS.step 21 (w := fun c => k0_pay60 P Q V (k0_pay57 P) (ix2 7 c)) (fun c => (grp20 hS hV).last c) fun q c => ?_
  pointwise [k0_pay61]
theorem grp22 (hS : Chain P Q H) {V : FVec Ideal S8x1024 .f32} (hV : ∀ q c, V (ix2 q c) = H (18 * 8) c) : Holds H 22 (k0_pay62 P Q V (k0_pay57 P)) := by
  refine hS.step 22 (w := fun c => k0_pay61 P Q V (k0_pay57 P) (ix2 7 c)) (fun c => (grp21 hS hV).last c) fun q c => ?_
  pointwise [k0_pay62]
theorem grp23 (hS : Chain P Q H) {V : FVec Ideal S8x1024 .f32} (hV : ∀ q c, V (ix2 q c) = H (18 * 8) c) : Holds H 23 (k0_pay63 P Q V (k0_pay57 P)) := by
  refine hS.step 23 (w := fun c => k0_pay62 P Q V (k0_pay57 P) (ix2 7 c)) (fun c => (grp22 hS hV).last c) fun q c => ?_
  pointwise [k0_pay63]
theorem grp24 (hS : Chain P Q H) {V : FVec Ideal S8x1024 .f32} (hV : ∀ q c, V (ix2 q c) = H (18 * 8) c) : Holds H 24 (k0_pay64 P Q V (k0_pay57 P)) := by
  refine hS.step 24 (w := fun c => k0_pay63 P Q V (k0_pay57 P) (ix2 7 c)) (fun c => (grp23 hS hV).last c) fun q c => ?_
  pointwise [k0_pay64]
theorem grp25 (hS : Chain P Q H) {V : FVec Ideal S8x1024 .f32} (hV : ∀ q c, V (ix2 q c) = H (18 * 8) c) : Holds H 25 (k0_pay65 P Q V (k0_pay57 P)) := by
  refine hS.step 25 (w := fun c => k0_pay64 P Q V (k0_pay57 P) (ix2 7 c)) (fun c => (grp24 hS hV).last c) fun q c => ?_
  pointwise [k0_pay65]
theorem grp26 (hS : Chain P Q H) {V : FVec Ideal S8x1024 .f32} (hV : ∀ q c, V (ix2 q c) = H (18 * 8) c) : Holds H 26 (k0_pay66 P Q V (k0_pay57 P)) := by
  refine hS.step 26 (w := fun c => k0_pay65 P Q V (k0_pay57 P) (ix2 7 c)) (fun c => (grp25 hS hV).last c) fun q c => ?_
  pointwise [k0_pay66]
theorem row67 (hS : Chain P Q H) {V : FVec Ideal S8x1024 .f32} (hV : ∀ q c, V (ix2 q c) = H (18 * 8) c) (c : Fin 1024) :
    k0_pay67 P Q V (k0_pay57 P) (ix2 0 c) = H (27 * 8) c := by
  rw [← (grp26 hS hV).last c]
  pointwise [k0_pay67]
theorem grp27 (hS : Chain P Q H) {R : FVec Ideal S1x1024 .f32} (hR : ∀ c, R (ix2 0 c) = H (27 * 8) c) : Holds H 27 (k0_pay68 P Q R) := by
  refine hS.step 27 (w := fun c => R (ix2 0 c)) (fun c => hR c) fun q c => ?_
  pointwise [k0_pay68]
theorem grp28 (hS : Chain P Q H) {R : FVec Ideal S1x1024 .f32} (hR : ∀ c, R (ix2 0 c) = H (27 * 8) c) : Holds H 28 (k0_pay69 P Q R) := by
  refine hS.step 28 (w := fun c => k0_pay68 P Q R (ix2 7 c)) (fun c => (grp27 hS hR).last c) fun q c => ?_
  pointwise [k0_pay69]
theorem grp29 (hS : Chain P Q H) {R : FVec Ideal S1x1024 .f32} (hR : ∀ c, R (ix2 0 c) = H (27 * 8) c) : Holds H 29 (k0_pay70 P Q R) := by
  refine hS.step 29 (w := fun c => k0_pay69 P Q R (ix2 7 c)) (fun c => (grp28 hS hR).last c) fun q c => ?_
  pointwise [k0_pay70]
theorem grp30 (hS : Chain P Q H) {R : FVec Ideal S1x1024 .f32} (hR : ∀ c, R (ix2 0 c) = H (27 * 8) c) : Holds H 30 (k0_pay71 P Q R) := by
  refine hS.step 30 (w := fun c => k0_pay70 P Q R (ix2 7 c)) (fun c => (grp29 hS hR).last c) fun q c => ?_
  pointwise [k0_pay71]
theorem grp31 (hS : Chain P Q H) {R : FVec Ideal S1x1024 .f32} (hR : ∀ c, R (ix2 0 c) = H (27 * 8) c) : Holds H 31 (k0_pay72 P Q R) := by
  refine hS.step 31 (w := fun c => k0_pay71 P Q R (ix2 7 c)) (fun c => (grp30 hS hR).last c) fun q c => ?_
  pointwise [k0_pay72]
/-- The carry out of a block: the state after its last row. -/
theorem carry_out (hS : Chain P Q H) {R : FVec Ideal S1x1024 .f32} (hR : ∀ c, R (ix2 0 c) = H (27 * 8) c) (q : Fin 8) (c : Fin 1024) : k0_pay73 P Q R (ix2 q c) = H 256 c := by
  rw [show 256 = (31 + 1) * 8 by rfl, ← (grp31 hS hR).last c]
  pointwise [k0_pay73]
/-- Thirty-two groups as one family. -/
def blocks (v0 v1 v2 v3 v4 v5 v6 v7 v8 v9 v10 v11 v12 v13 v14 v15 v16 v17 v18 v19 v20 v21 v22 v23 v24 v25 v26 v27 v28 v29 v30 v31 : FVec Ideal S8x1024 .f32) : Fin 32 → FVec Ideal S8x1024 .f32 :=
  ![v0, v1, v2, v3, v4, v5, v6, v7, v8, v9, v10, v11, v12, v13, v14, v15, v16, v17, v18, v19, v20, v21, v22, v23, v24, v25, v26, v27, v28, v29, v30, v31]

/-- The block's states, row by row. -/
theorem states_at (hS : Chain P Q H) {R : FVec Ideal S1x1024 .f32} (hR : ∀ c, R (ix2 0 c) = H (27 * 8) c)
    {v0 v1 v2 v3 v4 v5 v6 v7 v8 v9 v10 v11 v12 v13 v14 v15 v16 v17 v18 v19 v20 v21 v22 v23 v24 v25 v26 : FVec Ideal S8x1024 .f32}
    (h0 : Holds H 0 v0) (h1 : Holds H 1 v1) (h2 : Holds H 2 v2) (h3 : Holds H 3 v3) (h4 : Holds H 4 v4) (h5 : Holds H 5 v5) (h6 : Holds H 6 v6) (h7 : Holds H 7 v7) (h8 : Holds H 8 v8) (h9 : Holds H 9 v9) (h10 : Holds H 10 v10) (h11 : Holds H 11 v11) (h12 : Holds H 12 v12) (h13 : Holds H 13 v13) (h14 : Holds H 14 v14) (h15 : Holds H 15 v15) (h16 : Holds H 16 v16) (h17 : Holds H 17 v17) (h18 : Holds H 18 v18) (h19 : Holds H 19 v19) (h20 : Holds H 20 v20) (h21 : Holds H 21 v21) (h22 : Holds H 22 v22) (h23 : Holds H 23 v23) (h24 : Holds H 24 v24) (h25 : Holds H 25 v25) (h26 : Holds H 26 v26)
    (p : Fin 256) (c : Fin 1024) :
    k0_pay74 P Q v0 v1 v2 v3 v4 v5 v6 v7 v8 v9 v10 v11 v12 v13 v14 v15 v16 v17 v18 v19 v20 v21 v22 v23 v24 v25 v26 R (ix2 p c) = H (p.val + 1) c := by
  obtain ⟨g, q, rfl⟩ : ∃ (g : Fin 32) (q : Fin 8), p = ⟨g.val * 8 + q.val, by omega⟩ :=
    ⟨⟨p.val / 8, by omega⟩, ⟨p.val % 8, by omega⟩, Fin.ext (by simp only; omega)⟩
  have e : k0_pay74 P Q v0 v1 v2 v3 v4 v5 v6 v7 v8 v9 v10 v11 v12 v13 v14 v15 v16 v17 v18 v19 v20 v21 v22 v23 v24 v25 v26 R = concatenate S256x1024 0 (List.ofFn fun n : Fin 32 =>
      (⟨S8x1024, blocks v0 v1 v2 v3 v4 v5 v6 v7 v8 v9 v10 v11 v12 v13 v14 v15 v16 v17 v18 v19 v20 v21 v22 v23 v24 v25 v26 (k0_pay68 P Q R) (k0_pay69 P Q R) (k0_pay70 P Q R) (k0_pay71 P Q R) (k0_pay72 P Q R) n⟩
        : (s : Shape) × (s.Idx → Ideal .f32)))
      concatenates_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S256x1024_d0 := rfl
  refine (congrFun e _).trans ((concatenate_ofFn_apply (t := S256x1024) (s₁ := S8x1024) 0 _ _ rfl 8 rfl (ix2 ⟨g.val * 8 + q.val, by omega⟩ c) g
    (show (g.val * 8 + q.val) / 8 = g.val by omega) (ix2 q c) (show q.val = (g.val * 8 + q.val) % 8 by omega)
    (by intro b hb; fin_cases b; exact absurd rfl hb; rfl)).trans ?_)
  fin_cases g
  · exact h0 q c
  · exact h1 q c
  · exact h2 q c
  · exact h3 q c
  · exact h4 q c
  · exact h5 q c
  · exact h6 q c
  · exact h7 q c
  · exact h8 q c
  · exact h9 q c
  · exact h10 q c
  · exact h11 q c
  · exact h12 q c
  · exact h13 q c
  · exact h14 q c
  · exact h15 q c
  · exact h16 q c
  · exact h17 q c
  · exact h18 q c
  · exact h19 q c
  · exact h20 q c
  · exact h21 q c
  · exact h22 q c
  · exact h23 q c
  · exact h24 q c
  · exact h25 q c
  · exact h26 q c
  · exact grp27 hS hR q c
  · exact grp28 hS hR q c
  · exact grp29 hS hR q c
  · exact grp30 hS hR q c
  · exact grp31 hS hR q c
end Cert.KernelIdeal.Lru
-- ==== Proof.LruGates.lean ====
/- The kernel's gates of a block: eight channel groups' products laid side by side, the bias, the logistic, the decay. -/
module
public import proofs.«01_k».proof.Proof.LruScan
@[expose] public section
set_option maxRecDepth 16384
noncomputable section
open Idealize.ShloMosaic Idealize.ShloMosaic.TcCoe Idealize.SL.Sem
namespace Cert.KernelIdeal.Lru
open Cert.KernelIdeal Cert.KernelIdeal.Gen Cert.LruMath

/-- Channel group `g`'s product at row `p`, channel `j` of the group. -/
def piece (x : Vec Ideal S256x1024 .f32) (W : Vec Ideal S8x128x128 .bf16) (g : Fin 8) (p : Fin 256) (j : Fin 128) : EReal :=
  ∑ k : Fin 128, x (ix2 p ⟨g.val * 128 + k.val, by omega⟩) * W (ix3 g k j)

theorem r0_at (x : Vec Ideal S256x1024 .f32) (W : Vec Ideal S8x128x128 .bf16) (p : Fin 256) (j : Fin 128) :
    k0_pay4 x (View.ld W (Rect.unit ![0, 0, 0] ![1, 128, 128] inb_S8x128x128_S1x128x128_0_0_0)) (ix2 p j) = piece x W 0 p j := by
  unfold piece
  pointwise [k0_pay3, k0_pay4]
theorem r1_at (x : Vec Ideal S256x1024 .f32) (W : Vec Ideal S8x128x128 .bf16) (p : Fin 256) (j : Fin 128) :
    k0_pay7 x (View.ld W (Rect.unit ![1, 0, 0] ![1, 128, 128] inb_S8x128x128_S1x128x128_1_0_0)) (ix2 p j) = piece x W 1 p j := by
  unfold piece
  pointwise [k0_pay6, k0_pay7]
theorem r2_at (x : Vec Ideal S256x1024 .f32) (W : Vec Ideal S8x128x128 .bf16) (p : Fin 256) (j : Fin 128) :
    k0_pay10 x (View.ld W (Rect.unit ![2, 0, 0] ![1, 128, 128] inb_S8x128x128_S1x128x128_2_0_0)) (ix2 p j) = piece x W 2 p j := by
  unfold piece
  pointwise [k0_pay9, k0_pay10]
theorem r3_at (x : Vec Ideal S256x1024 .f32) (W : Vec Ideal S8x128x128 .bf16) (p : Fin 256) (j : Fin 128) :
    k0_pay14 (k0_pay12 x) (View.ld W (Rect.unit ![3, 0, 0] ![1, 128, 128] inb_S8x128x128_S1x128x128_3_0_0)) (ix2 p j) = piece x W 3 p j := by
  unfold piece
  pointwise [k0_pay12, k0_pay13, k0_pay14]
theorem r4_at (x : Vec Ideal S256x1024 .f32) (W : Vec Ideal S8x128x128 .bf16) (p : Fin 256) (j : Fin 128) :
    k0_pay17 x (View.ld W (Rect.unit ![4, 0, 0] ![1, 128, 128] inb_S8x128x128_S1x128x128_4_0_0)) (ix2 p j) = piece x W 4 p j := by
  unfold piece
  pointwise [k0_pay16, k0_pay17]
theorem r5_at (x : Vec Ideal S256x1024 .f32) (W : Vec Ideal S8x128x128 .bf16) (p : Fin 256) (j : Fin 128) :
    k0_pay20 x (View.ld W (Rect.unit ![5, 0, 0] ![1, 128, 128] inb_S8x128x128_S1x128x128_5_0_0)) (ix2 p j) = piece x W 5 p j := by
  unfold piece
  pointwise [k0_pay19, k0_pay20]
theorem r6_at (x : Vec Ideal S256x1024 .f32) (W : Vec Ideal S8x128x128 .bf16) (p : Fin 256) (j : Fin 128) :
    k0_pay23 x (View.ld W (Rect.unit ![6, 0, 0] ![1, 128, 128] inb_S8x128x128_S1x128x128_6_0_0)) (ix2 p j) = piece x W 6 p j := by
  unfold piece
  pointwise [k0_pay22, k0_pay23]
theorem i0_at (x : Vec Ideal S256x1024 .f32) (W : Vec Ideal S8x128x128 .bf16) (p : Fin 256) (j : Fin 128) :
    k0_pay5 x (View.ld W (Rect.unit ![0, 0, 0] ![1, 128, 128] inb_S8x128x128_S1x128x128_0_0_0)) (ix2 p j) = piece x W 0 p j := by
  unfold piece
  pointwise [k0_pay3, k0_pay5]
theorem i1_at (x : Vec Ideal S256x1024 .f32) (W : Vec Ideal S8x128x128 .bf16) (p : Fin 256) (j : Fin 128) :
    k0_pay8 x (View.ld W (Rect.unit ![1, 0, 0] ![1, 128, 128] inb_S8x128x128_S1x128x128_1_0_0)) (ix2 p j) = piece x W 1 p j := by
  unfold piece
  pointwise [k0_pay6, k0_pay8]
theorem i2_at (x : Vec Ideal S256x1024 .f32) (W : Vec Ideal S8x128x128 .bf16) (p : Fin 256) (j : Fin 128) :
    k0_pay11 x (View.ld W (Rect.unit ![2, 0, 0] ![1, 128, 128] inb_S8x128x128_S1x128x128_2_0_0)) (ix2 p j) = piece x W 2 p j := by
  unfold piece
  pointwise [k0_pay9, k0_pay11]
theorem i3_at (x : Vec Ideal S256x1024 .f32) (W : Vec Ideal S8x128x128 .bf16) (p : Fin 256) (j : Fin 128) :
    k0_pay15 (k0_pay12 x) (View.ld W (Rect.unit ![3, 0, 0] ![1, 128, 128] inb_S8x128x128_S1x128x128_3_0_0)) (ix2 p j) = piece x W 3 p j := by
  unfold piece
  pointwise [k0_pay12, k0_pay13, k0_pay15]
theorem i4_at (x : Vec Ideal S256x1024 .f32) (W : Vec Ideal S8x128x128 .bf16) (p : Fin 256) (j : Fin 128) :
    k0_pay18 x (View.ld W (Rect.unit ![4, 0, 0] ![1, 128, 128] inb_S8x128x128_S1x128x128_4_0_0)) (ix2 p j) = piece x W 4 p j := by
  unfold piece
  pointwise [k0_pay16, k0_pay18]
theorem i5_at (x : Vec Ideal S256x1024 .f32) (W : Vec Ideal S8x128x128 .bf16) (p : Fin 256) (j : Fin 128) :
    k0_pay21 x (View.ld W (Rect.unit ![5, 0, 0] ![1, 128, 128] inb_S8x128x128_S1x128x128_5_0_0)) (ix2 p j) = piece x W 5 p j := by
  unfold piece
  pointwise [k0_pay19, k0_pay21]
/-- The products the gates' last steps take themselves. -/
def lastR (x : Vec Ideal S256x1024 .f32) (w : Vec Ideal S1x128x128 .bf16) : FVec Ideal S256x128 .f32 :=
  matmul dot_S256x128_S128x128_S256x128_1_0_0_1_n_n none (k0_pay24 x) (shapeCast S128x128 w shapeCasts_S1x128x128_S128x128 : FVec Ideal S128x128 .bf16) (constant S256x128 .f32 0x00000000#32)
@[inherit_doc lastR]
def preI (x : Vec Ideal S256x1024 .f32) (w : Vec Ideal S1x128x128 .bf16) : FVec Ideal S256x128 .f32 :=
  matmul dot_S256x128_S128x128_S256x128_1_0_0_1_n_n none (k0_pay22 x) (shapeCast S128x128 w shapeCasts_S1x128x128_S128x128 : FVec Ideal S128x128 .bf16) (constant S256x128 .f32 0x00000000#32)
theorem r7_at (x : Vec Ideal S256x1024 .f32) (W : Vec Ideal S8x128x128 .bf16) (p : Fin 256) (j : Fin 128) :
    lastR x (View.ld W (Rect.unit ![7, 0, 0] ![1, 128, 128] inb_S8x128x128_S1x128x128_7_0_0)) (ix2 p j) = piece x W 7 p j := by
  unfold piece
  pointwise [lastR, k0_pay24]
theorem i6_at (x : Vec Ideal S256x1024 .f32) (W : Vec Ideal S8x128x128 .bf16) (p : Fin 256) (j : Fin 128) :
    preI x (View.ld W (Rect.unit ![6, 0, 0] ![1, 128, 128] inb_S8x128x128_S1x128x128_6_0_0)) (ix2 p j) = piece x W 6 p j := by
  unfold piece
  pointwise [preI, k0_pay22]

/-- Eight groups side by side. -/
def cat8 (v0 v1 v2 v3 v4 v5 v6 v7 : FVec Ideal S256x128 .f32) : FVec Ideal S256x1024 .f32 :=
  concatenate S256x1024 1 [⟨S256x128, v0⟩, ⟨S256x128, v1⟩, ⟨S256x128, v2⟩, ⟨S256x128, v3⟩, ⟨S256x128, v4⟩, ⟨S256x128, v5⟩, ⟨S256x128, v6⟩, ⟨S256x128, v7⟩] concatenates_S256x128_S256x128_S256x128_S256x128_S256x128_S256x128_S256x128_S256x128_S256x1024_d1

/-- Eight groups as one family. -/
def tiles8 (v0 v1 v2 v3 v4 v5 v6 v7 : FVec Ideal S256x128 .f32) : Fin 8 → FVec Ideal S256x128 .f32 := ![v0, v1, v2, v3, v4, v5, v6, v7]

theorem cat8_at {x : Vec Ideal S256x1024 .f32} {W : Vec Ideal S8x128x128 .bf16} {v0 v1 v2 v3 v4 v5 v6 v7 : FVec Ideal S256x128 .f32}
    (h0 : ∀ p j, v0 (ix2 p j) = piece x W 0 p j)
    (h1 : ∀ p j, v1 (ix2 p j) = piece x W 1 p j)
    (h2 : ∀ p j, v2 (ix2 p j) = piece x W 2 p j)
    (h3 : ∀ p j, v3 (ix2 p j) = piece x W 3 p j)
    (h4 : ∀ p j, v4 (ix2 p j) = piece x W 4 p j)
    (h5 : ∀ p j, v5 (ix2 p j) = piece x W 5 p j)
    (h6 : ∀ p j, v6 (ix2 p j) = piece x W 6 p j)
    (h7 : ∀ p j, v7 (ix2 p j) = piece x W 7 p j)
    (p : Fin 256) (c : Fin 1024) :
    cat8 v0 v1 v2 v3 v4 v5 v6 v7 (ix2 p c) = piece x W ⟨c.val / 128, by omega⟩ p ⟨c.val % 128, by omega⟩ := by
  obtain ⟨g, j, rfl⟩ : ∃ (g : Fin 8) (j : Fin 128), c = ⟨g.val * 128 + j.val, by omega⟩ :=
    ⟨⟨c.val / 128, by omega⟩, ⟨c.val % 128, by omega⟩, Fin.ext (by simp only; omega)⟩
  have hg : (⟨(g.val * 128 + j.val) / 128, by omega⟩ : Fin 8) = g := Fin.ext (by simp only; omega)
  have hj : (⟨(g.val * 128 + j.val) % 128, by omega⟩ : Fin 128) = j := Fin.ext (by simp only; omega)
  rw [hg, hj]
  have e : cat8 v0 v1 v2 v3 v4 v5 v6 v7 = concatenate S256x1024 1 (List.ofFn fun n : Fin 8 =>
      (⟨S256x128, tiles8 v0 v1 v2 v3 v4 v5 v6 v7 n⟩ : (s : Shape) × (s.Idx → Ideal .f32))) concatenates_S256x128_S256x128_S256x128_S256x128_S256x128_S256x128_S256x128_S256x128_S256x1024_d1 := rfl
  refine (congrFun e _).trans ((concatenate_ofFn_apply (t := S256x1024) (s₁ := S256x128) 1 _ _ rfl 128 rfl
    (ix2 p ⟨g.val * 128 + j.val, by omega⟩) g
    (show (g.val * 128 + j.val) / 128 = g.val by omega) (ix2 p j) (show j.val = (g.val * 128 + j.val) % 128 by omega)
    (by intro b hb; fin_cases b; rfl; exact absurd rfl hb)).trans ?_)
  fin_cases g
  · exact h0 p j
  · exact h1 p j
  · exact h2 p j
  · exact h3 p j
  · exact h4 p j
  · exact h5 p j
  · exact h6 p j
  · exact h7 p j

/-- A gate from its products and bias. -/
def gateOf (z : FVec Ideal S256x1024 .f32) (b : Vec Ideal S1x1024 .f32) : FVec Ideal S256x1024 .f32 :=
  logistic (addf z (broadcastTo S256x1024 (shapeCast S1x1024 b shapeCasts_S1x1024_S1x1024) broadcasts_S1x1024_S256x1024))

theorem gateOf_at (z : FVec Ideal S256x1024 .f32) (b : Vec Ideal S1x1024 .f32) (p : Fin 256) (c : Fin 1024) :
    gateOf z b (ix2 p c) = sg (z (ix2 p c) + b (ix2 0 c)) := by
  unfold sg
  pointwise [gateOf]
  rfl

/-- The decay's logarithm from the recurrence gate. -/
def logA (r : FVec Ideal S256x1024 .f32) (lam : Vec Ideal S1x1024 .f32) : FVec Ideal S256x1024 .f32 :=
  mulf (mulf (broadcast S256x1024 (Scalar.ofBits (F := Ideal) .f32 0xC1000000#32)) r)
    (broadcastTo S256x1024
      (addf (maximumf (subf (broadcast S1x1024 (Scalar.ofBits (F := Ideal) .f32 0x00000000#32)) (shapeCast S1x1024 lam shapeCasts_S1x1024_S1x1024))
          (broadcast S1x1024 (Scalar.ofBits (F := Ideal) .f32 0x00000000#32)))
        (log1p (exp (subf (broadcast S1x1024 (Scalar.ofBits (F := Ideal) .f32 0x00000000#32))
          (absf (subf (broadcast S1x1024 (Scalar.ofBits (F := Ideal) .f32 0x00000000#32)) (shapeCast S1x1024 lam shapeCasts_S1x1024_S1x1024)))))))
      broadcasts_S1x1024_S256x1024)

theorem logA_at (r : FVec Ideal S256x1024 .f32) (lam : Vec Ideal S1x1024 .f32) (p : Fin 256) (c : Fin 1024) :
    logA r lam (ix2 p c) = la (r (ix2 p c)) (lam (ix2 0 c)) := by
  unfold la sp
  pointwise [logA]
  simp only [zero_sub]
  rfl

theorem pay26_eq (x : Vec Ideal S256x1024 .f32) (v0 v1 v2 v3 v4 v5 v6 : FVec Ideal S256x128 .f32) (w : Vec Ideal S1x128x128 .bf16)
    (b lam : Vec Ideal S1x1024 .f32) :
    k0_pay26 x v0 v1 v2 v3 v4 v5 v6 w b lam = logA (gateOf (cat8 v0 v1 v2 v3 v4 v5 v6 (lastR x w)) b) lam := rfl

theorem pay25_eq (x : Vec Ideal S256x1024 .f32) (v0 v1 v2 v3 v4 v5 : FVec Ideal S256x128 .f32) (w6 w7 : Vec Ideal S1x128x128 .bf16)
    (b : Vec Ideal S1x1024 .f32) :
    k0_pay25 x v0 v1 v2 v3 v4 v5 (k0_pay22 x) w6 w7 b = gateOf (cat8 v0 v1 v2 v3 v4 v5 (preI x w6) (lastR x w7)) b := rfl

/-- The decay's logarithm over a block. -/
def laB (x : Vec Ideal S256x1024 .f32) (W : Vec Ideal S8x128x128 .bf16) (b lam : Vec Ideal S1x1024 .f32) : FVec Ideal S256x1024 .f32 :=
  k0_pay26 x (k0_pay4 x (View.ld W (Rect.unit ![0, 0, 0] ![1, 128, 128] inb_S8x128x128_S1x128x128_0_0_0))) (k0_pay7 x (View.ld W (Rect.unit ![1, 0, 0] ![1, 128, 128] inb_S8x128x128_S1x128x128_1_0_0))) (k0_pay10 x (View.ld W (Rect.unit ![2, 0, 0] ![1, 128, 128] inb_S8x128x128_S1x128x128_2_0_0))) (k0_pay14 (k0_pay12 x) (View.ld W (Rect.unit ![3, 0, 0] ![1, 128, 128] inb_S8x128x128_S1x128x128_3_0_0))) (k0_pay17 x (View.ld W (Rect.unit ![4, 0, 0] ![1, 128, 128] inb_S8x128x128_S1x128x128_4_0_0))) (k0_pay20 x (View.ld W (Rect.unit ![5, 0, 0] ![1, 128, 128] inb_S8x128x128_S1x128x128_5_0_0))) (k0_pay23 x (View.ld W (Rect.unit ![6, 0, 0] ![1, 128, 128] inb_S8x128x128_S1x128x128_6_0_0))) (View.ld W (Rect.unit ![7, 0, 0] ![1, 128, 128] inb_S8x128x128_S1x128x128_7_0_0)) b lam

/-- The input gate over a block. -/
def giB (x : Vec Ideal S256x1024 .f32) (W : Vec Ideal S8x128x128 .bf16) (b : Vec Ideal S1x1024 .f32) : FVec Ideal S256x1024 .f32 :=
  k0_pay25 x (k0_pay5 x (View.ld W (Rect.unit ![0, 0, 0] ![1, 128, 128] inb_S8x128x128_S1x128x128_0_0_0))) (k0_pay8 x (View.ld W (Rect.unit ![1, 0, 0] ![1, 128, 128] inb_S8x128x128_S1x128x128_1_0_0))) (k0_pay11 x (View.ld W (Rect.unit ![2, 0, 0] ![1, 128, 128] inb_S8x128x128_S1x128x128_2_0_0))) (k0_pay15 (k0_pay12 x) (View.ld W (Rect.unit ![3, 0, 0] ![1, 128, 128] inb_S8x128x128_S1x128x128_3_0_0))) (k0_pay18 x (View.ld W (Rect.unit ![4, 0, 0] ![1, 128, 128] inb_S8x128x128_S1x128x128_4_0_0))) (k0_pay21 x (View.ld W (Rect.unit ![5, 0, 0] ![1, 128, 128] inb_S8x128x128_S1x128x128_5_0_0))) (k0_pay22 x) (View.ld W (Rect.unit ![6, 0, 0] ![1, 128, 128] inb_S8x128x128_S1x128x128_6_0_0)) (View.ld W (Rect.unit ![7, 0, 0] ![1, 128, 128] inb_S8x128x128_S1x128x128_7_0_0)) b

theorem laB_at (x : Vec Ideal S256x1024 .f32) (W : Vec Ideal S8x128x128 .bf16) (b lam : Vec Ideal S1x1024 .f32) (p : Fin 256) (c : Fin 1024) :
    laB x W b lam (ix2 p c)
      = la (sg (piece x W ⟨c.val / 128, by omega⟩ p ⟨c.val % 128, by omega⟩ + b (ix2 0 c))) (lam (ix2 0 c)) := by
  rw [laB, pay26_eq, logA_at, gateOf_at,
    cat8_at (r0_at x W) (r1_at x W) (r2_at x W) (r3_at x W) (r4_at x W) (r5_at x W) (r6_at x W) (r7_at x W)]

theorem giB_at (x : Vec Ideal S256x1024 .f32) (W : Vec Ideal S8x128x128 .bf16) (b : Vec Ideal S1x1024 .f32) (p : Fin 256) (c : Fin 1024) :
    giB x W b (ix2 p c) = sg (piece x W ⟨c.val / 128, by omega⟩ p ⟨c.val % 128, by omega⟩ + b (ix2 0 c)) := by
  rw [giB, pay25_eq, gateOf_at,
    cat8_at (i0_at x W) (i1_at x W) (i2_at x W) (i3_at x W) (i4_at x W) (i5_at x W) (i6_at x W) (r7_at x W)]

end Cert.KernelIdeal.Lru
-- ==== Proof.LruBlock.lean ====
/- A block of the kernel's recurrence: from the state before the block, the state after each of its rows, the carry out, and the output rows. -/
module
public import proofs.«01_k».proof.Proof.LruGroups
public import proofs.«01_k».proof.Proof.LruGates
@[expose] public section
set_option maxRecDepth 16384
noncomputable section
open Idealize.ShloMosaic Idealize.ShloMosaic.TcCoe Idealize.SL.Sem
namespace Cert.KernelIdeal.Lru
open Cert.KernelIdeal Cert.KernelIdeal.Gen Cert.LruMath

variable {x I A T : FVec Ideal S256x1024 .f32} {carry : FVec Ideal S8x1024 .f32} {H : ℕ → Fin 1024 → EReal}

/-- What a block's vectors must satisfy for `H` to run through it. -/
structure Runs (x I A T : FVec Ideal S256x1024 .f32) (carry : FVec Ideal S8x1024 .f32) (H : ℕ → Fin 1024 → EReal) : Prop where
  pos : ∀ i, 0 ≤ A i ∧ A i ≠ ⊤
  step : ∀ (p : Fin 256) (c : Fin 1024), H (p.val + 1) c = A (ix2 p c) * H p.val c + inp x I T (ix2 p c)
  start : ∀ (q : Fin 8) (c : Fin 1024), carry (ix2 q c) = H 0 c

theorem Runs.chain (h : Runs x I A T carry H) : Chain (k0_pay35 A) (k0_pay36 x I A T (FloatOps.ofBits (F := Ideal) .f32 3221225472#32)) H := by
  intro g q c
  have hs := scan8 (h := fun q => H (g.val * 8 + q) c) (a := rowsG A g c) (b := rowsG (inp x I T) g c)
    (fun q => by
      unfold rowsG
      split
      · exact h.pos _
      · exact ⟨le_refl _, EReal.zero_ne_top⟩)
    (fun q hq => by
      rw [rowsG_of hq, rowsG_of hq]
      exact h.step ⟨g.val * 8 + q, by omega⟩ c) q.val q.isLt
  rw [pay35_at, pay36_at]
  exact hs

theorem Runs.grp0 (h : Runs x I A T carry H) : Holds H 0 (k0_pay37 x I A T (FloatOps.ofBits (F := Ideal) .f32 3221225472#32) carry) := by
  refine h.chain.step 0 (w := fun c => H 0 c) (fun c => by simp) fun q c => ?_
  rw [← h.start q c]
  pointwise [k0_pay37]

/-- The carry the second group reads. -/
abbrev v145 (x I A T : FVec Ideal S256x1024 .f32) (carry : FVec Ideal S8x1024 .f32) : FVec Ideal S8x1024 .f32 :=
  k0_pay38 x I A T (FloatOps.ofBits (F := Ideal) .f32 3221225472#32) carry
/-- The tenth group. -/
abbrev v205 (x I A T : FVec Ideal S256x1024 .f32) (carry : FVec Ideal S8x1024 .f32) : FVec Ideal S8x1024 .f32 :=
  k0_pay47 (k0_pay35 A) (k0_pay36 x I A T (FloatOps.ofBits (F := Ideal) .f32 3221225472#32)) (v145 x I A T carry)
/-- The carry the nineteenth group reads. -/
abbrev v264 (x I A T : FVec Ideal S256x1024 .f32) (carry : FVec Ideal S8x1024 .f32) : FVec Ideal S8x1024 .f32 :=
  k0_pay56 (k0_pay35 A) (k0_pay36 x I A T (FloatOps.ofBits (F := Ideal) .f32 3221225472#32)) (v205 x I A T carry)
/-- The carry the twenty-eighth group reads. -/
abbrev v325 (x I A T : FVec Ideal S256x1024 .f32) (carry : FVec Ideal S8x1024 .f32) : FVec Ideal S1x1024 .f32 :=
  k0_pay67 (k0_pay35 A) (k0_pay36 x I A T (FloatOps.ofBits (F := Ideal) .f32 3221225472#32)) (v264 x I A T carry) (k0_pay57 (k0_pay35 A))

theorem Runs.h145 (h : Runs x I A T carry H) (q : Fin 8) (c : Fin 1024) : v145 x I A T carry (ix2 q c) = H 8 c := by
  refine Eq.trans ?_ (h.grp0.last c)
  pointwise [k0_pay38]
theorem Runs.h205 (h : Runs x I A T carry H) : Holds H 9 (v205 x I A T carry) := grp9 h.chain h.h145
theorem Runs.h264 (h : Runs x I A T carry H) (q : Fin 8) (c : Fin 1024) : v264 x I A T carry (ix2 q c) = H (18 * 8) c :=
  row56 h.chain h.h205 q c
theorem Runs.h325 (h : Runs x I A T carry H) (c : Fin 1024) : v325 x I A T carry (ix2 0 c) = H (27 * 8) c :=
  row67 h.chain h.h264 c

/-- The carry out of a block. -/
def carryB (x I A T : FVec Ideal S256x1024 .f32) (carry : FVec Ideal S8x1024 .f32) : FVec Ideal S8x1024 .f32 :=
  k0_pay73 (k0_pay35 A) (k0_pay36 x I A T (FloatOps.ofBits (F := Ideal) .f32 3221225472#32)) (v325 x I A T carry)

theorem Runs.carry_at (h : Runs x I A T carry H) (q : Fin 8) (c : Fin 1024) : carryB x I A T carry (ix2 q c) = H 256 c :=
  carry_out h.chain h.h325 q c

/-- A block's states. -/
def statesB (x I A T : FVec Ideal S256x1024 .f32) (carry : FVec Ideal S8x1024 .f32) : FVec Ideal S256x1024 .f32 :=
  k0_pay74 (k0_pay35 A) (k0_pay36 x I A T (FloatOps.ofBits (F := Ideal) .f32 3221225472#32))
    (k0_pay37 x I A T (FloatOps.ofBits (F := Ideal) .f32 3221225472#32) carry)
    (k0_pay39 (k0_pay35 A) (k0_pay36 x I A T (FloatOps.ofBits (F := Ideal) .f32 3221225472#32)) (v145 x I A T carry))
    (k0_pay40 (k0_pay35 A) (k0_pay36 x I A T (FloatOps.ofBits (F := Ideal) .f32 3221225472#32)) (v145 x I A T carry))
    (k0_pay41 (k0_pay35 A) (k0_pay36 x I A T (FloatOps.ofBits (F := Ideal) .f32 3221225472#32)) (v145 x I A T carry))
    (k0_pay42 (k0_pay35 A) (k0_pay36 x I A T (FloatOps.ofBits (F := Ideal) .f32 3221225472#32)) (v145 x I A T carry))
    (k0_pay43 (k0_pay35 A) (k0_pay36 x I A T (FloatOps.ofBits (F := Ideal) .f32 3221225472#32)) (v145 x I A T carry))
    (k0_pay44 (k0_pay35 A) (k0_pay36 x I A T (FloatOps.ofBits (F := Ideal) .f32 3221225472#32)) (v145 x I A T carry))
    (k0_pay45 (k0_pay35 A) (k0_pay36 x I A T (FloatOps.ofBits (F := Ideal) .f32 3221225472#32)) (v145 x I A T carry))
    (k0_pay46 (k0_pay35 A) (k0_pay36 x I A T (FloatOps.ofBits (F := Ideal) .f32 3221225472#32)) (v145 x I A T carry))
    (v205 x I A T carry)
    (k0_pay48 (k0_pay35 A) (k0_pay36 x I A T (FloatOps.ofBits (F := Ideal) .f32 3221225472#32)) (v205 x I A T carry))
    (k0_pay49 (k0_pay35 A) (k0_pay36 x I A T (FloatOps.ofBits (F := Ideal) .f32 3221225472#32)) (v205 x I A T carry))
    (k0_pay50 (k0_pay35 A) (k0_pay36 x I A T (FloatOps.ofBits (F := Ideal) .f32 3221225472#32)) (v205 x I A T carry))
    (k0_pay51 (k0_pay35 A) (k0_pay36 x I A T (FloatOps.ofBits (F := Ideal) .f32 3221225472#32)) (v205 x I A T carry))
    (k0_pay52 (k0_pay35 A) (k0_pay36 x I A T (FloatOps.ofBits (F := Ideal) .f32 3221225472#32)) (v205 x I A T carry))
    (k0_pay53 (k0_pay35 A) (k0_pay36 x I A T (FloatOps.ofBits (F := Ideal) .f32 3221225472#32)) (v205 x I A T carry))
    (k0_pay54 (k0_pay35 A) (k0_pay36 x I A T (FloatOps.ofBits (F := Ideal) .f32 3221225472#32)) (v205 x I A T carry))
    (k0_pay55 (k0_pay35 A) (k0_pay36 x I A T (FloatOps.ofBits (F := Ideal) .f32 3221225472#32)) (v205 x I A T carry))
    (k0_pay58 (k0_pay36 x I A T (FloatOps.ofBits (F := Ideal) .f32 3221225472#32)) (v264 x I A T carry) (k0_pay57 (k0_pay35 A)))
    (k0_pay59 (k0_pay35 A) (k0_pay36 x I A T (FloatOps.ofBits (F := Ideal) .f32 3221225472#32)) (v264 x I A T carry) (k0_pay57 (k0_pay35 A)))
    (k0_pay60 (k0_pay35 A) (k0_pay36 x I A T (FloatOps.ofBits (F := Ideal) .f32 3221225472#32)) (v264 x I A T carry) (k0_pay57 (k0_pay35 A)))
    (k0_pay61 (k0_pay35 A) (k0_pay36 x I A T (FloatOps.ofBits (F := Ideal) .f32 3221225472#32)) (v264 x I A T carry) (k0_pay57 (k0_pay35 A)))
    (k0_pay62 (k0_pay35 A) (k0_pay36 x I A T (FloatOps.ofBits (F := Ideal) .f32 3221225472#32)) (v264 x I A T carry) (k0_pay57 (k0_pay35 A)))
    (k0_pay63 (k0_pay35 A) (k0_pay36 x I A T (FloatOps.ofBits (F := Ideal) .f32 3221225472#32)) (v264 x I A T carry) (k0_pay57 (k0_pay35 A)))
    (k0_pay64 (k0_pay35 A) (k0_pay36 x I A T (FloatOps.ofBits (F := Ideal) .f32 3221225472#32)) (v264 x I A T carry) (k0_pay57 (k0_pay35 A)))
    (k0_pay65 (k0_pay35 A) (k0_pay36 x I A T (FloatOps.ofBits (F := Ideal) .f32 3221225472#32)) (v264 x I A T carry) (k0_pay57 (k0_pay35 A)))
    (k0_pay66 (k0_pay35 A) (k0_pay36 x I A T (FloatOps.ofBits (F := Ideal) .f32 3221225472#32)) (v264 x I A T carry) (k0_pay57 (k0_pay35 A)))
    (v325 x I A T carry)

theorem Runs.states_at (h : Runs x I A T carry H) (p : Fin 256) (c : Fin 1024) : statesB x I A T carry (ix2 p c) = H (p.val + 1) c :=
  Lru.states_at h.chain h.h325 h.grp0 (grp1 h.chain h.h145) (grp2 h.chain h.h145) (grp3 h.chain h.h145) (grp4 h.chain h.h145) (grp5 h.chain h.h145) (grp6 h.chain h.h145) (grp7 h.chain h.h145) (grp8 h.chain h.h145) h.h205 (grp10 h.chain h.h205) (grp11 h.chain h.h205) (grp12 h.chain h.h205) (grp13 h.chain h.h205) (grp14 h.chain h.h205) (grp15 h.chain h.h205) (grp16 h.chain h.h205) (grp17 h.chain h.h205) (grp18 h.chain h.h264) (grp19 h.chain h.h264) (grp20 h.chain h.h264) (grp21 h.chain h.h264) (grp22 h.chain h.h264) (grp23 h.chain h.h264) (grp24 h.chain h.h264) (grp25 h.chain h.h264) (grp26 h.chain h.h264) p c

/-- A block's output rows. -/
def outB (s g : FVec Ideal S256x1024 .f32) (on : Vec Ideal S1x1024 .f32) : FVec Ideal S256x1024 .bf16 :=
  k0_pay1 s (k0_pay75 g) (k0_pay76 g) on

theorem outB_at (s g : FVec Ideal S256x1024 .f32) (on : Vec Ideal S1x1024 .f32) (p : Fin 256) (c : Fin 1024) :
    outB s g on (ix2 p c) = norm1 (fun k => yv (s (ix2 p k)) (g (ix2 p k))) (on (ix2 0 c)) c := by
  have e : ∀ k : Fin 1024, yv (s (ix2 p k)) (g (ix2 p k))
      = s (ix2 p k) * ((k0_pay75 (F := Ideal) g (ix2 p k) : EReal) * (1 + (k0_pay76 (F := Ideal) g (ix2 p k) : EReal))) := by
    intro k
    unfold yv
    pointwise [k0_pay75, k0_pay76]
    rw [← mul_assoc (g (ix2 p k)), mul_comm (g (ix2 p k)) (Ideal.ofBits FTy.f32 _)]
  unfold norm1
  simp only [e]
  pointwise [outB, k0_pay1]

end Cert.KernelIdeal.Lru
-- ==== Proof.LruKer.lean ====
/- What the kernel's grid points leave behind: the state after each point's last row, and the output rows, in the layer's own terms. -/
module
public import proofs.«01_k».proof.Proof.LruBlock
@[expose] public section
set_option maxRecDepth 16384
noncomputable section
open Idealize.ShloMosaic Idealize.ShloMosaic.TcCoe Idealize.SL.Sem
namespace Cert.KernelIdeal.Lru
open Cert.KernelIdeal Cert.KernelIdeal.Gen Cert.LruMath

/-- Every window's block index at every grid point. -/
theorem idx : ∀ t : Fin cfg0.N, win0_0.index t = ![t.val, 0] ∧ win0_1.index t = ![t.val, 1] ∧ win0_2.index t = ![0, 0, 0]
    ∧ win0_3.index t = ![0, 0] ∧ win0_4.index t = ![0, 0, 0] ∧ win0_5.index t = ![0, 0] ∧ win0_6.index t = ![0, 0]
    ∧ win0_7.index t = ![0, 0] ∧ win0_8.index t = ![t.val, 0] := by
  decide +kernel

theorem lt64 (t : Fin cfg0.N) : t.val < 64 := t.isLt

variable (m : (ℓ : Loc nD τ sig) → Buf (Elt Ideal) ℓ) (c : Dev nD)

/-- The arguments. -/
abbrev aP : SP.Idx → EReal := m ((c : Thread nD τ).loc main_arg0)
@[inherit_doc aP] abbrev aWr : SW.Idx → EReal := m ((c : Thread nD τ).loc main_arg1)
@[inherit_doc aP] abbrev abr : SB.Idx → EReal := m ((c : Thread nD τ).loc main_arg2)
@[inherit_doc aP] abbrev aWi : SW.Idx → EReal := m ((c : Thread nD τ).loc main_arg3)
@[inherit_doc aP] abbrev abi : SB.Idx → EReal := m ((c : Thread nD τ).loc main_arg4)
@[inherit_doc aP] abbrev alam : SC.Idx → EReal := m ((c : Thread nD τ).loc main_arg5)
@[inherit_doc aP] abbrev aon : SC.Idx → EReal := m ((c : Thread nD τ).loc main_arg6)

theorem x_at (t : Fin cfg0.N) (p : Fin 256) (k : Fin 1024) :
    iblk m c 0 t (ix2 p k) = aP m c (ix2 ⟨t.val * 256 + p.val, by have := lt64 t; omega⟩ ⟨k.val, by omega⟩) := by
  blk_point [iblk, V, idx t]
theorem g_at (t : Fin cfg0.N) (p : Fin 256) (k : Fin 1024) :
    iblk m c 1 t (ix2 p k) = aP m c (ix2 ⟨t.val * 256 + p.val, by have := lt64 t; omega⟩ ⟨1024 + k.val, by omega⟩) := by
  blk_point [iblk, V, idx t]
theorem wr_at (t : Fin cfg0.N) (g : Fin 8) (k j : Fin 128) : iblk m c 2 t (ix3 g k j) = aWr m c (ix3 g k j) := by
  blk_point [iblk, V, idx t]
theorem br_at (t : Fin cfg0.N) (k : Fin 1024) :
    iblk m c 3 t (ix2 0 k) = abr m c (ix2 ⟨k.val / 128, by omega⟩ ⟨k.val % 128, by omega⟩) := by
  blk_point [iblk, V, idx t]
theorem wi_at (t : Fin cfg0.N) (g : Fin 8) (k j : Fin 128) : iblk m c 4 t (ix3 g k j) = aWi m c (ix3 g k j) := by
  blk_point [iblk, V, idx t]
theorem bi_at (t : Fin cfg0.N) (k : Fin 1024) :
    iblk m c 5 t (ix2 0 k) = abi m c (ix2 ⟨k.val / 128, by omega⟩ ⟨k.val % 128, by omega⟩) := by
  blk_point [iblk, V, idx t]
theorem lam_at (t : Fin cfg0.N) (k : Fin 1024) : iblk m c 6 t (ix2 0 k) = alam m c (ix1 k) := by
  blk_point [iblk, V, idx t]
theorem on_at (t : Fin cfg0.N) (k : Fin 1024) : iblk m c 7 t (ix2 0 k) = aon m c (ix1 k) := by
  blk_point [iblk, V, idx t]

/-- A point's decay, its hyperbolic tangent and the input gate. -/
def A_ (t : Fin cfg0.N) : FVec Ideal S256x1024 .f32 := exp (laB (iblk m c 0 t) (iblk m c 2 t) (iblk m c 3 t) (iblk m c 6 t))
@[inherit_doc A_]
def T_ (t : Fin cfg0.N) : FVec Ideal S256x1024 .f32 := tanh (laB (iblk m c 0 t) (iblk m c 2 t) (iblk m c 3 t) (iblk m c 6 t))
@[inherit_doc A_]
def I_ (t : Fin cfg0.N) : FVec Ideal S256x1024 .f32 := giB (iblk m c 0 t) (iblk m c 4 t) (iblk m c 5 t)

theorem out1_A (t : Fin cfg0.N) (h0 : t.val % 32 = 0) : (outsAt0 m c t.val t.isLt).1
    = outB (statesB (iblk m c 0 t) (I_ m c t) (A_ m c t) (T_ m c t) k0_pay2) (iblk m c 1 t) (iblk m c 7 t) := by
  rw [outsAt0_A m c t h0]
  frame_out
  rfl
theorem out1_B (t : Fin cfg0.N) (h0 : ¬ t.val % 32 = 0) : (outsAt0 m c t.val t.isLt).1
    = outB (statesB (iblk m c 0 t) (I_ m c t) (A_ m c t) (T_ m c t) (outsAt0 m c (t.val - 1) (by omega)).2) (iblk m c 1 t) (iblk m c 7 t) := by
  rw [outsAt0_B m c t h0]
  frame_out
  generalize hC : View.read (Elt Ideal) (View.whole cc0_scratch0) _ = C
  obtain rfl : C = (outsAt0 m c (t.val - 1) (by omega)).2 := hC.symm.trans (Memref.IsWhole.read_unread _ _)
  rfl
theorem out2_A (t : Fin cfg0.N) (h0 : t.val % 32 = 0) : (outsAt0 m c t.val t.isLt).2
    = carryB (iblk m c 0 t) (I_ m c t) (A_ m c t) (T_ m c t) k0_pay2 := by
  rw [outsAt0_A m c t h0]
  frame_out
  rfl
theorem out2_B (t : Fin cfg0.N) (h0 : ¬ t.val % 32 = 0) : (outsAt0 m c t.val t.isLt).2
    = carryB (iblk m c 0 t) (I_ m c t) (A_ m c t) (T_ m c t) (outsAt0 m c (t.val - 1) (by omega)).2 := by
  rw [outsAt0_B m c t h0]
  frame_out
  generalize hC : View.read (Elt Ideal) (View.whole cc0_scratch0) _ = C
  obtain rfl : C = (outsAt0 m c (t.val - 1) (by omega)).2 := hC.symm.trans (Memref.IsWhole.read_unread _ _)
  rfl

/-- The state after `n` rows of point `t`'s block. -/
def H_ (t : Fin cfg0.N) (n : ℕ) (k : Fin 1024) : EReal :=
  hAt (aP m c) (aWr m c) (abr m c) (aWi m c) (abi m c) (alam m c) ⟨t.val / 32, by have := lt64 t; omega⟩ k (t.val % 32 * 256 + n)

theorem piece_r (t : Fin cfg0.N) (p : Fin 256) (k : Fin 1024) :
    piece (iblk m c 0 t) (iblk m c 2 t) ⟨k.val / 128, by omega⟩ p ⟨k.val % 128, by omega⟩ + (iblk m c 3 t (ix2 0 k) : EReal)
      = zg (aP m c) (aWr m c) (abr m c) ⟨t.val * 256 + p.val, by have := lt64 t; omega⟩ k := by
  unfold piece zg
  rw [br_at]
  simp only [x_at, wr_at]
theorem piece_i (t : Fin cfg0.N) (p : Fin 256) (k : Fin 1024) :
    piece (iblk m c 0 t) (iblk m c 4 t) ⟨k.val / 128, by omega⟩ p ⟨k.val % 128, by omega⟩ + (iblk m c 5 t (ix2 0 k) : EReal)
      = zg (aP m c) (aWi m c) (abi m c) ⟨t.val * 256 + p.val, by have := lt64 t; omega⟩ k := by
  unfold piece zg
  rw [bi_at]
  simp only [x_at, wi_at]

theorem la_at (t : Fin cfg0.N) (p : Fin 256) (k : Fin 1024) :
    laB (iblk m c 0 t) (iblk m c 2 t) (iblk m c 3 t) (iblk m c 6 t) (ix2 p k)
      = laAt (aP m c) (aWr m c) (abr m c) (alam m c) ⟨t.val * 256 + p.val, by have := lt64 t; omega⟩ k := by
  rw [laB_at, piece_r, lam_at, laAt]

theorem la_neg (t : Fin cfg0.N) (i : S256x1024.Idx) :
    laB (iblk m c 0 t) (iblk m c 2 t) (iblk m c 3 t) (iblk m c 6 t) i ≤ (0 : EReal) := by
  obtain ⟨p, k, rfl⟩ : ∃ (p : Fin 256) (k : Fin 1024), i = ix2 p k := ⟨i 0, i 1, by idx_vars i⟩
  rw [laB_at]
  exact la_nonpos _ _

theorem A_at (t : Fin cfg0.N) (i : S256x1024.Idx) : A_ m c t i
    = Ideal.exp (laB (iblk m c 0 t) (iblk m c 2 t) (iblk m c 3 t) (iblk m c 6 t) i) := by
  pointwise [A_]
theorem T_at (t : Fin cfg0.N) (i : S256x1024.Idx) : T_ m c t i
    = Ideal.tanh (laB (iblk m c 0 t) (iblk m c 2 t) (iblk m c 3 t) (iblk m c 6 t) i) := by
  pointwise [T_]

theorem inp_eq (t : Fin cfg0.N) (p : Fin 256) (k : Fin 1024) :
    inp (iblk m c 0 t) (I_ m c t) (T_ m c t) (ix2 p k)
      = bAt (aP m c) (aWr m c) (abr m c) (aWi m c) (abi m c) (alam m c) ⟨t.val * 256 + p.val, by have := lt64 t; omega⟩ k := by
  have hm := mulKer_eq (la_neg m c t (ix2 p k))
  unfold mulKer at hm
  rw [inp_at, T_at, hm, la_at, bAt, I_, giB_at, piece_i, x_at]

theorem runs (t : Fin cfg0.N) (C : FVec Ideal S8x1024 .f32) (hC : ∀ q k, C (ix2 q k) = H_ m c t 0 k) :
    Runs (iblk m c 0 t) (I_ m c t) (A_ m c t) (T_ m c t) C (H_ m c t) where
  pos i := by
    rw [A_at]
    exact ⟨exp_nonneg _, exp_ne_top (la_neg m c t i)⟩
  step p k := by
    have ht := lt64 t
    rw [inp_eq, A_at, la_at]
    unfold H_
    rw [← add_assoc, hAt_succ _ _ _ _ _ _ _ _ _ (by omega)]
    have e : (⟨t.val / 32 * 8192 + (t.val % 32 * 256 + p.val), by omega⟩ : Fin 16384) = ⟨t.val * 256 + p.val, by omega⟩ :=
      Fin.ext (by simp only; omega)
    rw [e]
  start := hC

theorem zero_start (t : Fin cfg0.N) (h0 : t.val % 32 = 0) (q : Fin 8) (k : Fin 1024) :
    (k0_pay2 : FVec Ideal S8x1024 .f32) (ix2 q k) = H_ m c t 0 k := by
  unfold H_
  simp only [h0, zero_mul, add_zero]
  unfold hAt
  show _ = (0 : EReal)
  pointwise [k0_pay2]

/-- After every point the carried scratch holds the state after the point's last row, in all eight of its rows. -/
theorem carry_val : ∀ (n : ℕ) (h : n < cfg0.N) (q : Fin 8) (k : Fin 1024), (outsAt0 m c n h).2 (ix2 q k) = H_ m c ⟨n, h⟩ 256 k := by
  intro n
  induction n with
  | zero =>
    intro h q k
    rw [out2_A m c ⟨0, h⟩ rfl]
    exact (runs m c ⟨0, h⟩ _ (zero_start m c ⟨0, h⟩ rfl)).carry_at q k
  | succ n ih =>
    intro h q k
    by_cases h0 : (n + 1) % 32 = 0
    · rw [out2_A m c ⟨n + 1, h⟩ h0]
      exact (runs m c ⟨n + 1, h⟩ _ (zero_start m c ⟨n + 1, h⟩ h0)).carry_at q k
    · rw [out2_B m c ⟨n + 1, h⟩ h0]
      refine (runs m c ⟨n + 1, h⟩ _ fun q k => ?_).carry_at q k
      refine (ih (by omega) q k).trans ?_
      unfold H_
      simp only [show n / 32 = (n + 1) / 32 by omega, show n % 32 * 256 + 256 = (n + 1) % 32 * 256 + 0 by omega]

theorem carry_start (t : Fin cfg0.N) (h0 : ¬ t.val % 32 = 0) (q : Fin 8) (k : Fin 1024) :
    (outsAt0 m c (t.val - 1) (by omega)).2 (ix2 q k) = H_ m c t 0 k := by
  refine (carry_val m c (t.val - 1) (by omega) q k).trans ?_
  unfold H_
  simp only [show (t.val - 1) / 32 = t.val / 32 by omega, show (t.val - 1) % 32 * 256 + 256 = t.val % 32 * 256 + 0 by omega]

theorem out_of (t : Fin cfg0.N) (C : FVec Ideal S8x1024 .f32) (hC : ∀ q k, C (ix2 q k) = H_ m c t 0 k) (p : Fin 256) (k : Fin 1024) :
    outB (statesB (iblk m c 0 t) (I_ m c t) (A_ m c t) (T_ m c t) C) (iblk m c 1 t) (iblk m c 7 t) (ix2 p k)
      = outAt (aP m c) (aWr m c) (abr m c) (aWi m c) (abi m c) (alam m c) (aon m c) ⟨t.val * 256 + p.val, by have := lt64 t; omega⟩ k := by
  have ht := lt64 t
  rw [outB_at, outAt, on_at]
  have e : (fun k => yv (statesB (iblk m c 0 t) (I_ m c t) (A_ m c t) (T_ m c t) C (ix2 p k)) (iblk m c 1 t (ix2 p k)))
      = fun k => yv (hAt (aP m c) (aWr m c) (abr m c) (aWi m c) (abi m c) (alam m c) ⟨(t.val * 256 + p.val) / 8192, by omega⟩ k
          ((t.val * 256 + p.val) % 8192 + 1)) (aP m c (ix2 ⟨t.val * 256 + p.val, by omega⟩ ⟨1024 + k.val, by omega⟩)) := by
    funext k
    rw [(runs m c t C hC).states_at, g_at, H_]
    simp only [show (t.val * 256 + p.val) / 8192 = t.val / 32 by omega,
      show (t.val * 256 + p.val) % 8192 + 1 = t.val % 32 * 256 + (p.val + 1) by omega]
  rw [e]

/-- A point's output rows. -/
theorem out_at (t : Fin cfg0.N) (p : Fin 256) (k : Fin 1024) : (outsAt0 m c t.val t.isLt).1 (ix2 p k)
    = outAt (aP m c) (aWr m c) (abr m c) (aWi m c) (abi m c) (alam m c) (aon m c) ⟨t.val * 256 + p.val, by have := lt64 t; omega⟩ k := by
  by_cases h0 : t.val % 32 = 0
  · rw [out1_A m c t h0]
    exact out_of m c t _ (zero_start m c t h0) p k
  · rw [out1_B m c t h0]
    exact out_of m c t _ (carry_start m c t h0) p k

/-- THE RESULT ARRAY, entry by entry. -/
theorem G8_at (n : Fin 16384) (k : Fin 1024) : Cert.KernelIdeal.Value.G8 m c (ix2 n k)
    = outAt (aP m c) (aWr m c) (abr m c) (aWi m c) (abi m c) (alam m c) (aon m c) n k := by
  have hp : Cert.KernelIdeal.Value.pt8Of (ix2 n k) = n.val / 256 := by
    show 1 * (n.val / 256 - 0) + 1 * (k.val / 1024 - 0) = n.val / 256
    omega
  have hb : n.val / 256 < cfg0.N := by
    show n.val / 256 < 64
    omega
  have hl : Cert.KernelIdeal.Value.loc8Of (ix2 n k) = ix2 (⟨n.val % 256, by omega⟩ : Fin 256) k := by
    funext a
    fin_cases a
    · rfl
    · exact Fin.ext (Nat.mod_eq_of_lt k.isLt)
  unfold Cert.KernelIdeal.Value.G8
  simp only [hp, hl]
  rw [dif_pos hb, ← Cert.KernelIdeal.Value.outsAt0_sweep m c _ hb]
  refine (out_at m c ⟨n.val / 256, hb⟩ ⟨n.val % 256, by omega⟩ k).trans ?_
  simp only [show n.val / 256 * 256 + n.val % 256 = n.val by omega]

end Cert.KernelIdeal.Lru
-- ==== Proof.FfnKer.lean ====
/- The dense SwiGLU of the kernel: one grid point's payload read at an index, and the array after the whole grid. -/
module
public import proofs.«01_k».proof.Proof.Gen.FfnIdeal.Value
public import proofs.«01_k».proof.Proof.FfnRef
@[expose] public section
set_option maxRecDepth 16384
noncomputable section
open Idealize.ShloMosaic Idealize.ShloMosaic.TcCoe Idealize.SL.Sem

namespace Cert.FfnIdeal.Swi
open Cert.FfnIdeal Cert.FfnIdeal.Gen Cert.LruMath Cert.FfnRefIdeal.Swi

/-- A point adds the product of its 1024 hidden columns with its rows of the last weight. -/
theorem pay_at (h : Vec Ideal S512x2048 .bf16) (wg wu : Vec Ideal S2048x1024 .bf16) (acc : Vec Ideal S512x2048 .f32)
    (wd : Vec Ideal S1024x2048 .bf16) (p : Fin 512) (q : Fin 2048) :
    k0_pay1 (F := Ideal) h wg wu acc wd (ix2 p q) = acc (ix2 p q)
      + ∑ l : Fin 1024, glu (∑ k : Fin 2048, h (ix2 p k) * wg (ix2 k l)) (∑ k : Fin 2048, h (ix2 p k) * wu (ix2 k l)) * wd (ix2 l q) := by
  pointwise [k0_pay1, glu, sg]
  rfl

/-- Every window's block index at every grid point. -/
theorem idx : ∀ t : Fin cfg0.N, win0_0.index t = ![t.val / 6, 0] ∧ win0_1.index t = ![t.val / 6, 0] ∧ win0_2.index t = ![0, t.val % 6]
    ∧ win0_3.index t = ![0, t.val % 6] ∧ win0_4.index t = ![t.val % 6, 0] ∧ win0_5.index t = ![t.val / 6, 0] := by
  decide +kernel

theorem lt192 (t : Fin cfg0.N) : t.val < 192 := t.isLt

variable (m : (ℓ : Loc nD τ sig) → Buf (Elt Ideal) ℓ) (c : Dev nD)

/-- The arguments. -/
abbrev aH : S16384x2048.Idx → EReal := m ((c : Thread nD τ).loc main_arg0)
@[inherit_doc aH] abbrev aX : S16384x2048.Idx → EReal := m ((c : Thread nD τ).loc main_arg1)
@[inherit_doc aH] abbrev aWg : S2048x6144.Idx → EReal := m ((c : Thread nD τ).loc main_arg2)
@[inherit_doc aH] abbrev aWu : S2048x6144.Idx → EReal := m ((c : Thread nD τ).loc main_arg3)
@[inherit_doc aH] abbrev aWd : S6144x2048.Idx → EReal := m ((c : Thread nD τ).loc main_arg4)

theorem h_at (t : Fin cfg0.N) (p : Fin 512) (k : Fin 2048) :
    iblk m c 0 t (ix2 p k) = aH m c (ix2 ⟨t.val / 6 * 512 + p.val, by have := lt192 t; omega⟩ k) := by
  blk_point [iblk, V, idx t]
theorem x_at (t : Fin cfg0.N) (p : Fin 512) (k : Fin 2048) :
    iblk m c 1 t (ix2 p k) = aX m c (ix2 ⟨t.val / 6 * 512 + p.val, by have := lt192 t; omega⟩ k) := by
  blk_point [iblk, V, idx t]
theorem wg_at (t : Fin cfg0.N) (k : Fin 2048) (l : Fin 1024) :
    iblk m c 2 t (ix2 k l) = aWg m c (ix2 k ⟨t.val % 6 * 1024 + l.val, by omega⟩) := by
  blk_point [iblk, V, idx t]
theorem wu_at (t : Fin cfg0.N) (k : Fin 2048) (l : Fin 1024) :
    iblk m c 3 t (ix2 k l) = aWu m c (ix2 k ⟨t.val % 6 * 1024 + l.val, by omega⟩) := by
  blk_point [iblk, V, idx t]
theorem wd_at (t : Fin cfg0.N) (l : Fin 1024) (q : Fin 2048) :
    iblk m c 4 t (ix2 l q) = aWd m c (ix2 ⟨t.val % 6 * 1024 + l.val, by omega⟩ q) := by
  blk_point [iblk, V, idx t]

/-- Row `n`'s hidden unit `l` times its weight toward column `q`. -/
def unit (n : Fin 16384) (q : Fin 2048) (l : Fin 6144) : EReal :=
  glu (∑ k : Fin 2048, aH m c (ix2 n k) * aWg m c (ix2 k l)) (∑ k : Fin 2048, aH m c (ix2 n k) * aWu m c (ix2 k l)) * aWd m c (ix2 l q)

/-- What a point of slice `s` of row block `b` adds at a place of the block. -/
def part (b : Fin 32) (s : ℕ) (i : S512x2048.Idx) : EReal :=
  if h : s < 6 then ∑ l : Fin 1024, unit m c ⟨b.val * 512 + (i 0).val, by have := b.isLt; have : (i 0).val < 512 := (i 0).isLt; omega⟩ (i 1) ⟨s * 1024 + l.val, by omega⟩ else 0

theorem pay_point (b : Fin 32) (s : Fin 6) (h : 6 * b.val + s.val < cfg0.N) (acc : Vec Ideal S512x2048 .f32) (i : S512x2048.Idx) :
    k0_pay1 (F := Ideal) (iblk m c 0 ⟨_, h⟩) (iblk m c 2 ⟨_, h⟩) (iblk m c 3 ⟨_, h⟩) acc (iblk m c 4 ⟨_, h⟩) i
      = acc i + part m c b s.val i := by
  obtain ⟨p, q, rfl⟩ : ∃ (p : Fin 512) (q : Fin 2048), i = ix2 p q := ⟨i 0, i 1, by idx_vars i⟩
  refine (pay_at _ _ _ _ _ p q).trans ?_
  refine congrArg (fun z : EReal => acc (ix2 p q) + z) ?_
  unfold part
  rw [dif_pos s.isLt]
  refine Finset.sum_congr rfl fun l _ => ?_
  have hd : (6 * b.val + s.val) / 6 = b.val := by omega
  have hm : (6 * b.val + s.val) % 6 = s.val := by omega
  unfold unit
  simp only [h_at, wg_at, wu_at, wd_at, hd, hm]
  rfl

/-- The kernel's array, entry by entry. -/
theorem G5_at (n : Fin 16384) (q : Fin 2048) : Cert.FfnIdeal.Value.G5 m c (ix2 n q)
    = aX m c (ix2 n q) + ∑ l : Fin 6144, unit m c n q l := by
  have hr : Cert.FfnIdeal.Value.run5Of (ix2 n q) = n.val / 512 := by
    show 1 * (n.val / 512 - 0) + 1 * (q.val / 2048 - 0) = n.val / 512
    omega
  have hb : 6 * (n.val / 512) + 5 < cfg0.N := by
    show 6 * (n.val / 512) + 5 < 192
    omega
  have hl : Cert.FfnIdeal.Value.loc5Of (ix2 n q) = ix2 (⟨n.val % 512, by omega⟩ : Fin 512) q := by
    funext a
    fin_cases a
    · rfl
    · exact Fin.ext (Nat.mod_eq_of_lt q.isLt)
  have hn : n.val / 512 < 32 := by omega
  have hb' : 6 * Cert.FfnIdeal.Value.run5Of (ix2 n q) + 5 < cfg0.N := by rw [hr]; exact hb
  unfold Cert.FfnIdeal.Value.G5
  rw [dif_pos hb', hl]
  generalize Cert.FfnIdeal.Value.run5Of (ix2 n q) = b at hb' hr ⊢
  subst hr
  refine (Pipeline.accAt_add_apply (β := EReal) _ _ (iblk m c 1 ⟨6 * (n.val / 512), by omega⟩)
    (fun k i => part m c ⟨n.val / 512, hn⟩ (k - 6 * (n.val / 512)) i) _ 5 ?_ ?_ 5 le_rfl hb _).trans ?_
  · intro h i
    refine (pay_point m c ⟨n.val / 512, hn⟩ 0 h _ i).trans ?_
    simp
  · intro k h acc i h1 h2
    obtain ⟨s, rfl⟩ : ∃ s : Fin 6, k = 6 * (n.val / 512) + s.val := ⟨⟨k - 6 * (n.val / 512), by omega⟩, by simp; omega⟩
    refine (pay_point m c ⟨n.val / 512, hn⟩ s h acc i).trans ?_
    simp
  · rw [Finset.sum_range]
    refine congrArg₂ (fun a b : EReal => a + b) ?_ ?_
    · refine (x_at m c _ _ _).trans ?_
      refine congrArg (aX m c) (congrArg (fun z => ix2 z q) (Fin.ext ?_))
      show 6 * (n.val / 512) / 6 * 512 + n.val % 512 = n.val
      omega
    · refine Eq.trans ?_ (Fin.sum_mul_add_fin 6 1024 (unit m c n q) rfl)
      refine Finset.sum_congr rfl fun s _ => ?_
      unfold part
      rw [dif_pos (by omega)]
      refine Finset.sum_congr rfl fun l _ => ?_
      refine congrArg₂ (fun a b => unit m c a q b) (Fin.ext ?_) (Fin.ext ?_)
      · show n.val / 512 * 512 + n.val % 512 = n.val
        omega
      · show (6 * (n.val / 512) + s.val - 6 * (n.val / 512)) * 1024 + l.val = s.val * 1024 + l.val
        rw [Nat.add_sub_cancel_left]

end Cert.FfnIdeal.Swi
end
-- ==== Proof.OutProjRef.lean ====
/- The output projection of the reference with the residual and the norm after it, read at an index. -/
module
public import proofs.«01_k».proof.Proof.Gen.OutProjRefIdeal.Run
public import proofs.«01_k».proof.Proof.LruMath
@[expose] public section
set_option maxRecDepth 16384
noncomputable section
open Idealize.ShloMosaic Idealize.ShloMosaic.TcCoe Idealize.SL.Sem

namespace Cert.OutProjRefIdeal.Mix
open Cert.OutProjRefIdeal Cert.OutProjRefIdeal.Gen Cert.LruMath

/-- Entry `q` of a row `f` of 2048 entries after the root-mean-square norm with gain `g`. -/
def normAt (f : Fin 2048 → EReal) (g : EReal) (q : Fin 2048) : EReal :=
  f q * Ideal.rsqrt (Ideal.div (∑ k : Fin 2048, f k * f k) (Ideal.ofBits .f32 0x45000000#32) + Ideal.ofBits .f32 0x358637BD#32) * g

/-- The residual row after the projection: both head groups' rows against their halves of the weight. -/
def mixAt (A B : S16384x1024.Idx → EReal) (W : S2x2048x2048.Idx → EReal) (X : S16384x2048.Idx → EReal) (n : Fin 16384) (q : Fin 2048) : EReal :=
  X (ix2 n q) + ∑ k : Fin 1024, A (ix2 n k) * W (ix3 0 ⟨k.val, by omega⟩ q) + ∑ k : Fin 1024, B (ix2 n k) * W (ix3 0 ⟨1024 + k.val, by omega⟩ q)

/-- The reference's first result, as its run states it. -/
def resX (A B : FVec Ideal S16384x1024 .bf16) (W : FVec Ideal S2x2048x2048 .f32) (X : FVec Ideal S16384x2048 .f32) : FVec Ideal S16384x2048 .f32 :=
  addf X (Host.dotGeneral (φ₁ := .f32) (φ₂ := .f32) dot_S16384x2048_S2048x2048_S16384x2048_1_0_0_1_n_n none (concatenate S16384x2048 1 [⟨S16384x1024, (extf .f32 A bitsLt_bf16_f32)⟩, ⟨S16384x1024, (extf .f32 B bitsLt_bf16_f32)⟩] concatenates_S16384x1024_S16384x1024_S16384x2048_d1) (shapeCast (α := EReal) S2048x2048 (extractStridedSlice S1x2048x2048 ![0, 0, 0] W slices_S2x2048x2048_S1x2048x2048_0_0_0) shapeCasts_S1x2048x2048_S2048x2048 : FVec Ideal S2048x2048 .f32))

/-- The reference's second result over its first. -/
def resH (x : FVec Ideal S16384x2048 .f32) (g : FVec Ideal S2048 .f32) : FVec Ideal S16384x2048 .bf16 :=
  truncf .bf16 (mulf (mulf x (broadcastInDim S16384x2048 ![0, 1] bcast_S16384x1_S16384x2048_0_1 (Host.rsqrt (addf (Host.divf (broadcastInDim S16384x1 ![0] bcast_S16384_S16384x1_0 (Host.reduceAdd (mulf x x) (constant S_ .f32 0x00000000#32) reducesTo_S16384x2048_S16384_d1 h_S_)) (broadcastInDim S16384x1 ![] bcast_S_S16384x1 (constant S_ .f32 0x45000000#32))) (broadcastInDim S16384x1 ![] bcast_S_S16384x1 (constant S_ .f32 0x358637BD#32)))))) (broadcastInDim S16384x2048 ![0, 1] bcast_S1x2048_S16384x2048_0_1 (broadcastInDim S1x2048 ![1] bcast_S2048_S1x2048_1 g))) bitsLt_bf16_f32

theorem resX_at (A B : FVec Ideal S16384x1024 .bf16) (W : FVec Ideal S2x2048x2048 .f32) (X : FVec Ideal S16384x2048 .f32) (n : Fin 16384) (q : Fin 2048) :
    resX A B W X (ix2 n q) = mixAt A B W X n q := by
  pointwise [resX, mixAt]
  exact (add_assoc (_ : EReal) _ _).symm

theorem resH_at (x : FVec Ideal S16384x2048 .f32) (g : FVec Ideal S2048 .f32) (n : Fin 16384) (q : Fin 2048) :
    resH x g (ix2 n q) = normAt (fun k => x (ix2 n k)) (g (ix1 q)) q := by
  pointwise [resH, normAt]

end Cert.OutProjRefIdeal.Mix
end
-- ==== Proof.OutProjKer.lean ====
/- The output projection of the kernel: what a grid point stores, and the two arrays after the whole grid. -/
module
public import proofs.«01_k».proof.Proof.Gen.OutProjIdeal.Value
public import proofs.«01_k».proof.Proof.OutProjRef
@[expose] public section
set_option maxRecDepth 16384
noncomputable section
open Idealize.ShloMosaic Idealize.ShloMosaic.TcCoe Idealize.SL.Sem

namespace Cert.OutProjIdeal.Mix
open Cert.OutProjIdeal Cert.OutProjIdeal.Gen Cert.LruMath Cert.OutProjRefIdeal.Mix

/-- Every window's block index at every grid point. -/
theorem idx : ∀ t : Fin cfg0.N, win0_0.index t = ![t.val, 0] ∧ win0_1.index t = ![t.val, 0] ∧ win0_2.index t = ![0, 0, 0]
    ∧ win0_3.index t = ![t.val, 0] ∧ win0_4.index t = ![0, 0] ∧ win0_5.index t = ![t.val, 0] ∧ win0_6.index t = ![t.val, 0] := by
  decide +kernel

theorem lt32 (t : Fin cfg0.N) : t.val < 32 := t.isLt

variable (m : (ℓ : Loc nD τ sig) → Buf (Elt Ideal) ℓ) (c : Dev nD)

/-- The arguments. -/
abbrev aA : S16384x1024.Idx → EReal := m ((c : Thread nD τ).loc main_arg0)
@[inherit_doc aA] abbrev aB : S16384x1024.Idx → EReal := m ((c : Thread nD τ).loc main_arg1)
@[inherit_doc aA] abbrev aW : S2x2048x2048.Idx → EReal := m ((c : Thread nD τ).loc main_arg2)
@[inherit_doc aA] abbrev aX : S16384x2048.Idx → EReal := m ((c : Thread nD τ).loc main_arg3)
@[inherit_doc aA] abbrev aG : S2048.Idx → EReal := m ((c : Thread nD τ).loc main_arg4)

/-- What a grid point stores in its rows of the first array, over its input blocks. -/
def blkX (t : Fin cfg0.N) : FVec Ideal S512x2048 .f32 :=
  k0_pay1 (F := Ideal) (iblk m c 3 t) (iblk m c 0 t) (View.ld (iblk m c 2 t) r0_2) (iblk m c 1 t) (View.ld (iblk m c 2 t) r0_3)

theorem blkX_at (t : Fin cfg0.N) (p : Fin 512) (q : Fin 2048) :
    blkX m c t (ix2 p q) = mixAt (aA m c) (aB m c) (aW m c) (aX m c) ⟨t.val * 512 + p.val, by have := lt32 t; omega⟩ q := by
  pointwise [blkX, k0_pay1, mixAt]
  blk_point [iblk, V, idx t]

theorem out5 (t : Fin cfg0.N) : out0_5 (F := Ideal) (iblk m c 0 t) (iblk m c 1 t) (iblk m c 2 t) (iblk m c 3 t) (iblk m c 4 t) = blkX m c t := by
  frame_out
  rfl

/-- What a grid point stores in its rows of the second array. -/
def blkH (t : Fin cfg0.N) : FVec Ideal S512x2048 .bf16 :=
  k0_pay2 (F := Ideal) (iblk m c 3 t) (iblk m c 0 t) (View.ld (iblk m c 2 t) r0_2) (iblk m c 1 t) (View.ld (iblk m c 2 t) r0_3) (iblk m c 4 t)

theorem out6 (t : Fin cfg0.N) : out0_6 (F := Ideal) (iblk m c 0 t) (iblk m c 1 t) (iblk m c 2 t) (iblk m c 3 t) (iblk m c 4 t) = blkH m c t := by
  frame_out
  rfl

/-- The norm of a row block, over the block of residual rows `x`. -/
def normOf (x : FVec Ideal S512x2048 .f32) (g : Vec Ideal S1x2048 .f32) : FVec Ideal S512x2048 .bf16 :=
  truncf .bf16 (mulf (mulf x (broadcastTo S512x2048 (rsqrt (addf (divf (shapeCast S512x1 (multiReduction .add [1] S512 (mulf x x) 0x00000000#32 reduces_S512x2048_S512 (.inl rfl) rfl) shapeCasts_S512_S512x1) (broadcast S512x1 (Scalar.ofBits .f32 0x45000000#32))) (broadcast S512x1 (Scalar.ofBits .f32 0x358637BD#32)))) broadcasts_S512x1_S512x2048)) (broadcastTo S512x2048 (shapeCast S1x2048 g shapeCasts_S1x2048_S1x2048) broadcasts_S1x2048_S512x2048)) bitsLt_bf16_f32

theorem normOf_at (x : FVec Ideal S512x2048 .f32) (g : Vec Ideal S1x2048 .f32) (p : Fin 512) (q : Fin 2048) :
    normOf x g (ix2 p q) = normAt (fun k => x (ix2 p k)) (g (ix2 0 q)) q := by
  pointwise [normOf, normAt]

theorem gain_at (t : Fin cfg0.N) (q : Fin 2048) : iblk m c 4 t (ix2 0 q) = aG m c (ix1 q) := by
  blk_point [iblk, V, idx t]

/-- The normalised row, in the arguments. -/
def hAt (n : Fin 16384) (q : Fin 2048) : EReal :=
  normAt (mixAt (aA m c) (aB m c) (aW m c) (aX m c) n) (aG m c (ix1 q)) q

theorem blkH_at (t : Fin cfg0.N) (p : Fin 512) (q : Fin 2048) :
    blkH m c t (ix2 p q) = hAt m c ⟨t.val * 512 + p.val, by have := lt32 t; omega⟩ q := by
  refine (normOf_at (blkX m c t) (iblk m c 4 t) p q).trans ?_
  unfold hAt
  rw [gain_at]
  exact congrArg (fun f => normAt f _ q) (funext fun k => blkX_at m c t p k)

/-- The first array after the whole grid. -/
theorem final5 : (dats m 0 c).arrAt 5 (cfgs 0).N
    = fun i : S16384x2048.Idx => mixAt (aA m c) (aB m c) (aW m c) (aX m c) (i 0) (i 1) := by
  refine (dats m 0 c).arrAt_eq_of_covers 5 _ (by decide +kernel) fun t _ y => ?_
  blk_simp
  rw [after0_5, out5]
  obtain ⟨p, q, rfl⟩ : ∃ (p : Fin 512) (q : Fin 2048), y = ix2 p q := ⟨y 0, y 1, by idx_vars y⟩
  refine (blkX_at m c t p q).trans ?_
  refine congrArg₂ (mixAt (aA m c) (aB m c) (aW m c) (aX m c)) (Fin.ext ?_) (Fin.ext ?_)
  · blk_simp [idx t]
  · blk_simp [idx t]

/-- The second array after the whole grid. -/
theorem final6 : (dats m 0 c).arrAt 6 (cfgs 0).N = fun i : S16384x2048.Idx => hAt m c (i 0) (i 1) := by
  refine (dats m 0 c).arrAt_eq_of_covers 6 _ (by decide +kernel) fun t _ y => ?_
  blk_simp
  rw [after0_6, out6]
  obtain ⟨p, q, rfl⟩ : ∃ (p : Fin 512) (q : Fin 2048), y = ix2 p q := ⟨y 0, y 1, by idx_vars y⟩
  refine (blkH_at m c t p q).trans ?_
  refine congrArg₂ (hAt m c) (Fin.ext ?_) (Fin.ext ?_)
  · blk_simp [idx t]
  · blk_simp [idx t]

end Cert.OutProjIdeal.Mix
end
-- ==== Proof.InProjRef.lean ====
/- The reference's input projection with its causal convolutions, read at an index. -/
module
public import proofs.«01_k».proof.Proof.Gen.InProjRefIdeal.Run
public import proofs.«01_k».proof.Proof.OutProjRef
@[expose] public section
set_option maxRecDepth 16384
noncomputable section
open Idealize.ShloMosaic Idealize.ShloMosaic.TcCoe Idealize.SL.Sem

namespace Cert.InProjRefIdeal.Cnv
open Cert.InProjRefIdeal Cert.InProjRefIdeal.Gen Cert.LruMath
open Cert.OutProjRefIdeal.Mix (normAt)

/-- Entry `j` of row `n` of the projection of the normalised input. -/
def projAt (x : S16384x2048.Idx → EReal) (g : S2048.Idx → EReal) (w : S2x2048x6160.Idx → EReal) (n : Fin 16384) (j : Fin 6160) : EReal :=
  ∑ k : Fin 2048, normAt (fun l => x (ix2 n l)) (g (ix1 k)) k * w (ix3 0 k j)

/-- The entry `d` rows before row `s` of a sequence, zero before its start. -/
def past (f : Fin 8192 → EReal) (s : Fin 8192) (d : ℕ) : EReal := if h : s.val < d then 0 else f ⟨s.val - d, by omega⟩

/-- The causal convolution of width four at row `s`. -/
def convAt (f : Fin 8192 → EReal) (w : Fin 4 → EReal) (s : Fin 8192) : EReal :=
  past f s 3 * w 0 + past f s 2 * w 1 + past f s 1 * w 2 + f s * w 3

/-- Column `j` of sequence `b` of the projection. -/
def colAt (x : S16384x2048.Idx → EReal) (g : S2048.Idx → EReal) (w : S2x2048x6160.Idx → EReal) (b : Fin 2) (j : Fin 6160) (s : Fin 8192) : EReal :=
  projAt x g w ⟨b.val * 8192 + s.val, by omega⟩ j

/-- The main projected array over the projection's columns `f`: convolved columns with their bias, plain columns, convolved columns through the sigmoid gate, plain columns. -/
def mainOf (f : Fin 2 → Fin 6160 → Fin 8192 → EReal) (cl : S4x1024.Idx → EReal) (bl : S1024.Idx → EReal)
    (cq : S4x3072.Idx → EReal) (b : Fin 2) (s : Fin 8192) (j : Fin 6144) : EReal :=
  if h : j.val < 1024 then convAt (f b ⟨j.val, by omega⟩) (fun i => cl (ix2 i ⟨j.val, h⟩)) s + bl (ix1 ⟨j.val, h⟩)
  else if h2 : j.val < 2048 then f b ⟨j.val, by omega⟩ s
  else if h3 : j.val < 5120 then
    convAt (f b ⟨j.val, by omega⟩) (fun i => cq (ix2 i ⟨j.val - 2048, by omega⟩)) s * sg (convAt (f b ⟨j.val, by omega⟩) (fun i => cq (ix2 i ⟨j.val - 2048, by omega⟩)) s)
  else f b ⟨j.val, by omega⟩ s

/-- The second array: the last sixteen columns of the projection, then zeros. -/
def restAt (x : S16384x2048.Idx → EReal) (g : S2048.Idx → EReal) (w : S2x2048x6160.Idx → EReal) (n : Fin 16384) (j : Fin 128) : EReal :=
  if h : j.val < 16 then projAt x g w n ⟨6144 + j.val, by omega⟩ else 0

def hidden (x : FVec Ideal S16384x2048 .f32) (g : FVec Ideal S2048 .f32) : FVec Ideal S16384x2048 .f32 :=
  mulf (mulf x (broadcastInDim S16384x2048 ![0, 1] bcast_S16384x1_S16384x2048_0_1 (Host.rsqrt (addf (Host.divf (broadcastInDim S16384x1 ![0] bcast_S16384_S16384x1_0 (Host.reduceAdd (mulf x x) (constant S_ .f32 0x00000000#32) reducesTo_S16384x2048_S16384_d1 h_S_)) (broadcastInDim S16384x1 ![] bcast_S_S16384x1 (constant S_ .f32 0x45000000#32))) (broadcastInDim S16384x1 ![] bcast_S_S16384x1 (constant S_ .f32 0x358637BD#32)))))) (broadcastInDim S16384x2048 ![0, 1] bcast_S1x2048_S16384x2048_0_1 (broadcastInDim S1x2048 ![1] bcast_S2048_S1x2048_1 g))

theorem hidden_at (x : FVec Ideal S16384x2048 .f32) (g : FVec Ideal S2048 .f32) (n : Fin 16384) (k : Fin 2048) :
    hidden x g (ix2 n k) = normAt (fun l => x (ix2 n l)) (g (ix1 k)) k := by
  pointwise [hidden, normAt]

/-- The whole projection, in its sequences. -/
def projected (h : FVec Ideal S16384x2048 .f32) (w : FVec Ideal S2x2048x6160 .f32) : FVec Ideal S2x8192x6160 .f32 :=
  shapeCast (α := EReal) S2x8192x6160 (Host.dotGeneral (φ₁ := .f32) (φ₂ := .f32) dot_S16384x2048_S2048x6160_S16384x6160_1_0_0_1_n_n none h (shapeCast (α := EReal) S2048x6160 (extractStridedSlice S1x2048x6160 ![0, 0, 0] w slices_S2x2048x6160_S1x2048x6160_0_0_0) shapeCasts_S1x2048x6160_S2048x6160 : FVec Ideal S2048x6160 .f32)) shapeCasts_S16384x6160_S2x8192x6160

theorem projected_at (h : FVec Ideal S16384x2048 .f32) (w : FVec Ideal S2x2048x6160 .f32) (b : Fin 2) (s : Fin 8192) (j : Fin 6160) :
    projected h w (ix3 b s j) = ∑ k : Fin 2048, h (ix2 ⟨b.val * 8192 + s.val, by omega⟩ k) * w (ix3 0 k j) := by
  pointwise [projected]

theorem projected_col (x : FVec Ideal S16384x2048 .f32) (g : FVec Ideal S2048 .f32) (w : FVec Ideal S2x2048x6160 .f32) (b : Fin 2) (s : Fin 8192) (j : Fin 6160) :
    projected (hidden x g) w (ix3 b s j) = colAt x g w b j s := by
  rw [projected_at]
  exact Finset.sum_congr rfl fun k _ => congrArg (· * w (ix3 0 k j)) (hidden_at x g _ k)

theorem int_zero : (FloatOps.sitofp (F := Ideal) FTy.f32 (0#32 : BitVec 32) : EReal) = 0 := by
  show ((((0#32 : BitVec 32).toInt : ℝ) : EReal)) = 0
  simp

theorem past_zero (f : Fin 8192 → EReal) (s : Fin 8192) : past f s 0 = f s := by
  unfold past
  rw [dif_neg (by omega)]
  rfl

/-- Three rows of zeros before each sequence. -/
def padded1024 (P : FVec Ideal S2x8192x1024 .f32) : FVec Ideal S2x8195x1024 .f32 :=
  pad S2x8195x1024 ![0, 3, 0] ![0, 0, 0] ![0, 0, 0] P (sitofp .f32 (constantI S_ 32 0#32)) pads_S2x8192x1024_S2x8195x1024_000_300_000 h_S_

theorem padded1024_at (P : FVec Ideal S2x8192x1024 .f32) (b : Fin 2) (s : Fin 8192) (d : ℕ) (r : Fin 8195) (hr : r.val + d = s.val + 3) (j : Fin 1024) :
    padded1024 P (ix3 b r j) = past (fun r => P (ix3 b r j)) s d := by
  pointwise [padded1024, past]
  have hs := s.isLt
  have hr' := r.isLt
  by_cases h : s.val < d
  · rw [dif_pos h, dif_neg (by omega)]
    exact int_zero
  · rw [dif_neg h, dif_pos (by omega)]
    exact congrArg P (congrArg (fun r => ix3 b r j) (Fin.ext (by simp only; omega)))

/-- The reference's convolution of these columns. -/
def conv1024 (P : FVec Ideal S2x8192x1024 .f32) (C : FVec Ideal S4x1024 .f32) : FVec Ideal S2x8192x1024 .f32 :=
  addf (addf (addf (mulf (extractStridedSlice S2x8192x1024 ![0, 0, 0] (padded1024 P) slices_S2x8195x1024_S2x8192x1024_0_0_0) (broadcastInDim S2x8192x1024 ![0, 1, 2] bcast_S1x1x1024_S2x8192x1024_0_1_2 (broadcastInDim S1x1x1024 ![2] bcast_S1024_S1x1x1024_2 (shapeCast (α := EReal) S1024 (extractStridedSlice S1x1024 ![0, 0] C slices_S4x1024_S1x1024_0_0) shapeCasts_S1x1024_S1024 : FVec Ideal S1024 .f32)))) (mulf (extractStridedSlice S2x8192x1024 ![0, 1, 0] (padded1024 P) slices_S2x8195x1024_S2x8192x1024_0_1_0) (broadcastInDim S2x8192x1024 ![0, 1, 2] bcast_S1x1x1024_S2x8192x1024_0_1_2 (broadcastInDim S1x1x1024 ![2] bcast_S1024_S1x1x1024_2 (shapeCast (α := EReal) S1024 (extractStridedSlice S1x1024 ![1, 0] C slices_S4x1024_S1x1024_1_0) shapeCasts_S1x1024_S1024 : FVec Ideal S1024 .f32))))) (mulf (extractStridedSlice S2x8192x1024 ![0, 2, 0] (padded1024 P) slices_S2x8195x1024_S2x8192x1024_0_2_0) (broadcastInDim S2x8192x1024 ![0, 1, 2] bcast_S1x1x1024_S2x8192x1024_0_1_2 (broadcastInDim S1x1x1024 ![2] bcast_S1024_S1x1x1024_2 (shapeCast (α := EReal) S1024 (extractStridedSlice S1x1024 ![2, 0] C slices_S4x1024_S1x1024_2_0) shapeCasts_S1x1024_S1024 : FVec Ideal S1024 .f32))))) (mulf (extractStridedSlice S2x8192x1024 ![0, 3, 0] (padded1024 P) slices_S2x8195x1024_S2x8192x1024_0_3_0) (broadcastInDim S2x8192x1024 ![0, 1, 2] bcast_S1x1x1024_S2x8192x1024_0_1_2 (broadcastInDim S1x1x1024 ![2] bcast_S1024_S1x1x1024_2 (shapeCast (α := EReal) S1024 (extractStridedSlice S1x1024 ![3, 0] C slices_S4x1024_S1x1024_3_0) shapeCasts_S1x1024_S1024 : FVec Ideal S1024 .f32))))

theorem conv1024_at (P : FVec Ideal S2x8192x1024 .f32) (C : FVec Ideal S4x1024 .f32) (b : Fin 2) (s : Fin 8192) (j : Fin 1024) :
    conv1024 P C (ix3 b s j) = convAt (fun r => P (ix3 b r j)) (fun i => C (ix2 i j)) s := by
  pointwise [conv1024]
  rw [padded1024_at P b s 3 _ (by simp only), padded1024_at P b s 2 _ (by simp only; omega), padded1024_at P b s 1 _ (by simp only; omega),
    padded1024_at P b s 0 _ (by simp only; omega), past_zero]
  rfl

/-- Three rows of zeros before each sequence. -/
def padded3072 (P : FVec Ideal S2x8192x3072 .f32) : FVec Ideal S2x8195x3072 .f32 :=
  pad S2x8195x3072 ![0, 3, 0] ![0, 0, 0] ![0, 0, 0] P (sitofp .f32 (constantI S_ 32 0#32)) pads_S2x8192x3072_S2x8195x3072_000_300_000 h_S_

theorem padded3072_at (P : FVec Ideal S2x8192x3072 .f32) (b : Fin 2) (s : Fin 8192) (d : ℕ) (r : Fin 8195) (hr : r.val + d = s.val + 3) (j : Fin 3072) :
    padded3072 P (ix3 b r j) = past (fun r => P (ix3 b r j)) s d := by
  pointwise [padded3072, past]
  have hs := s.isLt
  have hr' := r.isLt
  by_cases h : s.val < d
  · rw [dif_pos h, dif_neg (by omega)]
    exact int_zero
  · rw [dif_neg h, dif_pos (by omega)]
    exact congrArg P (congrArg (fun r => ix3 b r j) (Fin.ext (by simp only; omega)))

/-- The reference's convolution of these columns. -/
def conv3072 (P : FVec Ideal S2x8192x3072 .f32) (C : FVec Ideal S4x3072 .f32) : FVec Ideal S2x8192x3072 .f32 :=
  addf (addf (addf (mulf (extractStridedSlice S2x8192x3072 ![0, 0, 0] (padded3072 P) slices_S2x8195x3072_S2x8192x3072_0_0_0) (broadcastInDim S2x8192x3072 ![0, 1, 2] bcast_S1x1x3072_S2x8192x3072_0_1_2 (broadcastInDim S1x1x3072 ![2] bcast_S3072_S1x1x3072_2 (shapeCast (α := EReal) S3072 (extractStridedSlice S1x3072 ![0, 0] C slices_S4x3072_S1x3072_0_0) shapeCasts_S1x3072_S3072 : FVec Ideal S3072 .f32)))) (mulf (extractStridedSlice S2x8192x3072 ![0, 1, 0] (padded3072 P) slices_S2x8195x3072_S2x8192x3072_0_1_0) (broadcastInDim S2x8192x3072 ![0, 1, 2] bcast_S1x1x3072_S2x8192x3072_0_1_2 (broadcastInDim S1x1x3072 ![2] bcast_S3072_S1x1x3072_2 (shapeCast (α := EReal) S3072 (extractStridedSlice S1x3072 ![1, 0] C slices_S4x3072_S1x3072_1_0) shapeCasts_S1x3072_S3072 : FVec Ideal S3072 .f32))))) (mulf (extractStridedSlice S2x8192x3072 ![0, 2, 0] (padded3072 P) slices_S2x8195x3072_S2x8192x3072_0_2_0) (broadcastInDim S2x8192x3072 ![0, 1, 2] bcast_S1x1x3072_S2x8192x3072_0_1_2 (broadcastInDim S1x1x3072 ![2] bcast_S3072_S1x1x3072_2 (shapeCast (α := EReal) S3072 (extractStridedSlice S1x3072 ![2, 0] C slices_S4x3072_S1x3072_2_0) shapeCasts_S1x3072_S3072 : FVec Ideal S3072 .f32))))) (mulf (extractStridedSlice S2x8192x3072 ![0, 3, 0] (padded3072 P) slices_S2x8195x3072_S2x8192x3072_0_3_0) (broadcastInDim S2x8192x3072 ![0, 1, 2] bcast_S1x1x3072_S2x8192x3072_0_1_2 (broadcastInDim S1x1x3072 ![2] bcast_S3072_S1x1x3072_2 (shapeCast (α := EReal) S3072 (extractStridedSlice S1x3072 ![3, 0] C slices_S4x3072_S1x3072_3_0) shapeCasts_S1x3072_S3072 : FVec Ideal S3072 .f32))))

theorem conv3072_at (P : FVec Ideal S2x8192x3072 .f32) (C : FVec Ideal S4x3072 .f32) (b : Fin 2) (s : Fin 8192) (j : Fin 3072) :
    conv3072 P C (ix3 b s j) = convAt (fun r => P (ix3 b r j)) (fun i => C (ix2 i j)) s := by
  pointwise [conv3072]
  rw [padded3072_at P b s 3 _ (by simp only), padded3072_at P b s 2 _ (by simp only; omega), padded3072_at P b s 1 _ (by simp only; omega),
    padded3072_at P b s 0 _ (by simp only; omega), past_zero]
  rfl

/-- The reference's first result over the projection. -/
def joined (P : FVec Ideal S2x8192x6160 .f32) (cl : FVec Ideal S4x1024 .f32) (bl : FVec Ideal S1024 .f32) (cq : FVec Ideal S4x3072 .f32) : FVec Ideal S2x8192x6144 .f32 :=
  concatenate S2x8192x6144 2 [⟨S2x8192x1024, (addf (conv1024 (extractStridedSlice S2x8192x1024 ![0, 0, 0] P slices_S2x8192x6160_S2x8192x1024_0_0_0) cl) (broadcastInDim S2x8192x1024 ![0, 1, 2] bcast_S1x1x1024_S2x8192x1024_0_1_2 (broadcastInDim S1x1x1024 ![2] bcast_S1024_S1x1x1024_2 bl)) : FVec Ideal S2x8192x1024 .f32)⟩,
    ⟨S2x8192x1024, (extractStridedSlice S2x8192x1024 ![0, 0, 1024] P slices_S2x8192x6160_S2x8192x1024_0_0_1024 : FVec Ideal S2x8192x1024 .f32)⟩,
    ⟨S2x8192x3072, (mulf (conv3072 (extractStridedSlice S2x8192x3072 ![0, 0, 2048] P slices_S2x8192x6160_S2x8192x3072_0_0_2048) cq) (Host.divf (broadcastInDim S2x8192x3072 ![] bcast_S_S2x8192x3072 (constant S_ .f32 0x3F800000#32)) (addf (broadcastInDim S2x8192x3072 ![] bcast_S_S2x8192x3072 (constant S_ .f32 0x3F800000#32)) (Host.exp (Host.negf (conv3072 (extractStridedSlice S2x8192x3072 ![0, 0, 2048] P slices_S2x8192x6160_S2x8192x3072_0_0_2048) cq))))) : FVec Ideal S2x8192x3072 .f32)⟩,
    ⟨S2x8192x1024, (extractStridedSlice S2x8192x1024 ![0, 0, 5120] P slices_S2x8192x6160_S2x8192x1024_0_0_5120 : FVec Ideal S2x8192x1024 .f32)⟩] concatenates_S2x8192x1024_S2x8192x1024_S2x8192x3072_S2x8192x1024_S2x8192x6144_d2

theorem first_at (P : FVec Ideal S2x8192x6160 .f32) (b : Fin 2) (s : Fin 8192) (j : Fin 1024) :
    extractStridedSlice S2x8192x1024 ![0, 0, 0] P slices_S2x8192x6160_S2x8192x1024_0_0_0 (ix3 b s j) = P (ix3 b s ⟨j.val, by omega⟩) := by
  pointwise []
theorem third_at (P : FVec Ideal S2x8192x6160 .f32) (b : Fin 2) (s : Fin 8192) (j : Fin 3072) :
    extractStridedSlice S2x8192x3072 ![0, 0, 2048] P slices_S2x8192x6160_S2x8192x3072_0_0_2048 (ix3 b s j) = P (ix3 b s ⟨2048 + j.val, by omega⟩) := by
  pointwise []

theorem joined_at (P : FVec Ideal S2x8192x6160 .f32) (cl : FVec Ideal S4x1024 .f32) (bl : FVec Ideal S1024 .f32) (cq : FVec Ideal S4x3072 .f32)
    (b : Fin 2) (s : Fin 8192) (j : Fin 6144) : joined P cl bl cq (ix3 b s j) = mainOf (fun b j s => P (ix3 b s j)) cl bl cq b s j := by
  unfold mainOf
  pointwise [joined]
  by_cases h : j.val < 1024
  · rw [dif_pos h, dif_pos h, conv1024_at]
    refine congrArg (fun f => convAt f _ s + _) (funext fun r => ?_)
    exact first_at P b r _
  · rw [dif_neg h, dif_neg h]
    by_cases h2 : j.val < 2048
    · rw [dif_pos h2, dif_pos (by omega)]
      exact congrArg P (congrArg (ix3 b s) (Fin.ext (by simp only; omega)))
    · rw [dif_neg h2, dif_neg (by omega)]
      by_cases h3 : j.val < 5120
      · rw [dif_pos h3, dif_pos (by omega), conv3072_at]
        have e : (fun r : Fin 8192 => extractStridedSlice S2x8192x3072 ![0, 0, 2048] P slices_S2x8192x6160_S2x8192x3072_0_0_2048 (ix3 b r ⟨j.val - 1024 - 1024, by omega⟩))
            = fun r => P (ix3 b r ⟨j.val, by omega⟩) := by
          funext r
          refine (third_at P b r _).trans ?_
          exact congrArg P (congrArg (ix3 b r) (Fin.ext (by simp only; omega)))
        rw [e]
        rfl
      · rw [dif_neg h3, dif_neg (by omega)]
        exact congrArg P (congrArg (ix3 b s) (Fin.ext (by simp only; omega)))

/-- The reference's first result. -/
def mainRes (x : FVec Ideal S16384x2048 .f32) (g : FVec Ideal S2048 .f32) (w : FVec Ideal S2x2048x6160 .f32) (cl : FVec Ideal S4x1024 .f32) (bl : FVec Ideal S1024 .f32)
    (cq : FVec Ideal S4x3072 .f32) : FVec Ideal S16384x6144 .f32 :=
  shapeCast (α := EReal) S16384x6144 (joined (projected (hidden x g) w) cl bl cq) shapeCasts_S2x8192x6144_S16384x6144

theorem mainRes_at (x : FVec Ideal S16384x2048 .f32) (g : FVec Ideal S2048 .f32) (w : FVec Ideal S2x2048x6160 .f32) (cl : FVec Ideal S4x1024 .f32) (bl : FVec Ideal S1024 .f32)
    (cq : FVec Ideal S4x3072 .f32) (n : Fin 16384) (j : Fin 6144) :
    mainRes x g w cl bl cq (ix2 n j) = mainOf (colAt x g w) cl bl cq ⟨n.val / 8192, by omega⟩ ⟨n.val % 8192, by omega⟩ j := by
  have e : mainRes x g w cl bl cq (ix2 n j) = joined (projected (hidden x g) w) cl bl cq (ix3 ⟨n.val / 8192, by omega⟩ ⟨n.val % 8192, by omega⟩ j) := by
    pointwise [mainRes]
  rw [e, joined_at]
  exact congrArg (fun f => mainOf f cl bl cq ⟨n.val / 8192, by omega⟩ ⟨n.val % 8192, by omega⟩ j)
    (funext fun b => funext fun j => funext fun s => projected_col x g w b s j)

/-- The reference's second result. -/
def restRes (x : FVec Ideal S16384x2048 .f32) (g : FVec Ideal S2048 .f32) (w : FVec Ideal S2x2048x6160 .f32) : FVec Ideal S16384x128 .f32 :=
  shapeCast (α := EReal) S16384x128 (pad S2x8192x128 ![0, 0, 0] ![0, 0, 112] ![0, 0, 0] (extractStridedSlice S2x8192x16 ![0, 0, 6144] (projected (hidden x g) w) slices_S2x8192x6160_S2x8192x16_0_0_6144) (sitofp .f32 (constantI S_ 32 0#32)) pads_S2x8192x16_S2x8192x128_000_000_01120 h_S_ : FVec Ideal S2x8192x128 .f32) shapeCasts_S2x8192x128_S16384x128

theorem restRes_at (x : FVec Ideal S16384x2048 .f32) (g : FVec Ideal S2048 .f32) (w : FVec Ideal S2x2048x6160 .f32) (n : Fin 16384) (j : Fin 128) :
    restRes x g w (ix2 n j) = restAt x g w n j := by
  pointwise [restRes, restAt]
  by_cases h : j.val < 16
  · refine (dif_pos ⟨by omega, by omega, h⟩).trans (Eq.trans ?_ (dif_pos h).symm)
    rw [projected_col]
    unfold colAt
    exact congrArg (fun r => projAt x g w r ⟨6144 + j.val, by omega⟩) (Fin.ext (by simp only; omega))
  · refine (dif_neg (fun hh => h hh.2.2)).trans (int_zero.trans ?_)
    rw [dif_neg h]

variable (m : (ℓ : Loc nD τ sig) → Buf (Elt Ideal) ℓ) (c : Dev nD)
theorem main_eq' : Cert.InProjRefIdeal.Value.res_main_v84 m c
    = mainRes (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  rfl

end Cert.InProjRefIdeal.Cnv
end
-- ==== Proof.InProjBlock.lean ====
/- The input projection's causal convolution over one block of rows: the kernel's tile operations, read at an index. -/
module
public import proofs.«01_k».proof.Proof.Gen.InProjIdeal.Value
public import proofs.«01_k».proof.Proof.InProjRef
@[expose] public section
set_option maxRecDepth 16384
noncomputable section
open Idealize.ShloMosaic Idealize.ShloMosaic.TcCoe Idealize.SL.Sem

namespace Cert.InProjIdeal.Cnv
open Cert.InProjIdeal Cert.InProjIdeal.Gen Cert.LruMath
open Cert.OutProjRefIdeal.Mix (normAt)
open Cert.InProjRefIdeal.Cnv (projAt past convAt colAt mainOf restAt)

/-- A tile's rows behind the eight rows carried from the block before, in groups of eight. -/
def behind (y : FVec Ideal S256x512 .f32) (T : FVec Ideal S8x512 .f32) : FVec Ideal S33x8x512 .f32 :=
  shapeCast S33x8x512 (concatenate S264x512 0 [⟨S8x512, T⟩, ⟨S256x512, y⟩] concatenates_S8x512_S256x512_S264x512_d0 : FVec Ideal S264x512 .f32) shapeCasts_S264x512_S33x8x512

/-- A tile moved down by a number of rows, the carried rows coming in from above. -/
def moved (d : BitVec 32) (y : FVec Ideal S256x512 .f32) (T : FVec Ideal S8x512 .f32) : FVec Ideal S256x512 .f32 :=
  shapeCast S256x512 (select (cmpi .slt (iota .tc S32x8x512 32 [1] iota_S32x8x512_d1_w32 : IVec S32x8x512 32) (broadcast S32x8x512 d))
    (extractStridedSlice S32x8x512 ![0, 0, 0] (dynamicRotate 1 d none (behind y T) rotates_S33x8x512_d1) slices_S33x8x512_o0_0_0_S32x8x512)
    (extractStridedSlice S32x8x512 ![1, 0, 0] (dynamicRotate 1 d none (behind y T) rotates_S33x8x512_d1) slices_S33x8x512_o1_0_0_S32x8x512) : FVec Ideal S32x8x512 .f32) shapeCasts_S32x8x512_S256x512

/-- The row `d` rows up in a tile, or among the carried rows. -/
def upAt (y : FVec Ideal S256x512 .f32) (T : FVec Ideal S8x512 .f32) (p : Fin 256) (l : Fin 512) (d : ℕ) (hd : d ≤ 8) : EReal :=
  if h : p.val < d then T (ix2 ⟨8 + p.val - d, by omega⟩ l) else y (ix2 ⟨p.val - d, by omega⟩ l)

theorem behind_at (y : FVec Ideal S256x512 .f32) (T : FVec Ideal S8x512 .f32) (a : Fin 33) (b : Fin 8) (l : Fin 512) :
    behind y T (ix3 a b l) = if h : a.val * 8 + b.val < 8 then T (ix2 ⟨a.val * 8 + b.val, h⟩ l)
      else y (ix2 ⟨a.val * 8 + b.val - 8, by omega⟩ l) := by
  pointwise [behind]

theorem before1 (r : ℕ) (h : r < 8) (u v : EReal) :
    Scalar.select (IntOp.cmpi CmpIPredicate.slt (BitVec.ofNat 32 r) 1#32) u v = if r < 1 then u else v := by
  interval_cases r <;> rfl

theorem moved1 (y : FVec Ideal S256x512 .f32) (T : FVec Ideal S8x512 .f32) (p : Fin 256) (l : Fin 512) :
    moved 1#32 y T (ix2 p l) = upAt y T p l 1 (by omega) := by
  have hp := p.isLt
  unfold upAt
  pointwise [moved]
  rw [before1 _ (by omega), behind_at, behind_at]
  by_cases h : p.val % 8 < 1
  · rw [if_pos h]
    by_cases h1 : p.val < 1
    · refine (dif_pos (by show p.val / 8 * 8 + (p.val % 8 + 8 - 1) % 8 < 8; omega)).trans (Eq.trans ?_ (dif_pos h1).symm)
      exact congrArg (fun r => T (ix2 r l)) (Fin.ext (by show p.val / 8 * 8 + (p.val % 8 + 8 - 1) % 8 = 8 + p.val - 1; omega))
    · refine (dif_neg (by show ¬ p.val / 8 * 8 + (p.val % 8 + 8 - 1) % 8 < 8; omega)).trans (Eq.trans ?_ (dif_neg h1).symm)
      exact congrArg (fun r => y (ix2 r l)) (Fin.ext (by show p.val / 8 * 8 + (p.val % 8 + 8 - 1) % 8 - 8 = p.val - 1; omega))
  · rw [if_neg h]
    refine (dif_neg (by show ¬ (1 + p.val / 8) * 8 + (p.val % 8 + 8 - 1) % 8 < 8; omega)).trans (Eq.trans ?_ (dif_neg (by omega)).symm)
    exact congrArg (fun r => y (ix2 r l)) (Fin.ext (by show (1 + p.val / 8) * 8 + (p.val % 8 + 8 - 1) % 8 - 8 = p.val - 1; omega))

theorem before2 (r : ℕ) (h : r < 8) (u v : EReal) :
    Scalar.select (IntOp.cmpi CmpIPredicate.slt (BitVec.ofNat 32 r) 2#32) u v = if r < 2 then u else v := by
  interval_cases r <;> rfl

theorem moved2 (y : FVec Ideal S256x512 .f32) (T : FVec Ideal S8x512 .f32) (p : Fin 256) (l : Fin 512) :
    moved 2#32 y T (ix2 p l) = upAt y T p l 2 (by omega) := by
  have hp := p.isLt
  unfold upAt
  pointwise [moved]
  rw [before2 _ (by omega), behind_at, behind_at]
  by_cases h : p.val % 8 < 2
  · rw [if_pos h]
    by_cases h1 : p.val < 2
    · refine (dif_pos (by show p.val / 8 * 8 + (p.val % 8 + 8 - 2) % 8 < 8; omega)).trans (Eq.trans ?_ (dif_pos h1).symm)
      exact congrArg (fun r => T (ix2 r l)) (Fin.ext (by show p.val / 8 * 8 + (p.val % 8 + 8 - 2) % 8 = 8 + p.val - 2; omega))
    · refine (dif_neg (by show ¬ p.val / 8 * 8 + (p.val % 8 + 8 - 2) % 8 < 8; omega)).trans (Eq.trans ?_ (dif_neg h1).symm)
      exact congrArg (fun r => y (ix2 r l)) (Fin.ext (by show p.val / 8 * 8 + (p.val % 8 + 8 - 2) % 8 - 8 = p.val - 2; omega))
  · rw [if_neg h]
    refine (dif_neg (by show ¬ (1 + p.val / 8) * 8 + (p.val % 8 + 8 - 2) % 8 < 8; omega)).trans (Eq.trans ?_ (dif_neg (by omega)).symm)
    exact congrArg (fun r => y (ix2 r l)) (Fin.ext (by show (1 + p.val / 8) * 8 + (p.val % 8 + 8 - 2) % 8 - 8 = p.val - 2; omega))

theorem before3 (r : ℕ) (h : r < 8) (u v : EReal) :
    Scalar.select (IntOp.cmpi CmpIPredicate.slt (BitVec.ofNat 32 r) 3#32) u v = if r < 3 then u else v := by
  interval_cases r <;> rfl

theorem moved3 (y : FVec Ideal S256x512 .f32) (T : FVec Ideal S8x512 .f32) (p : Fin 256) (l : Fin 512) :
    moved 3#32 y T (ix2 p l) = upAt y T p l 3 (by omega) := by
  have hp := p.isLt
  unfold upAt
  pointwise [moved]
  rw [before3 _ (by omega), behind_at, behind_at]
  by_cases h : p.val % 8 < 3
  · rw [if_pos h]
    by_cases h1 : p.val < 3
    · refine (dif_pos (by show p.val / 8 * 8 + (p.val % 8 + 8 - 3) % 8 < 8; omega)).trans (Eq.trans ?_ (dif_pos h1).symm)
      exact congrArg (fun r => T (ix2 r l)) (Fin.ext (by show p.val / 8 * 8 + (p.val % 8 + 8 - 3) % 8 = 8 + p.val - 3; omega))
    · refine (dif_neg (by show ¬ p.val / 8 * 8 + (p.val % 8 + 8 - 3) % 8 < 8; omega)).trans (Eq.trans ?_ (dif_neg h1).symm)
      exact congrArg (fun r => y (ix2 r l)) (Fin.ext (by show p.val / 8 * 8 + (p.val % 8 + 8 - 3) % 8 - 8 = p.val - 3; omega))
  · rw [if_neg h]
    refine (dif_neg (by show ¬ (1 + p.val / 8) * 8 + (p.val % 8 + 8 - 3) % 8 < 8; omega)).trans (Eq.trans ?_ (dif_neg (by omega)).symm)
    exact congrArg (fun r => y (ix2 r l)) (Fin.ext (by show (1 + p.val / 8) * 8 + (p.val % 8 + 8 - 3) % 8 - 8 = p.val - 3; omega))

/-- A tile's causal convolution: its bias, then its four taps from the row itself up to three rows above. -/
def cv (y : FVec Ideal S256x512 .f32) (T : FVec Ideal S8x512 .f32) (b w3 w2 w1 w0 : Vec Ideal S1x512 .f32) : FVec Ideal S256x512 .f32 :=
  addf (addf (addf (addf (broadcastTo S256x512 (shapeCast S1x512 b shapeCasts_S1x512_S1x512) broadcasts_S1x512_S256x512)
    (mulf (broadcastTo S256x512 (shapeCast S1x512 w3 shapeCasts_S1x512_S1x512) broadcasts_S1x512_S256x512) y))
    (mulf (broadcastTo S256x512 (shapeCast S1x512 w2 shapeCasts_S1x512_S1x512) broadcasts_S1x512_S256x512) (moved 1#32 y T)))
    (mulf (broadcastTo S256x512 (shapeCast S1x512 w1 shapeCasts_S1x512_S1x512) broadcasts_S1x512_S256x512) (moved 2#32 y T)))
    (mulf (broadcastTo S256x512 (shapeCast S1x512 w0 shapeCasts_S1x512_S1x512) broadcasts_S1x512_S256x512) (moved 3#32 y T))

/-- A tile through its own sigmoid. -/
def gated (v : FVec Ideal S256x512 .f32) : FVec Ideal S256x512 .f32 := mulf v (logistic v)

theorem gated_at (v : FVec Ideal S256x512 .f32) (i : S256x512.Idx) : gated v i = v i * sg (v i) := by
  pointwise [gated, sg]
  rfl

theorem cv_at (y : FVec Ideal S256x512 .f32) (T : FVec Ideal S8x512 .f32) (b w3 w2 w1 w0 : Vec Ideal S1x512 .f32) (p : Fin 256) (l : Fin 512) :
    cv y T b w3 w2 w1 w0 (ix2 p l) = b (ix2 0 l) + w3 (ix2 0 l) * y (ix2 p l) + w2 (ix2 0 l) * upAt y T p l 1 (by omega)
      + w1 (ix2 0 l) * upAt y T p l 2 (by omega) + w0 (ix2 0 l) * upAt y T p l 3 (by omega) := by
  rw [← moved1, ← moved2, ← moved3]
  pointwise [cv]

/-- Column `j` of the projection of a block of normalised rows. -/
def yAt (H : FVec Ideal S256x2048 .bf16) (W : Vec Ideal S1x2048x6160 .bf16) (p : Fin 256) (j : Fin 6160) : EReal :=
  ∑ k : Fin 2048, H (ix2 p k) * W (ix3 0 k j)

theorem tile_at (H : FVec Ideal S256x2048 .bf16) (W : Vec Ideal S1x2048x6160 .bf16) (w : Vec Ideal S1x2048x512 .bf16) (j : Fin 6160) (l : Fin 512)
    (hw : ∀ k, w (ix3 0 k l) = W (ix3 0 k j)) (p : Fin 256) : k0_pay13 H w (ix2 p l) = yAt H W p j := by
  unfold yAt
  simp only [← hw]
  pointwise [k0_pay13]

/-- Column `j` of the block, `d` rows up; above the block, the carried rows `C`. -/
def upOf (H : FVec Ideal S256x2048 .bf16) (W : Vec Ideal S1x2048x6160 .bf16) (C : Fin 8 → Fin 6160 → EReal) (p : Fin 256) (j : Fin 6160) (d : ℕ) (hd : d ≤ 8) : EReal :=
  if h : p.val < d then C ⟨8 + p.val - d, by omega⟩ j else yAt H W ⟨p.val - d, by omega⟩ j

/-- Column `j` of the block after its causal convolution. -/
def cvAt (H : FVec Ideal S256x2048 .bf16) (W : Vec Ideal S1x2048x6160 .bf16) (K : Vec Ideal S4x6144 .f32) (B : Vec Ideal S1x6144 .f32)
    (C : Fin 8 → Fin 6160 → EReal) (p : Fin 256) (j : Fin 6144) : EReal :=
  B (ix2 0 j) + K (ix2 3 j) * yAt H W p ⟨j.val, by omega⟩ + K (ix2 2 j) * upOf H W C p ⟨j.val, by omega⟩ 1 (by omega)
    + K (ix2 1 j) * upOf H W C p ⟨j.val, by omega⟩ 2 (by omega) + K (ix2 0 j) * upOf H W C p ⟨j.val, by omega⟩ 3 (by omega)

theorem cv_tile (H : FVec Ideal S256x2048 .bf16) (W : Vec Ideal S1x2048x6160 .bf16) (K : Vec Ideal S4x6144 .f32) (B : Vec Ideal S1x6144 .f32)
    (C : Fin 8 → Fin 6160 → EReal) (w : Vec Ideal S1x2048x512 .bf16) (T : FVec Ideal S8x512 .f32) (b w3 w2 w1 w0 : Vec Ideal S1x512 .f32)
    (p : Fin 256) (l : Fin 512) (j : Fin 6144)
    (hw : ∀ k, w (ix3 0 k l) = W (ix3 0 k ⟨j.val, by omega⟩)) (hT : ∀ r, T (ix2 r l) = C r ⟨j.val, by omega⟩)
    (hb : b (ix2 0 l) = B (ix2 0 j)) (h3 : w3 (ix2 0 l) = K (ix2 3 j)) (h2 : w2 (ix2 0 l) = K (ix2 2 j))
    (h1 : w1 (ix2 0 l) = K (ix2 1 j)) (h0 : w0 (ix2 0 l) = K (ix2 0 j)) :
    cv (k0_pay13 H w) T b w3 w2 w1 w0 (ix2 p l) = cvAt H W K B C p j := by
  have hup : ∀ (d : ℕ) (hd : d ≤ 8), upAt (k0_pay13 H w) T p l d hd = upOf H W C p ⟨j.val, by omega⟩ d hd := fun d hd => by
    unfold upAt upOf
    simp only [hT, tile_at H W w ⟨j.val, by omega⟩ l hw]
  rw [cv_at, hb, h3, h2, h1, h0, hup, hup, hup, tile_at H W w ⟨j.val, by omega⟩ l hw, cvAt]

/-- The main output block: convolved columns, plain columns, convolved columns through their gate, plain columns. -/
def blkOf (H : FVec Ideal S256x2048 .bf16) (W : Vec Ideal S1x2048x6160 .bf16) (K : Vec Ideal S4x6144 .f32) (B : Vec Ideal S1x6144 .f32)
    (C : Fin 8 → Fin 6160 → EReal) (p : Fin 256) (j : Fin 6144) : EReal :=
  if j.val < 1024 then cvAt H W K B C p j
  else if j.val < 2048 then yAt H W p ⟨j.val, by omega⟩
  else if j.val < 5120 then cvAt H W K B C p j * sg (cvAt H W K B C p j)
  else yAt H W p ⟨j.val, by omega⟩

theorem blk_conv (H : FVec Ideal S256x2048 .bf16) (W : Vec Ideal S1x2048x6160 .bf16) (K : Vec Ideal S4x6144 .f32) (B : Vec Ideal S1x6144 .f32)
    (C : Fin 8 → Fin 6160 → EReal) (p : Fin 256) (j : Fin 6144) (h : j.val < 1024) : blkOf H W K B C p j = cvAt H W K B C p j := if_pos h
theorem blk_plain (H : FVec Ideal S256x2048 .bf16) (W : Vec Ideal S1x2048x6160 .bf16) (K : Vec Ideal S4x6144 .f32) (B : Vec Ideal S1x6144 .f32)
    (C : Fin 8 → Fin 6160 → EReal) (p : Fin 256) (j : Fin 6144) (h : 1024 ≤ j.val) (h' : j.val < 2048 ∨ 5120 ≤ j.val) :
    blkOf H W K B C p j = yAt H W p ⟨j.val, by omega⟩ := by
  unfold blkOf
  rw [if_neg (by omega)]
  by_cases h2 : j.val < 2048
  · rw [if_pos h2]
  · rw [if_neg h2, if_neg (by omega)]
theorem blk_gated (H : FVec Ideal S256x2048 .bf16) (W : Vec Ideal S1x2048x6160 .bf16) (K : Vec Ideal S4x6144 .f32) (B : Vec Ideal S1x6144 .f32)
    (C : Fin 8 → Fin 6160 → EReal) (p : Fin 256) (j : Fin 6144) (h : 2048 ≤ j.val) (h' : j.val < 5120) :
    blkOf H W K B C p j = cvAt H W K B C p j * sg (cvAt H W K B C p j) := by
  unfold blkOf
  rw [if_neg (by omega), if_neg (by omega), if_pos h']

end Cert.InProjIdeal.Cnv
end
-- ==== Proof.InProjKer.lean ====
/- The input projection of the kernel: what a grid point stores, the rows it carries, and the two arrays after the whole grid. -/
module
public import proofs.«01_k».proof.Proof.InProjBlock
@[expose] public section
set_option maxRecDepth 16384
noncomputable section
open Idealize.ShloMosaic Idealize.ShloMosaic.TcCoe Idealize.SL.Sem

namespace Cert.InProjIdeal.Cnv
open Cert.InProjIdeal Cert.InProjIdeal.Gen Cert.LruMath
open Cert.OutProjRefIdeal.Mix (normAt)
open Cert.InProjRefIdeal.Cnv (projAt past convAt colAt mainOf restAt)

/-- Every window's block index at every grid point. -/
theorem idx : ∀ t : Fin cfg0.N, win0_0.index t = ![t.val, 0] ∧ win0_1.index t = ![0, 0] ∧ win0_2.index t = ![0, 0, 0]
    ∧ win0_3.index t = ![0, 0] ∧ win0_4.index t = ![0, 0] ∧ win0_5.index t = ![t.val, 0] ∧ win0_6.index t = ![t.val, 0] := by
  decide +kernel

theorem lt64 (t : Fin cfg0.N) : t.val < 64 := t.isLt

variable (m : (ℓ : Loc nD τ sig) → Buf (Elt Ideal) ℓ) (c : Dev nD)

/-- The arguments. -/
abbrev aX : S16384x2048.Idx → EReal := m ((c : Thread nD τ).loc main_arg0)
@[inherit_doc aX] abbrev aG : S2048.Idx → EReal := m ((c : Thread nD τ).loc main_arg1)
@[inherit_doc aX] abbrev aW : S2x2048x6160.Idx → EReal := m ((c : Thread nD τ).loc main_arg2)
@[inherit_doc aX] abbrev aCl : S4x1024.Idx → EReal := m ((c : Thread nD τ).loc main_arg3)
@[inherit_doc aX] abbrev aBl : S1024.Idx → EReal := m ((c : Thread nD τ).loc main_arg4)
@[inherit_doc aX] abbrev aCq : S4x3072.Idx → EReal := m ((c : Thread nD τ).loc main_arg5)

/-- The normalised rows of a grid point. -/
def hB (t : Fin cfg0.N) : FVec Ideal S256x2048 .bf16 := k0_pay10 (iblk m c 0 t) (iblk m c 1 t)

theorem norm_at (x : Vec Ideal S256x2048 .f32) (g : Vec Ideal S1x2048 .f32) (p : Fin 256) (q : Fin 2048) :
    k0_pay10 x g (ix2 p q) = normAt (fun k => x (ix2 p k)) (g (ix2 0 q)) q := by
  pointwise [k0_pay10, normAt]
theorem x_at (t : Fin cfg0.N) (p : Fin 256) (q : Fin 2048) :
    iblk m c 0 t (ix2 p q) = aX m c (ix2 ⟨t.val * 256 + p.val, by have := lt64 t; omega⟩ q) := by
  blk_point [iblk, V, idx t]
theorem g_at (t : Fin cfg0.N) (q : Fin 2048) : iblk m c 1 t (ix2 0 q) = aG m c (ix1 q) := by
  blk_point [iblk, V, idx t]
theorem w_at (t : Fin cfg0.N) (k : Fin 2048) (j : Fin 6160) : iblk m c 2 t (ix3 0 k j) = aW m c (ix3 0 k j) := by
  blk_point [iblk, V, idx t]
/-- The four taps of column `j`: the convolved columns' own, zero in between. -/
def tapAt (cl : S4x1024.Idx → EReal) (cq : S4x3072.Idx → EReal) (i : Fin 4) (j : Fin 6144) : EReal :=
  if h : j.val < 1024 then cl (ix2 i ⟨j.val, h⟩) else if h2 : j.val < 2048 then 0
  else if h3 : j.val < 5120 then cq (ix2 i ⟨j.val - 2048, by omega⟩) else 0
/-- The four taps of all columns, as the host joins them. -/
def taps (cl : FVec Ideal S4x1024 .f32) (cq : FVec Ideal S4x3072 .f32) : FVec Ideal S4x6144 .f32 :=
  concatenate S4x6144 1 [⟨S4x1024, cl⟩, ⟨S4x1024, broadcastInDim S4x1024 ![] bcast_S_S4x1024 (constant (F := Ideal) S_ .f32 0x00000000#32)⟩, ⟨S4x3072, cq⟩,
    ⟨S4x1024, broadcastInDim S4x1024 ![] bcast_S_S4x1024 (constant (F := Ideal) S_ .f32 0x00000000#32)⟩] concatenates_S4x1024_S4x1024_S4x3072_S4x1024_S4x6144_d1
theorem taps_at (cl : FVec Ideal S4x1024 .f32) (cq : FVec Ideal S4x3072 .f32) (i : Fin 4) (j : Fin 6144) : taps cl cq (ix2 i j) = tapAt cl cq i j := by
  unfold tapAt
  pointwise [taps]
  by_cases h : j.val < 1024
  · rw [dif_pos h, dif_pos h]
  rw [dif_neg h, dif_neg h]
  by_cases h2 : j.val < 2048
  · rw [dif_pos h2, dif_pos (by omega)]
  rw [dif_neg h2, dif_neg (by omega)]
  by_cases h3 : j.val < 5120
  · refine (dif_pos (by omega)).trans (Eq.trans ?_ (dif_pos h3).symm)
    exact congrArg (fun q => cq (ix2 i q)) (Fin.ext (by simp only; omega))
  · rw [dif_neg h3, dif_neg (by omega)]
/-- The bias of all columns, as the host joins it. -/
def biases (bl : FVec Ideal S1024 .f32) : FVec Ideal S1x6144 .f32 :=
  shapeCast (α := EReal) S1x6144 (concatenate S6144 0 [⟨S1024, bl⟩, ⟨S5120, broadcastInDim S5120 ![] bcast_S_S5120 (constant (F := Ideal) S_ .f32 0x00000000#32)⟩] concatenates_S1024_S5120_S6144_d0) shapeCasts_S6144_S1x6144
theorem biases_at (bl : FVec Ideal S1024 .f32) (j : Fin 6144) : biases bl (ix2 0 j) = if h : j.val < 1024 then bl (ix1 ⟨j.val, h⟩) else 0 := by
  pointwise [biases]
theorem k_blk (t : Fin cfg0.N) (i : Fin 4) (j : Fin 6144) : iblk m c 3 t (ix2 i j) = V m c main_v1 (ix2 i j) := by
  blk_point [iblk, idx t]
theorem b_blk (t : Fin cfg0.N) (j : Fin 6144) : iblk m c 4 t (ix2 0 j) = V m c main_v4 (ix2 0 j) := by
  blk_point [iblk, idx t]
theorem k_arr : (V m c main_v1 : S4x6144.Idx → EReal) = taps (aCl m c) (aCq m c) := rfl
theorem b_arr : (V m c main_v4 : S1x6144.Idx → EReal) = biases (aBl m c) := rfl
theorem k_at (t : Fin cfg0.N) (i : Fin 4) (j : Fin 6144) : iblk m c 3 t (ix2 i j) = tapAt (aCl m c) (aCq m c) i j :=
  (k_blk m c t i j).trans ((congrFun (k_arr m c) _).trans (taps_at _ _ i j))
theorem b_at (t : Fin cfg0.N) (j : Fin 6144) : iblk m c 4 t (ix2 0 j) = if h : j.val < 1024 then aBl m c (ix1 ⟨j.val, h⟩) else 0 :=
  (b_blk m c t j).trans ((congrFun (b_arr m c) _).trans (biases_at _ j))

/-- The last eight rows of a tile. -/
theorem last_at (H : FVec Ideal S256x2048 .bf16) (W : Vec Ideal S1x2048x6160 .bf16) (w : Vec Ideal S1x2048x512 .bf16) (j : Fin 6160) (l : Fin 512)
    (hw : ∀ k, w (ix3 0 k l) = W (ix3 0 k j)) (r : Fin 8) : k0_pay15 H w (ix2 r l) = yAt H W ⟨248 + r.val, by omega⟩ j := by
  rw [← tile_at H W w j l hw]
  pointwise [k0_pay15]
theorem pay_tile0 (H : FVec Ideal S256x2048 .bf16) (w : Vec Ideal S1x2048x512 .bf16) (T : FVec Ideal S8x512 .f32) (b w3 w2 w1 w0 : Vec Ideal S1x512 .f32) :
    k0_pay18 (iota .tc S32x8x512 32 [1] iota_S32x8x512_d1_w32) (k0_pay14 H w T) (k0_pay16 H w T b w3 w2) (k0_pay17 H w T) w1 w0
      = cv (k0_pay13 H w) T b w3 w2 w1 w0 := rfl
theorem pay_tile1 (H : FVec Ideal S256x2048 .bf16) (w : Vec Ideal S1x2048x512 .bf16) (T : FVec Ideal S8x512 .f32) (b w3 w2 w1 w0 : Vec Ideal S1x512 .f32) :
    k0_pay24 (iota .tc S32x8x512 32 [1] iota_S32x8x512_d1_w32) (k0_pay20 H w T) (k0_pay22 H w b w3) (k0_pay23 H w T) w2 w1 w0
      = cv (k0_pay13 H w) T b w3 w2 w1 w0 := rfl
theorem pay_tile4 (H : FVec Ideal S256x2048 .bf16) (w : Vec Ideal S1x2048x512 .bf16) (T : FVec Ideal S8x512 .f32) (b w3 w2 w1 w0 : Vec Ideal S1x512 .f32) :
    k0_pay31 (iota .tc S32x8x512 32 [1] iota_S32x8x512_d1_w32) (k0_pay28 H w T) (k0_pay30 H (iota .tc S32x8x512 32 [1] iota_S32x8x512_d1_w32) w T b w3 w2) (2#32) w1 w0
      = gated (cv (k0_pay13 H w) T b w3 w2 w1 w0) := rfl
theorem pay_tile5 (H : FVec Ideal S256x2048 .bf16) (w : Vec Ideal S1x2048x512 .bf16) (T : FVec Ideal S8x512 .f32) (b w3 w2 w1 w0 : Vec Ideal S1x512 .f32) :
    k0_pay36 (iota .tc S32x8x512 32 [1] iota_S32x8x512_d1_w32) (k0_pay32 H w) (k0_pay33 H w T) (k0_pay35 b) w3 w2 w1 w0
      = gated (cv (k0_pay13 H w) T b w3 w2 w1 w0) := rfl
theorem pay_tile6 (H : FVec Ideal S256x2048 .bf16) (w : Vec Ideal S1x2048x512 .bf16) (T : FVec Ideal S8x512 .f32) (b w3 w2 w1 w0 : Vec Ideal S1x512 .f32) :
    k0_pay42 (iota .tc S32x8x512 32 [1] iota_S32x8x512_d1_w32) (k0_pay38 H w T) (k0_pay40 H (iota .tc S32x8x512 32 [1] iota_S32x8x512_d1_w32) w T b w3 w2) (k0_pay41 H (iota .tc S32x8x512 32 [1] iota_S32x8x512_d1_w32) w T) w1 w0
      = gated (cv (k0_pay13 H w) T b w3 w2 w1 w0) := rfl
theorem pay_tile7 (H : FVec Ideal S256x2048 .bf16) (w : Vec Ideal S1x2048x512 .bf16) (T : FVec Ideal S8x512 .f32) (b w3 w2 w1 w0 : Vec Ideal S1x512 .f32) :
    k0_pay48 (iota .tc S32x8x512 32 [1] iota_S32x8x512_d1_w32) (k0_pay44 H w T) (k0_pay46 H w b w3) (k0_pay47 H w T) w2 w1 w0
      = gated (cv (k0_pay13 H w) T b w3 w2 w1 w0) := rfl
theorem pay_tile8 (H : FVec Ideal S256x2048 .bf16) (w : Vec Ideal S1x2048x512 .bf16) (T : FVec Ideal S8x512 .f32) (b w3 w2 w1 w0 : Vec Ideal S1x512 .f32) :
    k0_pay55 (k0_pay52 (iota .tc S32x8x512 32 [1] iota_S32x8x512_d1_w32) (k0_pay49 H w) T b w3 w2 w1) (k0_pay53 (k0_pay49 H w) T) (k0_pay54 (iota .tc S32x8x512 32 [1] iota_S32x8x512_d1_w32)) w0
      = gated (cv (k0_pay13 H w) T b w3 w2 w1 w0) := rfl
theorem pay_tile9 (H : FVec Ideal S256x2048 .bf16) (w : Vec Ideal S1x2048x512 .bf16) (T : FVec Ideal S8x512 .f32) (b w3 w2 w1 w0 : Vec Ideal S1x512 .f32) :
    k0_pay61 (iota .tc S32x8x512 32 [1] iota_S32x8x512_d1_w32) (k0_pay57 H w T) (k0_pay59 H w b w3) (k0_pay60 H (iota .tc S32x8x512 32 [1] iota_S32x8x512_d1_w32) w T) w2 w1 w0
      = gated (cv (k0_pay13 H w) T b w3 w2 w1 w0) := rfl
theorem tail0 (t : Fin cfg0.N) (r : Fin 8) (l : Fin 512) : (outsAt0 m c t.val t.isLt).2.2.1 (ix2 r l)
    = yAt (hB m c t) (iblk m c 2 t) ⟨248 + r.val, by omega⟩ ⟨0 + l.val, by omega⟩ := by
  refine Eq.trans (b := k0_pay15 (hB m c t) (View.ld (iblk m c 2 t) (Rect.unit ![0, 0, 0] ![1, 2048, 512] inb_S1x2048x6160_S1x2048x512_0_0_0)) (ix2 r l)) ?_ (last_at _ _ _ ⟨0 + l.val, by omega⟩ l (fun k => by pointwise []) r)
  by_cases h0 : t.val % 32 = 0
  · rw [outsAt0_A m c t h0]
    frame_out
    rfl
  · rw [outsAt0_B m c t h0]
    frame_out
    rfl
theorem tail1 (t : Fin cfg0.N) (r : Fin 8) (l : Fin 512) : (outsAt0 m c t.val t.isLt).2.2.2.1 (ix2 r l)
    = yAt (hB m c t) (iblk m c 2 t) ⟨248 + r.val, by omega⟩ ⟨512 + l.val, by omega⟩ := by
  refine Eq.trans (b := k0_pay15 (hB m c t) (View.ld (iblk m c 2 t) (Rect.unit ![0, 0, 512] ![1, 2048, 512] inb_S1x2048x6160_S1x2048x512_0_0_512)) (ix2 r l)) ?_ (last_at _ _ _ ⟨512 + l.val, by omega⟩ l (fun k => by pointwise []) r)
  by_cases h0 : t.val % 32 = 0
  · rw [outsAt0_A m c t h0]
    frame_out
    rfl
  · rw [outsAt0_B m c t h0]
    frame_out
    rfl
theorem tail2 (t : Fin cfg0.N) (r : Fin 8) (l : Fin 512) : (outsAt0 m c t.val t.isLt).2.2.2.2.1 (ix2 r l)
    = yAt (hB m c t) (iblk m c 2 t) ⟨248 + r.val, by omega⟩ ⟨2048 + l.val, by omega⟩ := by
  refine Eq.trans (b := k0_pay15 (hB m c t) (View.ld (iblk m c 2 t) (Rect.unit ![0, 0, 2048] ![1, 2048, 512] inb_S1x2048x6160_S1x2048x512_0_0_2048)) (ix2 r l)) ?_ (last_at _ _ _ ⟨2048 + l.val, by omega⟩ l (fun k => by pointwise []) r)
  by_cases h0 : t.val % 32 = 0
  · rw [outsAt0_A m c t h0]
    frame_out
    rfl
  · rw [outsAt0_B m c t h0]
    frame_out
    rfl
theorem tail3 (t : Fin cfg0.N) (r : Fin 8) (l : Fin 512) : (outsAt0 m c t.val t.isLt).2.2.2.2.2.1 (ix2 r l)
    = yAt (hB m c t) (iblk m c 2 t) ⟨248 + r.val, by omega⟩ ⟨2560 + l.val, by omega⟩ := by
  refine Eq.trans (b := k0_pay15 (hB m c t) (View.ld (iblk m c 2 t) (Rect.unit ![0, 0, 2560] ![1, 2048, 512] inb_S1x2048x6160_S1x2048x512_0_0_2560)) (ix2 r l)) ?_ (last_at _ _ _ ⟨2560 + l.val, by omega⟩ l (fun k => by pointwise []) r)
  by_cases h0 : t.val % 32 = 0
  · rw [outsAt0_A m c t h0]
    frame_out
    rfl
  · rw [outsAt0_B m c t h0]
    frame_out
    rfl
theorem tail4 (t : Fin cfg0.N) (r : Fin 8) (l : Fin 512) : (outsAt0 m c t.val t.isLt).2.2.2.2.2.2.1 (ix2 r l)
    = yAt (hB m c t) (iblk m c 2 t) ⟨248 + r.val, by omega⟩ ⟨3072 + l.val, by omega⟩ := by
  refine Eq.trans (b := k0_pay15 (hB m c t) (View.ld (iblk m c 2 t) (Rect.unit ![0, 0, 3072] ![1, 2048, 512] inb_S1x2048x6160_S1x2048x512_0_0_3072)) (ix2 r l)) ?_ (last_at _ _ _ ⟨3072 + l.val, by omega⟩ l (fun k => by pointwise []) r)
  by_cases h0 : t.val % 32 = 0
  · rw [outsAt0_A m c t h0]
    frame_out
    rfl
  · rw [outsAt0_B m c t h0]
    frame_out
    rfl
theorem tail5 (t : Fin cfg0.N) (r : Fin 8) (l : Fin 512) : (outsAt0 m c t.val t.isLt).2.2.2.2.2.2.2.1 (ix2 r l)
    = yAt (hB m c t) (iblk m c 2 t) ⟨248 + r.val, by omega⟩ ⟨3584 + l.val, by omega⟩ := by
  refine Eq.trans (b := k0_pay15 (hB m c t) (View.ld (iblk m c 2 t) (Rect.unit ![0, 0, 3584] ![1, 2048, 512] inb_S1x2048x6160_S1x2048x512_0_0_3584)) (ix2 r l)) ?_ (last_at _ _ _ ⟨3584 + l.val, by omega⟩ l (fun k => by pointwise []) r)
  by_cases h0 : t.val % 32 = 0
  · rw [outsAt0_A m c t h0]
    frame_out
    rfl
  · rw [outsAt0_B m c t h0]
    frame_out
    rfl
theorem tail6 (t : Fin cfg0.N) (r : Fin 8) (l : Fin 512) : (outsAt0 m c t.val t.isLt).2.2.2.2.2.2.2.2.1 (ix2 r l)
    = yAt (hB m c t) (iblk m c 2 t) ⟨248 + r.val, by omega⟩ ⟨4096 + l.val, by omega⟩ := by
  refine Eq.trans (b := k0_pay15 (hB m c t) (View.ld (iblk m c 2 t) (Rect.unit ![0, 0, 4096] ![1, 2048, 512] inb_S1x2048x6160_S1x2048x512_0_0_4096)) (ix2 r l)) ?_ (last_at _ _ _ ⟨4096 + l.val, by omega⟩ l (fun k => by pointwise []) r)
  by_cases h0 : t.val % 32 = 0
  · rw [outsAt0_A m c t h0]
    frame_out
    rfl
  · rw [outsAt0_B m c t h0]
    frame_out
    rfl
theorem tail7 (t : Fin cfg0.N) (r : Fin 8) (l : Fin 512) : (outsAt0 m c t.val t.isLt).2.2.2.2.2.2.2.2.2 (ix2 r l)
    = yAt (hB m c t) (iblk m c 2 t) ⟨248 + r.val, by omega⟩ ⟨4608 + l.val, by omega⟩ := by
  refine Eq.trans (b := k0_pay15 (hB m c t) (View.ld (iblk m c 2 t) (Rect.unit ![0, 0, 4608] ![1, 2048, 512] inb_S1x2048x6160_S1x2048x512_0_0_4608)) (ix2 r l)) ?_ (last_at _ _ _ ⟨4608 + l.val, by omega⟩ l (fun k => by pointwise []) r)
  by_cases h0 : t.val % 32 = 0
  · rw [outsAt0_A m c t h0]
    frame_out
    rfl
  · rw [outsAt0_B m c t h0]
    frame_out
    rfl
/-- The rows carried into a grid point: zero at a sequence's first, else the last eight rows of the point before. -/
def carryAt (t : Fin cfg0.N) (r : Fin 8) (j : Fin 6160) : EReal :=
  if t.val % 32 = 0 then 0
  else yAt (hB m c ⟨t.val - 1, by omega⟩) (iblk m c 2 ⟨t.val - 1, by omega⟩) ⟨248 + r.val, by omega⟩ j

theorem out5_A (t : Fin cfg0.N) (hz : t.val % 32 = 0) (y : S256x6144.Idx) : (outsAt0 m c t.val t.isLt).1 y
    = blkOf (hB m c t) (iblk m c 2 t) (iblk m c 3 t) (iblk m c 4 t) (fun _ _ => 0) (y 0) (y 1) := by
  rw [outsAt0_A m c t hz]
  frame_out
  clear hz
  canon_tiles x h
  · obtain ⟨p, l, rfl⟩ : ∃ (p : Fin 256) (l : Fin 512), x = ix2 p l := ⟨x 0, x 1, by idx_vars x⟩
    have e0 : y 0 = p := Fin.ext h0
    have e1 : y 1 = (⟨5632 + l.val, by omega⟩ : Fin 6144) := Fin.ext h1
    rw [e0, e1]
    refine Eq.trans ?_ (blk_plain _ _ _ _ _ p _ (by simp only; omega) (by simp only; omega)).symm
    exact tile_at (hB m c t) (iblk m c 2 t) _ _ l (fun k => by pointwise []) p
  · obtain ⟨p, l, rfl⟩ : ∃ (p : Fin 256) (l : Fin 512), x = ix2 p l := ⟨x 0, x 1, by idx_vars x⟩
    have e0 : y 0 = p := Fin.ext h0
    have e1 : y 1 = (⟨5120 + l.val, by omega⟩ : Fin 6144) := Fin.ext h1
    rw [e0, e1]
    refine Eq.trans ?_ (blk_plain _ _ _ _ _ p _ (by simp only; omega) (by simp only; omega)).symm
    exact tile_at (hB m c t) (iblk m c 2 t) _ _ l (fun k => by pointwise []) p
  · obtain ⟨p, l, rfl⟩ : ∃ (p : Fin 256) (l : Fin 512), x = ix2 p l := ⟨x 0, x 1, by idx_vars x⟩
    have e0 : y 0 = p := Fin.ext h0
    have e1 : y 1 = (⟨4608 + l.val, by omega⟩ : Fin 6144) := Fin.ext h1
    rw [e0, e1]
    refine (congrFun (pay_tile9 (hB m c t) _ _ _ _ _ _ _) _).trans ((gated_at _ _).trans (Eq.trans ?_ (blk_gated _ _ _ _ _ p _ (by simp only; omega) (by simp only; omega)).symm))
    exact congrArg (fun z : EReal => z * sg z) (cv_tile (hB m c t) (iblk m c 2 t) (iblk m c 3 t) (iblk m c 4 t) _ _ _ _ _ _ _ _ p l ⟨4608 + l.val, by omega⟩ (fun k => by pointwise []) (fun r => by pointwise [k0_pay1, k0_pay2, k0_pay3, k0_pay4, k0_pay5, k0_pay6, k0_pay7, k0_pay8, k0_pay9]) (by pointwise []) (by pointwise []) (by pointwise []) (by pointwise []) (by pointwise []))
  · obtain ⟨p, l, rfl⟩ : ∃ (p : Fin 256) (l : Fin 512), x = ix2 p l := ⟨x 0, x 1, by idx_vars x⟩
    have e0 : y 0 = p := Fin.ext h0
    have e1 : y 1 = (⟨4096 + l.val, by omega⟩ : Fin 6144) := Fin.ext h1
    rw [e0, e1]
    refine (congrFun (pay_tile8 (hB m c t) _ _ _ _ _ _ _) _).trans ((gated_at _ _).trans (Eq.trans ?_ (blk_gated _ _ _ _ _ p _ (by simp only; omega) (by simp only; omega)).symm))
    exact congrArg (fun z : EReal => z * sg z) (cv_tile (hB m c t) (iblk m c 2 t) (iblk m c 3 t) (iblk m c 4 t) _ _ _ _ _ _ _ _ p l ⟨4096 + l.val, by omega⟩ (fun k => by pointwise []) (fun r => by pointwise [k0_pay1, k0_pay2, k0_pay3, k0_pay4, k0_pay5, k0_pay6, k0_pay7, k0_pay8, k0_pay9]) (by pointwise []) (by pointwise []) (by pointwise []) (by pointwise []) (by pointwise []))
  · obtain ⟨p, l, rfl⟩ : ∃ (p : Fin 256) (l : Fin 512), x = ix2 p l := ⟨x 0, x 1, by idx_vars x⟩
    have e0 : y 0 = p := Fin.ext h0
    have e1 : y 1 = (⟨3584 + l.val, by omega⟩ : Fin 6144) := Fin.ext h1
    rw [e0, e1]
    refine (congrFun (pay_tile7 (hB m c t) _ _ _ _ _ _ _) _).trans ((gated_at _ _).trans (Eq.trans ?_ (blk_gated _ _ _ _ _ p _ (by simp only; omega) (by simp only; omega)).symm))
    exact congrArg (fun z : EReal => z * sg z) (cv_tile (hB m c t) (iblk m c 2 t) (iblk m c 3 t) (iblk m c 4 t) _ _ _ _ _ _ _ _ p l ⟨3584 + l.val, by omega⟩ (fun k => by pointwise []) (fun r => by pointwise [k0_pay1, k0_pay2, k0_pay3, k0_pay4, k0_pay5, k0_pay6, k0_pay7, k0_pay8, k0_pay9]) (by pointwise []) (by pointwise []) (by pointwise []) (by pointwise []) (by pointwise []))
  · obtain ⟨p, l, rfl⟩ : ∃ (p : Fin 256) (l : Fin 512), x = ix2 p l := ⟨x 0, x 1, by idx_vars x⟩
    have e0 : y 0 = p := Fin.ext h0
    have e1 : y 1 = (⟨3072 + l.val, by omega⟩ : Fin 6144) := Fin.ext h1
    rw [e0, e1]
    refine (congrFun (pay_tile6 (hB m c t) _ _ _ _ _ _ _) _).trans ((gated_at _ _).trans (Eq.trans ?_ (blk_gated _ _ _ _ _ p _ (by simp only; omega) (by simp only; omega)).symm))
    exact congrArg (fun z : EReal => z * sg z) (cv_tile (hB m c t) (iblk m c 2 t) (iblk m c 3 t) (iblk m c 4 t) _ _ _ _ _ _ _ _ p l ⟨3072 + l.val, by omega⟩ (fun k => by pointwise []) (fun r => by pointwise [k0_pay1, k0_pay2, k0_pay3, k0_pay4, k0_pay5, k0_pay6, k0_pay7, k0_pay8, k0_pay9]) (by pointwise []) (by pointwise []) (by pointwise []) (by pointwise []) (by pointwise []))
  · obtain ⟨p, l, rfl⟩ : ∃ (p : Fin 256) (l : Fin 512), x = ix2 p l := ⟨x 0, x 1, by idx_vars x⟩
    have e0 : y 0 = p := Fin.ext h0
    have e1 : y 1 = (⟨2560 + l.val, by omega⟩ : Fin 6144) := Fin.ext h1
    rw [e0, e1]
    refine (congrFun (pay_tile5 (hB m c t) _ _ _ _ _ _ _) _).trans ((gated_at _ _).trans (Eq.trans ?_ (blk_gated _ _ _ _ _ p _ (by simp only; omega) (by simp only; omega)).symm))
    exact congrArg (fun z : EReal => z * sg z) (cv_tile (hB m c t) (iblk m c 2 t) (iblk m c 3 t) (iblk m c 4 t) _ _ _ _ _ _ _ _ p l ⟨2560 + l.val, by omega⟩ (fun k => by pointwise []) (fun r => by pointwise [k0_pay1, k0_pay2, k0_pay3, k0_pay4, k0_pay5, k0_pay6, k0_pay7, k0_pay8, k0_pay9]) (by pointwise []) (by pointwise []) (by pointwise []) (by pointwise []) (by pointwise []))
  · obtain ⟨p, l, rfl⟩ : ∃ (p : Fin 256) (l : Fin 512), x = ix2 p l := ⟨x 0, x 1, by idx_vars x⟩
    have e0 : y 0 = p := Fin.ext h0
    have e1 : y 1 = (⟨2048 + l.val, by omega⟩ : Fin 6144) := Fin.ext h1
    rw [e0, e1]
    refine (congrFun (pay_tile4 (hB m c t) _ _ _ _ _ _ _) _).trans ((gated_at _ _).trans (Eq.trans ?_ (blk_gated _ _ _ _ _ p _ (by simp only; omega) (by simp only; omega)).symm))
    exact congrArg (fun z : EReal => z * sg z) (cv_tile (hB m c t) (iblk m c 2 t) (iblk m c 3 t) (iblk m c 4 t) _ _ _ _ _ _ _ _ p l ⟨2048 + l.val, by omega⟩ (fun k => by pointwise []) (fun r => by pointwise [k0_pay1, k0_pay2, k0_pay3, k0_pay4, k0_pay5, k0_pay6, k0_pay7, k0_pay8, k0_pay9]) (by pointwise []) (by pointwise []) (by pointwise []) (by pointwise []) (by pointwise []))
  · obtain ⟨p, l, rfl⟩ : ∃ (p : Fin 256) (l : Fin 512), x = ix2 p l := ⟨x 0, x 1, by idx_vars x⟩
    have e0 : y 0 = p := Fin.ext h0
    have e1 : y 1 = (⟨1536 + l.val, by omega⟩ : Fin 6144) := Fin.ext h1
    rw [e0, e1]
    refine Eq.trans ?_ (blk_plain _ _ _ _ _ p _ (by simp only; omega) (by simp only; omega)).symm
    exact tile_at (hB m c t) (iblk m c 2 t) _ _ l (fun k => by pointwise []) p
  · obtain ⟨p, l, rfl⟩ : ∃ (p : Fin 256) (l : Fin 512), x = ix2 p l := ⟨x 0, x 1, by idx_vars x⟩
    have e0 : y 0 = p := Fin.ext h0
    have e1 : y 1 = (⟨1024 + l.val, by omega⟩ : Fin 6144) := Fin.ext h1
    rw [e0, e1]
    refine Eq.trans ?_ (blk_plain _ _ _ _ _ p _ (by simp only; omega) (by simp only; omega)).symm
    exact tile_at (hB m c t) (iblk m c 2 t) _ _ l (fun k => by pointwise []) p
  · obtain ⟨p, l, rfl⟩ : ∃ (p : Fin 256) (l : Fin 512), x = ix2 p l := ⟨x 0, x 1, by idx_vars x⟩
    have e0 : y 0 = p := Fin.ext h0
    have e1 : y 1 = (⟨512 + l.val, by omega⟩ : Fin 6144) := Fin.ext h1
    rw [e0, e1]
    refine (congrFun (pay_tile1 (hB m c t) _ _ _ _ _ _ _) _).trans (Eq.trans ?_ (blk_conv _ _ _ _ _ p _ (by simp only; omega)).symm)
    exact cv_tile (hB m c t) (iblk m c 2 t) (iblk m c 3 t) (iblk m c 4 t) _ _ _ _ _ _ _ _ p l ⟨512 + l.val, by omega⟩ (fun k => by pointwise []) (fun r => by pointwise [k0_pay1, k0_pay2, k0_pay3, k0_pay4, k0_pay5, k0_pay6, k0_pay7, k0_pay8, k0_pay9]) (by pointwise []) (by pointwise []) (by pointwise []) (by pointwise []) (by pointwise [])
  · obtain ⟨p, l, rfl⟩ : ∃ (p : Fin 256) (l : Fin 512), x = ix2 p l := ⟨x 0, x 1, by idx_vars x⟩
    have e0 : y 0 = p := Fin.ext h0
    have e1 : y 1 = (⟨0 + l.val, by omega⟩ : Fin 6144) := Fin.ext (h1.trans (Nat.zero_add _).symm)
    rw [e0, e1]
    refine (congrFun (pay_tile0 (hB m c t) _ _ _ _ _ _ _) _).trans (Eq.trans ?_ (blk_conv _ _ _ _ _ p _ (by simp only; omega)).symm)
    exact cv_tile (hB m c t) (iblk m c 2 t) (iblk m c 3 t) (iblk m c 4 t) _ _ _ _ _ _ _ _ p l ⟨0 + l.val, by omega⟩ (fun k => by pointwise []) (fun r => by pointwise [k0_pay1, k0_pay2, k0_pay3, k0_pay4, k0_pay5, k0_pay6, k0_pay7, k0_pay8, k0_pay9]) (by pointwise []) (by pointwise []) (by pointwise []) (by pointwise []) (by pointwise [])

theorem out5_B (t : Fin cfg0.N) (hz : ¬ t.val % 32 = 0) (y : S256x6144.Idx) : (outsAt0 m c t.val t.isLt).1 y
    = blkOf (hB m c t) (iblk m c 2 t) (iblk m c 3 t) (iblk m c 4 t)
        (fun r j => yAt (hB m c ⟨t.val - 1, by omega⟩) (iblk m c 2 ⟨t.val - 1, by omega⟩) ⟨248 + r.val, by omega⟩ j) (y 0) (y 1) := by
  rw [outsAt0_B m c t hz]
  frame_out
  generalize g0 : View.read (Elt Ideal) (View.whole cc0_scratch0) _ = C0
  have q0 : ∀ (r : Fin 8) (l : Fin 512), C0 (ix2 r l) = yAt (hB m c ⟨t.val - 1, by omega⟩) (iblk m c 2 ⟨t.val - 1, by omega⟩) ⟨248 + r.val, by omega⟩ ⟨0 + l.val, by omega⟩ :=
    fun r l => (congrFun (g0.symm.trans (Memref.IsWhole.read_unread _ _)) _).trans (tail0 m c ⟨t.val - 1, by omega⟩ r l)
  clear g0
  generalize g1 : View.read (Elt Ideal) (View.whole cc0_scratch1) _ = C1
  have q1 : ∀ (r : Fin 8) (l : Fin 512), C1 (ix2 r l) = yAt (hB m c ⟨t.val - 1, by omega⟩) (iblk m c 2 ⟨t.val - 1, by omega⟩) ⟨248 + r.val, by omega⟩ ⟨512 + l.val, by omega⟩ :=
    fun r l => (congrFun (g1.symm.trans (Memref.IsWhole.read_unread _ _)) _).trans (tail1 m c ⟨t.val - 1, by omega⟩ r l)
  clear g1
  generalize g2 : View.read (Elt Ideal) (View.whole cc0_scratch2) _ = C2
  have q2 : ∀ (r : Fin 8) (l : Fin 512), C2 (ix2 r l) = yAt (hB m c ⟨t.val - 1, by omega⟩) (iblk m c 2 ⟨t.val - 1, by omega⟩) ⟨248 + r.val, by omega⟩ ⟨2048 + l.val, by omega⟩ :=
    fun r l => (congrFun (g2.symm.trans (Memref.IsWhole.read_unread _ _)) _).trans (tail2 m c ⟨t.val - 1, by omega⟩ r l)
  clear g2
  generalize g3 : View.read (Elt Ideal) (View.whole cc0_scratch3) _ = C3
  have q3 : ∀ (r : Fin 8) (l : Fin 512), C3 (ix2 r l) = yAt (hB m c ⟨t.val - 1, by omega⟩) (iblk m c 2 ⟨t.val - 1, by omega⟩) ⟨248 + r.val, by omega⟩ ⟨2560 + l.val, by omega⟩ :=
    fun r l => (congrFun (g3.symm.trans (Memref.IsWhole.read_unread _ _)) _).trans (tail3 m c ⟨t.val - 1, by omega⟩ r l)
  clear g3
  generalize g4 : View.read (Elt Ideal) (View.whole cc0_scratch4) _ = C4
  have q4 : ∀ (r : Fin 8) (l : Fin 512), C4 (ix2 r l) = yAt (hB m c ⟨t.val - 1, by omega⟩) (iblk m c 2 ⟨t.val - 1, by omega⟩) ⟨248 + r.val, by omega⟩ ⟨3072 + l.val, by omega⟩ :=
    fun r l => (congrFun (g4.symm.trans (Memref.IsWhole.read_unread _ _)) _).trans (tail4 m c ⟨t.val - 1, by omega⟩ r l)
  clear g4
  generalize g5 : View.read (Elt Ideal) (View.whole cc0_scratch5) _ = C5
  have q5 : ∀ (r : Fin 8) (l : Fin 512), C5 (ix2 r l) = yAt (hB m c ⟨t.val - 1, by omega⟩) (iblk m c 2 ⟨t.val - 1, by omega⟩) ⟨248 + r.val, by omega⟩ ⟨3584 + l.val, by omega⟩ :=
    fun r l => (congrFun (g5.symm.trans (Memref.IsWhole.read_unread _ _)) _).trans (tail5 m c ⟨t.val - 1, by omega⟩ r l)
  clear g5
  generalize g6 : View.read (Elt Ideal) (View.whole cc0_scratch6) _ = C6
  have q6 : ∀ (r : Fin 8) (l : Fin 512), C6 (ix2 r l) = yAt (hB m c ⟨t.val - 1, by omega⟩) (iblk m c 2 ⟨t.val - 1, by omega⟩) ⟨248 + r.val, by omega⟩ ⟨4096 + l.val, by omega⟩ :=
    fun r l => (congrFun (g6.symm.trans (Memref.IsWhole.read_unread _ _)) _).trans (tail6 m c ⟨t.val - 1, by omega⟩ r l)
  clear g6
  generalize g7 : View.read (Elt Ideal) (View.whole cc0_scratch7) _ = C7
  have q7 : ∀ (r : Fin 8) (l : Fin 512), C7 (ix2 r l) = yAt (hB m c ⟨t.val - 1, by omega⟩) (iblk m c 2 ⟨t.val - 1, by omega⟩) ⟨248 + r.val, by omega⟩ ⟨4608 + l.val, by omega⟩ :=
    fun r l => (congrFun (g7.symm.trans (Memref.IsWhole.read_unread _ _)) _).trans (tail7 m c ⟨t.val - 1, by omega⟩ r l)
  clear g7
  canon_tiles x h
  · obtain ⟨p, l, rfl⟩ : ∃ (p : Fin 256) (l : Fin 512), x = ix2 p l := ⟨x 0, x 1, by idx_vars x⟩
    have e0 : y 0 = p := Fin.ext h0
    have e1 : y 1 = (⟨5632 + l.val, by omega⟩ : Fin 6144) := Fin.ext h1
    rw [e0, e1]
    refine Eq.trans ?_ (blk_plain _ _ _ _ _ p _ (by simp only; omega) (by simp only; omega)).symm
    exact tile_at (hB m c t) (iblk m c 2 t) _ _ l (fun k => by pointwise []) p
  · obtain ⟨p, l, rfl⟩ : ∃ (p : Fin 256) (l : Fin 512), x = ix2 p l := ⟨x 0, x 1, by idx_vars x⟩
    have e0 : y 0 = p := Fin.ext h0
    have e1 : y 1 = (⟨5120 + l.val, by omega⟩ : Fin 6144) := Fin.ext h1
    rw [e0, e1]
    refine Eq.trans ?_ (blk_plain _ _ _ _ _ p _ (by simp only; omega) (by simp only; omega)).symm
    exact tile_at (hB m c t) (iblk m c 2 t) _ _ l (fun k => by pointwise []) p
  · obtain ⟨p, l, rfl⟩ : ∃ (p : Fin 256) (l : Fin 512), x = ix2 p l := ⟨x 0, x 1, by idx_vars x⟩
    have e0 : y 0 = p := Fin.ext h0
    have e1 : y 1 = (⟨4608 + l.val, by omega⟩ : Fin 6144) := Fin.ext h1
    rw [e0, e1]
    refine (congrFun (pay_tile9 (hB m c t) _ _ _ _ _ _ _) _).trans ((gated_at _ _).trans (Eq.trans ?_ (blk_gated _ _ _ _ _ p _ (by simp only; omega) (by simp only; omega)).symm))
    exact congrArg (fun z : EReal => z * sg z) (cv_tile (hB m c t) (iblk m c 2 t) (iblk m c 3 t) (iblk m c 4 t) _ _ _ _ _ _ _ _ p l ⟨4608 + l.val, by omega⟩ (fun k => by pointwise []) (fun r => q7 r l) (by pointwise []) (by pointwise []) (by pointwise []) (by pointwise []) (by pointwise []))
  · obtain ⟨p, l, rfl⟩ : ∃ (p : Fin 256) (l : Fin 512), x = ix2 p l := ⟨x 0, x 1, by idx_vars x⟩
    have e0 : y 0 = p := Fin.ext h0
    have e1 : y 1 = (⟨4096 + l.val, by omega⟩ : Fin 6144) := Fin.ext h1
    rw [e0, e1]
    refine (congrFun (pay_tile8 (hB m c t) _ _ _ _ _ _ _) _).trans ((gated_at _ _).trans (Eq.trans ?_ (blk_gated _ _ _ _ _ p _ (by simp only; omega) (by simp only; omega)).symm))
    exact congrArg (fun z : EReal => z * sg z) (cv_tile (hB m c t) (iblk m c 2 t) (iblk m c 3 t) (iblk m c 4 t) _ _ _ _ _ _ _ _ p l ⟨4096 + l.val, by omega⟩ (fun k => by pointwise []) (fun r => q6 r l) (by pointwise []) (by pointwise []) (by pointwise []) (by pointwise []) (by pointwise []))
  · obtain ⟨p, l, rfl⟩ : ∃ (p : Fin 256) (l : Fin 512), x = ix2 p l := ⟨x 0, x 1, by idx_vars x⟩
    have e0 : y 0 = p := Fin.ext h0
    have e1 : y 1 = (⟨3584 + l.val, by omega⟩ : Fin 6144) := Fin.ext h1
    rw [e0, e1]
    refine (congrFun (pay_tile7 (hB m c t) _ _ _ _ _ _ _) _).trans ((gated_at _ _).trans (Eq.trans ?_ (blk_gated _ _ _ _ _ p _ (by simp only; omega) (by simp only; omega)).symm))
    exact congrArg (fun z : EReal => z * sg z) (cv_tile (hB m c t) (iblk m c 2 t) (iblk m c 3 t) (iblk m c 4 t) _ _ _ _ _ _ _ _ p l ⟨3584 + l.val, by omega⟩ (fun k => by pointwise []) (fun r => q5 r l) (by pointwise []) (by pointwise []) (by pointwise []) (by pointwise []) (by pointwise []))
  · obtain ⟨p, l, rfl⟩ : ∃ (p : Fin 256) (l : Fin 512), x = ix2 p l := ⟨x 0, x 1, by idx_vars x⟩
    have e0 : y 0 = p := Fin.ext h0
    have e1 : y 1 = (⟨3072 + l.val, by omega⟩ : Fin 6144) := Fin.ext h1
    rw [e0, e1]
    refine (congrFun (pay_tile6 (hB m c t) _ _ _ _ _ _ _) _).trans ((gated_at _ _).trans (Eq.trans ?_ (blk_gated _ _ _ _ _ p _ (by simp only; omega) (by simp only; omega)).symm))
    exact congrArg (fun z : EReal => z * sg z) (cv_tile (hB m c t) (iblk m c 2 t) (iblk m c 3 t) (iblk m c 4 t) _ _ _ _ _ _ _ _ p l ⟨3072 + l.val, by omega⟩ (fun k => by pointwise []) (fun r => q4 r l) (by pointwise []) (by pointwise []) (by pointwise []) (by pointwise []) (by pointwise []))
  · obtain ⟨p, l, rfl⟩ : ∃ (p : Fin 256) (l : Fin 512), x = ix2 p l := ⟨x 0, x 1, by idx_vars x⟩
    have e0 : y 0 = p := Fin.ext h0
    have e1 : y 1 = (⟨2560 + l.val, by omega⟩ : Fin 6144) := Fin.ext h1
    rw [e0, e1]
    refine (congrFun (pay_tile5 (hB m c t) _ _ _ _ _ _ _) _).trans ((gated_at _ _).trans (Eq.trans ?_ (blk_gated _ _ _ _ _ p _ (by simp only; omega) (by simp only; omega)).symm))
    exact congrArg (fun z : EReal => z * sg z) (cv_tile (hB m c t) (iblk m c 2 t) (iblk m c 3 t) (iblk m c 4 t) _ _ _ _ _ _ _ _ p l ⟨2560 + l.val, by omega⟩ (fun k => by pointwise []) (fun r => q3 r l) (by pointwise []) (by pointwise []) (by pointwise []) (by pointwise []) (by pointwise []))
  · obtain ⟨p, l, rfl⟩ : ∃ (p : Fin 256) (l : Fin 512), x = ix2 p l := ⟨x 0, x 1, by idx_vars x⟩
    have e0 : y 0 = p := Fin.ext h0
    have e1 : y 1 = (⟨2048 + l.val, by omega⟩ : Fin 6144) := Fin.ext h1
    rw [e0, e1]
    refine (congrFun (pay_tile4 (hB m c t) _ _ _ _ _ _ _) _).trans ((gated_at _ _).trans (Eq.trans ?_ (blk_gated _ _ _ _ _ p _ (by simp only; omega) (by simp only; omega)).symm))
    exact congrArg (fun z : EReal => z * sg z) (cv_tile (hB m c t) (iblk m c 2 t) (iblk m c 3 t) (iblk m c 4 t) _ _ _ _ _ _ _ _ p l ⟨2048 + l.val, by omega⟩ (fun k => by pointwise []) (fun r => q2 r l) (by pointwise []) (by pointwise []) (by pointwise []) (by pointwise []) (by pointwise []))
  · obtain ⟨p, l, rfl⟩ : ∃ (p : Fin 256) (l : Fin 512), x = ix2 p l := ⟨x 0, x 1, by idx_vars x⟩
    have e0 : y 0 = p := Fin.ext h0
    have e1 : y 1 = (⟨1536 + l.val, by omega⟩ : Fin 6144) := Fin.ext h1
    rw [e0, e1]
    refine Eq.trans ?_ (blk_plain _ _ _ _ _ p _ (by simp only; omega) (by simp only; omega)).symm
    exact tile_at (hB m c t) (iblk m c 2 t) _ _ l (fun k => by pointwise []) p
  · obtain ⟨p, l, rfl⟩ : ∃ (p : Fin 256) (l : Fin 512), x = ix2 p l := ⟨x 0, x 1, by idx_vars x⟩
    have e0 : y 0 = p := Fin.ext h0
    have e1 : y 1 = (⟨1024 + l.val, by omega⟩ : Fin 6144) := Fin.ext h1
    rw [e0, e1]
    refine Eq.trans ?_ (blk_plain _ _ _ _ _ p _ (by simp only; omega) (by simp only; omega)).symm
    exact tile_at (hB m c t) (iblk m c 2 t) _ _ l (fun k => by pointwise []) p
  · obtain ⟨p, l, rfl⟩ : ∃ (p : Fin 256) (l : Fin 512), x = ix2 p l := ⟨x 0, x 1, by idx_vars x⟩
    have e0 : y 0 = p := Fin.ext h0
    have e1 : y 1 = (⟨512 + l.val, by omega⟩ : Fin 6144) := Fin.ext h1
    rw [e0, e1]
    refine (congrFun (pay_tile1 (hB m c t) _ _ _ _ _ _ _) _).trans (Eq.trans ?_ (blk_conv _ _ _ _ _ p _ (by simp only; omega)).symm)
    exact cv_tile (hB m c t) (iblk m c 2 t) (iblk m c 3 t) (iblk m c 4 t) _ _ _ _ _ _ _ _ p l ⟨512 + l.val, by omega⟩ (fun k => by pointwise []) (fun r => q1 r l) (by pointwise []) (by pointwise []) (by pointwise []) (by pointwise []) (by pointwise [])
  · obtain ⟨p, l, rfl⟩ : ∃ (p : Fin 256) (l : Fin 512), x = ix2 p l := ⟨x 0, x 1, by idx_vars x⟩
    have e0 : y 0 = p := Fin.ext h0
    have e1 : y 1 = (⟨0 + l.val, by omega⟩ : Fin 6144) := Fin.ext (h1.trans (Nat.zero_add _).symm)
    rw [e0, e1]
    refine (congrFun (pay_tile0 (hB m c t) _ _ _ _ _ _ _) _).trans (Eq.trans ?_ (blk_conv _ _ _ _ _ p _ (by simp only; omega)).symm)
    exact cv_tile (hB m c t) (iblk m c 2 t) (iblk m c 3 t) (iblk m c 4 t) _ _ _ _ _ _ _ _ p l ⟨0 + l.val, by omega⟩ (fun k => by pointwise []) (fun r => q0 r l) (by pointwise []) (by pointwise []) (by pointwise []) (by pointwise []) (by pointwise [])

theorem rest_of (P : FVec Ideal S256x16 .f32) (Q : FVec Ideal S256x128 .f32) (y : S256x128.Idx) :
    View.canon [(⟨Rect.unit ![0, 0] ![256, 16] inb_S256x128_S256x16_0_0, P⟩ : View.Piece (Elt Ideal) S256x128 .f32),
      ⟨Rect.unit ![0, 0] ![256, 128] inb_S256x128_S256x128_0_0, Q⟩] y
      = if h : (y 1).val < 16 then P (ix2 (y 0) ⟨(y 1).val, h⟩) else Q y := by
  by_cases h : (y 1).val < 16
  · refine Eq.trans ?_ (dif_pos h).symm
    have e : y = (Rect.unit (s := S256x128) ![0, 0] ![256, 16] inb_S256x128_S256x16_0_0).emb (ix2 (y 0) ⟨(y 1).val, h⟩) := by
      funext a
      fin_cases a
      · exact Fin.ext (show (y 0).val = 0 + 1 * (y 0).val by omega)
      · exact Fin.ext (show (y 1).val = 0 + 1 * (y 1).val by omega)
    exact (congrArg _ e).trans (View.canon_cons_emb _ _ _ _)
  · refine Eq.trans ?_ (dif_neg h).symm
    refine (View.canon_cons_of_not_mem _ _ ?_).trans ?_
    · intro hm
      have hk : 0 ≤ (y 1).val ∧ (y 1).val < 0 + 16 := (Rect.mem_set_unit (inb := inb_S256x128_S256x16_0_0)).mp hm 1
      exact h (by omega)
    · exact congrFun (View.canon_cons_unit_lit _ _ _ (by decide)) y

theorem out6_at (t : Fin cfg0.N) (y : S256x128.Idx) : (outsAt0 m c t.val t.isLt).2.1 y
    = if h : (y 1).val < 16 then yAt (hB m c t) (iblk m c 2 t) (y 0) ⟨6144 + (y 1).val, by omega⟩ else 0 := by
  have e : (outsAt0 m c t.val t.isLt).2.1 y = View.canon [(⟨Rect.unit ![0, 0] ![256, 16] inb_S256x128_S256x16_0_0,
      k0_pay12 (F := Ideal) (iblk m c 0 t) (iblk m c 1 t) (View.ld (iblk m c 2 t) (Rect.unit ![0, 0, 6144] ![1, 2048, 16] inb_S1x2048x6160_S1x2048x16_0_0_6144))⟩ : View.Piece (Elt Ideal) S256x128 .f32),
      ⟨Rect.unit ![0, 0] ![256, 128] inb_S256x128_S256x128_0_0, k0_pay11 (F := Ideal)⟩] y := by
    by_cases hz : t.val % 32 = 0
    · rw [outsAt0_A m c t hz]
      frame_out
      rfl
    · rw [outsAt0_B m c t hz]
      frame_out
      rfl
  rw [e, rest_of]
  by_cases h : (y 1).val < 16
  · refine (dif_pos h).trans (Eq.trans ?_ (dif_pos h).symm)
    unfold yAt hB
    generalize y 0 = p
    generalize hl : (⟨(y 1).val, h⟩ : Fin 16) = l
    pointwise [k0_pay12]
    subst hl
    rfl
  · refine (dif_neg h).trans (Eq.trans ?_ (dif_neg h).symm)
    pointwise [k0_pay11]

theorem out5_at (t : Fin cfg0.N) (y : S256x6144.Idx) : (outsAt0 m c t.val t.isLt).1 y
    = blkOf (hB m c t) (iblk m c 2 t) (iblk m c 3 t) (iblk m c 4 t) (carryAt m c t) (y 0) (y 1) := by
  by_cases hz : t.val % 32 = 0
  · rw [out5_A m c t hz y]
    exact congrArg (fun C => blkOf (hB m c t) (iblk m c 2 t) (iblk m c 3 t) (iblk m c 4 t) C (y 0) (y 1))
      (funext fun r => funext fun j => (if_pos hz).symm)
  · rw [out5_B m c t hz y]
    exact congrArg (fun C => blkOf (hB m c t) (iblk m c 2 t) (iblk m c 3 t) (iblk m c 4 t) C (y 0) (y 1))
      (funext fun r => funext fun j => (if_neg hz).symm)

/-- A block's column of the projection, in the arguments. -/
theorem yAt_eq (t : Fin cfg0.N) (p : Fin 256) (j : Fin 6160) : yAt (hB m c t) (iblk m c 2 t) p j
    = projAt (aX m c) (aG m c) (aW m c) ⟨t.val * 256 + p.val, by have := lt64 t; omega⟩ j := by
  unfold yAt projAt
  refine Finset.sum_congr rfl fun k _ => ?_
  rw [w_at]
  refine congrArg (· * _) ((norm_at _ _ p k).trans ?_)
  rw [g_at]
  exact congrArg (fun f => normAt f _ k) (funext fun l => x_at m c t p l)

/-- The same, in its sequence. -/
theorem yAt_col (t : Fin cfg0.N) (p : Fin 256) (j : Fin 6160) : yAt (hB m c t) (iblk m c 2 t) p j
    = colAt (aX m c) (aG m c) (aW m c) ⟨t.val / 32, by have := lt64 t; omega⟩ j ⟨t.val % 32 * 256 + p.val, by omega⟩ := by
  rw [yAt_eq]
  unfold colAt
  exact congrArg (fun n => projAt (aX m c) (aG m c) (aW m c) n j) (Fin.ext (by simp only; omega))

theorem upOf_eq (t : Fin cfg0.N) (p : Fin 256) (j : Fin 6160) (d : ℕ) (hd : d ≤ 8) :
    upOf (hB m c t) (iblk m c 2 t) (carryAt m c t) p j d hd
      = past (colAt (aX m c) (aG m c) (aW m c) ⟨t.val / 32, by have := lt64 t; omega⟩ j) ⟨t.val % 32 * 256 + p.val, by omega⟩ d := by
  have ht := lt64 t
  unfold upOf past
  by_cases h : p.val < d
  · refine (dif_pos h).trans ?_
    unfold carryAt
    by_cases hz : t.val % 32 = 0
    · refine (if_pos hz).trans (Eq.symm ?_)
      rw [dif_pos (show t.val % 32 * 256 + p.val < d by omega)]
    · refine (if_neg hz).trans (Eq.trans ?_ (dif_neg (by show ¬ t.val % 32 * 256 + p.val < d; omega)).symm)
      rw [yAt_eq]
      unfold colAt
      exact congrArg (fun n => projAt (aX m c) (aG m c) (aW m c) n j) (Fin.ext (by simp only; omega))
  · refine (dif_neg h).trans (Eq.trans ?_ (dif_neg (by show ¬ t.val % 32 * 256 + p.val < d; omega)).symm)
    rw [yAt_eq]
    unfold colAt
    exact congrArg (fun n => projAt (aX m c) (aG m c) (aW m c) n j) (Fin.ext (by simp only; omega))

theorem swap4 (b w3 w2 w1 w0 y p1 p2 p3 : EReal) :
    b + w3 * y + w2 * p1 + w1 * p2 + w0 * p3 = p3 * w0 + p2 * w1 + p1 * w2 + y * w3 + b := by
  rw [mul_comm w3, mul_comm w2, mul_comm w1, mul_comm w0]
  ac_rfl

/-- A block's convolved column, in the arguments. -/
theorem cvAt_eq (t : Fin cfg0.N) (p : Fin 256) (j : Fin 6144) :
    cvAt (hB m c t) (iblk m c 2 t) (iblk m c 3 t) (iblk m c 4 t) (carryAt m c t) p j
      = convAt (colAt (aX m c) (aG m c) (aW m c) ⟨t.val / 32, by have := lt64 t; omega⟩ ⟨j.val, by omega⟩)
          (fun i => tapAt (aCl m c) (aCq m c) i j) ⟨t.val % 32 * 256 + p.val, by omega⟩
        + (if h : j.val < 1024 then aBl m c (ix1 ⟨j.val, h⟩) else 0) := by
  unfold cvAt convAt
  rw [upOf_eq, upOf_eq, upOf_eq, yAt_col, b_at, k_at, k_at, k_at, k_at]
  exact swap4 _ _ _ _ _ _ _ _ _

theorem out_at (t : Fin cfg0.N) (p : Fin 256) (j : Fin 6144) : (outsAt0 m c t.val t.isLt).1 (ix2 p j)
    = mainOf (colAt (aX m c) (aG m c) (aW m c)) (aCl m c) (aBl m c) (aCq m c) ⟨t.val / 32, by have := lt64 t; omega⟩
        ⟨t.val % 32 * 256 + p.val, by omega⟩ j := by
  refine (out5_at m c t (ix2 p j)).trans ?_
  show blkOf (hB m c t) (iblk m c 2 t) (iblk m c 3 t) (iblk m c 4 t) (carryAt m c t) p j = _
  unfold mainOf
  by_cases h : j.val < 1024
  · refine (blk_conv _ _ _ _ _ p j h).trans (Eq.trans ?_ (dif_pos h).symm)
    refine (cvAt_eq m c t p j).trans (congrArg₂ (· + ·) ?_ (dif_pos h))
    exact congrArg (fun f => convAt _ f _) (funext fun i => dif_pos h)
  refine Eq.trans ?_ (dif_neg h).symm
  by_cases h2 : j.val < 2048
  · refine (blk_plain _ _ _ _ _ p j (by omega) (.inl h2)).trans ((yAt_col m c t p _).trans (Eq.symm ?_))
    rw [dif_pos h2]
  refine Eq.trans ?_ (dif_neg h2).symm
  by_cases h3 : j.val < 5120
  · refine (blk_gated _ _ _ _ _ p j (by omega) h3).trans (Eq.trans ?_ (dif_pos h3).symm)
    refine congrArg (fun z : EReal => z * sg z) ((cvAt_eq m c t p j).trans ?_)
    refine (congrArg₂ (· + ·) ?_ (dif_neg h)).trans (add_zero _)
    exact congrArg (fun f => convAt _ f _) (funext fun i => (dif_neg h).trans ((dif_neg h2).trans (dif_pos h3)))
  · refine (blk_plain _ _ _ _ _ p j (by omega) (.inr (by omega))).trans ((yAt_col m c t p _).trans (Eq.symm ?_))
    rw [dif_neg h3]

theorem rest_at (t : Fin cfg0.N) (p : Fin 256) (j : Fin 128) : (outsAt0 m c t.val t.isLt).2.1 (ix2 p j)
    = restAt (aX m c) (aG m c) (aW m c) ⟨t.val * 256 + p.val, by have := lt64 t; omega⟩ j := by
  refine (out6_at m c t (ix2 p j)).trans ?_
  unfold restAt
  by_cases h : j.val < 16
  · refine (dif_pos h).trans ((yAt_eq m c t p _).trans (Eq.symm ?_))
    rw [dif_pos h]
    rfl
  · refine (dif_neg h).trans (Eq.symm ?_)
    rw [dif_neg h]

/-- The first array after the whole grid. -/
theorem G5_at (n : Fin 16384) (j : Fin 6144) : Cert.InProjIdeal.Value.G5 m c (ix2 n j)
    = mainOf (colAt (aX m c) (aG m c) (aW m c)) (aCl m c) (aBl m c) (aCq m c) ⟨n.val / 8192, by omega⟩ ⟨n.val % 8192, by omega⟩ j := by
  have hp : Cert.InProjIdeal.Value.pt5Of (ix2 n j) = n.val / 256 := by
    show 1 * (n.val / 256 - 0) + 1 * (j.val / 6144 - 0) = n.val / 256
    omega
  have hb : n.val / 256 < cfg0.N := by
    show n.val / 256 < 64
    omega
  have hl : Cert.InProjIdeal.Value.loc5Of (ix2 n j) = ix2 (⟨n.val % 256, by omega⟩ : Fin 256) j := by
    funext a
    fin_cases a
    · rfl
    · exact Fin.ext (Nat.mod_eq_of_lt j.isLt)
  unfold Cert.InProjIdeal.Value.G5
  simp only [hp, hl]
  rw [dif_pos hb, ← Cert.InProjIdeal.Value.outsAt0_sweep m c _ hb]
  refine (out_at m c ⟨n.val / 256, hb⟩ ⟨n.val % 256, by omega⟩ j).trans ?_
  exact congrArg₂ (fun b s => mainOf (colAt (aX m c) (aG m c) (aW m c)) (aCl m c) (aBl m c) (aCq m c) b s j)
    (Fin.ext (by simp only; omega)) (Fin.ext (by simp only; omega))

/-- The second array after the whole grid. -/
theorem G6_at (n : Fin 16384) (j : Fin 128) : Cert.InProjIdeal.Value.G6 m c (ix2 n j) = restAt (aX m c) (aG m c) (aW m c) n j := by
  have hp : Cert.InProjIdeal.Value.pt6Of (ix2 n j) = n.val / 256 := by
    show 1 * (n.val / 256 - 0) + 1 * (j.val / 128 - 0) = n.val / 256
    omega
  have hb : n.val / 256 < cfg0.N := by
    show n.val / 256 < 64
    omega
  have hl : Cert.InProjIdeal.Value.loc6Of (ix2 n j) = ix2 (⟨n.val % 256, by omega⟩ : Fin 256) j := by
    funext a
    fin_cases a
    · rfl
    · exact Fin.ext (Nat.mod_eq_of_lt j.isLt)
  unfold Cert.InProjIdeal.Value.G6
  simp only [hp, hl]
  rw [dif_pos hb, ← Cert.InProjIdeal.Value.outsAt0_sweep m c _ hb]
  refine (rest_at m c ⟨n.val / 256, hb⟩ ⟨n.val % 256, by omega⟩ j).trans ?_
  exact congrArg (fun r => restAt (aX m c) (aG m c) (aW m c) r j) (Fin.ext (by simp only; omega))

end Cert.InProjIdeal.Cnv
end
-- ==== Proof.lean ====
module

public import proofs.«01_k».proof.Defs
public import proofs.«01_k».proof.Proof.Gen.Router
public import proofs.«01_k».proof.Proof.Gen.Router.Skeleton
public import proofs.«01_k».proof.Proof.Gen.Router.Launch
public import proofs.«01_k».proof.Proof.Gen.Router.Points
public import proofs.«01_k».proof.Proof.Gen.Router.Frame
public import proofs.«01_k».proof.Proof.Gen.RouterIdeal
public import proofs.«01_k».proof.Proof.Gen.RouterIdeal.Skeleton
public import proofs.«01_k».proof.Proof.Gen.RouterIdeal.Launch
public import proofs.«01_k».proof.Proof.Gen.RouterIdeal.Points
public import proofs.«01_k».proof.Proof.Gen.RouterIdeal.Frame
public import proofs.«01_k».proof.Proof.Gen.RouterIdeal.Value
public import proofs.«01_k».proof.Proof.Gen.RouterRefIdeal
public import proofs.«01_k».proof.Proof.Gen.RouterRefIdeal.Run
public import proofs.«01_k».proof.Proof.Gen.Slots
public import proofs.«01_k».proof.Proof.Gen.Slots.Skeleton
public import proofs.«01_k».proof.Proof.Gen.Slots.Launch
public import proofs.«01_k».proof.Proof.Gen.Slots.Points
public import proofs.«01_k».proof.Proof.Gen.Slots.Frame
public import proofs.«01_k».proof.Proof.Gen.SlotsIdeal
public import proofs.«01_k».proof.Proof.Gen.SlotsIdeal.Skeleton
public import proofs.«01_k».proof.Proof.Gen.SlotsIdeal.Launch
public import proofs.«01_k».proof.Proof.Gen.SlotsIdeal.Points
public import proofs.«01_k».proof.Proof.Gen.SlotsIdeal.Frame
public import proofs.«01_k».proof.Proof.Gen.SlotsRefIdeal
public import proofs.«01_k».proof.Proof.Gen.SlotsRefIdeal.Run
public import proofs.«01_k».proof.Proof.Gen.DeltaNet
public import proofs.«01_k».proof.Proof.Gen.DeltaNet.Skeleton
public import proofs.«01_k».proof.Proof.Gen.DeltaNet.Launch
public import proofs.«01_k».proof.Proof.Gen.DeltaNet.Points
public import proofs.«01_k».proof.Proof.Gen.DeltaNet.Frame
public import proofs.«01_k».proof.Proof.Gen.DeltaNetIdeal
public import proofs.«01_k».proof.Proof.Gen.DeltaNetIdeal.Skeleton
public import proofs.«01_k».proof.Proof.Gen.DeltaNetIdeal.Launch
public import proofs.«01_k».proof.Proof.Gen.DeltaNetIdeal.Points
public import proofs.«01_k».proof.Proof.Gen.DeltaNetIdeal.Frame
public import proofs.«01_k».proof.Proof.Gen.Route
public import proofs.«01_k».proof.Proof.Gen.Route.Skeleton
public import proofs.«01_k».proof.Proof.Gen.Route.Launch
public import proofs.«01_k».proof.Proof.Gen.Route.Points
public import proofs.«01_k».proof.Proof.Gen.Route.Frame
public import proofs.«01_k».proof.Proof.Gen.RouteIdeal
public import proofs.«01_k».proof.Proof.Gen.RouteIdeal.Skeleton
public import proofs.«01_k».proof.Proof.Gen.RouteIdeal.Launch
public import proofs.«01_k».proof.Proof.Gen.RouteIdeal.Points
public import proofs.«01_k».proof.Proof.Gen.RouteIdeal.Frame
public import proofs.«01_k».proof.Proof.Gen.RouteIdeal.Value
public import proofs.«01_k».proof.Proof.Gen.RouteRefIdeal
public import proofs.«01_k».proof.Proof.Gen.RouteRefIdeal.Run
public import proofs.«01_k».proof.Proof.RouteKer
public import proofs.«01_k».proof.Proof.RouteRef
public import proofs.«01_k».proof.Proof.RouteMask
public import proofs.«01_k».proof.Proof.RouterKer
public import proofs.«01_k».proof.Proof.RouterMask
public import proofs.«01_k».proof.Proof.SlotsKer
public import proofs.«01_k».proof.Proof.SlotsRef
public import proofs.«01_k».proof.Proof.Gen.Experts
public import proofs.«01_k».proof.Proof.Gen.Experts.Skeleton
public import proofs.«01_k».proof.Proof.Gen.Experts.Launch
public import proofs.«01_k».proof.Proof.Gen.ExpertsIdeal
public import proofs.«01_k».proof.Proof.Gen.ExpertsIdeal.Skeleton
public import proofs.«01_k».proof.Proof.Gen.ExpertsIdeal.Launch
public import proofs.«01_k».proof.Proof.Gen.ExpertsRefIdeal
public import proofs.«01_k».proof.Proof.Gen.ExpertsRefIdeal.Run
public import proofs.«01_k».proof.Proof.ExpertsFrame
public import proofs.«01_k».proof.Proof.ExpertsTab
public import proofs.«01_k».proof.Proof.ExpertsIdealFrame
public import proofs.«01_k».proof.Proof.ExpertsIdealTab
public import proofs.«01_k».proof.Proof.ExpertsRef
public import proofs.«01_k».proof.Proof.ExpertsIdealKer
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Step
public import proofs.«01_k».proof.Proof.LruStepRun
public import proofs.«01_k».proof.Proof.LruRef
public import proofs.«01_k».proof.Proof.LruKer
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnIdeal.Value
public import proofs.«01_k».proof.Proof.Gen.FfnRefIdeal
public import proofs.«01_k».proof.Proof.Gen.FfnRefIdeal.Run
public import proofs.«01_k».proof.Proof.Gen.OutProj
public import proofs.«01_k».proof.Proof.Gen.OutProj.Skeleton
public import proofs.«01_k».proof.Proof.Gen.OutProj.Launch
public import proofs.«01_k».proof.Proof.Gen.OutProj.Points
public import proofs.«01_k».proof.Proof.Gen.OutProj.Frame
public import proofs.«01_k».proof.Proof.Gen.OutProjIdeal
public import proofs.«01_k».proof.Proof.Gen.OutProjIdeal.Skeleton
public import proofs.«01_k».proof.Proof.Gen.OutProjIdeal.Launch
public import proofs.«01_k».proof.Proof.Gen.OutProjIdeal.Points
public import proofs.«01_k».proof.Proof.Gen.OutProjIdeal.Frame
public import proofs.«01_k».proof.Proof.Gen.OutProjIdeal.Value
public import proofs.«01_k».proof.Proof.Gen.OutProjRefIdeal
public import proofs.«01_k».proof.Proof.Gen.OutProjRefIdeal.Run
public import proofs.«01_k».proof.Proof.Gen.InProj
public import proofs.«01_k».proof.Proof.Gen.InProj.Skeleton
public import proofs.«01_k».proof.Proof.Gen.InProj.Launch
public import proofs.«01_k».proof.Proof.Gen.InProj.Points
public import proofs.«01_k».proof.Proof.Gen.InProj.Frame
public import proofs.«01_k».proof.Proof.Gen.InProjIdeal
public import proofs.«01_k».proof.Proof.Gen.InProjIdeal.Skeleton
public import proofs.«01_k».proof.Proof.Gen.InProjIdeal.Launch
public import proofs.«01_k».proof.Proof.Gen.InProjIdeal.Points
public import proofs.«01_k».proof.Proof.Gen.InProjIdeal.Frame
public import proofs.«01_k».proof.Proof.Gen.InProjIdeal.Value
public import proofs.«01_k».proof.Proof.Gen.InProjRefIdeal
public import proofs.«01_k».proof.Proof.Gen.InProjRefIdeal.Run
public import proofs.«01_k».proof.Proof.FfnRef
public import proofs.«01_k».proof.Proof.FfnKer
public import proofs.«01_k».proof.Proof.OutProjRef
public import proofs.«01_k».proof.Proof.OutProjKer
public import proofs.«01_k».proof.Proof.InProjRef
public import proofs.«01_k».proof.Proof.InProjKer
public import Idealize.ShloMosaic.Lib.Quiescent
public import Idealize.ShloMosaic.Adequacy
public import Idealize.ShloMosaic.Init

@[expose] public section

noncomputable section

namespace Cert.Proof

open Idealize.ShloMosaic Idealize.SL.Sem

theorem frame_ref : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run m ρ)

/-- The kernel's result array is the reference's: both are `outAt` entry by entry. -/
theorem algebraic : Cert.algebraic_KernelIdeal_ReferenceIdeal := by
  intro m ρ m' ρ' _ hagree
  refine ⟨fun c => Cert.KernelIdeal.Value.G8 m c, Cert.KernelIdeal.Value.run (F := Ideal) m ρ, ?_⟩
  have hrun := Cert.ReferenceIdeal.LruStepRun.run_iter (F := Ideal) m' ρ'
    (fun c => Cert.ReferenceIdeal.Lru.it (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg3))
      (m' ((c.tc : Thread Cert.ReferenceIdeal.nD Cert.ReferenceIdeal.τ).loc Cert.ReferenceIdeal.main_arg4))
      (m' ((c.tc : Thread Cert.ReferenceIdeal.nD Cert.ReferenceIdeal.τ).loc Cert.ReferenceIdeal.main_arg5)))
    (fun c => rfl) (fun c n => rfl)
  refine (θ_run _ _ _).mono (fun _ h c => ⟨(h c).1.trans ?_, (h c).2⟩) hrun
  obtain ⟨e0, e1, e2, e3, e4, e5, e6⟩ := hagree c
  rw [e0, e1, e2, e3, e4, e5, e6]
  funext i
  obtain ⟨n, k, rfl⟩ : ∃ (n : Fin 16384) (k : Fin 1024), i = ix2 n k := ⟨i 0, i 1, by idx_vars i⟩
  exact (Cert.ReferenceIdeal.Lru.result_at _ _ _ _ _ _ _ n k).trans (Cert.KernelIdeal.Lru.G8_at m c n k).symm

theorem frame_ffn_ref : Cert.quiescent_FfnRefIdeal := fun m ρ _ =>
  (θ_run Cert.FfnRefIdeal.defs _ _).mono (fun r h => ⟨fun c => (h c).2,
      Idealize.ShloMosaic.sem_eq_zero_of_no_sems (by decide) r.2⟩)
    (Cert.FfnRefIdeal.Value.run m ρ)

/-- The dense feed-forward call's array is the reference's. -/
theorem algebraic_ffn : Cert.algebraic_FfnIdeal_FfnRefIdeal := by
  intro m ρ m' ρ' _ hagree
  refine ⟨fun c => Cert.FfnIdeal.Value.G5 m c, Cert.FfnIdeal.Value.run (F := Ideal) m ρ, ?_⟩
  refine (θ_run _ _ _).mono (fun _ h c => ⟨(h c).1.trans ?_, (h c).2⟩) (Cert.FfnRefIdeal.Value.run (F := Ideal) m' ρ')
  obtain ⟨e0, e1, e2, e3, e4⟩ := hagree c
  rw [e0, e1, e2, e3, e4]
  funext i
  obtain ⟨n, k, rfl⟩ : ∃ (n : Fin 16384) (k : Fin 2048), i = ix2 n k := ⟨i 0, i 1, by idx_vars i⟩
  exact (Cert.FfnRefIdeal.Swi.result_at _ _ _ _ _ n k).trans (Cert.FfnIdeal.Swi.G5_at m c n k).symm

theorem frame_out_proj_ref : Cert.quiescent_OutProjRefIdeal := fun m ρ _ =>
  (θ_run Cert.OutProjRefIdeal.defs _ _).mono (fun r h => ⟨fun c => (h c).2.2,
      Idealize.ShloMosaic.sem_eq_zero_of_no_sems (by decide) r.2⟩)
    (Cert.OutProjRefIdeal.Value.run m ρ)

/-- The output projection's two arrays are the reference's. -/
theorem algebraic_out_proj : Cert.algebraic_OutProjIdeal_OutProjRefIdeal := by
  intro m ρ m' ρ' _ hagree
  refine ⟨fun c => (Cert.OutProjIdeal.Gen.dats m 0 c).arrAt 5 (Cert.OutProjIdeal.cfgs 0).N,
    fun c => (Cert.OutProjIdeal.Gen.dats m 0 c).arrAt 6 (Cert.OutProjIdeal.cfgs 0).N,
    Cert.OutProjIdeal.Value.run_blocks (F := Ideal) m ρ, ?_⟩
  refine (θ_run _ _ _).mono (fun _ h c => ⟨(h c).1.trans ?_, (h c).2.1.trans ?_, (h c).2.2⟩)
    (Cert.OutProjRefIdeal.Value.run (F := Ideal) m' ρ')
  · obtain ⟨e0, e1, e2, e3, e4⟩ := hagree c
    rw [e0, e1, e2, e3]
    refine Eq.trans ?_ (Cert.OutProjIdeal.Mix.final5 m c).symm
    funext i
    obtain ⟨n, k, rfl⟩ : ∃ (n : Fin 16384) (k : Fin 2048), i = ix2 n k := ⟨i 0, i 1, by idx_vars i⟩
    exact Cert.OutProjRefIdeal.Mix.resX_at _ _ _ _ n k
  · obtain ⟨e0, e1, e2, e3, e4⟩ := hagree c
    rw [e0, e1, e2, e3, e4]
    refine Eq.trans ?_ (Cert.OutProjIdeal.Mix.final6 m c).symm
    funext i
    obtain ⟨n, k, rfl⟩ : ∃ (n : Fin 16384) (k : Fin 2048), i = ix2 n k := ⟨i 0, i 1, by idx_vars i⟩
    refine (Cert.OutProjRefIdeal.Mix.resH_at (Cert.OutProjRefIdeal.Mix.resX (Cert.OutProjIdeal.Mix.aA m c)
      (Cert.OutProjIdeal.Mix.aB m c) (Cert.OutProjIdeal.Mix.aW m c) (Cert.OutProjIdeal.Mix.aX m c)) _ n k).trans ?_
    exact congrArg (fun f => Cert.OutProjRefIdeal.Mix.normAt f _ k)
      (funext fun l => Cert.OutProjRefIdeal.Mix.resX_at _ _ _ _ n l)

theorem frame_in_proj_ref : Cert.quiescent_InProjRefIdeal := fun m ρ _ =>
  (θ_run Cert.InProjRefIdeal.defs _ _).mono (fun r h => ⟨fun c => (h c).2.2,
      Idealize.ShloMosaic.sem_eq_zero_of_no_sems (by decide) r.2⟩)
    (Cert.InProjRefIdeal.Value.run m ρ)

/-- The input projection's two arrays are the reference's. -/
theorem algebraic_in_proj : Cert.algebraic_InProjIdeal_InProjRefIdeal := by
  intro m ρ m' ρ' _ hagree
  refine ⟨fun c => Cert.InProjIdeal.Value.G5 m c, fun c => Cert.InProjIdeal.Value.G6 m c, Cert.InProjIdeal.Value.run (F := Ideal) m ρ, ?_⟩
  refine (θ_run _ _ _).mono (fun _ h c => ⟨(h c).1.trans ?_, (h c).2.1.trans ?_, (h c).2.2⟩)
    (Cert.InProjRefIdeal.Value.run (F := Ideal) m' ρ')
  · obtain ⟨e0, e1, e2, e3, e4, e5⟩ := hagree c
    refine (Cert.InProjRefIdeal.Cnv.main_eq' m' c).trans ?_
    rw [e0, e1, e2, e3, e4, e5]
    funext i
    obtain ⟨n, k, rfl⟩ : ∃ (n : Fin 16384) (k : Fin 6144), i = ix2 n k := ⟨i 0, i 1, by idx_vars i⟩
    exact (Cert.InProjRefIdeal.Cnv.mainRes_at _ _ _ _ _ _ n k).trans (Cert.InProjIdeal.Cnv.G5_at m c n k).symm
  · obtain ⟨e0, e1, e2, e3, e4, e5⟩ := hagree c
    refine Eq.trans (b := Cert.InProjRefIdeal.Cnv.restRes (m' ((c.tc : Thread Cert.InProjRefIdeal.nD Cert.InProjRefIdeal.τ).loc Cert.InProjRefIdeal.main_arg0)) (m' ((c.tc : Thread Cert.InProjRefIdeal.nD Cert.InProjRefIdeal.τ).loc Cert.InProjRefIdeal.main_arg1))
      (m' ((c.tc : Thread Cert.InProjRefIdeal.nD Cert.InProjRefIdeal.τ).loc Cert.InProjRefIdeal.main_arg2))) rfl ?_
    rw [e0, e1, e2]
    funext i
    obtain ⟨n, k, rfl⟩ : ∃ (n : Fin 16384) (k : Fin 128), i = ix2 n k := ⟨i 0, i 1, by idx_vars i⟩
    exact (Cert.InProjRefIdeal.Cnv.restRes_at _ _ _ n k).trans (Cert.InProjIdeal.Cnv.G6_at m c n k).symm

theorem frame_experts_ref : Cert.quiescent_ExpertsRefIdeal := fun m ρ _ =>
  (θ_run Cert.ExpertsRefIdeal.defs _ _).mono (fun r h => ⟨fun c => (h c).2,
      Idealize.ShloMosaic.sem_eq_zero_of_no_sems (by decide) r.2⟩)
    (Cert.ExpertsRefIdeal.Value.run m ρ)

/-- The experts' array is the reference's. -/
theorem algebraic_experts : Cert.algebraic_ExpertsIdeal_ExpertsRefIdeal := by
  intro m ρ m' ρ' _ hagree
  refine ⟨fun c => Cert.ExpertsIdeal.Own.G m c, Cert.ExpertsIdeal.Own.run m ρ, ?_⟩
  refine (θ_run _ _ _).mono (fun _ h c => ⟨(h c).1.trans ?_, (h c).2⟩) (Cert.ExpertsRefIdeal.Value.run (F := Ideal) m' ρ')
  obtain ⟨e0, e1, e2, e3, e4, e5⟩ := hagree c
  obtain rfl : c = 0 := Subsingleton.elim _ _
  refine (Cert.ExpertsRefIdeal.Own.res_eq m' 0).trans ?_
  rw [e0, e1, e2, e3, e4, e5]
  funext i
  obtain ⟨b, p, q, rfl⟩ : ∃ (b : Fin 72) (p : Fin 512) (q : Fin 2048), i = ix2 (⟨b.val * 512 + p.val, by omega⟩ : Fin 36864) q := by
    obtain ⟨n, q, rfl⟩ : ∃ (n : Fin 36864) (q : Fin 2048), i = ix2 n q := ⟨i 0, i 1, by idx_vars i⟩
    have h := Nat.div_add_mod' n.val 512
    exact ⟨⟨n.val / 512, by omega⟩, ⟨n.val % 512, by omega⟩, q, congrArg (fun z => ix2 z q) (Fin.ext h.symm)⟩
  exact (Cert.ExpertsRefIdeal.Own.result_at _ _ _ _ _ _ b p q).trans (Cert.ExpertsIdeal.Own.G_at m 0 b p q).symm

theorem frame_route_ref : Cert.quiescent_RouteRefIdeal := fun m ρ _ =>
  (θ_run Cert.RouteRefIdeal.defs _ _).mono (fun r h => ⟨fun c => (h c).2.2,
      Idealize.ShloMosaic.sem_eq_zero_of_no_sems (by decide) r.2⟩)
    (Cert.RouteRefIdeal.Value.run m ρ)

/-- The routing call's two choices and their weights are the reference's, at the tokens whose logits are finite. -/
theorem algebraic_route : Cert.algebraic_RouteIdeal_RouteRefIdeal_on_chosen := by
  intro m ρ m' ρ' _ hagree
  refine ⟨fun c => Cert.RouteIdeal.Value.G1 m c, fun c => Cert.RouteIdeal.Value.G2 m c, ?_, ?_⟩
  · exact (θ_run _ _ _).mono (fun _ h c => ⟨fun i _ => congrFun (h c).1 i, fun i _ => congrFun (h c).2.1 i, (h c).2.2.2⟩)
      (Cert.RouteIdeal.Value.run (F := Ideal) m ρ)
  · refine (θ_run _ _ _).mono (fun _ h c => ⟨fun i hi => (congrFun (h c).1 i).trans ?_, fun i hi => (congrFun (h c).2.1 i).trans ?_, (h c).2.2⟩)
      (Cert.RouteRefIdeal.Value.run (F := Ideal) m' ρ')
    · rw [hagree c]
      obtain ⟨r, n, rfl⟩ : ∃ (r : Fin 8) (n : Fin 16384), i = ix2 r n := ⟨i 0, i 1, by idx_vars i⟩
      obtain ⟨hr, hf⟩ := Cert.On_chosen.Pick.one_at _ r n hi
      exact (Cert.RouteRefIdeal.Pick.resI_at _ r n).trans (Cert.RouteIdeal.Pick.G1_at m c r n hr (fun k => (hf k).1)).symm
    · rw [hagree c]
      obtain ⟨n, j, rfl⟩ : ∃ (n : Fin 16384) (j : Fin 128), i = ix2 n j := ⟨i 0, i 1, by idx_vars i⟩
      have hf := Cert.On_chosen.Pick.two_at _ n j hi
      exact (Cert.RouteRefIdeal.Pick.resW_at _ n j hf).trans (Cert.RouteIdeal.Pick.G2_at m c n j (fun k => (hf k).1)).symm

theorem frame_router_ref : Cert.quiescent_RouterRefIdeal := fun m ρ _ =>
  (θ_run Cert.RouterRefIdeal.defs _ _).mono (fun r h => ⟨fun c => (h c).2.2.2,
      Idealize.ShloMosaic.sem_eq_zero_of_no_sems (by decide) r.2⟩) (Cert.RouterRefIdeal.Value.run m ρ)

theorem algebraic_router : Cert.algebraic_RouterIdeal_RouterRefIdeal_on_finite_logits := by
  intro m ρ m' ρ' _ hagree
  refine ⟨fun c => (Cert.RouterIdeal.Gen.dats m 0 c).arrAt 6 (Cert.RouterIdeal.cfgs 0).N,
    fun c => (Cert.RouterIdeal.Gen.dats m 0 c).arrAt 7 (Cert.RouterIdeal.cfgs 0).N,
    fun c => (Cert.RouterIdeal.Gen.dats m 0 c).arrAt 8 (Cert.RouterIdeal.cfgs 0).N, ?_, ?_⟩
  · exact (θ_run _ _ _).mono (fun _ h c => ⟨fun i _ => congrFun (h c).1 i, fun i _ => congrFun (h c).2.1 i,
      fun i _ => congrFun (h c).2.2.1 i, (h c).2.2.2⟩) (Cert.RouterIdeal.Value.run_blocks (F := Ideal) m ρ)
  refine (θ_run _ _ _).mono (fun _ h c => ⟨fun i _ => (congrFun (h c).1 i).trans ?_, fun i _ => (congrFun (h c).2.1 i).trans ?_,
    fun i hi => (congrFun (h c).2.2.1 i).trans ?_, (h c).2.2.2⟩) (Cert.RouterRefIdeal.Value.run (F := Ideal) m' ρ')
  · obtain ⟨e0, e1, e2, e3, e4, e5⟩ := hagree c
    rw [e0, e1, e2, e3]
    refine Eq.trans ?_ (congrFun (Cert.RouterIdeal.Mix.final6 m c) i).symm
    obtain ⟨n, k, rfl⟩ : ∃ (n : Fin 16384) (k : Fin 2048), i = ix2 n k := ⟨i 0, i 1, by idx_vars i⟩
    exact Cert.RouterRefIdeal.Mix.resX_at _ _ _ _ n k
  · obtain ⟨e0, e1, e2, e3, e4, e5⟩ := hagree c
    rw [e0, e1, e2, e3, e4]
    refine Eq.trans ?_ (congrFun (Cert.RouterIdeal.Mix.final7 m c) i).symm
    obtain ⟨n, k, rfl⟩ : ∃ (n : Fin 16384) (k : Fin 2048), i = ix2 n k := ⟨i 0, i 1, by idx_vars i⟩
    refine (Cert.RouterRefIdeal.Mix.resH_at (Cert.RouterRefIdeal.Mix.resX (Cert.RouterIdeal.Mix.aA m c)
      (Cert.RouterIdeal.Mix.aB m c) (Cert.RouterIdeal.Mix.aW m c) (Cert.RouterIdeal.Mix.aX m c)) _ n k).trans ?_
    exact congrArg (fun f => Cert.RouterRefIdeal.Mix.normAt f _ k)
      (funext fun l => Cert.RouterRefIdeal.Mix.resX_at _ _ _ _ n l)
  · obtain ⟨e0, e1, e2, e3, e4, e5⟩ := hagree c
    rw [e0, e1, e2, e3, e4, e5]
    refine Eq.trans ?_ (congrFun (Cert.RouterIdeal.Mix.final8 m c) i).symm
    obtain ⟨e, n, rfl⟩ : ∃ (e : Fin 8) (n : Fin 16384), i = ix2 e n := ⟨i 0, i 1, by idx_vars i⟩
    obtain ⟨hr, hh⟩ := Cert.On_finite_logits.Mix.bits_at _ _ e n hi
    have hH : ∀ k : Fin 2048, Cert.RouterRefIdeal.Mix.resH (Cert.RouterRefIdeal.Mix.resX (Cert.RouterIdeal.Mix.aA m c)
        (Cert.RouterIdeal.Mix.aB m c) (Cert.RouterIdeal.Mix.aW m c) (Cert.RouterIdeal.Mix.aX m c)) (Cert.RouterIdeal.Mix.aG m c) (ix2 n k)
        = Cert.RouterIdeal.Mix.hAt m c n k := fun k =>
      (Cert.RouterRefIdeal.Mix.resH_at _ _ n k).trans (congrArg (fun f => Cert.RouterRefIdeal.Mix.normAt f _ k)
        (funext fun l => Cert.RouterRefIdeal.Mix.resX_at _ _ _ _ n l))
    refine (Cert.RouterRefIdeal.Mix.resL_at (Cert.RouterRefIdeal.Mix.resH (Cert.RouterRefIdeal.Mix.resX (Cert.RouterIdeal.Mix.aA m c)
        (Cert.RouterIdeal.Mix.aB m c) (Cert.RouterIdeal.Mix.aW m c) (Cert.RouterIdeal.Mix.aX m c)) (Cert.RouterIdeal.Mix.aG m c)) (Cert.RouterIdeal.Mix.aR m c) e n).trans ?_
    refine Eq.trans ?_ (Cert.RouterIdeal.Mix.lAt_eq m c e n (fun k => by rw [← hH k]; exact hh k) hr).symm
    exact Finset.sum_congr rfl fun k _ => by rw [hH k]

theorem frame_slots_ref : Cert.quiescent_SlotsRefIdeal := fun m ρ _ =>
  (θ_run Cert.SlotsRefIdeal.defs _ _).mono (fun r h => ⟨fun c => (h c).2,
      Idealize.ShloMosaic.sem_eq_zero_of_no_sems (by decide) r.2⟩) (Cert.SlotsRefIdeal.Value.run m ρ)

theorem algebraic_slots : Cert.algebraic_SlotsIdeal_SlotsRefIdeal := by
  intro m ρ m' ρ' _ hagree
  refine ⟨fun c => Cert.SlotsIdeal.Place.G m c, Cert.SlotsIdeal.Place.run m ρ, ?_⟩
  refine (θ_run _ _ _).mono (fun _ h c => ⟨(h c).1.trans ?_, (h c).2⟩) (Cert.SlotsRefIdeal.Value.run (F := Ideal) m' ρ')
  obtain ⟨e0, e1⟩ := hagree c
  rw [e0, e1]
  funext i
  obtain ⟨r, n, rfl⟩ : ∃ (r : Fin 8) (n : Fin 16384), i = ix2 r n := ⟨i 0, i 1, by idx_vars i⟩
  exact Cert.SlotsRefIdeal.Place.res_at _ _ r n

theorem claim : Cert.Claim := ⟨Cert.Kernel.Gen.facts,
  Cert.KernelIdeal.Gen.facts,
  Cert.ReferenceIdeal.Gen.facts,
  Cert.Ffn.Gen.facts,
  Cert.FfnIdeal.Gen.facts,
  Cert.FfnRefIdeal.Gen.facts,
  Cert.OutProj.Gen.facts,
  Cert.OutProjIdeal.Gen.facts,
  Cert.OutProjRefIdeal.Gen.facts,
  Cert.InProj.Gen.facts,
  Cert.InProjIdeal.Gen.facts,
  Cert.InProjRefIdeal.Gen.facts,
  Cert.Experts.Gen.facts,
  Cert.ExpertsIdeal.Gen.facts,
  Cert.ExpertsRefIdeal.Gen.facts,
  Cert.Route.Gen.facts,
  Cert.RouteIdeal.Gen.facts,
  Cert.RouteRefIdeal.Gen.facts,
  Cert.Router.Gen.facts,
  Cert.RouterIdeal.Gen.facts,
  Cert.RouterRefIdeal.Gen.facts,
  Cert.Slots.Gen.facts,
  Cert.SlotsIdeal.Gen.facts,
  Cert.SlotsRefIdeal.Gen.facts,
  Cert.DeltaNet.Gen.facts,
  Cert.DeltaNetIdeal.Gen.facts,
  Cert.On_chosen.Pick.facts,
  Cert.On_finite_logits.Mix.facts,
  fun m ρ _ => Cert.Kernel.Gen.frame m ρ,
  fun m ρ _ => Cert.KernelIdeal.Gen.frame m ρ,
  frame_ref,
  fun m ρ _ => Cert.Ffn.Gen.frame m ρ,
  fun m ρ _ => Cert.FfnIdeal.Gen.frame m ρ,
  frame_ffn_ref,
  fun m ρ _ => Cert.OutProj.Gen.frame m ρ,
  fun m ρ _ => Cert.OutProjIdeal.Gen.frame m ρ,
  frame_out_proj_ref,
  fun m ρ _ => Cert.InProj.Gen.frame m ρ,
  fun m ρ _ => Cert.InProjIdeal.Gen.frame m ρ,
  frame_in_proj_ref,
  fun m ρ _ => Cert.Experts.Own.frame m ρ (Cert.Experts.Own.ok m),
  fun m ρ _ => Cert.ExpertsIdeal.Own.frame m ρ (Cert.ExpertsIdeal.Own.ok m),
  frame_experts_ref,
  fun m ρ _ => Cert.Route.Gen.frame m ρ,
  fun m ρ _ => Cert.RouteIdeal.Gen.frame m ρ,
  frame_route_ref,
  fun m ρ _ => Cert.Router.Gen.frame m ρ,
  fun m ρ _ => Cert.RouterIdeal.Gen.frame m ρ,
  frame_router_ref,
  fun m ρ _ => Cert.Slots.Gen.frame m ρ trivial,
  fun m ρ _ => Cert.SlotsIdeal.Gen.frame m ρ trivial,
  frame_slots_ref,
  fun m ρ _ => Cert.DeltaNet.Gen.frame m ρ,
  fun m ρ _ => Cert.DeltaNetIdeal.Gen.frame m ρ,
  trivial, algebraic, trivial, algebraic_ffn, trivial, algebraic_out_proj, trivial, algebraic_in_proj, trivial, algebraic_experts, trivial, algebraic_route, trivial, algebraic_router, trivial, algebraic_slots, trivial⟩

end Cert.Proof

end
